-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8))) = (fun _ => 1#1)

def Pre_Kernel14Ideal_none (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Kernel14Ideal_pre_none [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_none m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def preserves_Kernel_KernelIdeal : Prop :=
  IdealRules.named_const.Statement Cert.KernelIdeal.κ "gelu_cubic" .f32 0x3D122279#32 ((80338380498831 / 2251799813685248 : ℝ) : EReal)
  ∧ IdealRules.named_const.Statement Cert.KernelIdeal.κ "gelu_cubic_slope" .f32 0x3DDB33B6#32 ((241015141496493 / 2251799813685248 : ℝ) : EReal)

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  IdealRules.named_const.Statement Cert.Kernel14Ideal.κ "gelu_cubic" .f32 0x3D122279#32 ((80338380498831 / 2251799813685248 : ℝ) : EReal)
  ∧ IdealRules.named_const.Statement Cert.Kernel14Ideal.κ "gelu_cubic_slope" .f32 0x3DDB33B6#32 ((241015141496493 / 2251799813685248 : ℝ) : EReal)

def algebraic_Kernel14Ideal_Reference14Ideal [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v234_0)) (v1 : (c : Dev Cert.Kernel14Ideal.nD) → Buf (Elt Ideal) ((c.tc : Thread Cert.Kernel14Ideal.nD Cert.Kernel14Ideal.τ).loc Cert.Kernel14Ideal.main_v234_1)) (v2 : (c : Dev Cert.Kernel14Ideal.nD) → Buf (Elt Ideal) ((c.tc : Thread Cert.Kernel14Ideal.nD Cert.Kernel14Ideal.τ).loc Cert.Kernel14Ideal.main_v234_2)) (v3 : (c : Dev Cert.Kernel14Ideal.nD) → Buf (Elt Ideal) ((c.tc : Thread Cert.Kernel14Ideal.nD Cert.Kernel14Ideal.τ).loc Cert.Kernel14Ideal.main_v234_3)) (v4 : (c : Dev Cert.Kernel14Ideal.nD) → Buf (Elt Ideal) ((c.tc : Thread Cert.Kernel14Ideal.nD Cert.Kernel14Ideal.τ).loc Cert.Kernel14Ideal.main_v234_4)) (v5 : (c : Dev Cert.Kernel14Ideal.nD) → Buf (Elt Ideal) ((c.tc : Thread Cert.Kernel14Ideal.nD Cert.Kernel14Ideal.τ).loc Cert.Kernel14Ideal.main_v234_5)) (v6 : (c : Dev Cert.Kernel14Ideal.nD) → Buf (Elt Ideal) ((c.tc : Thread Cert.Kernel14Ideal.nD Cert.Kernel14Ideal.τ).loc Cert.Kernel14Ideal.main_v234_6)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v234_0) = v0 c
          ∧ r.2.mem ((c.tc : Thread Cert.Kernel14Ideal.nD Cert.Kernel14Ideal.τ).loc Cert.Kernel14Ideal.main_v234_1) = v1 c
          ∧ r.2.mem ((c.tc : Thread Cert.Kernel14Ideal.nD Cert.Kernel14Ideal.τ).loc Cert.Kernel14Ideal.main_v234_2) = v2 c
          ∧ r.2.mem ((c.tc : Thread Cert.Kernel14Ideal.nD Cert.Kernel14Ideal.τ).loc Cert.Kernel14Ideal.main_v234_3) = v3 c
          ∧ r.2.mem ((c.tc : Thread Cert.Kernel14Ideal.nD Cert.Kernel14Ideal.τ).loc Cert.Kernel14Ideal.main_v234_4) = v4 c
          ∧ r.2.mem ((c.tc : Thread Cert.Kernel14Ideal.nD Cert.Kernel14Ideal.τ).loc Cert.Kernel14Ideal.main_v234_5) = v5 c
          ∧ r.2.mem ((c.tc : Thread Cert.Kernel14Ideal.nD Cert.Kernel14Ideal.τ).loc Cert.Kernel14Ideal.main_v234_6) = v6 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v618) = v0 c
          ∧ r.2.mem ((c.tc : Thread Cert.Reference14Ideal.nD Cert.Reference14Ideal.τ).loc Cert.Reference14Ideal.main_v621) = v1 c
          ∧ r.2.mem ((c.tc : Thread Cert.Reference14Ideal.nD Cert.Reference14Ideal.τ).loc Cert.Reference14Ideal.main_v616) = v2 c
          ∧ r.2.mem ((c.tc : Thread Cert.Reference14Ideal.nD Cert.Reference14Ideal.τ).loc Cert.Reference14Ideal.main_v606) = v3 c
          ∧ r.2.mem ((c.tc : Thread Cert.Reference14Ideal.nD Cert.Reference14Ideal.τ).loc Cert.Reference14Ideal.main_v609) = v4 c
          ∧ r.2.mem ((c.tc : Thread Cert.Reference14Ideal.nD Cert.Reference14Ideal.τ).loc Cert.Reference14Ideal.main_v600) = v5 c
          ∧ r.2.mem ((c.tc : Thread Cert.Reference14Ideal.nD Cert.Reference14Ideal.τ).loc Cert.Reference14Ideal.main_v595) = v6 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_v35) = v1 c
          ∧ r.2.mem ((c.tc : Thread Cert.Reference15Ideal.nD Cert.Reference15Ideal.τ).loc Cert.Reference15Ideal.main_v17) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_v14) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v49) = v0 c
          ∧ r.2.mem ((c.tc : Thread Cert.Reference17Ideal.nD Cert.Reference17Ideal.τ).loc Cert.Reference17Ideal.main_v48) = v1 c
          ∧ r.2.mem ((c.tc : Thread Cert.Reference17Ideal.nD Cert.Reference17Ideal.τ).loc Cert.Reference17Ideal.main_v50) = v2 c
          ∧ r.2.mem ((c.tc : Thread Cert.Reference17Ideal.nD Cert.Reference17Ideal.τ).loc Cert.Reference17Ideal.main_v32) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v34) = v0 c
          ∧ r.2.mem ((c.tc : Thread Cert.Reference18Ideal.nD Cert.Reference18Ideal.τ).loc Cert.Reference18Ideal.main_v37) = v1 c
          ∧ r.2.mem ((c.tc : Thread Cert.Reference18Ideal.nD Cert.Reference18Ideal.τ).loc Cert.Reference18Ideal.main_v40) = v2 c
          ∧ r.2.mem ((c.tc : Thread Cert.Reference18Ideal.nD Cert.Reference18Ideal.τ).loc Cert.Reference18Ideal.main_v43) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  IdealRules.named_const.Statement Cert.Kernel19Ideal.κ "gelu_cubic" .f32 0x3D122279#32 ((80338380498831 / 2251799813685248 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v40) = v0 c
          ∧ r.2.mem ((c.tc : Thread Cert.Reference19Ideal.nD Cert.Reference19Ideal.τ).loc Cert.Reference19Ideal.main_v42) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v34) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v32) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v92) = v0 c
          ∧ r.2.mem ((c.tc : Thread Cert.Reference22Ideal.nD Cert.Reference22Ideal.τ).loc Cert.Reference22Ideal.main_v88) = v1 c
          ∧ r.2.mem ((c.tc : Thread Cert.Reference22Ideal.nD Cert.Reference22Ideal.τ).loc Cert.Reference22Ideal.main_v41) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite14 : Cert.Pre_finite14.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal) (hPre_finite14 := hPre_finite14)
    ∧ quiescent_Kernel14Ideal_pre_none (hKernel14Ideal := hKernel14Ideal)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S4096x6144 : Shape := ⟨2, ![4096, 6144]⟩
abbrev S4096x12288 : Shape := ⟨2, ![4096, 12288]⟩
abbrev S3x6144 : Shape := ⟨2, ![3, 6144]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4096x12288 : S_.BroadcastsInDim S4096x12288 (![] : Fin 0 → Fin S4096x12288.rank)
  reducesTo_S4096x12288_S_d0_1 : S4096x12288.ReducesTo [0, 1] S_
  bcast_S_S3x6144 : S_.BroadcastsInDim S3x6144 (![] : Fin 0 → Fin S3x6144.rank)
  reducesTo_S3x6144_S_d0_1 : S3x6144.ReducesTo [0, 1] S_

variable [Facts]

def fn {F : FTy → Type} [FloatOps F] (main_arg0 : FVec F S4096x6144 .bf16) (main_arg1 : FVec F S4096x12288 .bf16) (main_arg2 : FVec F S3x6144 .f32) : IVec S_ 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  let main_v5 : FVec F S4096x12288 .f32 := (extf .f32 · bitsLt_bf16_f32) main_arg1
  let main_v6 : FVec F S4096x12288 .f32 := Host.absf main_v5
  let main_cst_0 : FVec F S_ .f32 := constant S_ .f32 0x7F800000#32
  let main_v7 : FVec F S4096x12288 .f32 := broadcastInDim S4096x12288 ![] bcast_S_S4096x12288 main_cst_0
  let main_v8 : IVec S4096x12288 1 := cmpf .olt main_v6 main_v7
  let main_c_1 : IVec S_ 1 := constantI S_ 1 1#1
  let main_v9 : IVec S_ 1 := (fun x v => Host.reduce IntOp.andi x v reducesTo_S4096x12288_S_d0_1 h_S_) main_v8 main_c_1
  let main_v10 : IVec S_ 1 := andi main_v4 main_v9
  let main_v11 : FVec F S3x6144 .f32 := Host.absf main_arg2
  let main_cst_2 : FVec F S_ .f32 := constant S_ .f32 0x7F800000#32
  let main_v12 : FVec F S3x6144 .f32 := broadcastInDim S3x6144 ![] bcast_S_S3x6144 main_cst_2
  let main_v13 : IVec S3x6144 1 := cmpf .olt main_v11 main_v12
  let main_c_3 : IVec S_ 1 := constantI S_ 1 1#1
  let main_v14 : IVec S_ 1 := (fun x v => Host.reduce IntOp.andi x v reducesTo_S3x6144_S_d0_1 h_S_) main_v13 main_c_3
  let main_v15 : IVec S_ 1 := andi main_v10 main_v14
  main_v15
-- ==== Pre_finite14.lean ====
abbrev S4096x2048 : Shape := ⟨2, ![4096, 2048]⟩
abbrev S4096x768 : Shape := ⟨2, ![4096, 768]⟩
abbrev S4096x5376 : Shape := ⟨2, ![4096, 5376]⟩
abbrev S6x128x128 : Shape := ⟨3, ![6, 128, 128]⟩
abbrev S1x768 : Shape := ⟨2, ![1, 768]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x768 : S_.BroadcastsInDim S4096x768 (![] : Fin 0 → Fin S4096x768.rank)
  reducesTo_S4096x768_S_d0_1 : S4096x768.ReducesTo [0, 1] S_
  bcast_S_S4096x5376 : S_.BroadcastsInDim S4096x5376 (![] : Fin 0 → Fin S4096x5376.rank)
  reducesTo_S4096x5376_S_d0_1 : S4096x5376.ReducesTo [0, 1] S_
  bcast_S_S6x128x128 : S_.BroadcastsInDim S6x128x128 (![] : Fin 0 → Fin S6x128x128.rank)
  reducesTo_S6x128x128_S_d0_1_2 : S6x128x128.ReducesTo [0, 1, 2] S_
  bcast_S_S1x768 : S_.BroadcastsInDim S1x768 (![] : Fin 0 → Fin S1x768.rank)
  reducesTo_S1x768_S_d0_1 : S1x768.ReducesTo [0, 1] S_

variable [Facts]

def fn_part2 {F : FTy → Type} [FloatOps F] (main_arg7 : FVec F S1x768 .f32) (main_v33 : IVec S_ 1) : IVec S_ 1 :=
  let main_v34 : FVec F S1x768 .f32 := Host.absf main_arg7
  let main_cst_12 : FVec F S_ .f32 := constant S_ .f32 0x7F800000#32
  let main_v35 : FVec F S1x768 .f32 := broadcastInDim S1x768 ![] bcast_S_S1x768 main_cst_12
  let main_v36 : IVec S1x768 1 := cmpf .olt main_v34 main_v35
  let main_c_13 : IVec S_ 1 := constantI S_ 1 1#1
  let main_v37 : IVec S_ 1 := (fun x v => Host.reduce IntOp.andi x v reducesTo_S1x768_S_d0_1 h_S_) main_v36 main_c_13
  let main_v38 : IVec S_ 1 := andi main_v33 main_v37
  main_v38

def fn_part1 {F : FTy → Type} [FloatOps F] (main_arg4 : FVec F S1x768 .f32) (main_arg5 : FVec F S6x128x128 .f32) (main_arg6 : FVec F S1x768 .f32) (main_arg7 : FVec F S1x768 .f32) (main_v13 : IVec S_ 1) (main_v16 : IVec S6x128x128 1) : IVec S_ 1 :=
  let main_c_5 : IVec S_ 1 := constantI S_ 1 1#1
  let main_v17 : IVec S_ 1 := (fun x v => Host.reduce IntOp.andi x v reducesTo_S6x128x128_S_d0_1_2 h_S_) main_v16 main_c_5
  let main_v18 : IVec S_ 1 := andi main_v13 main_v17
  let main_v19 : FVec F S1x768 .f32 := Host.absf main_arg4
  let main_cst_6 : FVec F S_ .f32 := constant S_ .f32 0x7F800000#32
  let main_v20 : FVec F S1x768 .f32 := broadcastInDim S1x768 ![] bcast_S_S1x768 main_cst_6
  let main_v21 : IVec S1x768 1 := cmpf .olt main_v19 main_v20
  let main_c_7 : IVec S_ 1 := constantI S_ 1 1#1
  let main_v22 : IVec S_ 1 := (fun x v => Host.reduce IntOp.andi x v reducesTo_S1x768_S_d0_1 h_S_) main_v21 main_c_7
  let main_v23 : IVec S_ 1 := andi main_v18 main_v22
  let main_v24 : FVec F S6x128x128 .f32 := Host.absf main_arg5
  let main_cst_8 : FVec F S_ .f32 := constant S_ .f32 0x7F800000#32
  let main_v25 : FVec F S6x128x128 .f32 := broadcastInDim S6x128x128 ![] bcast_S_S6x128x128 main_cst_8
  let main_v26 : IVec S6x128x128 1 := cmpf .olt main_v24 main_v25
  let main_c_9 : IVec S_ 1 := constantI S_ 1 1#1
  let main_v27 : IVec S_ 1 := (fun x v => Host.reduce IntOp.andi x v reducesTo_S6x128x128_S_d0_1_2 h_S_) main_v26 main_c_9
  let main_v28 : IVec S_ 1 := andi main_v23 main_v27
  let main_v29 : FVec F S1x768 .f32 := Host.absf main_arg6
  let main_cst_10 : FVec F S_ .f32 := constant S_ .f32 0x7F800000#32
  let main_v30 : FVec F S1x768 .f32 := broadcastInDim S1x768 ![] bcast_S_S1x768 main_cst_10
  let main_v31 : IVec S1x768 1 := cmpf .olt main_v29 main_v30
  let main_c_11 : IVec S_ 1 := constantI S_ 1 1#1
  let main_v32 : IVec S_ 1 := (fun x v => Host.reduce IntOp.andi x v reducesTo_S1x768_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x768 .f32) (main_arg2 : FVec F S4096x5376 .f32) (main_arg3 : FVec F S6x128x128 .f32) (main_arg4 : FVec F S1x768 .f32) (main_arg5 : FVec F S6x128x128 .f32) (main_arg6 : FVec F S1x768 .f32) (main_arg7 : FVec F S1x768 .f32) (main_arg8 : FVec F S4096x5376 .bf16) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S4096x5376 .f32 := Host.absf main_arg2
  let main_cst_2 : FVec F S_ .f32 := constant S_ .f32 0x7F800000#32
  let main_v10 : FVec F S4096x5376 .f32 := broadcastInDim S4096x5376 ![] bcast_S_S4096x5376 main_cst_2
  let main_v11 : IVec S4096x5376 1 := cmpf .olt main_v9 main_v10
  let main_c_3 : IVec S_ 1 := constantI S_ 1 1#1
  let main_v12 : IVec S_ 1 := (fun x v => Host.reduce IntOp.andi x v reducesTo_S4096x5376_S_d0_1 h_S_) main_v11 main_c_3
  let main_v13 : IVec S_ 1 := andi main_v8 main_v12
  let main_v14 : FVec F S6x128x128 .f32 := Host.absf main_arg3
  let main_cst_4 : FVec F S_ .f32 := constant S_ .f32 0x7F800000#32
  let main_v15 : FVec F S6x128x128 .f32 := broadcastInDim S6x128x128 ![] bcast_S_S6x128x128 main_cst_4
  let main_v16 : IVec S6x128x128 1 := cmpf .olt main_v14 main_v15
  fn_part1 (F := F) main_arg4 main_arg5 main_arg6 main_arg7 main_v13 main_v16
-- ==== Kernel.lean ====
abbrev S4096x6144 : Shape := ⟨2, ![4096, 6144]⟩
abbrev S4096x12288 : Shape := ⟨2, ![4096, 12288]⟩
abbrev S3x6144 : Shape := ⟨2, ![3, 6144]⟩
abbrev S2x4096x6144 : Shape := ⟨3, ![2, 4096, 6144]⟩
abbrev S2048x512 : Shape := ⟨2, ![2048, 512]⟩
abbrev S16x512 : Shape := ⟨2, ![16, 512]⟩
abbrev S3x512 : Shape := ⟨2, ![3, 512]⟩
abbrev S2x2048x512 : Shape := ⟨3, ![2, 2048, 512]⟩
abbrev S2080x512 : Shape := ⟨2, ![2080, 512]⟩
abbrev S1x512 : Shape := ⟨2, ![1, 512]⟩
abbrev S2064x512 : Shape := ⟨2, ![2064, 512]⟩
abbrev S1x2048x512 : Shape := ⟨3, ![1, 2048, 512]⟩
abbrev S512 : Shape := ⟨1, ![512]⟩

abbrev nBuf : Space → Nat
  | .hbm => 5
  | .vmem => 20
  | .smem => 0
  | _ => 0

abbrev bufTy : (tb : Table) → Fin (tcTables nBuf tb) → BufTy
  | .hbm, ⟨0, _⟩ => ⟨S4096x6144, .bf16⟩
  | .hbm, ⟨1, _⟩ => ⟨S4096x12288, .bf16⟩
  | .hbm, ⟨2, _⟩ => ⟨S3x6144, .f32⟩
  | .hbm, ⟨3, _⟩ => ⟨S2x4096x6144, .bf16⟩
  | .hbm, ⟨4, _⟩ => ⟨S3x6144, .f32⟩
  | .local _ .vmem, ⟨0, _⟩ => ⟨S2048x512, .bf16⟩
  | .local _ .vmem, ⟨1, _⟩ => ⟨S2048x512, .bf16⟩
  | .local _ .vmem, ⟨2, _⟩ => ⟨S16x512, .bf16⟩
  | .local _ .vmem, ⟨3, _⟩ => ⟨S16x512, .bf16⟩
  | .local _ .vmem, ⟨4, _⟩ => ⟨S2048x512, .bf16⟩
  | .local _ .vmem, ⟨5, _⟩ => ⟨S2048x512, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S2048x512, .bf16⟩
  | .local _ .vmem, ⟨11, _⟩ => ⟨S2048x512, .bf16⟩
  | .local _ .vmem, ⟨12, _⟩ => ⟨S16x512, .bf16⟩
  | .local _ .vmem, ⟨13, _⟩ => ⟨S16x512, .bf16⟩
  | .local _ .vmem, ⟨14, _⟩ => ⟨S3x512, .f32⟩
  | .local _ .vmem, ⟨15, _⟩ => ⟨S3x512, .f32⟩
  | .local _ .vmem, ⟨16, _⟩ => ⟨S2x2048x512, .bf16⟩
  | .local _ .vmem, ⟨17, _⟩ => ⟨S2x2048x512, .bf16⟩
  | .local _ .vmem, ⟨18, _⟩ => ⟨S3x512, .f32⟩
  | .local _ .vmem, ⟨19, _⟩ => ⟨S3x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c12_i32 : BitVec 32 := 12#32
  let v3 : BitVec 32 := Scalar.addi c12_i32 arg0
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "gelu_cubic" => some ((80338380498831 / 2251799813685248 : ℝ) : EReal)
  | "gelu_cubic_slope" => some ((241015141496493 / 2251799813685248 : ℝ) : EReal)
  | _ => none
-- ==== ReferenceIdeal.lean ====
abbrev S4096x6144 : Shape := ⟨2, ![4096, 6144]⟩
abbrev S4096x12288 : Shape := ⟨2, ![4096, 12288]⟩
abbrev S3x6144 : Shape := ⟨2, ![3, 6144]⟩
abbrev S1x6144 : Shape := ⟨2, ![1, 6144]⟩
abbrev S6144 : Shape := ⟨1, ![6144]⟩
abbrev S_ : Shape := ⟨0, ![]⟩
abbrev S2x6144 : Shape := ⟨2, ![2, 6144]⟩
abbrev S4094x6144 : Shape := ⟨2, ![4094, 6144]⟩
abbrev S4095x6144 : Shape := ⟨2, ![4095, 6144]⟩
abbrev S1x4096x6144 : Shape := ⟨3, ![1, 4096, 6144]⟩
abbrev S2x4096x6144 : Shape := ⟨3, ![2, 4096, 6144]⟩

abbrev nBuf : Space → Nat
  | .hbm => 131
  | .vmem => 0
  | .smem => 0
  | _ => 0

abbrev hbmTy0_0 (i : Nat) : BufTy := match i % 128 with
  | 0 => ⟨S4096x6144, .bf16⟩
  | 1 => ⟨S4096x12288, .bf16⟩
  | 2 => ⟨S3x6144, .f32⟩
  | 3 => ⟨S4096x12288, .f32⟩
  | 4 => ⟨S4096x6144, .f32⟩
  | 5 => ⟨S4096x6144, .f32⟩
  | 6 => ⟨S1x6144, .f32⟩
  | 7 => ⟨S6144, .f32⟩
  | 8 => ⟨S1x6144, .f32⟩
  | 9 => ⟨S4096x6144, .f32⟩
  | 10 => ⟨S4096x6144, .f32⟩
  | 11 => ⟨S_, .f32⟩
  | 12 => ⟨S2x6144, .f32⟩
  | 13 => ⟨S4094x6144, .f32⟩
  | 14 => ⟨S4096x6144, .f32⟩
  | 15 => ⟨S_, .f32⟩
  | 16 => ⟨S2x6144, .f32⟩
  | 17 => ⟨S1x6144, .f32⟩
  | 18 => ⟨S6144, .f32⟩
  | 19 => ⟨S1x6144, .f32⟩
  | 20 => ⟨S4096x6144, .f32⟩
  | 21 => ⟨S4096x6144, .f32⟩
  | 22 => ⟨S4096x6144, .f32⟩
  | 23 => ⟨S_, .f32⟩
  | 24 => ⟨S1x6144, .f32⟩
  | 25 => ⟨S4095x6144, .f32⟩
  | 26 => ⟨S4096x6144, .f32⟩
  | 27 => ⟨S_, .f32⟩
  | 28 => ⟨S1x6144, .f32⟩
  | 29 => ⟨S1x6144, .f32⟩
  | 30 => ⟨S6144, .f32⟩
  | 31 => ⟨S1x6144, .f32⟩
  | 32 => ⟨S4096x6144, .f32⟩
  | 33 => ⟨S4096x6144, .f32⟩
  | 34 => ⟨S4096x6144, .f32⟩
  | 35 => ⟨S4096x6144, .f32⟩
  | 36 => ⟨S4096x6144, .f32⟩
  | 37 => ⟨S4096x6144, .f32⟩
  | 38 => ⟨S_, .f32⟩
  | 39 => ⟨S4096x6144, .f32⟩
  | 40 => ⟨S4096x6144, .f32⟩
  | 41 => ⟨S_, .f32⟩
  | 42 => ⟨S4096x6144, .f32⟩
  | 43 => ⟨S4096x6144, .f32⟩
  | 44 => ⟨S4096x6144, .f32⟩
  | 45 => ⟨S_, .f32⟩
  | 46 => ⟨S4096x6144, .f32⟩
  | 47 => ⟨S4096x6144, .f32⟩
  | 48 => ⟨S4096x6144, .f32⟩
  | 49 => ⟨S_, .f32⟩
  | 50 => ⟨S4096x6144, .f32⟩
  | 51 => ⟨S4096x6144, .f32⟩
  | 52 => ⟨S_, .f32⟩
  | 53 => ⟨S4096x6144, .f32⟩
  | 54 => ⟨S4096x6144, .f32⟩
  | 55 => ⟨S4096x6144, .f32⟩
  | 56 => ⟨S_, .f32⟩
  | 57 => ⟨S4096x6144, .f32⟩
  | 58 => ⟨S4096x6144, .f32⟩
  | 59 => ⟨S_, .f32⟩
  | 60 => ⟨S4096x6144, .f32⟩
  | 61 => ⟨S4096x6144, .f32⟩
  | 62 => ⟨S4096x6144, .f32⟩
  | 63 => ⟨S4096x6144, .f32⟩
  | 64 => ⟨S4096x6144, .f32⟩
  | 65 => ⟨S4096x6144, .f32⟩
  | 66 => ⟨S4096x6144, .f32⟩
  | 67 => ⟨S4096x6144, .f32⟩
  | 68 => ⟨S4096x6144, .f32⟩
  | 69 => ⟨S_, .f32⟩
  | 70 => ⟨S4096x6144, .f32⟩
  | 71 => ⟨S4096x6144, .f32⟩
  | 72 => ⟨S4096x6144, .f32⟩
  | 73 => ⟨S_, .f32⟩
  | 74 => ⟨S4096x6144, .f32⟩
  | 75 => ⟨S4096x6144, .f32⟩
  | 76 => ⟨S4096x6144, .f32⟩
  | 77 => ⟨S_, .f32⟩
  | 78 => ⟨S4096x6144, .f32⟩
  | 79 => ⟨S4096x6144, .f32⟩
  | 80 => ⟨S4096x6144, .f32⟩
  | 81 => ⟨S4096x6144, .f32⟩
  | 82 => ⟨S4096x6144, .f32⟩
  | 83 => ⟨S_, .f32⟩
  | 84 => ⟨S6144, .f32⟩
  | 85 => ⟨S1x6144, .f32⟩
  | 86 => ⟨S4096x6144, .f32⟩
  | 87 => ⟨S4096x6144, .f32⟩
  | 88 => ⟨S_, .f32⟩
  | 89 => ⟨S6144, .f32⟩
  | 90 => ⟨S1x6144, .f32⟩
  | 91 => ⟨S_, .f32⟩
  | 92 => ⟨S3x6144, .f32⟩
  | 93 => ⟨S1x6144, .f32⟩
  | 94 => ⟨S4095x6144, .f32⟩
  | 95 => ⟨S_, .f32⟩
  | 96 => ⟨S4096x6144, .f32⟩
  | 97 => ⟨S4096x6144, .f32⟩
  | 98 => ⟨S_, .f32⟩
  | 99 => ⟨S6144, .f32⟩
  | 100 => ⟨S1x6144, .f32⟩
  | 101 => ⟨S4096x6144, .f32⟩
  | 102 => ⟨S4096x6144, .f32⟩
  | 103 => ⟨S_, .f32⟩
  | 104 => ⟨S6144, .f32⟩
  | 105 => ⟨S1x6144, .f32⟩
  | 106 => ⟨S_, .f32⟩
  | 107 => ⟨S3x6144, .f32⟩
  | 108 => ⟨S3x6144, .f32⟩
  | 109 => ⟨S2x6144, .f32⟩
  | 110 => ⟨S4094x6144, .f32⟩
  | 111 => ⟨S_, .f32⟩
  | 112 => ⟨S4096x6144, .f32⟩
  | 113 => ⟨S4096x6144, .f32⟩
  | 114 => ⟨S4096x6144, .f32⟩
  | 115 => ⟨S_, .f32⟩
  | 116 => ⟨S6144, .f32⟩
  | 117 => ⟨S1x6144, .f32⟩
  | 118 => ⟨S4096x6144, .f32⟩
  | 119 => ⟨S4096x6144, .f32⟩
  | 120 => ⟨S4096x6144, .f32⟩
  | 121 => ⟨S_, .f32⟩
  | 122 => ⟨S6144, .f32⟩
  | 123 => ⟨S1x6144, .f32⟩
  | 124 => ⟨S_, .f32⟩
  | 125 => ⟨S3x6144, .f32⟩
  | 126 => ⟨S3x6144, .f32⟩
  | 127 => ⟨S1x4096x6144, .f32⟩
  | _ => ⟨S4096x6144, .bf16⟩

abbrev hbmTy0_1 (i : Nat) : BufTy := match i % 128 with
  | 0 => ⟨S1x4096x6144, .f32⟩
  | 1 => ⟨S2x4096x6144, .f32⟩
  | 2 => ⟨S2x4096x6144, .bf16⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_14 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_16 : Ref sig .tc := ⟨.hbm, 95, rfl⟩
abbrev main_v75 : Ref sig .tc := ⟨.hbm, 96, rfl⟩
abbrev main_v76 : Ref sig .tc := ⟨.hbm, 97, rfl⟩
abbrev main_cst_17 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_18 : Ref sig .tc := ⟨.hbm, 103, rfl⟩
abbrev main_v81 : Ref sig .tc := ⟨.hbm, 104, rfl⟩
abbrev main_v82 : Ref sig .tc := ⟨.hbm, 105, rfl⟩
abbrev main_cst_19 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_20 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_21 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_22 : Ref sig .tc := ⟨.hbm, 121, rfl⟩
abbrev main_v95 : Ref sig .tc := ⟨.hbm, 122, rfl⟩
abbrev main_v96 : Ref sig .tc := ⟨.hbm, 123, rfl⟩
abbrev main_cst_23 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩

abbrev nD : Nat := 1
abbrev τ : Topo := Topo.v7x

variable {F : FTy → Type} [FloatOps F]
-- ==== Kernel2.lean ====
abbrev S4096x2048 : Shape := ⟨2, ![4096, 2048]⟩
abbrev S6144x2048 : Shape := ⟨2, ![6144, 2048]⟩
abbrev S4096x6144 : Shape := ⟨2, ![4096, 6144]⟩
abbrev S1024x2048 : Shape := ⟨2, ![1024, 2048]⟩
abbrev S1536x2048 : Shape := ⟨2, ![1536, 2048]⟩
abbrev S1024x1536 : Shape := ⟨2, ![1024, 1536]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1536x2048, .bf16⟩
  | .local _ .vmem, ⟨3, _⟩ => ⟨S1536x2048, .bf16⟩
  | .local _ .vmem, ⟨4, _⟩ => ⟨S1024x1536, .bf16⟩
  | .local _ .vmem, ⟨5, _⟩ => ⟨S1024x1536, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S6144x2048 : Shape := ⟨2, ![6144, 2048]⟩
abbrev S_ : Shape := ⟨0, ![]⟩
abbrev S4096x6144 : Shape := ⟨2, ![4096, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S6144x2048, .f32⟩
  | .hbm, ⟨3, _⟩ => ⟨S_, .f32⟩
  | .hbm, ⟨4, _⟩ => ⟨S4096x6144, .f32⟩
  | .hbm, ⟨5, _⟩ => ⟨S4096x2048, .f32⟩
  | .hbm, ⟨6, _⟩ => ⟨S4096x2048, .f32⟩
  | .hbm, ⟨7, _⟩ => ⟨S4096x6144, .f32⟩
  | .hbm, ⟨8, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S6144x4096 : Shape := ⟨2, ![6144, 4096]⟩
abbrev S4096x2048 : Shape := ⟨2, ![4096, 2048]⟩
abbrev S6144x2048 : Shape := ⟨2, ![6144, 2048]⟩
abbrev S1024x2048 : Shape := ⟨2, ![1024, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S6144x4096, .bf16⟩
  | .hbm, ⟨1, _⟩ => ⟨S4096x2048, .bf16⟩
  | .hbm, ⟨2, _⟩ => ⟨S6144x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S6144x4096 : Shape := ⟨2, ![6144, 4096]⟩
abbrev S4096x2048 : Shape := ⟨2, ![4096, 2048]⟩
abbrev S4096x6144 : Shape := ⟨2, ![4096, 6144]⟩
abbrev S_ : Shape := ⟨0, ![]⟩
abbrev S6144x2048 : Shape := ⟨2, ![6144, 2048]⟩
abbrev S2048x6144 : Shape := ⟨2, ![2048, 6144]⟩

abbrev nBuf : Space → Nat
  | .hbm => 11
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S4096x2048, .bf16⟩
  | .hbm, ⟨2, _⟩ => ⟨S6144x4096, .f32⟩
  | .hbm, ⟨3, _⟩ => ⟨S4096x6144, .f32⟩
  | .hbm, ⟨4, _⟩ => ⟨S_, .f32⟩
  | .hbm, ⟨5, _⟩ => ⟨S6144x2048, .f32⟩
  | .hbm, ⟨6, _⟩ => ⟨S4096x2048, .f32⟩
  | .hbm, ⟨7, _⟩ => ⟨S4096x2048, .f32⟩
  | .hbm, ⟨8, _⟩ => ⟨S2048x6144, .f32⟩
  | .hbm, ⟨9, _⟩ => ⟨S6144x2048, .f32⟩
  | .hbm, ⟨10, _⟩ => ⟨S6144x2048, .bf16⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2x4096x6144 : Shape := ⟨3, ![2, 4096, 6144]⟩
abbrev S8x2048x1536 : Shape := ⟨3, ![8, 2048, 1536]⟩
abbrev S4096x2048 : Shape := ⟨2, ![4096, 2048]⟩
abbrev S1x1024x1536 : Shape := ⟨3, ![1, 1024, 1536]⟩
abbrev S1x2048x1536 : Shape := ⟨3, ![1, 2048, 1536]⟩
abbrev S1024x2048 : Shape := ⟨2, ![1024, 2048]⟩
abbrev S1024x1536 : Shape := ⟨2, ![1024, 1536]⟩
abbrev S2048x1536 : Shape := ⟨2, ![2048, 1536]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x6144, .bf16⟩
  | .hbm, ⟨1, _⟩ => ⟨S8x2048x1536, .bf16⟩
  | .hbm, ⟨2, _⟩ => ⟨S4096x2048, .f32⟩
  | .local _ .vmem, ⟨0, _⟩ => ⟨S1x1024x1536, .bf16⟩
  | .local _ .vmem, ⟨1, _⟩ => ⟨S1x1024x1536, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4096x6144 : Shape := ⟨3, ![2, 4096, 6144]⟩
abbrev S8x2048x1536 : Shape := ⟨3, ![8, 2048, 1536]⟩
abbrev S2048x8x1536 : Shape := ⟨3, ![2048, 8, 1536]⟩
abbrev S2048x12288 : Shape := ⟨2, ![2048, 12288]⟩
abbrev S1x4096x6144 : Shape := ⟨3, ![1, 4096, 6144]⟩
abbrev S4096x6144 : Shape := ⟨2, ![4096, 6144]⟩
abbrev S4096x12288 : Shape := ⟨2, ![4096, 12288]⟩
abbrev S_ : Shape := ⟨0, ![]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x6144, .bf16⟩
  | .hbm, ⟨1, _⟩ => ⟨S8x2048x1536, .bf16⟩
  | .hbm, ⟨2, _⟩ => ⟨S8x2048x1536, .f32⟩
  | .hbm, ⟨3, _⟩ => ⟨S2048x8x1536, .f32⟩
  | .hbm, ⟨4, _⟩ => ⟨S2048x12288, .f32⟩
  | .hbm, ⟨5, _⟩ => ⟨S1x4096x6144, .bf16⟩
  | .hbm, ⟨6, _⟩ => ⟨S4096x6144, .bf16⟩
  | .hbm, ⟨7, _⟩ => ⟨S1x4096x6144, .bf16⟩
  | .hbm, ⟨8, _⟩ => ⟨S4096x6144, .bf16⟩
  | .hbm, ⟨9, _⟩ => ⟨S4096x12288, .bf16⟩
  | .hbm, ⟨10, _⟩ => ⟨S4096x12288, .f32⟩
  | .hbm, ⟨11, _⟩ => ⟨S_, .f32⟩
  | .hbm, ⟨12, _⟩ => ⟨S4096x2048, .f32⟩
  | .hbm, ⟨13, _⟩ => ⟨S4096x12288, .f32⟩
  | .hbm, ⟨14, _⟩ => ⟨S4096x2048, .f32⟩
  | _, _ => ⟨S2x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S2048x4096 : Shape := ⟨2, ![2048, 4096]⟩
abbrev S2x4096x6144 : Shape := ⟨3, ![2, 4096, 6144]⟩
abbrev S8x2048x1536 : Shape := ⟨3, ![8, 2048, 1536]⟩
abbrev S1024x2048 : Shape := ⟨2, ![1024, 2048]⟩
abbrev S1x2048x1536 : Shape := ⟨3, ![1, 2048, 1536]⟩
abbrev S1x1024x1536 : Shape := ⟨3, ![1, 1024, 1536]⟩
abbrev S1024x1536 : Shape := ⟨2, ![1024, 1536]⟩
abbrev S2048x1536 : Shape := ⟨2, ![2048, 1536]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2x4096x6144, .bf16⟩
  | .hbm, ⟨2, _⟩ => ⟨S8x2048x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x4096 : Shape := ⟨2, ![2048, 4096]⟩
abbrev S2x4096x6144 : Shape := ⟨3, ![2, 4096, 6144]⟩
abbrev S4096x2048 : Shape := ⟨2, ![4096, 2048]⟩
abbrev S1x4096x6144 : Shape := ⟨3, ![1, 4096, 6144]⟩
abbrev S4096x6144 : Shape := ⟨2, ![4096, 6144]⟩
abbrev S4096x12288 : Shape := ⟨2, ![4096, 12288]⟩
abbrev S_ : Shape := ⟨0, ![]⟩
abbrev S2048x12288 : Shape := ⟨2, ![2048, 12288]⟩
abbrev S12288x2048 : Shape := ⟨2, ![12288, 2048]⟩
abbrev S2048x8x1536 : Shape := ⟨3, ![2048, 8, 1536]⟩
abbrev S8x2048x1536 : Shape := ⟨3, ![8, 2048, 1536]⟩

abbrev nBuf : Space → Nat
  | .hbm => 18
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2x4096x6144, .bf16⟩
  | .hbm, ⟨2, _⟩ => ⟨S2048x4096, .f32⟩
  | .hbm, ⟨3, _⟩ => ⟨S4096x2048, .f32⟩
  | .hbm, ⟨4, _⟩ => ⟨S1x4096x6144, .bf16⟩
  | .hbm, ⟨5, _⟩ => ⟨S4096x6144, .bf16⟩
  | .hbm, ⟨6, _⟩ => ⟨S1x4096x6144, .bf16⟩
  | .hbm, ⟨7, _⟩ => ⟨S4096x6144, .bf16⟩
  | .hbm, ⟨8, _⟩ => ⟨S4096x12288, .bf16⟩
  | .hbm, ⟨9, _⟩ => ⟨S4096x12288, .f32⟩
  | .hbm, ⟨10, _⟩ => ⟨S_, .f32⟩
  | .hbm, ⟨11, _⟩ => ⟨S2048x12288, .f32⟩
  | .hbm, ⟨12, _⟩ => ⟨S4096x12288, .f32⟩
  | .hbm, ⟨13, _⟩ => ⟨S12288x2048, .f32⟩
  | .hbm, ⟨14, _⟩ => ⟨S2048x12288, .f32⟩
  | .hbm, ⟨15, _⟩ => ⟨S2048x8x1536, .f32⟩
  | .hbm, ⟨16, _⟩ => ⟨S8x2048x1536, .f32⟩
  | .hbm, ⟨17, _⟩ => ⟨S8x2048x1536, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x2048 : Shape := ⟨2, ![1024, 2048]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | .local _ .vmem, ⟨5, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x5376 : Shape := ⟨2, ![4096, 5376]⟩
abbrev S2048x5376 : Shape := ⟨2, ![2048, 5376]⟩
abbrev S4096x2048 : Shape := ⟨2, ![4096, 2048]⟩
abbrev S1024x1792 : Shape := ⟨2, ![1024, 1792]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5376, .bf16⟩
  | .hbm, ⟨1, _⟩ => ⟨S2048x5376, .bf16⟩
  | .hbm, ⟨2, _⟩ => ⟨S4096x2048, .f32⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x5376 : Shape := ⟨2, ![4096, 5376]⟩
abbrev S2048x5376 : Shape := ⟨2, ![2048, 5376]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S2048x5376, .bf16⟩
  | .hbm, ⟨2, _⟩ => ⟨S2048x5376, .f32⟩
  | .hbm, ⟨3, _⟩ => ⟨S_, .f32⟩
  | .hbm, ⟨4, _⟩ => ⟨S4096x2048, .f32⟩
  | .hbm, ⟨5, _⟩ => ⟨S4096x5376, .f32⟩
  | .hbm, ⟨6, _⟩ => ⟨S4096x5376, .f32⟩
  | .hbm, ⟨7, _⟩ => ⟨S4096x2048, .f32⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x4096 : Shape := ⟨2, ![2048, 4096]⟩
abbrev S4096x5376 : Shape := ⟨2, ![4096, 5376]⟩
abbrev S2048x5376 : Shape := ⟨2, ![2048, 5376]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x5376, .bf16⟩
  | .hbm, ⟨2, _⟩ => ⟨S2048x5376, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x4096 : Shape := ⟨2, ![2048, 4096]⟩
abbrev S4096x5376 : Shape := ⟨2, ![4096, 5376]⟩
abbrev S4096x2048 : Shape := ⟨2, ![4096, 2048]⟩
abbrev S_ : Shape := ⟨0, ![]⟩
abbrev S2048x5376 : Shape := ⟨2, ![2048, 5376]⟩
abbrev S5376x2048 : Shape := ⟨2, ![5376, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x5376, .bf16⟩
  | .hbm, ⟨2, _⟩ => ⟨S2048x4096, .f32⟩
  | .hbm, ⟨3, _⟩ => ⟨S4096x2048, .f32⟩
  | .hbm, ⟨4, _⟩ => ⟨S_, .f32⟩
  | .hbm, ⟨5, _⟩ => ⟨S2048x5376, .f32⟩
  | .hbm, ⟨6, _⟩ => ⟨S4096x5376, .f32⟩
  | .hbm, ⟨7, _⟩ => ⟨S4096x5376, .f32⟩
  | .hbm, ⟨8, _⟩ => ⟨S5376x2048, .f32⟩
  | .hbm, ⟨9, _⟩ => ⟨S2048x5376, .f32⟩
  | .hbm, ⟨10, _⟩ => ⟨S2048x5376, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x2048 : Shape := ⟨2, ![4096, 2048]⟩
abbrev S2048x5376 : Shape := ⟨2, ![2048, 5376]⟩
abbrev S4096x5376 : Shape := ⟨2, ![4096, 5376]⟩
abbrev S1024x2048 : Shape := ⟨2, ![1024, 2048]⟩
abbrev S2048x1792 : Shape := ⟨2, ![2048, 1792]⟩
abbrev S1024x1792 : Shape := ⟨2, ![1024, 1792]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x5376, .bf16⟩
  | .hbm, ⟨2, _⟩ => ⟨S4096x5376, .f32⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .f32⟩
  | .local _ .vmem, ⟨5, _⟩ => ⟨S1024x1792, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x5376 : Shape := ⟨2, ![2048, 5376]⟩
abbrev S4096x5376 : Shape := ⟨2, ![4096, 5376]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5376, .bf16⟩
  | .hbm, ⟨2, _⟩ => ⟨S4096x2048, .f32⟩
  | .hbm, ⟨3, _⟩ => ⟨S2048x5376, .f32⟩
  | .hbm, ⟨4, _⟩ => ⟨S4096x5376, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S8x2048x1536 : Shape := ⟨3, ![8, 2048, 1536]⟩
abbrev S4096x12288 : Shape := ⟨2, ![4096, 12288]⟩
abbrev S1024x2048 : Shape := ⟨2, ![1024, 2048]⟩
abbrev S1x2048x1536 : Shape := ⟨3, ![1, 2048, 1536]⟩
abbrev S1024x1536 : Shape := ⟨2, ![1024, 1536]⟩
abbrev S8x128 : Shape := ⟨2, ![8, 128]⟩
abbrev S2048x1536 : Shape := ⟨2, ![2048, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x1536, .bf16⟩
  | .hbm, ⟨2, _⟩ => ⟨S4096x12288, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S8x2048x1536 : Shape := ⟨3, ![8, 2048, 1536]⟩
abbrev S2048x8x1536 : Shape := ⟨3, ![2048, 8, 1536]⟩
abbrev S2048x12288 : Shape := ⟨2, ![2048, 12288]⟩
abbrev S4096x12288 : Shape := ⟨2, ![4096, 12288]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1536, .bf16⟩
  | .hbm, ⟨2, _⟩ => ⟨S8x2048x1536, .f32⟩
  | .hbm, ⟨3, _⟩ => ⟨S2048x8x1536, .f32⟩
  | .hbm, ⟨4, _⟩ => ⟨S2048x12288, .f32⟩
  | .hbm, ⟨5, _⟩ => ⟨S4096x2048, .f32⟩
  | .hbm, ⟨6, _⟩ => ⟨S4096x12288, .f32⟩
  | .hbm, ⟨7, _⟩ => ⟨S4096x12288, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel13.lean ====
abbrev S4096x6144 : Shape := ⟨2, ![4096, 6144]⟩
abbrev S6144x2048 : Shape := ⟨2, ![6144, 2048]⟩
abbrev S4096x2048 : Shape := ⟨2, ![4096, 2048]⟩
abbrev S1024x3072 : Shape := ⟨2, ![1024, 3072]⟩
abbrev S3072x1024 : Shape := ⟨2, ![3072, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .hbm, ⟨3, _⟩ => ⟨S4096x2048, .f32⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S3072x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x6144 : Shape := ⟨2, ![4096, 6144]⟩
abbrev S6144x2048 : Shape := ⟨2, ![6144, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .hbm, ⟨3, _⟩ => ⟨S4096x6144, .f32⟩
  | .hbm, ⟨4, _⟩ => ⟨S6144x2048, .f32⟩
  | .hbm, ⟨5, _⟩ => ⟨S4096x2048, .f32⟩
  | .hbm, ⟨6, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x2048 : Shape := ⟨2, ![4096, 2048]⟩
abbrev S4096x768 : Shape := ⟨2, ![4096, 768]⟩
abbrev S4096x5376 : Shape := ⟨2, ![4096, 5376]⟩
abbrev S6x128x128 : Shape := ⟨3, ![6, 128, 128]⟩
abbrev S1x768 : Shape := ⟨2, ![1, 768]⟩
abbrev S4096x6x128 : Shape := ⟨3, ![4096, 6, 128]⟩
abbrev S6x128x4096 : Shape := ⟨3, ![6, 128, 4096]⟩
abbrev S_ : Shape := ⟨0, ![]⟩
abbrev S4096 : Shape := ⟨1, ![4096]⟩
abbrev S4096x1 : Shape := ⟨2, ![4096, 1]⟩
abbrev S2048x1536 : Shape := ⟨2, ![2048, 1536]⟩
abbrev S2048x768 : Shape := ⟨2, ![2048, 768]⟩
abbrev S1024x1536 : Shape := ⟨2, ![1024, 1536]⟩
abbrev S1024x768 : Shape := ⟨2, ![1024, 768]⟩
abbrev S512x1536 : Shape := ⟨2, ![512, 1536]⟩
abbrev S512x768 : Shape := ⟨2, ![512, 768]⟩
abbrev S256x1536 : Shape := ⟨2, ![256, 1536]⟩
abbrev S256x768 : Shape := ⟨2, ![256, 768]⟩
abbrev S128x1536 : Shape := ⟨2, ![128, 1536]⟩
abbrev S128x768 : Shape := ⟨2, ![128, 768]⟩
abbrev S64x1536 : Shape := ⟨2, ![64, 1536]⟩
abbrev S64x768 : Shape := ⟨2, ![64, 768]⟩
abbrev S32x1536 : Shape := ⟨2, ![32, 1536]⟩
abbrev S32x768 : Shape := ⟨2, ![32, 768]⟩
abbrev S16x1536 : Shape := ⟨2, ![16, 1536]⟩
abbrev S16x768 : Shape := ⟨2, ![16, 768]⟩
abbrev S8x1536 : Shape := ⟨2, ![8, 1536]⟩
abbrev S8x768 : Shape := ⟨2, ![8, 768]⟩
abbrev S4x1536 : Shape := ⟨2, ![4, 1536]⟩
abbrev S4x768 : Shape := ⟨2, ![4, 768]⟩
abbrev S2x1536 : Shape := ⟨2, ![2, 1536]⟩
abbrev S2x768 : Shape := ⟨2, ![2, 768]⟩
abbrev S1x1536 : Shape := ⟨2, ![1, 1536]⟩
abbrev S3x768 : Shape := ⟨2, ![3, 768]⟩
abbrev S5x768 : Shape := ⟨2, ![5, 768]⟩
abbrev S9x768 : Shape := ⟨2, ![9, 768]⟩
abbrev S17x768 : Shape := ⟨2, ![17, 768]⟩
abbrev S33x768 : Shape := ⟨2, ![33, 768]⟩
abbrev S65x768 : Shape := ⟨2, ![65, 768]⟩
abbrev S129x768 : Shape := ⟨2, ![129, 768]⟩
abbrev S257x768 : Shape := ⟨2, ![257, 768]⟩
abbrev S513x768 : Shape := ⟨2, ![513, 768]⟩
abbrev S1025x768 : Shape := ⟨2, ![1025, 768]⟩
abbrev S2049x768 : Shape := ⟨2, ![2049, 768]⟩
abbrev S1024x128 : Shape := ⟨2, ![1024, 128]⟩
abbrev S8x128 : Shape := ⟨2, ![8, 128]⟩
abbrev S1x128x128 : Shape := ⟨3, ![1, 128, 128]⟩
abbrev S1x128 : Shape := ⟨2, ![1, 128]⟩
abbrev S128x128 : Shape := ⟨2, ![128, 128]⟩
abbrev S1024x1 : Shape := ⟨2, ![1024, 1]⟩
abbrev S1032x128 : Shape := ⟨2, ![1032, 128]⟩
abbrev S128 : Shape := ⟨1, ![128]⟩

abbrev nBuf : Space → Nat
  | .hbm => 286
  | .vmem => 36
  | .smem => 0
  | _ => 0

abbrev hbmTy0_0 (i : Nat) : BufTy := match i % 128 with
  | 0 => ⟨S4096x2048, .f32⟩
  | 1 => ⟨S4096x768, .f32⟩
  | 2 => ⟨S4096x5376, .f32⟩
  | 3 => ⟨S6x128x128, .f32⟩
  | 4 => ⟨S1x768, .f32⟩
  | 5 => ⟨S6x128x128, .f32⟩
  | 6 => ⟨S1x768, .f32⟩
  | 7 => ⟨S1x768, .f32⟩
  | 8 => ⟨S4096x5376, .bf16⟩
  | 9 => ⟨S4096x6x128, .f32⟩
  | 10 => ⟨S6x128x4096, .f32⟩
  | 11 => ⟨S4096x6x128, .f32⟩
  | 12 => ⟨S4096x768, .f32⟩
  | 13 => ⟨S4096x768, .f32⟩
  | 14 => ⟨S4096x768, .f32⟩
  | 15 => ⟨S4096x768, .f32⟩
  | 16 => ⟨S4096x768, .f32⟩
  | 17 => ⟨S_, .f32⟩
  | 18 => ⟨S4096x768, .f32⟩
  | 19 => ⟨S4096x768, .f32⟩
  | 20 => ⟨S_, .f32⟩
  | 21 => ⟨S4096x768, .f32⟩
  | 22 => ⟨S4096x768, .f32⟩
  | 23 => ⟨S6x128x4096, .f32⟩
  | 24 => ⟨S4096x6x128, .f32⟩
  | 25 => ⟨S4096x768, .f32⟩
  | 26 => ⟨S4096x768, .f32⟩
  | 27 => ⟨S4096x768, .f32⟩
  | 28 => ⟨S4096x768, .f32⟩
  | 29 => ⟨S4096x768, .f32⟩
  | 30 => ⟨S_, .f32⟩
  | 31 => ⟨S4096x768, .f32⟩
  | 32 => ⟨S4096x768, .f32⟩
  | 33 => ⟨S_, .f32⟩
  | 34 => ⟨S4096x768, .f32⟩
  | 35 => ⟨S4096x768, .f32⟩
  | 36 => ⟨S_, .f32⟩
  | 37 => ⟨S4096x768, .f32⟩
  | 38 => ⟨S4096x768, .f32⟩
  | 39 => ⟨S1x768, .f32⟩
  | 40 => ⟨S_, .f32⟩
  | 41 => ⟨S1x768, .f32⟩
  | 42 => ⟨S1x768, .f32⟩
  | 43 => ⟨S1x768, .f32⟩
  | 44 => ⟨S1x768, .f32⟩
  | 45 => ⟨S1x768, .i1⟩
  | 46 => ⟨S1x768, .f32⟩
  | 47 => ⟨S1x768, .f32⟩
  | 48 => ⟨S1x768, .f32⟩
  | 49 => ⟨S1x768, .f32⟩
  | 50 => ⟨S1x768, .f32⟩
  | 51 => ⟨S1x768, .f32⟩
  | 52 => ⟨S1x768, .f32⟩
  | 53 => ⟨S1x768, .f32⟩
  | 54 => ⟨S4096x768, .f32⟩
  | 55 => ⟨S4096x768, .f32⟩
  | 56 => ⟨S4096x768, .f32⟩
  | 57 => ⟨S_, .f32⟩
  | 58 => ⟨S4096x768, .f32⟩
  | 59 => ⟨S4096x768, .f32⟩
  | 60 => ⟨S4096x768, .f32⟩
  | 61 => ⟨S4096x768, .f32⟩
  | 62 => ⟨S4096x768, .f32⟩
  | 63 => ⟨S4096, .i32⟩
  | 64 => ⟨S4096x1, .i32⟩
  | 65 => ⟨S_, .i32⟩
  | 66 => ⟨S4096x1, .i32⟩
  | 67 => ⟨S4096x1, .i1⟩
  | 68 => ⟨S_, .f32⟩
  | 69 => ⟨S_, .f32⟩
  | 70 => ⟨S4096x768, .i1⟩
  | 71 => ⟨S4096x768, .f32⟩
  | 72 => ⟨S4096x768, .f32⟩
  | 73 => ⟨S4096x768, .f32⟩
  | 74 => ⟨S4096x768, .f32⟩
  | 75 => ⟨S2048x1536, .f32⟩
  | 76 => ⟨S2048x1536, .f32⟩
  | 77 => ⟨S2048x768, .f32⟩
  | 78 => ⟨S2048x768, .f32⟩
  | 79 => ⟨S2048x768, .f32⟩
  | 80 => ⟨S2048x768, .f32⟩
  | 81 => ⟨S2048x768, .f32⟩
  | 82 => ⟨S2048x768, .f32⟩
  | 83 => ⟨S2048x768, .f32⟩
  | 84 => ⟨S1024x1536, .f32⟩
  | 85 => ⟨S1024x1536, .f32⟩
  | 86 => ⟨S1024x768, .f32⟩
  | 87 => ⟨S1024x768, .f32⟩
  | 88 => ⟨S1024x768, .f32⟩
  | 89 => ⟨S1024x768, .f32⟩
  | 90 => ⟨S1024x768, .f32⟩
  | 91 => ⟨S1024x768, .f32⟩
  | 92 => ⟨S1024x768, .f32⟩
  | 93 => ⟨S512x1536, .f32⟩
  | 94 => ⟨S512x1536, .f32⟩
  | 95 => ⟨S512x768, .f32⟩
  | 96 => ⟨S512x768, .f32⟩
  | 97 => ⟨S512x768, .f32⟩
  | 98 => ⟨S512x768, .f32⟩
  | 99 => ⟨S512x768, .f32⟩
  | 100 => ⟨S512x768, .f32⟩
  | 101 => ⟨S512x768, .f32⟩
  | 102 => ⟨S256x1536, .f32⟩
  | 103 => ⟨S256x1536, .f32⟩
  | 104 => ⟨S256x768, .f32⟩
  | 105 => ⟨S256x768, .f32⟩
  | 106 => ⟨S256x768, .f32⟩
  | 107 => ⟨S256x768, .f32⟩
  | 108 => ⟨S256x768, .f32⟩
  | 109 => ⟨S256x768, .f32⟩
  | 110 => ⟨S256x768, .f32⟩
  | 111 => ⟨S128x1536, .f32⟩
  | 112 => ⟨S128x1536, .f32⟩
  | 113 => ⟨S128x768, .f32⟩
  | 114 => ⟨S128x768, .f32⟩
  | 115 => ⟨S128x768, .f32⟩
  | 116 => ⟨S128x768, .f32⟩
  | 117 => ⟨S128x768, .f32⟩
  | 118 => ⟨S128x768, .f32⟩
  | 119 => ⟨S128x768, .f32⟩
  | 120 => ⟨S64x1536, .f32⟩
  | 121 => ⟨S64x1536, .f32⟩
  | 122 => ⟨S64x768, .f32⟩
  | 123 => ⟨S64x768, .f32⟩
  | 124 => ⟨S64x768, .f32⟩
  | 125 => ⟨S64x768, .f32⟩
  | 126 => ⟨S64x768, .f32⟩
  | 127 => ⟨S64x768, .f32⟩
  | _ => ⟨S4096x2048, .f32⟩

abbrev hbmTy0_1 (i : Nat) : BufTy := match i % 128 with
  | 0 => ⟨S64x768, .f32⟩
  | 1 => ⟨S32x1536, .f32⟩
  | 2 => ⟨S32x1536, .f32⟩
  | 3 => ⟨S32x768, .f32⟩
  | 4 => ⟨S32x768, .f32⟩
  | 5 => ⟨S32x768, .f32⟩
  | 6 => ⟨S32x768, .f32⟩
  | 7 => ⟨S32x768, .f32⟩
  | 8 => ⟨S32x768, .f32⟩
  | 9 => ⟨S32x768, .f32⟩
  | 10 => ⟨S16x1536, .f32⟩
  | 11 => ⟨S16x1536, .f32⟩
  | 12 => ⟨S16x768, .f32⟩
  | 13 => ⟨S16x768, .f32⟩
  | 14 => ⟨S16x768, .f32⟩
  | 15 => ⟨S16x768, .f32⟩
  | 16 => ⟨S16x768, .f32⟩
  | 17 => ⟨S16x768, .f32⟩
  | 18 => ⟨S16x768, .f32⟩
  | 19 => ⟨S8x1536, .f32⟩
  | 20 => ⟨S8x1536, .f32⟩
  | 21 => ⟨S8x768, .f32⟩
  | 22 => ⟨S8x768, .f32⟩
  | 23 => ⟨S8x768, .f32⟩
  | 24 => ⟨S8x768, .f32⟩
  | 25 => ⟨S8x768, .f32⟩
  | 26 => ⟨S8x768, .f32⟩
  | 27 => ⟨S8x768, .f32⟩
  | 28 => ⟨S4x1536, .f32⟩
  | 29 => ⟨S4x1536, .f32⟩
  | 30 => ⟨S4x768, .f32⟩
  | 31 => ⟨S4x768, .f32⟩
  | 32 => ⟨S4x768, .f32⟩
  | 33 => ⟨S4x768, .f32⟩
  | 34 => ⟨S4x768, .f32⟩
  | 35 => ⟨S4x768, .f32⟩
  | 36 => ⟨S4x768, .f32⟩
  | 37 => ⟨S2x1536, .f32⟩
  | 38 => ⟨S2x1536, .f32⟩
  | 39 => ⟨S2x768, .f32⟩
  | 40 => ⟨S2x768, .f32⟩
  | 41 => ⟨S2x768, .f32⟩
  | 42 => ⟨S2x768, .f32⟩
  | 43 => ⟨S2x768, .f32⟩
  | 44 => ⟨S2x768, .f32⟩
  | 45 => ⟨S2x768, .f32⟩
  | 46 => ⟨S1x1536, .f32⟩
  | 47 => ⟨S1x1536, .f32⟩
  | 48 => ⟨S1x768, .f32⟩
  | 49 => ⟨S1x768, .f32⟩
  | 50 => ⟨S1x768, .f32⟩
  | 51 => ⟨S1x768, .f32⟩
  | 52 => ⟨S1x768, .f32⟩
  | 53 => ⟨S1x768, .f32⟩
  | 54 => ⟨S1x768, .f32⟩
  | 55 => ⟨S_, .f32⟩
  | 56 => ⟨S1x768, .f32⟩
  | 57 => ⟨S2x768, .f32⟩
  | 58 => ⟨S1x768, .f32⟩
  | 59 => ⟨S1x768, .f32⟩
  | 60 => ⟨S1x768, .f32⟩
  | 61 => ⟨S1x1536, .f32⟩
  | 62 => ⟨S2x768, .f32⟩
  | 63 => ⟨S_, .f32⟩
  | 64 => ⟨S1x768, .f32⟩
  | 65 => ⟨S3x768, .f32⟩
  | 66 => ⟨S2x768, .f32⟩
  | 67 => ⟨S2x768, .f32⟩
  | 68 => ⟨S2x768, .f32⟩
  | 69 => ⟨S2x1536, .f32⟩
  | 70 => ⟨S4x768, .f32⟩
  | 71 => ⟨S_, .f32⟩
  | 72 => ⟨S1x768, .f32⟩
  | 73 => ⟨S5x768, .f32⟩
  | 74 => ⟨S4x768, .f32⟩
  | 75 => ⟨S4x768, .f32⟩
  | 76 => ⟨S4x768, .f32⟩
  | 77 => ⟨S4x1536, .f32⟩
  | 78 => ⟨S8x768, .f32⟩
  | 79 => ⟨S_, .f32⟩
  | 80 => ⟨S1x768, .f32⟩
  | 81 => ⟨S9x768, .f32⟩
  | 82 => ⟨S8x768, .f32⟩
  | 83 => ⟨S8x768, .f32⟩
  | 84 => ⟨S8x768, .f32⟩
  | 85 => ⟨S8x1536, .f32⟩
  | 86 => ⟨S16x768, .f32⟩
  | 87 => ⟨S_, .f32⟩
  | 88 => ⟨S1x768, .f32⟩
  | 89 => ⟨S17x768, .f32⟩
  | 90 => ⟨S16x768, .f32⟩
  | 91 => ⟨S16x768, .f32⟩
  | 92 => ⟨S16x768, .f32⟩
  | 93 => ⟨S16x1536, .f32⟩
  | 94 => ⟨S32x768, .f32⟩
  | 95 => ⟨S_, .f32⟩
  | 96 => ⟨S1x768, .f32⟩
  | 97 => ⟨S33x768, .f32⟩
  | 98 => ⟨S32x768, .f32⟩
  | 99 => ⟨S32x768, .f32⟩
  | 100 => ⟨S32x768, .f32⟩
  | 101 => ⟨S32x1536, .f32⟩
  | 102 => ⟨S64x768, .f32⟩
  | 103 => ⟨S_, .f32⟩
  | 104 => ⟨S1x768, .f32⟩
  | 105 => ⟨S65x768, .f32⟩
  | 106 => ⟨S64x768, .f32⟩
  | 107 => ⟨S64x768, .f32⟩
  | 108 => ⟨S64x768, .f32⟩
  | 109 => ⟨S64x1536, .f32⟩
  | 110 => ⟨S128x768, .f32⟩
  | 111 => ⟨S_, .f32⟩
  | 112 => ⟨S1x768, .f32⟩
  | 113 => ⟨S129x768, .f32⟩
  | 114 => ⟨S128x768, .f32⟩
  | 115 => ⟨S128x768, .f32⟩
  | 116 => ⟨S128x768, .f32⟩
  | 117 => ⟨S128x1536, .f32⟩
  | 118 => ⟨S256x768, .f32⟩
  | 119 => ⟨S_, .f32⟩
  | 120 => ⟨S1x768, .f32⟩
  | 121 => ⟨S257x768, .f32⟩
  | 122 => ⟨S256x768, .f32⟩
  | 123 => ⟨S256x768, .f32⟩
  | 124 => ⟨S256x768, .f32⟩
  | 125 => ⟨S256x1536, .f32⟩
  | 126 => ⟨S512x768, .f32⟩
  | 127 => ⟨S_, .f32⟩
  | _ => ⟨S4096x2048, .f32⟩

abbrev hbmTy0_2 (i : Nat) : BufTy := match i % 128 with
  | 0 => ⟨S1x768, .f32⟩
  | 1 => ⟨S513x768, .f32⟩
  | 2 => ⟨S512x768, .f32⟩
  | 3 => ⟨S512x768, .f32⟩
  | 4 => ⟨S512x768, .f32⟩
  | 5 => ⟨S512x1536, .f32⟩
  | 6 => ⟨S1024x768, .f32⟩
  | 7 => ⟨S_, .f32⟩
  | 8 => ⟨S1x768, .f32⟩
  | 9 => ⟨S1025x768, .f32⟩
  | 10 => ⟨S1024x768, .f32⟩
  | 11 => ⟨S1024x768, .f32⟩
  | 12 => ⟨S1024x768, .f32⟩
  | 13 => ⟨S1024x1536, .f32⟩
  | 14 => ⟨S2048x768, .f32⟩
  | 15 => ⟨S_, .f32⟩
  | 16 => ⟨S1x768, .f32⟩
  | 17 => ⟨S2049x768, .f32⟩
  | 18 => ⟨S2048x768, .f32⟩
  | 19 => ⟨S2048x768, .f32⟩
  | 20 => ⟨S2048x768, .f32⟩
  | 21 => ⟨S2048x1536, .f32⟩
  | 22 => ⟨S4096x768, .f32⟩
  | 23 => ⟨S4096x768, .f32⟩
  | 24 => ⟨S4096x5376, .bf16⟩
  | 25 => ⟨S6x128x128, .f32⟩
  | 26 => ⟨S6x128x128, .f32⟩
  | 27 => ⟨S1x768, .f32⟩
  | 28 => ⟨S1x768, .f32⟩
  | 29 => ⟨S1x768, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S8x128, .f32⟩
  | .local _ .vmem, ⟨9, _⟩ => ⟨S8x128, .f32⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S1x128, .f32⟩
  | .local _ .vmem, ⟨14, _⟩ => ⟨S1x128x128, .f32⟩
  | .local _ .vmem, ⟨15, _⟩ => ⟨S1x128x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1024x128, .f32⟩
  | .local _ .vmem, ⟨21, _⟩ => ⟨S1024x128, .f32⟩
  | .local _ .vmem, ⟨22, _⟩ => ⟨S1024x128, .bf16⟩
  | .local _ .vmem, ⟨23, _⟩ => ⟨S1024x128, .bf16⟩
  | .local _ .vmem, ⟨24, _⟩ => ⟨S1x128x128, .f32⟩
  | .local _ .vmem, ⟨25, _⟩ => ⟨S1x128x128, .f32⟩
  | .local _ .vmem, ⟨26, _⟩ => ⟨S1x128x128, .f32⟩
  | .local _ .vmem, ⟨27, _⟩ => ⟨S1x128x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S8x128, .f32⟩
  | .local _ .vmem, ⟨35, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c : Ref sig .tc := ⟨.hbm, 65, rfl⟩
abbrev main_v37 : Ref sig .tc := ⟨.hbm, 66, rfl⟩
abbrev main_v38 : Ref sig .tc := ⟨.hbm, 67, rfl⟩
abbrev main_cst_5 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_6 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_7 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_cst_8 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_cst_9 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_cst_10 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_cst_11 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_cst_12 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_cst_13 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_cst_14 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_cst_15 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_cst_16 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_cst_17 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234_0 : Ref sig .tc := ⟨.hbm, 279, rfl⟩
abbrev main_v234_1 : Ref sig .tc := ⟨.hbm, 280, rfl⟩
abbrev main_v234_2 : Ref sig .tc := ⟨.hbm, 281, rfl⟩
abbrev main_v234_3 : Ref sig .tc := ⟨.hbm, 282, rfl⟩
abbrev main_v234_4 : Ref sig .tc := ⟨.hbm, 283, rfl⟩
abbrev main_v234_5 : Ref sig .tc := ⟨.hbm, 284, rfl⟩
abbrev main_v234_6 : Ref sig .tc := ⟨.hbm, 285, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c10_i32 : BitVec 32 := 10#32
  let v1 : BitVec 32 := Scalar.addi c10_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c36_i32 : BitVec 32 := 36#32
  let v1 : BitVec 32 := Scalar.addi c36_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c36_i32 : BitVec 32 := 36#32
  let v1 : BitVec 32 := Scalar.addi c36_i32 arg0
  let c0_i32 : BitVec 32 := 0#32
  ![v0.toNat, v1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Kernel14Ideal.lean ====
variable {F : FTy → Type} [FloatOps F] [Named F]
def κ : String → Option EReal := fun
  | "gelu_cubic" => some ((80338380498831 / 2251799813685248 : ℝ) : EReal)
  | "gelu_cubic_slope" => some ((241015141496493 / 2251799813685248 : ℝ) : EReal)
  | _ => none
-- ==== Reference14Ideal.lean ====
abbrev S4096x2048 : Shape := ⟨2, ![4096, 2048]⟩
abbrev S4096x768 : Shape := ⟨2, ![4096, 768]⟩
abbrev S4096x5376 : Shape := ⟨2, ![4096, 5376]⟩
abbrev S6x128x128 : Shape := ⟨3, ![6, 128, 128]⟩
abbrev S1x768 : Shape := ⟨2, ![1, 768]⟩
abbrev S4096x6x128 : Shape := ⟨3, ![4096, 6, 128]⟩
abbrev S6x128x4096 : Shape := ⟨3, ![6, 128, 4096]⟩
abbrev S_ : Shape := ⟨0, ![]⟩
abbrev S4096 : Shape := ⟨1, ![4096]⟩
abbrev S4096x1 : Shape := ⟨2, ![4096, 1]⟩
abbrev S2048x1536 : Shape := ⟨2, ![2048, 1536]⟩
abbrev S2048x768 : Shape := ⟨2, ![2048, 768]⟩
abbrev S1024x1536 : Shape := ⟨2, ![1024, 1536]⟩
abbrev S1024x768 : Shape := ⟨2, ![1024, 768]⟩
abbrev S512x1536 : Shape := ⟨2, ![512, 1536]⟩
abbrev S512x768 : Shape := ⟨2, ![512, 768]⟩
abbrev S256x1536 : Shape := ⟨2, ![256, 1536]⟩
abbrev S256x768 : Shape := ⟨2, ![256, 768]⟩
abbrev S128x1536 : Shape := ⟨2, ![128, 1536]⟩
abbrev S128x768 : Shape := ⟨2, ![128, 768]⟩
abbrev S64x1536 : Shape := ⟨2, ![64, 1536]⟩
abbrev S64x768 : Shape := ⟨2, ![64, 768]⟩
abbrev S32x1536 : Shape := ⟨2, ![32, 1536]⟩
abbrev S32x768 : Shape := ⟨2, ![32, 768]⟩
abbrev S16x1536 : Shape := ⟨2, ![16, 1536]⟩
abbrev S16x768 : Shape := ⟨2, ![16, 768]⟩
abbrev S8x1536 : Shape := ⟨2, ![8, 1536]⟩
abbrev S8x768 : Shape := ⟨2, ![8, 768]⟩
abbrev S4x1536 : Shape := ⟨2, ![4, 1536]⟩
abbrev S4x768 : Shape := ⟨2, ![4, 768]⟩
abbrev S2x1536 : Shape := ⟨2, ![2, 1536]⟩
abbrev S2x768 : Shape := ⟨2, ![2, 768]⟩
abbrev S1x1536 : Shape := ⟨2, ![1, 1536]⟩
abbrev S3x768 : Shape := ⟨2, ![3, 768]⟩
abbrev S5x768 : Shape := ⟨2, ![5, 768]⟩
abbrev S9x768 : Shape := ⟨2, ![9, 768]⟩
abbrev S17x768 : Shape := ⟨2, ![17, 768]⟩
abbrev S33x768 : Shape := ⟨2, ![33, 768]⟩
abbrev S65x768 : Shape := ⟨2, ![65, 768]⟩
abbrev S129x768 : Shape := ⟨2, ![129, 768]⟩
abbrev S257x768 : Shape := ⟨2, ![257, 768]⟩
abbrev S513x768 : Shape := ⟨2, ![513, 768]⟩
abbrev S1025x768 : Shape := ⟨2, ![1025, 768]⟩
abbrev S2049x768 : Shape := ⟨2, ![2049, 768]⟩
abbrev S768 : Shape := ⟨1, ![768]⟩
abbrev S6x4096x128 : Shape := ⟨3, ![6, 4096, 128]⟩
abbrev S4096x4608 : Shape := ⟨2, ![4096, 4608]⟩

abbrev nBuf : Space → Nat
  | .hbm => 793
  | .vmem => 0
  | .smem => 0
  | _ => 0

abbrev hbmTy0_0 (i : Nat) : BufTy := match i % 128 with
  | 0 => ⟨S4096x2048, .f32⟩
  | 1 => ⟨S4096x768, .f32⟩
  | 2 => ⟨S4096x5376, .f32⟩
  | 3 => ⟨S6x128x128, .f32⟩
  | 4 => ⟨S1x768, .f32⟩
  | 5 => ⟨S6x128x128, .f32⟩
  | 6 => ⟨S1x768, .f32⟩
  | 7 => ⟨S1x768, .f32⟩
  | 8 => ⟨S4096x5376, .bf16⟩
  | 9 => ⟨S4096x768, .f32⟩
  | 10 => ⟨S4096x6x128, .f32⟩
  | 11 => ⟨S6x128x4096, .f32⟩
  | 12 => ⟨S4096x6x128, .f32⟩
  | 13 => ⟨S4096x768, .f32⟩
  | 14 => ⟨S4096x768, .f32⟩
  | 15 => ⟨S4096x768, .f32⟩
  | 16 => ⟨S4096x768, .f32⟩
  | 17 => ⟨S4096x768, .f32⟩
  | 18 => ⟨S_, .f32⟩
  | 19 => ⟨S4096x768, .f32⟩
  | 20 => ⟨S4096x768, .f32⟩
  | 21 => ⟨S_, .f32⟩
  | 22 => ⟨S4096x768, .f32⟩
  | 23 => ⟨S4096x768, .f32⟩
  | 24 => ⟨S_, .f32⟩
  | 25 => ⟨S4096x768, .f32⟩
  | 26 => ⟨S4096x768, .f32⟩
  | 27 => ⟨S4096x768, .f32⟩
  | 28 => ⟨S6x128x4096, .f32⟩
  | 29 => ⟨S4096x6x128, .f32⟩
  | 30 => ⟨S4096x768, .f32⟩
  | 31 => ⟨S4096x768, .f32⟩
  | 32 => ⟨S4096x768, .f32⟩
  | 33 => ⟨S4096x768, .f32⟩
  | 34 => ⟨S4096x768, .f32⟩
  | 35 => ⟨S_, .f32⟩
  | 36 => ⟨S4096x768, .f32⟩
  | 37 => ⟨S4096x768, .f32⟩
  | 38 => ⟨S_, .f32⟩
  | 39 => ⟨S4096x768, .f32⟩
  | 40 => ⟨S4096x768, .f32⟩
  | 41 => ⟨S_, .f32⟩
  | 42 => ⟨S4096x768, .f32⟩
  | 43 => ⟨S4096x768, .f32⟩
  | 44 => ⟨S4096x768, .f32⟩
  | 45 => ⟨S_, .f32⟩
  | 46 => ⟨S4096x768, .f32⟩
  | 47 => ⟨S4096x768, .f32⟩
  | 48 => ⟨S1x768, .f32⟩
  | 49 => ⟨S_, .f32⟩
  | 50 => ⟨S1x768, .f32⟩
  | 51 => ⟨S1x768, .f32⟩
  | 52 => ⟨S1x768, .f32⟩
  | 53 => ⟨S1x768, .f32⟩
  | 54 => ⟨S1x768, .i1⟩
  | 55 => ⟨S1x768, .f32⟩
  | 56 => ⟨S1x768, .f32⟩
  | 57 => ⟨S1x768, .f32⟩
  | 58 => ⟨S1x768, .f32⟩
  | 59 => ⟨S1x768, .f32⟩
  | 60 => ⟨S1x768, .f32⟩
  | 61 => ⟨S1x768, .f32⟩
  | 62 => ⟨S1x768, .f32⟩
  | 63 => ⟨S_, .f32⟩
  | 64 => ⟨S1x768, .f32⟩
  | 65 => ⟨S1x768, .i1⟩
  | 66 => ⟨S_, .f32⟩
  | 67 => ⟨S1x768, .f32⟩
  | 68 => ⟨S1x768, .f32⟩
  | 69 => ⟨S_, .f32⟩
  | 70 => ⟨S1x768, .f32⟩
  | 71 => ⟨S1x768, .i1⟩
  | 72 => ⟨S_, .f32⟩
  | 73 => ⟨S1x768, .f32⟩
  | 74 => ⟨S1x768, .f32⟩
  | 75 => ⟨S1x768, .f32⟩
  | 76 => ⟨S1x768, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S_, .f32⟩
  | 84 => ⟨S1x768, .f32⟩
  | 85 => ⟨S1x768, .i1⟩
  | 86 => ⟨S_, .f32⟩
  | 87 => ⟨S1x768, .f32⟩
  | 88 => ⟨S1x768, .f32⟩
  | 89 => ⟨S1x768, .f32⟩
  | 90 => ⟨S1x768, .f32⟩
  | 91 => ⟨S1x768, .f32⟩
  | 92 => ⟨S_, .f32⟩
  | 93 => ⟨S1x768, .f32⟩
  | 94 => ⟨S1x768, .f32⟩
  | 95 => ⟨S4096x768, .f32⟩
  | 96 => ⟨S4096x768, .f32⟩
  | 97 => ⟨S4096x768, .f32⟩
  | 98 => ⟨S_, .f32⟩
  | 99 => ⟨S4096x768, .f32⟩
  | 100 => ⟨S4096x768, .f32⟩
  | 101 => ⟨S4096x768, .f32⟩
  | 102 => ⟨S4096x768, .f32⟩
  | 103 => ⟨S4096x768, .f32⟩
  | 104 => ⟨S4096x768, .f32⟩
  | 105 => ⟨S_, .f32⟩
  | 106 => ⟨S4096x768, .f32⟩
  | 107 => ⟨S4096x768, .f32⟩
  | 108 => ⟨S4096, .i32⟩
  | 109 => ⟨S4096x1, .i32⟩
  | 110 => ⟨S_, .i32⟩
  | 111 => ⟨S4096x1, .i32⟩
  | 112 => ⟨S4096x1, .i1⟩
  | 113 => ⟨S_, .f32⟩
  | 114 => ⟨S_, .f32⟩
  | 115 => ⟨S4096x768, .i1⟩
  | 116 => ⟨S4096x768, .f32⟩
  | 117 => ⟨S4096x768, .f32⟩
  | 118 => ⟨S_, .f32⟩
  | 119 => ⟨S4096x768, .f32⟩
  | 120 => ⟨S4096x768, .f32⟩
  | 121 => ⟨S4096x768, .f32⟩
  | 122 => ⟨S2048x1536, .f32⟩
  | 123 => ⟨S2048x1536, .f32⟩
  | 124 => ⟨S2048x768, .f32⟩
  | 125 => ⟨S2048x768, .f32⟩
  | 126 => ⟨S2048x768, .f32⟩
  | 127 => ⟨S2048x768, .f32⟩
  | _ => ⟨S4096x2048, .f32⟩

abbrev hbmTy0_1 (i : Nat) : BufTy := match i % 128 with
  | 0 => ⟨S2048x768, .f32⟩
  | 1 => ⟨S2048x768, .f32⟩
  | 2 => ⟨S2048x768, .f32⟩
  | 3 => ⟨S1024x1536, .f32⟩
  | 4 => ⟨S1024x1536, .f32⟩
  | 5 => ⟨S1024x768, .f32⟩
  | 6 => ⟨S1024x768, .f32⟩
  | 7 => ⟨S1024x768, .f32⟩
  | 8 => ⟨S1024x768, .f32⟩
  | 9 => ⟨S1024x768, .f32⟩
  | 10 => ⟨S1024x768, .f32⟩
  | 11 => ⟨S1024x768, .f32⟩
  | 12 => ⟨S512x1536, .f32⟩
  | 13 => ⟨S512x1536, .f32⟩
  | 14 => ⟨S512x768, .f32⟩
  | 15 => ⟨S512x768, .f32⟩
  | 16 => ⟨S512x768, .f32⟩
  | 17 => ⟨S512x768, .f32⟩
  | 18 => ⟨S512x768, .f32⟩
  | 19 => ⟨S512x768, .f32⟩
  | 20 => ⟨S512x768, .f32⟩
  | 21 => ⟨S256x1536, .f32⟩
  | 22 => ⟨S256x1536, .f32⟩
  | 23 => ⟨S256x768, .f32⟩
  | 24 => ⟨S256x768, .f32⟩
  | 25 => ⟨S256x768, .f32⟩
  | 26 => ⟨S256x768, .f32⟩
  | 27 => ⟨S256x768, .f32⟩
  | 28 => ⟨S256x768, .f32⟩
  | 29 => ⟨S256x768, .f32⟩
  | 30 => ⟨S128x1536, .f32⟩
  | 31 => ⟨S128x1536, .f32⟩
  | 32 => ⟨S128x768, .f32⟩
  | 33 => ⟨S128x768, .f32⟩
  | 34 => ⟨S128x768, .f32⟩
  | 35 => ⟨S128x768, .f32⟩
  | 36 => ⟨S128x768, .f32⟩
  | 37 => ⟨S128x768, .f32⟩
  | 38 => ⟨S128x768, .f32⟩
  | 39 => ⟨S64x1536, .f32⟩
  | 40 => ⟨S64x1536, .f32⟩
  | 41 => ⟨S64x768, .f32⟩
  | 42 => ⟨S64x768, .f32⟩
  | 43 => ⟨S64x768, .f32⟩
  | 44 => ⟨S64x768, .f32⟩
  | 45 => ⟨S64x768, .f32⟩
  | 46 => ⟨S64x768, .f32⟩
  | 47 => ⟨S64x768, .f32⟩
  | 48 => ⟨S32x1536, .f32⟩
  | 49 => ⟨S32x1536, .f32⟩
  | 50 => ⟨S32x768, .f32⟩
  | 51 => ⟨S32x768, .f32⟩
  | 52 => ⟨S32x768, .f32⟩
  | 53 => ⟨S32x768, .f32⟩
  | 54 => ⟨S32x768, .f32⟩
  | 55 => ⟨S32x768, .f32⟩
  | 56 => ⟨S32x768, .f32⟩
  | 57 => ⟨S16x1536, .f32⟩
  | 58 => ⟨S16x1536, .f32⟩
  | 59 => ⟨S16x768, .f32⟩
  | 60 => ⟨S16x768, .f32⟩
  | 61 => ⟨S16x768, .f32⟩
  | 62 => ⟨S16x768, .f32⟩
  | 63 => ⟨S16x768, .f32⟩
  | 64 => ⟨S16x768, .f32⟩
  | 65 => ⟨S16x768, .f32⟩
  | 66 => ⟨S8x1536, .f32⟩
  | 67 => ⟨S8x1536, .f32⟩
  | 68 => ⟨S8x768, .f32⟩
  | 69 => ⟨S8x768, .f32⟩
  | 70 => ⟨S8x768, .f32⟩
  | 71 => ⟨S8x768, .f32⟩
  | 72 => ⟨S8x768, .f32⟩
  | 73 => ⟨S8x768, .f32⟩
  | 74 => ⟨S8x768, .f32⟩
  | 75 => ⟨S4x1536, .f32⟩
  | 76 => ⟨S4x1536, .f32⟩
  | 77 => ⟨S4x768, .f32⟩
  | 78 => ⟨S4x768, .f32⟩
  | 79 => ⟨S4x768, .f32⟩
  | 80 => ⟨S4x768, .f32⟩
  | 81 => ⟨S4x768, .f32⟩
  | 82 => ⟨S4x768, .f32⟩
  | 83 => ⟨S4x768, .f32⟩
  | 84 => ⟨S2x1536, .f32⟩
  | 85 => ⟨S2x1536, .f32⟩
  | 86 => ⟨S2x768, .f32⟩
  | 87 => ⟨S2x768, .f32⟩
  | 88 => ⟨S2x768, .f32⟩
  | 89 => ⟨S2x768, .f32⟩
  | 90 => ⟨S2x768, .f32⟩
  | 91 => ⟨S2x768, .f32⟩
  | 92 => ⟨S2x768, .f32⟩
  | 93 => ⟨S1x1536, .f32⟩
  | 94 => ⟨S1x1536, .f32⟩
  | 95 => ⟨S1x768, .f32⟩
  | 96 => ⟨S1x768, .f32⟩
  | 97 => ⟨S1x768, .f32⟩
  | 98 => ⟨S1x768, .f32⟩
  | 99 => ⟨S1x768, .f32⟩
  | 100 => ⟨S1x768, .f32⟩
  | 101 => ⟨S1x768, .f32⟩
  | 102 => ⟨S_, .f32⟩
  | 103 => ⟨S1x768, .f32⟩
  | 104 => ⟨S2x768, .f32⟩
  | 105 => ⟨S_, .f32⟩
  | 106 => ⟨S1x768, .f32⟩
  | 107 => ⟨S1x768, .f32⟩
  | 108 => ⟨S1x768, .f32⟩
  | 109 => ⟨S1x768, .f32⟩
  | 110 => ⟨S1x1536, .f32⟩
  | 111 => ⟨S2x768, .f32⟩
  | 112 => ⟨S_, .f32⟩
  | 113 => ⟨S1x768, .f32⟩
  | 114 => ⟨S3x768, .f32⟩
  | 115 => ⟨S_, .f32⟩
  | 116 => ⟨S1x768, .f32⟩
  | 117 => ⟨S2x768, .f32⟩
  | 118 => ⟨S2x768, .f32⟩
  | 119 => ⟨S2x768, .f32⟩
  | 120 => ⟨S2x1536, .f32⟩
  | 121 => ⟨S4x768, .f32⟩
  | 122 => ⟨S_, .f32⟩
  | 123 => ⟨S1x768, .f32⟩
  | 124 => ⟨S5x768, .f32⟩
  | 125 => ⟨S_, .f32⟩
  | 126 => ⟨S1x768, .f32⟩
  | 127 => ⟨S4x768, .f32⟩
  | _ => ⟨S4096x2048, .f32⟩

abbrev hbmTy0_2 (i : Nat) : BufTy := match i % 128 with
  | 0 => ⟨S4x768, .f32⟩
  | 1 => ⟨S4x768, .f32⟩
  | 2 => ⟨S4x1536, .f32⟩
  | 3 => ⟨S8x768, .f32⟩
  | 4 => ⟨S_, .f32⟩
  | 5 => ⟨S1x768, .f32⟩
  | 6 => ⟨S9x768, .f32⟩
  | 7 => ⟨S_, .f32⟩
  | 8 => ⟨S1x768, .f32⟩
  | 9 => ⟨S8x768, .f32⟩
  | 10 => ⟨S8x768, .f32⟩
  | 11 => ⟨S8x768, .f32⟩
  | 12 => ⟨S8x1536, .f32⟩
  | 13 => ⟨S16x768, .f32⟩
  | 14 => ⟨S_, .f32⟩
  | 15 => ⟨S1x768, .f32⟩
  | 16 => ⟨S17x768, .f32⟩
  | 17 => ⟨S_, .f32⟩
  | 18 => ⟨S1x768, .f32⟩
  | 19 => ⟨S16x768, .f32⟩
  | 20 => ⟨S16x768, .f32⟩
  | 21 => ⟨S16x768, .f32⟩
  | 22 => ⟨S16x1536, .f32⟩
  | 23 => ⟨S32x768, .f32⟩
  | 24 => ⟨S_, .f32⟩
  | 25 => ⟨S1x768, .f32⟩
  | 26 => ⟨S33x768, .f32⟩
  | 27 => ⟨S_, .f32⟩
  | 28 => ⟨S1x768, .f32⟩
  | 29 => ⟨S32x768, .f32⟩
  | 30 => ⟨S32x768, .f32⟩
  | 31 => ⟨S32x768, .f32⟩
  | 32 => ⟨S32x1536, .f32⟩
  | 33 => ⟨S64x768, .f32⟩
  | 34 => ⟨S_, .f32⟩
  | 35 => ⟨S1x768, .f32⟩
  | 36 => ⟨S65x768, .f32⟩
  | 37 => ⟨S_, .f32⟩
  | 38 => ⟨S1x768, .f32⟩
  | 39 => ⟨S64x768, .f32⟩
  | 40 => ⟨S64x768, .f32⟩
  | 41 => ⟨S64x768, .f32⟩
  | 42 => ⟨S64x1536, .f32⟩
  | 43 => ⟨S128x768, .f32⟩
  | 44 => ⟨S_, .f32⟩
  | 45 => ⟨S1x768, .f32⟩
  | 46 => ⟨S129x768, .f32⟩
  | 47 => ⟨S_, .f32⟩
  | 48 => ⟨S1x768, .f32⟩
  | 49 => ⟨S128x768, .f32⟩
  | 50 => ⟨S128x768, .f32⟩
  | 51 => ⟨S128x768, .f32⟩
  | 52 => ⟨S128x1536, .f32⟩
  | 53 => ⟨S256x768, .f32⟩
  | 54 => ⟨S_, .f32⟩
  | 55 => ⟨S1x768, .f32⟩
  | 56 => ⟨S257x768, .f32⟩
  | 57 => ⟨S_, .f32⟩
  | 58 => ⟨S1x768, .f32⟩
  | 59 => ⟨S256x768, .f32⟩
  | 60 => ⟨S256x768, .f32⟩
  | 61 => ⟨S256x768, .f32⟩
  | 62 => ⟨S256x1536, .f32⟩
  | 63 => ⟨S512x768, .f32⟩
  | 64 => ⟨S_, .f32⟩
  | 65 => ⟨S1x768, .f32⟩
  | 66 => ⟨S513x768, .f32⟩
  | 67 => ⟨S_, .f32⟩
  | 68 => ⟨S1x768, .f32⟩
  | 69 => ⟨S512x768, .f32⟩
  | 70 => ⟨S512x768, .f32⟩
  | 71 => ⟨S512x768, .f32⟩
  | 72 => ⟨S512x1536, .f32⟩
  | 73 => ⟨S1024x768, .f32⟩
  | 74 => ⟨S_, .f32⟩
  | 75 => ⟨S1x768, .f32⟩
  | 76 => ⟨S1025x768, .f32⟩
  | 77 => ⟨S_, .f32⟩
  | 78 => ⟨S1x768, .f32⟩
  | 79 => ⟨S1024x768, .f32⟩
  | 80 => ⟨S1024x768, .f32⟩
  | 81 => ⟨S1024x768, .f32⟩
  | 82 => ⟨S1024x1536, .f32⟩
  | 83 => ⟨S2048x768, .f32⟩
  | 84 => ⟨S_, .f32⟩
  | 85 => ⟨S1x768, .f32⟩
  | 86 => ⟨S2049x768, .f32⟩
  | 87 => ⟨S_, .f32⟩
  | 88 => ⟨S1x768, .f32⟩
  | 89 => ⟨S2048x768, .f32⟩
  | 90 => ⟨S2048x768, .f32⟩
  | 91 => ⟨S2048x768, .f32⟩
  | 92 => ⟨S2048x1536, .f32⟩
  | 93 => ⟨S4096x768, .f32⟩
  | 94 => ⟨S4096x768, .f32⟩
  | 95 => ⟨S4096x768, .f32⟩
  | 96 => ⟨S4096x768, .f32⟩
  | 97 => ⟨S_, .f32⟩
  | 98 => ⟨S4096x768, .f32⟩
  | 99 => ⟨S4096x768, .f32⟩
  | 100 => ⟨S_, .f32⟩
  | 101 => ⟨S4096x768, .f32⟩
  | 102 => ⟨S4096x768, .f32⟩
  | 103 => ⟨S4096x768, .f32⟩
  | 104 => ⟨S_, .f32⟩
  | 105 => ⟨S4096x768, .f32⟩
  | 106 => ⟨S4096x768, .f32⟩
  | 107 => ⟨S4096x768, .f32⟩
  | 108 => ⟨S_, .f32⟩
  | 109 => ⟨S4096x768, .f32⟩
  | 110 => ⟨S4096x768, .f32⟩
  | 111 => ⟨S_, .f32⟩
  | 112 => ⟨S4096x768, .f32⟩
  | 113 => ⟨S4096x768, .f32⟩
  | 114 => ⟨S4096x768, .f32⟩
  | 115 => ⟨S_, .f32⟩
  | 116 => ⟨S4096x768, .f32⟩
  | 117 => ⟨S4096x768, .f32⟩
  | 118 => ⟨S_, .f32⟩
  | 119 => ⟨S4096x768, .f32⟩
  | 120 => ⟨S4096x768, .f32⟩
  | 121 => ⟨S4096x768, .f32⟩
  | 122 => ⟨S4096x768, .f32⟩
  | 123 => ⟨S4096x768, .f32⟩
  | 124 => ⟨S4096x768, .f32⟩
  | 125 => ⟨S4096x768, .f32⟩
  | 126 => ⟨S4096x768, .f32⟩
  | 127 => ⟨S4096x768, .f32⟩
  | _ => ⟨S4096x2048, .f32⟩

abbrev hbmTy0_3 (i : Nat) : BufTy := match i % 128 with
  | 0 => ⟨S_, .f32⟩
  | 1 => ⟨S4096x768, .f32⟩
  | 2 => ⟨S4096x768, .f32⟩
  | 3 => ⟨S4096x768, .f32⟩
  | 4 => ⟨S_, .f32⟩
  | 5 => ⟨S4096x768, .f32⟩
  | 6 => ⟨S4096x768, .f32⟩
  | 7 => ⟨S4096x768, .f32⟩
  | 8 => ⟨S_, .f32⟩
  | 9 => ⟨S4096x768, .f32⟩
  | 10 => ⟨S4096x768, .f32⟩
  | 11 => ⟨S4096x768, .f32⟩
  | 12 => ⟨S4096x768, .f32⟩
  | 13 => ⟨S2048x1536, .f32⟩
  | 14 => ⟨S2048x768, .f32⟩
  | 15 => ⟨S2048x768, .f32⟩
  | 16 => ⟨S2048x768, .f32⟩
  | 17 => ⟨S2048x768, .f32⟩
  | 18 => ⟨S_, .f32⟩
  | 19 => ⟨S2049x768, .f32⟩
  | 20 => ⟨S1x768, .f32⟩
  | 21 => ⟨S2048x768, .f32⟩
  | 22 => ⟨S2048x768, .f32⟩
  | 23 => ⟨S1024x1536, .f32⟩
  | 24 => ⟨S1024x768, .f32⟩
  | 25 => ⟨S1024x768, .f32⟩
  | 26 => ⟨S1024x768, .f32⟩
  | 27 => ⟨S1024x768, .f32⟩
  | 28 => ⟨S_, .f32⟩
  | 29 => ⟨S1025x768, .f32⟩
  | 30 => ⟨S1x768, .f32⟩
  | 31 => ⟨S1024x768, .f32⟩
  | 32 => ⟨S1024x768, .f32⟩
  | 33 => ⟨S512x1536, .f32⟩
  | 34 => ⟨S512x768, .f32⟩
  | 35 => ⟨S512x768, .f32⟩
  | 36 => ⟨S512x768, .f32⟩
  | 37 => ⟨S512x768, .f32⟩
  | 38 => ⟨S_, .f32⟩
  | 39 => ⟨S513x768, .f32⟩
  | 40 => ⟨S1x768, .f32⟩
  | 41 => ⟨S512x768, .f32⟩
  | 42 => ⟨S512x768, .f32⟩
  | 43 => ⟨S256x1536, .f32⟩
  | 44 => ⟨S256x768, .f32⟩
  | 45 => ⟨S256x768, .f32⟩
  | 46 => ⟨S256x768, .f32⟩
  | 47 => ⟨S256x768, .f32⟩
  | 48 => ⟨S_, .f32⟩
  | 49 => ⟨S257x768, .f32⟩
  | 50 => ⟨S1x768, .f32⟩
  | 51 => ⟨S256x768, .f32⟩
  | 52 => ⟨S256x768, .f32⟩
  | 53 => ⟨S128x1536, .f32⟩
  | 54 => ⟨S128x768, .f32⟩
  | 55 => ⟨S128x768, .f32⟩
  | 56 => ⟨S128x768, .f32⟩
  | 57 => ⟨S128x768, .f32⟩
  | 58 => ⟨S_, .f32⟩
  | 59 => ⟨S129x768, .f32⟩
  | 60 => ⟨S1x768, .f32⟩
  | 61 => ⟨S128x768, .f32⟩
  | 62 => ⟨S128x768, .f32⟩
  | 63 => ⟨S64x1536, .f32⟩
  | 64 => ⟨S64x768, .f32⟩
  | 65 => ⟨S64x768, .f32⟩
  | 66 => ⟨S64x768, .f32⟩
  | 67 => ⟨S64x768, .f32⟩
  | 68 => ⟨S_, .f32⟩
  | 69 => ⟨S65x768, .f32⟩
  | 70 => ⟨S1x768, .f32⟩
  | 71 => ⟨S64x768, .f32⟩
  | 72 => ⟨S64x768, .f32⟩
  | 73 => ⟨S32x1536, .f32⟩
  | 74 => ⟨S32x768, .f32⟩
  | 75 => ⟨S32x768, .f32⟩
  | 76 => ⟨S32x768, .f32⟩
  | 77 => ⟨S32x768, .f32⟩
  | 78 => ⟨S_, .f32⟩
  | 79 => ⟨S33x768, .f32⟩
  | 80 => ⟨S1x768, .f32⟩
  | 81 => ⟨S32x768, .f32⟩
  | 82 => ⟨S32x768, .f32⟩
  | 83 => ⟨S16x1536, .f32⟩
  | 84 => ⟨S16x768, .f32⟩
  | 85 => ⟨S16x768, .f32⟩
  | 86 => ⟨S16x768, .f32⟩
  | 87 => ⟨S16x768, .f32⟩
  | 88 => ⟨S_, .f32⟩
  | 89 => ⟨S17x768, .f32⟩
  | 90 => ⟨S1x768, .f32⟩
  | 91 => ⟨S16x768, .f32⟩
  | 92 => ⟨S16x768, .f32⟩
  | 93 => ⟨S8x1536, .f32⟩
  | 94 => ⟨S8x768, .f32⟩
  | 95 => ⟨S8x768, .f32⟩
  | 96 => ⟨S8x768, .f32⟩
  | 97 => ⟨S8x768, .f32⟩
  | 98 => ⟨S_, .f32⟩
  | 99 => ⟨S9x768, .f32⟩
  | 100 => ⟨S1x768, .f32⟩
  | 101 => ⟨S8x768, .f32⟩
  | 102 => ⟨S8x768, .f32⟩
  | 103 => ⟨S4x1536, .f32⟩
  | 104 => ⟨S4x768, .f32⟩
  | 105 => ⟨S4x768, .f32⟩
  | 106 => ⟨S4x768, .f32⟩
  | 107 => ⟨S4x768, .f32⟩
  | 108 => ⟨S_, .f32⟩
  | 109 => ⟨S5x768, .f32⟩
  | 110 => ⟨S1x768, .f32⟩
  | 111 => ⟨S4x768, .f32⟩
  | 112 => ⟨S4x768, .f32⟩
  | 113 => ⟨S2x1536, .f32⟩
  | 114 => ⟨S2x768, .f32⟩
  | 115 => ⟨S2x768, .f32⟩
  | 116 => ⟨S2x768, .f32⟩
  | 117 => ⟨S2x768, .f32⟩
  | 118 => ⟨S_, .f32⟩
  | 119 => ⟨S3x768, .f32⟩
  | 120 => ⟨S1x768, .f32⟩
  | 121 => ⟨S2x768, .f32⟩
  | 122 => ⟨S2x768, .f32⟩
  | 123 => ⟨S1x1536, .f32⟩
  | 124 => ⟨S1x768, .f32⟩
  | 125 => ⟨S1x768, .f32⟩
  | 126 => ⟨S1x768, .f32⟩
  | 127 => ⟨S1x768, .f32⟩
  | _ => ⟨S4096x2048, .f32⟩

abbrev hbmTy0_4 (i : Nat) : BufTy := match i % 128 with
  | 0 => ⟨S_, .f32⟩
  | 1 => ⟨S2x768, .f32⟩
  | 2 => ⟨S1x768, .f32⟩
  | 3 => ⟨S1x768, .f32⟩
  | 4 => ⟨S1x768, .f32⟩
  | 5 => ⟨S1x768, .f32⟩
  | 6 => ⟨S1x768, .f32⟩
  | 7 => ⟨S1x768, .f32⟩
  | 8 => ⟨S_, .f32⟩
  | 9 => ⟨S1x1536, .f32⟩
  | 10 => ⟨S_, .f32⟩
  | 11 => ⟨S1x1536, .f32⟩
  | 12 => ⟨S1x1536, .f32⟩
  | 13 => ⟨S_, .f32⟩
  | 14 => ⟨S1x1536, .f32⟩
  | 15 => ⟨S_, .f32⟩
  | 16 => ⟨S1x1536, .f32⟩
  | 17 => ⟨S1x1536, .f32⟩
  | 18 => ⟨S2x768, .f32⟩
  | 19 => ⟨S2x768, .f32⟩
  | 20 => ⟨S2x768, .f32⟩
  | 21 => ⟨S2x768, .f32⟩
  | 22 => ⟨S2x768, .f32⟩
  | 23 => ⟨S2x768, .f32⟩
  | 24 => ⟨S2x768, .f32⟩
  | 25 => ⟨S2x768, .f32⟩
  | 26 => ⟨S2x768, .f32⟩
  | 27 => ⟨S_, .f32⟩
  | 28 => ⟨S2x1536, .f32⟩
  | 29 => ⟨S_, .f32⟩
  | 30 => ⟨S2x1536, .f32⟩
  | 31 => ⟨S2x1536, .f32⟩
  | 32 => ⟨S_, .f32⟩
  | 33 => ⟨S2x1536, .f32⟩
  | 34 => ⟨S_, .f32⟩
  | 35 => ⟨S2x1536, .f32⟩
  | 36 => ⟨S2x1536, .f32⟩
  | 37 => ⟨S4x768, .f32⟩
  | 38 => ⟨S4x768, .f32⟩
  | 39 => ⟨S4x768, .f32⟩
  | 40 => ⟨S4x768, .f32⟩
  | 41 => ⟨S4x768, .f32⟩
  | 42 => ⟨S4x768, .f32⟩
  | 43 => ⟨S4x768, .f32⟩
  | 44 => ⟨S4x768, .f32⟩
  | 45 => ⟨S4x768, .f32⟩
  | 46 => ⟨S_, .f32⟩
  | 47 => ⟨S4x1536, .f32⟩
  | 48 => ⟨S_, .f32⟩
  | 49 => ⟨S4x1536, .f32⟩
  | 50 => ⟨S4x1536, .f32⟩
  | 51 => ⟨S_, .f32⟩
  | 52 => ⟨S4x1536, .f32⟩
  | 53 => ⟨S_, .f32⟩
  | 54 => ⟨S4x1536, .f32⟩
  | 55 => ⟨S4x1536, .f32⟩
  | 56 => ⟨S8x768, .f32⟩
  | 57 => ⟨S8x768, .f32⟩
  | 58 => ⟨S8x768, .f32⟩
  | 59 => ⟨S8x768, .f32⟩
  | 60 => ⟨S8x768, .f32⟩
  | 61 => ⟨S8x768, .f32⟩
  | 62 => ⟨S8x768, .f32⟩
  | 63 => ⟨S8x768, .f32⟩
  | 64 => ⟨S8x768, .f32⟩
  | 65 => ⟨S_, .f32⟩
  | 66 => ⟨S8x1536, .f32⟩
  | 67 => ⟨S_, .f32⟩
  | 68 => ⟨S8x1536, .f32⟩
  | 69 => ⟨S8x1536, .f32⟩
  | 70 => ⟨S_, .f32⟩
  | 71 => ⟨S8x1536, .f32⟩
  | 72 => ⟨S_, .f32⟩
  | 73 => ⟨S8x1536, .f32⟩
  | 74 => ⟨S8x1536, .f32⟩
  | 75 => ⟨S16x768, .f32⟩
  | 76 => ⟨S16x768, .f32⟩
  | 77 => ⟨S16x768, .f32⟩
  | 78 => ⟨S16x768, .f32⟩
  | 79 => ⟨S16x768, .f32⟩
  | 80 => ⟨S16x768, .f32⟩
  | 81 => ⟨S16x768, .f32⟩
  | 82 => ⟨S16x768, .f32⟩
  | 83 => ⟨S16x768, .f32⟩
  | 84 => ⟨S_, .f32⟩
  | 85 => ⟨S16x1536, .f32⟩
  | 86 => ⟨S_, .f32⟩
  | 87 => ⟨S16x1536, .f32⟩
  | 88 => ⟨S16x1536, .f32⟩
  | 89 => ⟨S_, .f32⟩
  | 90 => ⟨S16x1536, .f32⟩
  | 91 => ⟨S_, .f32⟩
  | 92 => ⟨S16x1536, .f32⟩
  | 93 => ⟨S16x1536, .f32⟩
  | 94 => ⟨S32x768, .f32⟩
  | 95 => ⟨S32x768, .f32⟩
  | 96 => ⟨S32x768, .f32⟩
  | 97 => ⟨S32x768, .f32⟩
  | 98 => ⟨S32x768, .f32⟩
  | 99 => ⟨S32x768, .f32⟩
  | 100 => ⟨S32x768, .f32⟩
  | 101 => ⟨S32x768, .f32⟩
  | 102 => ⟨S32x768, .f32⟩
  | 103 => ⟨S_, .f32⟩
  | 104 => ⟨S32x1536, .f32⟩
  | 105 => ⟨S_, .f32⟩
  | 106 => ⟨S32x1536, .f32⟩
  | 107 => ⟨S32x1536, .f32⟩
  | 108 => ⟨S_, .f32⟩
  | 109 => ⟨S32x1536, .f32⟩
  | 110 => ⟨S_, .f32⟩
  | 111 => ⟨S32x1536, .f32⟩
  | 112 => ⟨S32x1536, .f32⟩
  | 113 => ⟨S64x768, .f32⟩
  | 114 => ⟨S64x768, .f32⟩
  | 115 => ⟨S64x768, .f32⟩
  | 116 => ⟨S64x768, .f32⟩
  | 117 => ⟨S64x768, .f32⟩
  | 118 => ⟨S64x768, .f32⟩
  | 119 => ⟨S64x768, .f32⟩
  | 120 => ⟨S64x768, .f32⟩
  | 121 => ⟨S64x768, .f32⟩
  | 122 => ⟨S_, .f32⟩
  | 123 => ⟨S64x1536, .f32⟩
  | 124 => ⟨S_, .f32⟩
  | 125 => ⟨S64x1536, .f32⟩
  | 126 => ⟨S64x1536, .f32⟩
  | 127 => ⟨S_, .f32⟩
  | _ => ⟨S4096x2048, .f32⟩

abbrev hbmTy0_5 (i : Nat) : BufTy := match i % 128 with
  | 0 => ⟨S64x1536, .f32⟩
  | 1 => ⟨S_, .f32⟩
  | 2 => ⟨S64x1536, .f32⟩
  | 3 => ⟨S64x1536, .f32⟩
  | 4 => ⟨S128x768, .f32⟩
  | 5 => ⟨S128x768, .f32⟩
  | 6 => ⟨S128x768, .f32⟩
  | 7 => ⟨S128x768, .f32⟩
  | 8 => ⟨S128x768, .f32⟩
  | 9 => ⟨S128x768, .f32⟩
  | 10 => ⟨S128x768, .f32⟩
  | 11 => ⟨S128x768, .f32⟩
  | 12 => ⟨S128x768, .f32⟩
  | 13 => ⟨S_, .f32⟩
  | 14 => ⟨S128x1536, .f32⟩
  | 15 => ⟨S_, .f32⟩
  | 16 => ⟨S128x1536, .f32⟩
  | 17 => ⟨S128x1536, .f32⟩
  | 18 => ⟨S_, .f32⟩
  | 19 => ⟨S128x1536, .f32⟩
  | 20 => ⟨S_, .f32⟩
  | 21 => ⟨S128x1536, .f32⟩
  | 22 => ⟨S128x1536, .f32⟩
  | 23 => ⟨S256x768, .f32⟩
  | 24 => ⟨S256x768, .f32⟩
  | 25 => ⟨S256x768, .f32⟩
  | 26 => ⟨S256x768, .f32⟩
  | 27 => ⟨S256x768, .f32⟩
  | 28 => ⟨S256x768, .f32⟩
  | 29 => ⟨S256x768, .f32⟩
  | 30 => ⟨S256x768, .f32⟩
  | 31 => ⟨S256x768, .f32⟩
  | 32 => ⟨S_, .f32⟩
  | 33 => ⟨S256x1536, .f32⟩
  | 34 => ⟨S_, .f32⟩
  | 35 => ⟨S256x1536, .f32⟩
  | 36 => ⟨S256x1536, .f32⟩
  | 37 => ⟨S_, .f32⟩
  | 38 => ⟨S256x1536, .f32⟩
  | 39 => ⟨S_, .f32⟩
  | 40 => ⟨S256x1536, .f32⟩
  | 41 => ⟨S256x1536, .f32⟩
  | 42 => ⟨S512x768, .f32⟩
  | 43 => ⟨S512x768, .f32⟩
  | 44 => ⟨S512x768, .f32⟩
  | 45 => ⟨S512x768, .f32⟩
  | 46 => ⟨S512x768, .f32⟩
  | 47 => ⟨S512x768, .f32⟩
  | 48 => ⟨S512x768, .f32⟩
  | 49 => ⟨S512x768, .f32⟩
  | 50 => ⟨S512x768, .f32⟩
  | 51 => ⟨S_, .f32⟩
  | 52 => ⟨S512x1536, .f32⟩
  | 53 => ⟨S_, .f32⟩
  | 54 => ⟨S512x1536, .f32⟩
  | 55 => ⟨S512x1536, .f32⟩
  | 56 => ⟨S_, .f32⟩
  | 57 => ⟨S512x1536, .f32⟩
  | 58 => ⟨S_, .f32⟩
  | 59 => ⟨S512x1536, .f32⟩
  | 60 => ⟨S512x1536, .f32⟩
  | 61 => ⟨S1024x768, .f32⟩
  | 62 => ⟨S1024x768, .f32⟩
  | 63 => ⟨S1024x768, .f32⟩
  | 64 => ⟨S1024x768, .f32⟩
  | 65 => ⟨S1024x768, .f32⟩
  | 66 => ⟨S1024x768, .f32⟩
  | 67 => ⟨S1024x768, .f32⟩
  | 68 => ⟨S1024x768, .f32⟩
  | 69 => ⟨S1024x768, .f32⟩
  | 70 => ⟨S_, .f32⟩
  | 71 => ⟨S1024x1536, .f32⟩
  | 72 => ⟨S_, .f32⟩
  | 73 => ⟨S1024x1536, .f32⟩
  | 74 => ⟨S1024x1536, .f32⟩
  | 75 => ⟨S_, .f32⟩
  | 76 => ⟨S1024x1536, .f32⟩
  | 77 => ⟨S_, .f32⟩
  | 78 => ⟨S1024x1536, .f32⟩
  | 79 => ⟨S1024x1536, .f32⟩
  | 80 => ⟨S2048x768, .f32⟩
  | 81 => ⟨S2048x768, .f32⟩
  | 82 => ⟨S2048x768, .f32⟩
  | 83 => ⟨S2048x768, .f32⟩
  | 84 => ⟨S2048x768, .f32⟩
  | 85 => ⟨S2048x768, .f32⟩
  | 86 => ⟨S2048x768, .f32⟩
  | 87 => ⟨S2048x768, .f32⟩
  | 88 => ⟨S2048x768, .f32⟩
  | 89 => ⟨S_, .f32⟩
  | 90 => ⟨S2048x1536, .f32⟩
  | 91 => ⟨S_, .f32⟩
  | 92 => ⟨S2048x1536, .f32⟩
  | 93 => ⟨S2048x1536, .f32⟩
  | 94 => ⟨S_, .f32⟩
  | 95 => ⟨S2048x1536, .f32⟩
  | 96 => ⟨S_, .f32⟩
  | 97 => ⟨S2048x1536, .f32⟩
  | 98 => ⟨S2048x1536, .f32⟩
  | 99 => ⟨S4096x768, .f32⟩
  | 100 => ⟨S4096x768, .f32⟩
  | 101 => ⟨S4096x768, .f32⟩
  | 102 => ⟨S4096x768, .f32⟩
  | 103 => ⟨S4096x768, .f32⟩
  | 104 => ⟨S4096x768, .f32⟩
  | 105 => ⟨S_, .f32⟩
  | 106 => ⟨S4096x768, .f32⟩
  | 107 => ⟨S4096x768, .f32⟩
  | 108 => ⟨S4096x768, .f32⟩
  | 109 => ⟨S4096x768, .f32⟩
  | 110 => ⟨S4096x768, .f32⟩
  | 111 => ⟨S_, .f32⟩
  | 112 => ⟨S4096x768, .f32⟩
  | 113 => ⟨S4096x768, .f32⟩
  | 114 => ⟨S4096x768, .f32⟩
  | 115 => ⟨S4096x768, .f32⟩
  | 116 => ⟨S4096x768, .f32⟩
  | 117 => ⟨S_, .f32⟩
  | 118 => ⟨S768, .f32⟩
  | 119 => ⟨S1x768, .f32⟩
  | 120 => ⟨S4096x768, .f32⟩
  | 121 => ⟨S4096x768, .f32⟩
  | 122 => ⟨S1x768, .f32⟩
  | 123 => ⟨S1x768, .f32⟩
  | 124 => ⟨S_, .f32⟩
  | 125 => ⟨S4096x768, .f32⟩
  | 126 => ⟨S4096x768, .f32⟩
  | 127 => ⟨S4096x768, .f32⟩
  | _ => ⟨S4096x2048, .f32⟩

abbrev hbmTy0_6 (i : Nat) : BufTy := match i % 128 with
  | 0 => ⟨S_, .f32⟩
  | 1 => ⟨S768, .f32⟩
  | 2 => ⟨S1x768, .f32⟩
  | 3 => ⟨S4096x6x128, .f32⟩
  | 4 => ⟨S6x128x4096, .f32⟩
  | 5 => ⟨S6x4096x128, .f32⟩
  | 6 => ⟨S4096x6x128, .f32⟩
  | 7 => ⟨S6x128x128, .f32⟩
  | 8 => ⟨S6x128x128, .f32⟩
  | 9 => ⟨S4096x768, .f32⟩
  | 10 => ⟨S_, .f32⟩
  | 11 => ⟨S768, .f32⟩
  | 12 => ⟨S1x768, .f32⟩
  | 13 => ⟨S4096x6x128, .f32⟩
  | 14 => ⟨S6x128x4096, .f32⟩
  | 15 => ⟨S6x4096x128, .f32⟩
  | 16 => ⟨S4096x6x128, .f32⟩
  | 17 => ⟨S4096x6x128, .f32⟩
  | 18 => ⟨S6x128x128, .f32⟩
  | 19 => ⟨S6x128x128, .f32⟩
  | 20 => ⟨S4096x768, .f32⟩
  | 21 => ⟨S4096x768, .f32⟩
  | 22 => ⟨S4096x4608, .bf16⟩
  | 23 => ⟨S4096x768, .bf16⟩
  | 24 => ⟨S4096x5376, .bf16⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_v33_0 : Ref sig .tc := ⟨.hbm, 62, rfl⟩
abbrev main_call0_cst_0 : Ref sig .tc := ⟨.hbm, 63, rfl⟩
abbrev main_call0_v13 : Ref sig .tc := ⟨.hbm, 64, rfl⟩
abbrev main_call0_v14 : Ref sig .tc := ⟨.hbm, 65, rfl⟩
abbrev main_call0_cst_1 : Ref sig .tc := ⟨.hbm, 66, rfl⟩
abbrev main_call0_v15 : Ref sig .tc := ⟨.hbm, 67, rfl⟩
abbrev main_call0_v16 : Ref sig .tc := ⟨.hbm, 68, rfl⟩
abbrev main_call0_cst_2 : Ref sig .tc := ⟨.hbm, 69, rfl⟩
abbrev main_call0_v17 : Ref sig .tc := ⟨.hbm, 70, rfl⟩
abbrev main_call0_v18 : Ref sig .tc := ⟨.hbm, 71, rfl⟩
abbrev main_call0_cst_3 : Ref sig .tc := ⟨.hbm, 72, rfl⟩
abbrev main_call0_v19 : Ref sig .tc := ⟨.hbm, 73, rfl⟩
abbrev main_call0_v20 : Ref sig .tc := ⟨.hbm, 74, rfl⟩
abbrev main_call0_v21 : Ref sig .tc := ⟨.hbm, 75, rfl⟩
abbrev main_v33_1 : Ref sig .tc := ⟨.hbm, 76, rfl⟩
abbrev main_call0_cst_4 : Ref sig .tc := ⟨.hbm, 77, rfl⟩
abbrev main_call0_cst_5 : Ref sig .tc := ⟨.hbm, 78, rfl⟩
abbrev main_call0_v23 : Ref sig .tc := ⟨.hbm, 79, rfl⟩
abbrev main_call0_cst_6 : Ref sig .tc := ⟨.hbm, 80, rfl⟩
abbrev main_call0_cst_7 : Ref sig .tc := ⟨.hbm, 81, rfl⟩
abbrev main_call0_v24 : Ref sig .tc := ⟨.hbm, 82, rfl⟩
abbrev main_call0_cst_8 : Ref sig .tc := ⟨.hbm, 83, rfl⟩
abbrev main_call0_v25 : Ref sig .tc := ⟨.hbm, 84, rfl⟩
abbrev main_call0_v26 : Ref sig .tc := ⟨.hbm, 85, rfl⟩
abbrev main_call0_cst_9 : Ref sig .tc := ⟨.hbm, 86, rfl⟩
abbrev main_call0_v27 : Ref sig .tc := ⟨.hbm, 87, rfl⟩
abbrev main_call0_v28 : Ref sig .tc := ⟨.hbm, 88, rfl⟩
abbrev main_call0_v29 : Ref sig .tc := ⟨.hbm, 89, rfl⟩
abbrev main_call0_v30 : Ref sig .tc := ⟨.hbm, 90, rfl⟩
abbrev main_call0_v31 : Ref sig .tc := ⟨.hbm, 91, rfl⟩
abbrev main_call0_cst_10 : Ref sig .tc := ⟨.hbm, 92, rfl⟩
abbrev main_call0_v32 : Ref sig .tc := ⟨.hbm, 93, rfl⟩
abbrev main_v33_2 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_6 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_cst_7 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_c : Ref sig .tc := ⟨.hbm, 110, rfl⟩
abbrev main_v47 : Ref sig .tc := ⟨.hbm, 111, rfl⟩
abbrev main_v48 : Ref sig .tc := ⟨.hbm, 112, rfl⟩
abbrev main_cst_8 : Ref sig .tc := ⟨.hbm, 113, rfl⟩
abbrev main_call1_v0 : Ref sig .tc := ⟨.hbm, 114, rfl⟩
abbrev main_v49_1 : Ref sig .tc := ⟨.hbm, 115, rfl⟩
abbrev main_call1_v2 : Ref sig .tc := ⟨.hbm, 116, rfl⟩
abbrev main_v49_0 : Ref sig .tc := ⟨.hbm, 117, rfl⟩
abbrev main_call1_cst : Ref sig .tc := ⟨.hbm, 118, rfl⟩
abbrev main_v49_2 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_cst_9 : Ref sig .tc := ⟨.hbm, 230, rfl⟩
abbrev main_v160 : Ref sig .tc := ⟨.hbm, 231, rfl⟩
abbrev main_v161 : Ref sig .tc := ⟨.hbm, 232, rfl⟩
abbrev main_cst_10 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_cst_11 : Ref sig .tc := ⟨.hbm, 240, rfl⟩
abbrev main_v168 : Ref sig .tc := ⟨.hbm, 241, rfl⟩
abbrev main_v169 : Ref sig .tc := ⟨.hbm, 242, rfl⟩
abbrev main_cst_12 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_cst_13 : Ref sig .tc := ⟨.hbm, 250, rfl⟩
abbrev main_v176 : Ref sig .tc := ⟨.hbm, 251, rfl⟩
abbrev main_v177 : Ref sig .tc := ⟨.hbm, 252, rfl⟩
abbrev main_cst_14 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_cst_15 : Ref sig .tc := ⟨.hbm, 260, rfl⟩
abbrev main_v184 : Ref sig .tc := ⟨.hbm, 261, rfl⟩
abbrev main_v185 : Ref sig .tc := ⟨.hbm, 262, rfl⟩
abbrev main_cst_16 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_cst_17 : Ref sig .tc := ⟨.hbm, 270, rfl⟩
abbrev main_v192 : Ref sig .tc := ⟨.hbm, 271, rfl⟩
abbrev main_v193 : Ref sig .tc := ⟨.hbm, 272, rfl⟩
abbrev main_cst_18 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_cst_19 : Ref sig .tc := ⟨.hbm, 280, rfl⟩
abbrev main_v200 : Ref sig .tc := ⟨.hbm, 281, rfl⟩
abbrev main_v201 : Ref sig .tc := ⟨.hbm, 282, rfl⟩
abbrev main_cst_20 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_cst_21 : Ref sig .tc := ⟨.hbm, 290, rfl⟩
abbrev main_v208 : Ref sig .tc := ⟨.hbm, 291, rfl⟩
abbrev main_v209 : Ref sig .tc := ⟨.hbm, 292, rfl⟩
abbrev main_cst_22 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_cst_23 : Ref sig .tc := ⟨.hbm, 300, rfl⟩
abbrev main_v216 : Ref sig .tc := ⟨.hbm, 301, rfl⟩
abbrev main_v217 : Ref sig .tc := ⟨.hbm, 302, rfl⟩
abbrev main_cst_24 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_cst_25 : Ref sig .tc := ⟨.hbm, 310, rfl⟩
abbrev main_v224 : Ref sig .tc := ⟨.hbm, 311, rfl⟩
abbrev main_v225 : Ref sig .tc := ⟨.hbm, 312, rfl⟩
abbrev main_cst_26 : Ref sig .tc := ⟨.hbm, 313, rfl⟩
abbrev main_v226 : Ref sig .tc := ⟨.hbm, 314, rfl⟩
abbrev main_v227 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_cst_27 : Ref sig .tc := ⟨.hbm, 320, rfl⟩
abbrev main_v232 : Ref sig .tc := ⟨.hbm, 321, rfl⟩
abbrev main_v233 : Ref sig .tc := ⟨.hbm, 322, rfl⟩
abbrev main_cst_28 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_cst_29 : Ref sig .tc := ⟨.hbm, 330, rfl⟩
abbrev main_v240 : Ref sig .tc := ⟨.hbm, 331, rfl⟩
abbrev main_v241 : Ref sig .tc := ⟨.hbm, 332, rfl⟩
abbrev main_cst_30 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_cst_31 : Ref sig .tc := ⟨.hbm, 340, rfl⟩
abbrev main_v248 : Ref sig .tc := ⟨.hbm, 341, rfl⟩
abbrev main_v249 : Ref sig .tc := ⟨.hbm, 342, rfl⟩
abbrev main_cst_32 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_cst_33 : Ref sig .tc := ⟨.hbm, 353, rfl⟩
abbrev main_v259 : Ref sig .tc := ⟨.hbm, 354, rfl⟩
abbrev main_v260 : Ref sig .tc := ⟨.hbm, 355, rfl⟩
abbrev main_cst_34 : Ref sig .tc := ⟨.hbm, 356, rfl⟩
abbrev main_v261 : Ref sig .tc := ⟨.hbm, 357, rfl⟩
abbrev main_v262 : Ref sig .tc := ⟨.hbm, 358, rfl⟩
abbrev main_v263 : Ref sig .tc := ⟨.hbm, 359, rfl⟩
abbrev main_cst_35 : Ref sig .tc := ⟨.hbm, 360, rfl⟩
abbrev main_v264 : Ref sig .tc := ⟨.hbm, 361, rfl⟩
abbrev main_v265 : Ref sig .tc := ⟨.hbm, 362, rfl⟩
abbrev main_v266 : Ref sig .tc := ⟨.hbm, 363, rfl⟩
abbrev main_cst_36 : Ref sig .tc := ⟨.hbm, 364, rfl⟩
abbrev main_v267 : Ref sig .tc := ⟨.hbm, 365, rfl⟩
abbrev main_v268 : Ref sig .tc := ⟨.hbm, 366, rfl⟩
abbrev main_cst_37 : Ref sig .tc := ⟨.hbm, 367, rfl⟩
abbrev main_v269 : Ref sig .tc := ⟨.hbm, 368, rfl⟩
abbrev main_v270 : Ref sig .tc := ⟨.hbm, 369, rfl⟩
abbrev main_v271 : Ref sig .tc := ⟨.hbm, 370, rfl⟩
abbrev main_cst_38 : Ref sig .tc := ⟨.hbm, 371, rfl⟩
abbrev main_v272 : Ref sig .tc := ⟨.hbm, 372, rfl⟩
abbrev main_v273 : Ref sig .tc := ⟨.hbm, 373, rfl⟩
abbrev main_cst_39 : Ref sig .tc := ⟨.hbm, 374, rfl⟩
abbrev main_v274 : Ref sig .tc := ⟨.hbm, 375, rfl⟩
abbrev main_v275 : Ref sig .tc := ⟨.hbm, 376, rfl⟩
abbrev main_v276 : Ref sig .tc := ⟨.hbm, 377, rfl⟩
abbrev main_v277 : Ref sig .tc := ⟨.hbm, 378, rfl⟩
abbrev main_v278 : Ref sig .tc := ⟨.hbm, 379, rfl⟩
abbrev main_v279 : Ref sig .tc := ⟨.hbm, 380, rfl⟩
abbrev main_v280 : Ref sig .tc := ⟨.hbm, 381, rfl⟩
abbrev main_v281 : Ref sig .tc := ⟨.hbm, 382, rfl⟩
abbrev main_v282 : Ref sig .tc := ⟨.hbm, 383, rfl⟩
abbrev main_cst_40 : Ref sig .tc := ⟨.hbm, 384, rfl⟩
abbrev main_v283 : Ref sig .tc := ⟨.hbm, 385, rfl⟩
abbrev main_v284 : Ref sig .tc := ⟨.hbm, 386, rfl⟩
abbrev main_v285 : Ref sig .tc := ⟨.hbm, 387, rfl⟩
abbrev main_cst_41 : Ref sig .tc := ⟨.hbm, 388, rfl⟩
abbrev main_v286 : Ref sig .tc := ⟨.hbm, 389, rfl⟩
abbrev main_v287 : Ref sig .tc := ⟨.hbm, 390, rfl⟩
abbrev main_v288 : Ref sig .tc := ⟨.hbm, 391, rfl⟩
abbrev main_cst_42 : Ref sig .tc := ⟨.hbm, 392, rfl⟩
abbrev main_v289 : Ref sig .tc := ⟨.hbm, 393, rfl⟩
abbrev main_v290 : Ref sig .tc := ⟨.hbm, 394, rfl⟩
abbrev main_v291 : Ref sig .tc := ⟨.hbm, 395, rfl⟩
abbrev main_v292 : Ref sig .tc := ⟨.hbm, 396, rfl⟩
abbrev main_v293 : Ref sig .tc := ⟨.hbm, 397, rfl⟩
abbrev main_v294 : Ref sig .tc := ⟨.hbm, 398, rfl⟩
abbrev main_v295 : Ref sig .tc := ⟨.hbm, 399, rfl⟩
abbrev main_v296 : Ref sig .tc := ⟨.hbm, 400, rfl⟩
abbrev main_v297 : Ref sig .tc := ⟨.hbm, 401, rfl⟩
abbrev main_cst_43 : Ref sig .tc := ⟨.hbm, 402, rfl⟩
abbrev main_v298 : Ref sig .tc := ⟨.hbm, 403, rfl⟩
abbrev main_v299 : Ref sig .tc := ⟨.hbm, 404, rfl⟩
abbrev main_v300 : Ref sig .tc := ⟨.hbm, 405, rfl⟩
abbrev main_v301 : Ref sig .tc := ⟨.hbm, 406, rfl⟩
abbrev main_v302 : Ref sig .tc := ⟨.hbm, 407, rfl⟩
abbrev main_v303 : Ref sig .tc := ⟨.hbm, 408, rfl⟩
abbrev main_v304 : Ref sig .tc := ⟨.hbm, 409, rfl⟩
abbrev main_v305 : Ref sig .tc := ⟨.hbm, 410, rfl⟩
abbrev main_v306 : Ref sig .tc := ⟨.hbm, 411, rfl⟩
abbrev main_cst_44 : Ref sig .tc := ⟨.hbm, 412, rfl⟩
abbrev main_v307 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_v311 : Ref sig .tc := ⟨.hbm, 417, rfl⟩
abbrev main_v312 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_cst_45 : Ref sig .tc := ⟨.hbm, 422, rfl⟩
abbrev main_v316 : Ref sig .tc := ⟨.hbm, 423, rfl⟩
abbrev main_v317 : Ref sig .tc := ⟨.hbm, 424, rfl⟩
abbrev main_v318 : Ref sig .tc := ⟨.hbm, 425, rfl⟩
abbrev main_v319 : Ref sig .tc := ⟨.hbm, 426, rfl⟩
abbrev main_v320 : Ref sig .tc := ⟨.hbm, 427, rfl⟩
abbrev main_v321 : Ref sig .tc := ⟨.hbm, 428, rfl⟩
abbrev main_v322 : Ref sig .tc := ⟨.hbm, 429, rfl⟩
abbrev main_v323 : Ref sig .tc := ⟨.hbm, 430, rfl⟩
abbrev main_v324 : Ref sig .tc := ⟨.hbm, 431, rfl⟩
abbrev main_cst_46 : Ref sig .tc := ⟨.hbm, 432, rfl⟩
abbrev main_v325 : Ref sig .tc := ⟨.hbm, 433, rfl⟩
abbrev main_v326 : Ref sig .tc := ⟨.hbm, 434, rfl⟩
abbrev main_v327 : Ref sig .tc := ⟨.hbm, 435, rfl⟩
abbrev main_v328 : Ref sig .tc := ⟨.hbm, 436, rfl⟩
abbrev main_v329 : Ref sig .tc := ⟨.hbm, 437, rfl⟩
abbrev main_v330 : Ref sig .tc := ⟨.hbm, 438, rfl⟩
abbrev main_v331 : Ref sig .tc := ⟨.hbm, 439, rfl⟩
abbrev main_v332 : Ref sig .tc := ⟨.hbm, 440, rfl⟩
abbrev main_v333 : Ref sig .tc := ⟨.hbm, 441, rfl⟩
abbrev main_cst_47 : Ref sig .tc := ⟨.hbm, 442, rfl⟩
abbrev main_v334 : Ref sig .tc := ⟨.hbm, 443, rfl⟩
abbrev main_v335 : Ref sig .tc := ⟨.hbm, 444, rfl⟩
abbrev main_v336 : Ref sig .tc := ⟨.hbm, 445, rfl⟩
abbrev main_v337 : Ref sig .tc := ⟨.hbm, 446, rfl⟩
abbrev main_v338 : Ref sig .tc := ⟨.hbm, 447, rfl⟩
abbrev main_v339 : Ref sig .tc := ⟨.hbm, 448, rfl⟩
abbrev main_v340 : Ref sig .tc := ⟨.hbm, 449, rfl⟩
abbrev main_v341 : Ref sig .tc := ⟨.hbm, 450, rfl⟩
abbrev main_v342 : Ref sig .tc := ⟨.hbm, 451, rfl⟩
abbrev main_cst_48 : Ref sig .tc := ⟨.hbm, 452, rfl⟩
abbrev main_v343 : Ref sig .tc := ⟨.hbm, 453, rfl⟩
abbrev main_v344 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_v348 : Ref sig .tc := ⟨.hbm, 458, rfl⟩
abbrev main_v349 : Ref sig .tc := ⟨.hbm, 459, rfl⟩
abbrev main_v350 : Ref sig .tc := ⟨.hbm, 460, rfl⟩
abbrev main_v351 : Ref sig .tc := ⟨.hbm, 461, rfl⟩
abbrev main_cst_49 : Ref sig .tc := ⟨.hbm, 462, rfl⟩
abbrev main_v352 : Ref sig .tc := ⟨.hbm, 463, rfl⟩
abbrev main_v353 : Ref sig .tc := ⟨.hbm, 464, rfl⟩
abbrev main_v354 : Ref sig .tc := ⟨.hbm, 465, rfl⟩
abbrev main_v355 : Ref sig .tc := ⟨.hbm, 466, rfl⟩
abbrev main_v356 : Ref sig .tc := ⟨.hbm, 467, rfl⟩
abbrev main_v357 : Ref sig .tc := ⟨.hbm, 468, rfl⟩
abbrev main_v358 : Ref sig .tc := ⟨.hbm, 469, rfl⟩
abbrev main_v359 : Ref sig .tc := ⟨.hbm, 470, rfl⟩
abbrev main_v360 : Ref sig .tc := ⟨.hbm, 471, rfl⟩
abbrev main_cst_50 : Ref sig .tc := ⟨.hbm, 472, rfl⟩
abbrev main_v361 : Ref sig .tc := ⟨.hbm, 473, rfl⟩
abbrev main_v362 : Ref sig .tc := ⟨.hbm, 474, rfl⟩
abbrev main_v363 : Ref sig .tc := ⟨.hbm, 475, rfl⟩
abbrev main_v364 : Ref sig .tc := ⟨.hbm, 476, rfl⟩
abbrev main_v365 : Ref sig .tc := ⟨.hbm, 477, rfl⟩
abbrev main_v366 : Ref sig .tc := ⟨.hbm, 478, rfl⟩
abbrev main_v367 : Ref sig .tc := ⟨.hbm, 479, rfl⟩
abbrev main_v368 : Ref sig .tc := ⟨.hbm, 480, rfl⟩
abbrev main_v369 : Ref sig .tc := ⟨.hbm, 481, rfl⟩
abbrev main_cst_51 : Ref sig .tc := ⟨.hbm, 482, rfl⟩
abbrev main_v370 : Ref sig .tc := ⟨.hbm, 483, rfl⟩
abbrev main_v371 : Ref sig .tc := ⟨.hbm, 484, rfl⟩
abbrev main_v372 : Ref sig .tc := ⟨.hbm, 485, rfl⟩
abbrev main_v373 : Ref sig .tc := ⟨.hbm, 486, rfl⟩
abbrev main_v374 : Ref sig .tc := ⟨.hbm, 487, rfl⟩
abbrev main_v375 : Ref sig .tc := ⟨.hbm, 488, rfl⟩
abbrev main_v376 : Ref sig .tc := ⟨.hbm, 489, rfl⟩
abbrev main_v377 : Ref sig .tc := ⟨.hbm, 490, rfl⟩
abbrev main_v378 : Ref sig .tc := ⟨.hbm, 491, rfl⟩
abbrev main_cst_52 : Ref sig .tc := ⟨.hbm, 492, rfl⟩
abbrev main_v379 : Ref sig .tc := ⟨.hbm, 493, rfl⟩
abbrev main_v380 : Ref sig .tc := ⟨.hbm, 494, rfl⟩
abbrev main_v381 : Ref sig .tc := ⟨.hbm, 495, rfl⟩
abbrev main_v382 : Ref sig .tc := ⟨.hbm, 496, rfl⟩
abbrev main_v383 : Ref sig .tc := ⟨.hbm, 497, rfl⟩
abbrev main_v384 : Ref sig .tc := ⟨.hbm, 498, rfl⟩
abbrev main_v385 : Ref sig .tc := ⟨.hbm, 499, rfl⟩
abbrev main_v386 : Ref sig .tc := ⟨.hbm, 500, rfl⟩
abbrev main_v387 : Ref sig .tc := ⟨.hbm, 501, rfl⟩
abbrev main_cst_53 : Ref sig .tc := ⟨.hbm, 502, rfl⟩
abbrev main_v388 : Ref sig .tc := ⟨.hbm, 503, rfl⟩
abbrev main_v389 : Ref sig .tc := ⟨.hbm, 504, rfl⟩
abbrev main_v390 : Ref sig .tc := ⟨.hbm, 505, rfl⟩
abbrev main_v391 : Ref sig .tc := ⟨.hbm, 506, rfl⟩
abbrev main_v392 : Ref sig .tc := ⟨.hbm, 507, rfl⟩
abbrev main_v393 : Ref sig .tc := ⟨.hbm, 508, rfl⟩
abbrev main_v394 : Ref sig .tc := ⟨.hbm, 509, rfl⟩
abbrev main_v395 : Ref sig .tc := ⟨.hbm, 510, rfl⟩
abbrev main_v396 : Ref sig .tc := ⟨.hbm, 511, rfl⟩
abbrev main_cst_54 : Ref sig .tc := ⟨.hbm, 512, rfl⟩
abbrev main_v397 : Ref sig .tc := ⟨.hbm, 513, rfl⟩
abbrev main_v398 : Ref sig .tc := ⟨.hbm, 514, rfl⟩
abbrev main_v399 : Ref sig .tc := ⟨.hbm, 515, rfl⟩
abbrev main_v400 : Ref sig .tc := ⟨.hbm, 516, rfl⟩
abbrev main_v401 : Ref sig .tc := ⟨.hbm, 517, rfl⟩
abbrev main_v402 : Ref sig .tc := ⟨.hbm, 518, rfl⟩
abbrev main_v403 : Ref sig .tc := ⟨.hbm, 519, rfl⟩
abbrev main_cst_55 : Ref sig .tc := ⟨.hbm, 520, rfl⟩
abbrev main_v404 : Ref sig .tc := ⟨.hbm, 521, rfl⟩
abbrev main_cst_56 : Ref sig .tc := ⟨.hbm, 522, rfl⟩
abbrev main_v405 : Ref sig .tc := ⟨.hbm, 523, rfl⟩
abbrev main_v406 : Ref sig .tc := ⟨.hbm, 524, rfl⟩
abbrev main_cst_57 : Ref sig .tc := ⟨.hbm, 525, rfl⟩
abbrev main_v407 : Ref sig .tc := ⟨.hbm, 526, rfl⟩
abbrev main_cst_58 : Ref sig .tc := ⟨.hbm, 527, rfl⟩
abbrev main_v408 : Ref sig .tc := ⟨.hbm, 528, rfl⟩
abbrev main_v409 : Ref sig .tc := ⟨.hbm, 529, rfl⟩
abbrev main_v410 : Ref sig .tc := ⟨.hbm, 530, rfl⟩
abbrev main_v411 : Ref sig .tc := ⟨.hbm, 531, rfl⟩
abbrev main_v412 : Ref sig .tc := ⟨.hbm, 532, rfl⟩
abbrev main_v413 : Ref sig .tc := ⟨.hbm, 533, rfl⟩
abbrev main_v414 : Ref sig .tc := ⟨.hbm, 534, rfl⟩
abbrev main_v415 : Ref sig .tc := ⟨.hbm, 535, rfl⟩
abbrev main_v416 : Ref sig .tc := ⟨.hbm, 536, rfl⟩
abbrev main_v417 : Ref sig .tc := ⟨.hbm, 537, rfl⟩
abbrev main_v418 : Ref sig .tc := ⟨.hbm, 538, rfl⟩
abbrev main_cst_59 : Ref sig .tc := ⟨.hbm, 539, rfl⟩
abbrev main_v419 : Ref sig .tc := ⟨.hbm, 540, rfl⟩
abbrev main_cst_60 : Ref sig .tc := ⟨.hbm, 541, rfl⟩
abbrev main_v420 : Ref sig .tc := ⟨.hbm, 542, rfl⟩
abbrev main_v421 : Ref sig .tc := ⟨.hbm, 543, rfl⟩
abbrev main_cst_61 : Ref sig .tc := ⟨.hbm, 544, rfl⟩
abbrev main_v422 : Ref sig .tc := ⟨.hbm, 545, rfl⟩
abbrev main_cst_62 : Ref sig .tc := ⟨.hbm, 546, rfl⟩
abbrev main_v423 : Ref sig .tc := ⟨.hbm, 547, rfl⟩
abbrev main_v424 : Ref sig .tc := ⟨.hbm, 548, rfl⟩
abbrev main_v425 : Ref sig .tc := ⟨.hbm, 549, rfl⟩
abbrev main_v426 : Ref sig .tc := ⟨.hbm, 550, rfl⟩
abbrev main_v427 : Ref sig .tc := ⟨.hbm, 551, rfl⟩
abbrev main_v428 : Ref sig .tc := ⟨.hbm, 552, rfl⟩
abbrev main_v429 : Ref sig .tc := ⟨.hbm, 553, rfl⟩
abbrev main_v430 : Ref sig .tc := ⟨.hbm, 554, rfl⟩
abbrev main_v431 : Ref sig .tc := ⟨.hbm, 555, rfl⟩
abbrev main_v432 : Ref sig .tc := ⟨.hbm, 556, rfl⟩
abbrev main_v433 : Ref sig .tc := ⟨.hbm, 557, rfl⟩
abbrev main_cst_63 : Ref sig .tc := ⟨.hbm, 558, rfl⟩
abbrev main_v434 : Ref sig .tc := ⟨.hbm, 559, rfl⟩
abbrev main_cst_64 : Ref sig .tc := ⟨.hbm, 560, rfl⟩
abbrev main_v435 : Ref sig .tc := ⟨.hbm, 561, rfl⟩
abbrev main_v436 : Ref sig .tc := ⟨.hbm, 562, rfl⟩
abbrev main_cst_65 : Ref sig .tc := ⟨.hbm, 563, rfl⟩
abbrev main_v437 : Ref sig .tc := ⟨.hbm, 564, rfl⟩
abbrev main_cst_66 : Ref sig .tc := ⟨.hbm, 565, rfl⟩
abbrev main_v438 : Ref sig .tc := ⟨.hbm, 566, rfl⟩
abbrev main_v439 : Ref sig .tc := ⟨.hbm, 567, rfl⟩
abbrev main_v440 : Ref sig .tc := ⟨.hbm, 568, rfl⟩
abbrev main_v441 : Ref sig .tc := ⟨.hbm, 569, rfl⟩
abbrev main_v442 : Ref sig .tc := ⟨.hbm, 570, rfl⟩
abbrev main_v443 : Ref sig .tc := ⟨.hbm, 571, rfl⟩
abbrev main_v444 : Ref sig .tc := ⟨.hbm, 572, rfl⟩
abbrev main_v445 : Ref sig .tc := ⟨.hbm, 573, rfl⟩
abbrev main_v446 : Ref sig .tc := ⟨.hbm, 574, rfl⟩
abbrev main_v447 : Ref sig .tc := ⟨.hbm, 575, rfl⟩
abbrev main_v448 : Ref sig .tc := ⟨.hbm, 576, rfl⟩
abbrev main_cst_67 : Ref sig .tc := ⟨.hbm, 577, rfl⟩
abbrev main_v449 : Ref sig .tc := ⟨.hbm, 578, rfl⟩
abbrev main_cst_68 : Ref sig .tc := ⟨.hbm, 579, rfl⟩
abbrev main_v450 : Ref sig .tc := ⟨.hbm, 580, rfl⟩
abbrev main_v451 : Ref sig .tc := ⟨.hbm, 581, rfl⟩
abbrev main_cst_69 : Ref sig .tc := ⟨.hbm, 582, rfl⟩
abbrev main_v452 : Ref sig .tc := ⟨.hbm, 583, rfl⟩
abbrev main_cst_70 : Ref sig .tc := ⟨.hbm, 584, rfl⟩
abbrev main_v453 : Ref sig .tc := ⟨.hbm, 585, rfl⟩
abbrev main_v454 : Ref sig .tc := ⟨.hbm, 586, rfl⟩
abbrev main_v455 : Ref sig .tc := ⟨.hbm, 587, rfl⟩
abbrev main_v456 : Ref sig .tc := ⟨.hbm, 588, rfl⟩
abbrev main_v457 : Ref sig .tc := ⟨.hbm, 589, rfl⟩
abbrev main_v458 : Ref sig .tc := ⟨.hbm, 590, rfl⟩
abbrev main_v459 : Ref sig .tc := ⟨.hbm, 591, rfl⟩
abbrev main_v460 : Ref sig .tc := ⟨.hbm, 592, rfl⟩
abbrev main_v461 : Ref sig .tc := ⟨.hbm, 593, rfl⟩
abbrev main_v462 : Ref sig .tc := ⟨.hbm, 594, rfl⟩
abbrev main_v463 : Ref sig .tc := ⟨.hbm, 595, rfl⟩
abbrev main_cst_71 : Ref sig .tc := ⟨.hbm, 596, rfl⟩
abbrev main_v464 : Ref sig .tc := ⟨.hbm, 597, rfl⟩
abbrev main_cst_72 : Ref sig .tc := ⟨.hbm, 598, rfl⟩
abbrev main_v465 : Ref sig .tc := ⟨.hbm, 599, rfl⟩
abbrev main_v466 : Ref sig .tc := ⟨.hbm, 600, rfl⟩
abbrev main_cst_73 : Ref sig .tc := ⟨.hbm, 601, rfl⟩
abbrev main_v467 : Ref sig .tc := ⟨.hbm, 602, rfl⟩
abbrev main_cst_74 : Ref sig .tc := ⟨.hbm, 603, rfl⟩
abbrev main_v468 : Ref sig .tc := ⟨.hbm, 604, rfl⟩
abbrev main_v469 : Ref sig .tc := ⟨.hbm, 605, rfl⟩
abbrev main_v470 : Ref sig .tc := ⟨.hbm, 606, rfl⟩
abbrev main_v471 : Ref sig .tc := ⟨.hbm, 607, rfl⟩
abbrev main_v472 : Ref sig .tc := ⟨.hbm, 608, rfl⟩
abbrev main_v473 : Ref sig .tc := ⟨.hbm, 609, rfl⟩
abbrev main_v474 : Ref sig .tc := ⟨.hbm, 610, rfl⟩
abbrev main_v475 : Ref sig .tc := ⟨.hbm, 611, rfl⟩
abbrev main_v476 : Ref sig .tc := ⟨.hbm, 612, rfl⟩
abbrev main_v477 : Ref sig .tc := ⟨.hbm, 613, rfl⟩
abbrev main_v478 : Ref sig .tc := ⟨.hbm, 614, rfl⟩
abbrev main_cst_75 : Ref sig .tc := ⟨.hbm, 615, rfl⟩
abbrev main_v479 : Ref sig .tc := ⟨.hbm, 616, rfl⟩
abbrev main_cst_76 : Ref sig .tc := ⟨.hbm, 617, rfl⟩
abbrev main_v480 : Ref sig .tc := ⟨.hbm, 618, rfl⟩
abbrev main_v481 : Ref sig .tc := ⟨.hbm, 619, rfl⟩
abbrev main_cst_77 : Ref sig .tc := ⟨.hbm, 620, rfl⟩
abbrev main_v482 : Ref sig .tc := ⟨.hbm, 621, rfl⟩
abbrev main_cst_78 : Ref sig .tc := ⟨.hbm, 622, rfl⟩
abbrev main_v483 : Ref sig .tc := ⟨.hbm, 623, rfl⟩
abbrev main_v484 : Ref sig .tc := ⟨.hbm, 624, rfl⟩
abbrev main_v485 : Ref sig .tc := ⟨.hbm, 625, rfl⟩
abbrev main_v486 : Ref sig .tc := ⟨.hbm, 626, rfl⟩
abbrev main_v487 : Ref sig .tc := ⟨.hbm, 627, rfl⟩
abbrev main_v488 : Ref sig .tc := ⟨.hbm, 628, rfl⟩
abbrev main_v489 : Ref sig .tc := ⟨.hbm, 629, rfl⟩
abbrev main_v490 : Ref sig .tc := ⟨.hbm, 630, rfl⟩
abbrev main_v491 : Ref sig .tc := ⟨.hbm, 631, rfl⟩
abbrev main_v492 : Ref sig .tc := ⟨.hbm, 632, rfl⟩
abbrev main_v493 : Ref sig .tc := ⟨.hbm, 633, rfl⟩
abbrev main_cst_79 : Ref sig .tc := ⟨.hbm, 634, rfl⟩
abbrev main_v494 : Ref sig .tc := ⟨.hbm, 635, rfl⟩
abbrev main_cst_80 : Ref sig .tc := ⟨.hbm, 636, rfl⟩
abbrev main_v495 : Ref sig .tc := ⟨.hbm, 637, rfl⟩
abbrev main_v496 : Ref sig .tc := ⟨.hbm, 638, rfl⟩
abbrev main_cst_81 : Ref sig .tc := ⟨.hbm, 639, rfl⟩
abbrev main_v497 : Ref sig .tc := ⟨.hbm, 640, rfl⟩
abbrev main_cst_82 : Ref sig .tc := ⟨.hbm, 641, rfl⟩
abbrev main_v498 : Ref sig .tc := ⟨.hbm, 642, rfl⟩
abbrev main_v499 : Ref sig .tc := ⟨.hbm, 643, rfl⟩
abbrev main_v500 : Ref sig .tc := ⟨.hbm, 644, rfl⟩
abbrev main_v501 : Ref sig .tc := ⟨.hbm, 645, rfl⟩
abbrev main_v502 : Ref sig .tc := ⟨.hbm, 646, rfl⟩
abbrev main_v503 : Ref sig .tc := ⟨.hbm, 647, rfl⟩
abbrev main_v504 : Ref sig .tc := ⟨.hbm, 648, rfl⟩
abbrev main_v505 : Ref sig .tc := ⟨.hbm, 649, rfl⟩
abbrev main_v506 : Ref sig .tc := ⟨.hbm, 650, rfl⟩
abbrev main_v507 : Ref sig .tc := ⟨.hbm, 651, rfl⟩
abbrev main_v508 : Ref sig .tc := ⟨.hbm, 652, rfl⟩
abbrev main_cst_83 : Ref sig .tc := ⟨.hbm, 653, rfl⟩
abbrev main_v509 : Ref sig .tc := ⟨.hbm, 654, rfl⟩
abbrev main_cst_84 : Ref sig .tc := ⟨.hbm, 655, rfl⟩
abbrev main_v510 : Ref sig .tc := ⟨.hbm, 656, rfl⟩
abbrev main_v511 : Ref sig .tc := ⟨.hbm, 657, rfl⟩
abbrev main_cst_85 : Ref sig .tc := ⟨.hbm, 658, rfl⟩
abbrev main_v512 : Ref sig .tc := ⟨.hbm, 659, rfl⟩
abbrev main_cst_86 : Ref sig .tc := ⟨.hbm, 660, rfl⟩
abbrev main_v513 : Ref sig .tc := ⟨.hbm, 661, rfl⟩
abbrev main_v514 : Ref sig .tc := ⟨.hbm, 662, rfl⟩
abbrev main_v515 : Ref sig .tc := ⟨.hbm, 663, rfl⟩
abbrev main_v516 : Ref sig .tc := ⟨.hbm, 664, rfl⟩
abbrev main_v517 : Ref sig .tc := ⟨.hbm, 665, rfl⟩
abbrev main_v518 : Ref sig .tc := ⟨.hbm, 666, rfl⟩
abbrev main_v519 : Ref sig .tc := ⟨.hbm, 667, rfl⟩
abbrev main_v520 : Ref sig .tc := ⟨.hbm, 668, rfl⟩
abbrev main_v521 : Ref sig .tc := ⟨.hbm, 669, rfl⟩
abbrev main_v522 : Ref sig .tc := ⟨.hbm, 670, rfl⟩
abbrev main_v523 : Ref sig .tc := ⟨.hbm, 671, rfl⟩
abbrev main_cst_87 : Ref sig .tc := ⟨.hbm, 672, rfl⟩
abbrev main_v524 : Ref sig .tc := ⟨.hbm, 673, rfl⟩
abbrev main_cst_88 : Ref sig .tc := ⟨.hbm, 674, rfl⟩
abbrev main_v525 : Ref sig .tc := ⟨.hbm, 675, rfl⟩
abbrev main_v526 : Ref sig .tc := ⟨.hbm, 676, rfl⟩
abbrev main_cst_89 : Ref sig .tc := ⟨.hbm, 677, rfl⟩
abbrev main_v527 : Ref sig .tc := ⟨.hbm, 678, rfl⟩
abbrev main_cst_90 : Ref sig .tc := ⟨.hbm, 679, rfl⟩
abbrev main_v528 : Ref sig .tc := ⟨.hbm, 680, rfl⟩
abbrev main_v529 : Ref sig .tc := ⟨.hbm, 681, rfl⟩
abbrev main_v530 : Ref sig .tc := ⟨.hbm, 682, rfl⟩
abbrev main_v531 : Ref sig .tc := ⟨.hbm, 683, rfl⟩
abbrev main_v532 : Ref sig .tc := ⟨.hbm, 684, rfl⟩
abbrev main_v533 : Ref sig .tc := ⟨.hbm, 685, rfl⟩
abbrev main_v534 : Ref sig .tc := ⟨.hbm, 686, rfl⟩
abbrev main_v535 : Ref sig .tc := ⟨.hbm, 687, rfl⟩
abbrev main_v536 : Ref sig .tc := ⟨.hbm, 688, rfl⟩
abbrev main_v537 : Ref sig .tc := ⟨.hbm, 689, rfl⟩
abbrev main_v538 : Ref sig .tc := ⟨.hbm, 690, rfl⟩
abbrev main_cst_91 : Ref sig .tc := ⟨.hbm, 691, rfl⟩
abbrev main_v539 : Ref sig .tc := ⟨.hbm, 692, rfl⟩
abbrev main_cst_92 : Ref sig .tc := ⟨.hbm, 693, rfl⟩
abbrev main_v540 : Ref sig .tc := ⟨.hbm, 694, rfl⟩
abbrev main_v541 : Ref sig .tc := ⟨.hbm, 695, rfl⟩
abbrev main_cst_93 : Ref sig .tc := ⟨.hbm, 696, rfl⟩
abbrev main_v542 : Ref sig .tc := ⟨.hbm, 697, rfl⟩
abbrev main_cst_94 : Ref sig .tc := ⟨.hbm, 698, rfl⟩
abbrev main_v543 : Ref sig .tc := ⟨.hbm, 699, rfl⟩
abbrev main_v544 : Ref sig .tc := ⟨.hbm, 700, rfl⟩
abbrev main_v545 : Ref sig .tc := ⟨.hbm, 701, rfl⟩
abbrev main_v546 : Ref sig .tc := ⟨.hbm, 702, rfl⟩
abbrev main_v547 : Ref sig .tc := ⟨.hbm, 703, rfl⟩
abbrev main_v548 : Ref sig .tc := ⟨.hbm, 704, rfl⟩
abbrev main_v549 : Ref sig .tc := ⟨.hbm, 705, rfl⟩
abbrev main_v550 : Ref sig .tc := ⟨.hbm, 706, rfl⟩
abbrev main_v551 : Ref sig .tc := ⟨.hbm, 707, rfl⟩
abbrev main_v552 : Ref sig .tc := ⟨.hbm, 708, rfl⟩
abbrev main_v553 : Ref sig .tc := ⟨.hbm, 709, rfl⟩
abbrev main_cst_95 : Ref sig .tc := ⟨.hbm, 710, rfl⟩
abbrev main_v554 : Ref sig .tc := ⟨.hbm, 711, rfl⟩
abbrev main_cst_96 : Ref sig .tc := ⟨.hbm, 712, rfl⟩
abbrev main_v555 : Ref sig .tc := ⟨.hbm, 713, rfl⟩
abbrev main_v556 : Ref sig .tc := ⟨.hbm, 714, rfl⟩
abbrev main_cst_97 : Ref sig .tc := ⟨.hbm, 715, rfl⟩
abbrev main_v557 : Ref sig .tc := ⟨.hbm, 716, rfl⟩
abbrev main_cst_98 : Ref sig .tc := ⟨.hbm, 717, rfl⟩
abbrev main_v558 : Ref sig .tc := ⟨.hbm, 718, rfl⟩
abbrev main_v559 : Ref sig .tc := ⟨.hbm, 719, rfl⟩
abbrev main_v560 : Ref sig .tc := ⟨.hbm, 720, rfl⟩
abbrev main_v561 : Ref sig .tc := ⟨.hbm, 721, rfl⟩
abbrev main_v562 : Ref sig .tc := ⟨.hbm, 722, rfl⟩
abbrev main_v563 : Ref sig .tc := ⟨.hbm, 723, rfl⟩
abbrev main_v564 : Ref sig .tc := ⟨.hbm, 724, rfl⟩
abbrev main_v565 : Ref sig .tc := ⟨.hbm, 725, rfl⟩
abbrev main_v566 : Ref sig .tc := ⟨.hbm, 726, rfl⟩
abbrev main_v567 : Ref sig .tc := ⟨.hbm, 727, rfl⟩
abbrev main_v568 : Ref sig .tc := ⟨.hbm, 728, rfl⟩
abbrev main_cst_99 : Ref sig .tc := ⟨.hbm, 729, rfl⟩
abbrev main_v569 : Ref sig .tc := ⟨.hbm, 730, rfl⟩
abbrev main_cst_100 : Ref sig .tc := ⟨.hbm, 731, rfl⟩
abbrev main_v570 : Ref sig .tc := ⟨.hbm, 732, rfl⟩
abbrev main_v571 : Ref sig .tc := ⟨.hbm, 733, rfl⟩
abbrev main_cst_101 : Ref sig .tc := ⟨.hbm, 734, rfl⟩
abbrev main_v572 : Ref sig .tc := ⟨.hbm, 735, rfl⟩
abbrev main_cst_102 : Ref sig .tc := ⟨.hbm, 736, rfl⟩
abbrev main_v573 : Ref sig .tc := ⟨.hbm, 737, rfl⟩
abbrev main_v574 : Ref sig .tc := ⟨.hbm, 738, rfl⟩
abbrev main_v575 : Ref sig .tc := ⟨.hbm, 739, rfl⟩
abbrev main_v576 : Ref sig .tc := ⟨.hbm, 740, rfl⟩
abbrev main_v577 : Ref sig .tc := ⟨.hbm, 741, rfl⟩
abbrev main_v578 : Ref sig .tc := ⟨.hbm, 742, rfl⟩
abbrev main_v579 : Ref sig .tc := ⟨.hbm, 743, rfl⟩
abbrev main_v580 : Ref sig .tc := ⟨.hbm, 744, rfl⟩
abbrev main_call2_cst : Ref sig .tc := ⟨.hbm, 745, rfl⟩
abbrev main_call2_v0 : Ref sig .tc := ⟨.hbm, 746, rfl⟩
abbrev main_v581 : Ref sig .tc := ⟨.hbm, 747, rfl⟩
abbrev main_v582 : Ref sig .tc := ⟨.hbm, 748, rfl⟩
abbrev main_v583 : Ref sig .tc := ⟨.hbm, 749, rfl⟩
abbrev main_v584 : Ref sig .tc := ⟨.hbm, 750, rfl⟩
abbrev main_cst_103 : Ref sig .tc := ⟨.hbm, 751, rfl⟩
abbrev main_v585 : Ref sig .tc := ⟨.hbm, 752, rfl⟩
abbrev main_v586 : Ref sig .tc := ⟨.hbm, 753, rfl⟩
abbrev main_v587 : Ref sig .tc := ⟨.hbm, 754, rfl⟩
abbrev main_v588 : Ref sig .tc := ⟨.hbm, 755, rfl⟩
abbrev main_v589 : Ref sig .tc := ⟨.hbm, 756, rfl⟩
abbrev main_cst_104 : Ref sig .tc := ⟨.hbm, 757, rfl⟩
abbrev main_v590 : Ref sig .tc := ⟨.hbm, 758, rfl⟩
abbrev main_v591 : Ref sig .tc := ⟨.hbm, 759, rfl⟩
abbrev main_v592 : Ref sig .tc := ⟨.hbm, 760, rfl⟩
abbrev main_v593 : Ref sig .tc := ⟨.hbm, 761, rfl⟩
abbrev main_v594 : Ref sig .tc := ⟨.hbm, 762, rfl⟩
abbrev main_v595 : Ref sig .tc := ⟨.hbm, 763, rfl⟩
abbrev main_cst_105 : Ref sig .tc := ⟨.hbm, 764, rfl⟩
abbrev main_v596 : Ref sig .tc := ⟨.hbm, 765, rfl⟩
abbrev main_v597 : Ref sig .tc := ⟨.hbm, 766, rfl⟩
abbrev main_v598 : Ref sig .tc := ⟨.hbm, 767, rfl⟩
abbrev main_cst_106 : Ref sig .tc := ⟨.hbm, 768, rfl⟩
abbrev main_v599 : Ref sig .tc := ⟨.hbm, 769, rfl⟩
abbrev main_v600 : Ref sig .tc := ⟨.hbm, 770, rfl⟩
abbrev main_v601 : Ref sig .tc := ⟨.hbm, 771, rfl⟩
abbrev main_v602 : Ref sig .tc := ⟨.hbm, 772, rfl⟩
abbrev main_v603 : Ref sig .tc := ⟨.hbm, 773, rfl⟩
abbrev main_v604 : Ref sig .tc := ⟨.hbm, 774, rfl⟩
abbrev main_v605 : Ref sig .tc := ⟨.hbm, 775, rfl⟩
abbrev main_v606 : Ref sig .tc := ⟨.hbm, 776, rfl⟩
abbrev main_v607 : Ref sig .tc := ⟨.hbm, 777, rfl⟩
abbrev main_cst_107 : Ref sig .tc := ⟨.hbm, 778, rfl⟩
abbrev main_v608 : Ref sig .tc := ⟨.hbm, 779, rfl⟩
abbrev main_v609 : Ref sig .tc := ⟨.hbm, 780, rfl⟩
abbrev main_v610 : Ref sig .tc := ⟨.hbm, 781, rfl⟩
abbrev main_v611 : Ref sig .tc := ⟨.hbm, 782, rfl⟩
abbrev main_v612 : Ref sig .tc := ⟨.hbm, 783, rfl⟩
abbrev main_v613 : Ref sig .tc := ⟨.hbm, 784, rfl⟩
abbrev main_v614 : Ref sig .tc := ⟨.hbm, 785, rfl⟩
abbrev main_v615 : Ref sig .tc := ⟨.hbm, 786, rfl⟩
abbrev main_v616 : Ref sig .tc := ⟨.hbm, 787, rfl⟩
abbrev main_v617 : Ref sig .tc := ⟨.hbm, 788, rfl⟩
abbrev main_v618 : Ref sig .tc := ⟨.hbm, 789, rfl⟩
abbrev main_v619 : Ref sig .tc := ⟨.hbm, 790, rfl⟩
abbrev main_v620 : Ref sig .tc := ⟨.hbm, 791, rfl⟩
abbrev main_v621 : Ref sig .tc := ⟨.hbm, 792, rfl⟩

abbrev nD : Nat := 1
abbrev τ : Topo := Topo.v7x

variable {F : FTy → Type} [FloatOps F]
-- ==== Kernel15.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel16.lean ====
abbrev S4096x2048 : Shape := ⟨2, ![4096, 2048]⟩
abbrev S1x2048 : Shape := ⟨2, ![1, 2048]⟩
abbrev S2048x4096 : Shape := ⟨2, ![2048, 4096]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S2048x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048x4096 : Shape := ⟨2, ![2048, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | .hbm, ⟨18, _⟩ => ⟨S2048x4096, .f32⟩
  | .hbm, ⟨19, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel17.lean ====
abbrev S4096x2048 : Shape := ⟨2, ![4096, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S1x128, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x128, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_21 : BitVec 32 := 0#32
  let v50 : BitVec 1 := Scalar.cmpi .ne v49 c0_i32_21
  v50

def k0_cond2 (i : grid0.Coords) : BitVec 1 :=
  let arg0 : BitVec 32 := BitVec.ofNat 32 (i 0).val
  let c0_i32_22 : BitVec 32 := 0#32
  let v51 : BitVec 1 := Scalar.cmpi .sgt arg0 c0_i32_22
  let v52 : BitVec 32 := Scalar.extui v51
  let c0_i32_23 : BitVec 32 := 0#32
  let v53 : BitVec 1 := Scalar.cmpi .ne v52 c0_i32_23
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x128, .f32⟩
  | .hbm, ⟨69, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel18.lean ====
abbrev S4x768x2048 : Shape := ⟨3, ![4, 768, 2048]⟩
abbrev S2x768x2048 : Shape := ⟨3, ![2, 768, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x768x2048, .bf16⟩
  | .hbm, ⟨1, _⟩ => ⟨S2x768x2048, .f32⟩
  | .hbm, ⟨2, _⟩ => ⟨S2x768x2048, .f32⟩
  | .hbm, ⟨3, _⟩ => ⟨S2x768x2048, .f32⟩
  | .hbm, ⟨4, _⟩ => ⟨S2x768x2048, .f32⟩
  | .hbm, ⟨5, _⟩ => ⟨S2x768x2048, .f32⟩
  | .hbm, ⟨6, _⟩ => ⟨S2x768x2048, .f32⟩
  | .hbm, ⟨7, _⟩ => ⟨S2x768x2048, .f32⟩
  | .hbm, ⟨8, _⟩ => ⟨S2x768x2048, .f32⟩
  | .hbm, ⟨9, _⟩ => ⟨S2x768x2048, .f32⟩
  | .hbm, ⟨10, _⟩ => ⟨S2x768x2048, .f32⟩
  | .hbm, ⟨11, _⟩ => ⟨S2x768x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S4x768x2048 : Shape := ⟨3, ![4, 768, 2048]⟩
abbrev S2x768x2048 : Shape := ⟨3, ![2, 768, 2048]⟩
abbrev S_ : Shape := ⟨0, ![]⟩
abbrev S768x2048 : Shape := ⟨2, ![768, 2048]⟩
abbrev S1x768x2048 : Shape := ⟨3, ![1, 768, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x768x2048, .bf16⟩
  | .hbm, ⟨1, _⟩ => ⟨S2x768x2048, .f32⟩
  | .hbm, ⟨2, _⟩ => ⟨S2x768x2048, .f32⟩
  | .hbm, ⟨3, _⟩ => ⟨S2x768x2048, .f32⟩
  | .hbm, ⟨4, _⟩ => ⟨S2x768x2048, .f32⟩
  | .hbm, ⟨5, _⟩ => ⟨S2x768x2048, .f32⟩
  | .hbm, ⟨6, _⟩ => ⟨S2x768x2048, .f32⟩
  | .hbm, ⟨7, _⟩ => ⟨S2x768x2048, .f32⟩
  | .hbm, ⟨8, _⟩ => ⟨S4x768x2048, .f32⟩
  | .hbm, ⟨9, _⟩ => ⟨S_, .f32⟩
  | .hbm, ⟨10, _⟩ => ⟨S768x2048, .f32⟩
  | .hbm, ⟨11, _⟩ => ⟨S1x768x2048, .f32⟩
  | .hbm, ⟨12, _⟩ => ⟨S768x2048, .f32⟩
  | .hbm, ⟨13, _⟩ => ⟨S1x768x2048, .f32⟩
  | .hbm, ⟨14, _⟩ => ⟨S768x2048, .f32⟩
  | .hbm, ⟨15, _⟩ => ⟨S1x768x2048, .f32⟩
  | .hbm, ⟨16, _⟩ => ⟨S768x2048, .f32⟩
  | .hbm, ⟨17, _⟩ => ⟨S_, .f32⟩
  | .hbm, ⟨18, _⟩ => ⟨S768x2048, .f32⟩
  | .hbm, ⟨19, _⟩ => ⟨S768x2048, .f32⟩
  | .hbm, ⟨20, _⟩ => ⟨S_, .f32⟩
  | .hbm, ⟨21, _⟩ => ⟨S768x2048, .f32⟩
  | .hbm, ⟨22, _⟩ => ⟨S768x2048, .f32⟩
  | .hbm, ⟨23, _⟩ => ⟨S768x2048, .f32⟩
  | .hbm, ⟨24, _⟩ => ⟨S_, .f32⟩
  | .hbm, ⟨25, _⟩ => ⟨S768x2048, .f32⟩
  | .hbm, ⟨26, _⟩ => ⟨S768x2048, .f32⟩
  | .hbm, ⟨27, _⟩ => ⟨S768x2048, .f32⟩
  | .hbm, ⟨28, _⟩ => ⟨S_, .f32⟩
  | .hbm, ⟨29, _⟩ => ⟨S768x2048, .f32⟩
  | .hbm, ⟨30, _⟩ => ⟨S768x2048, .f32⟩
  | .hbm, ⟨31, _⟩ => ⟨S768x2048, .f32⟩
  | .hbm, ⟨32, _⟩ => ⟨S_, .f32⟩
  | .hbm, ⟨33, _⟩ => ⟨S768x2048, .f32⟩
  | .hbm, ⟨34, _⟩ => ⟨S768x2048, .f32⟩
  | .hbm, ⟨35, _⟩ => ⟨S_, .f32⟩
  | .hbm, ⟨36, _⟩ => ⟨S768x2048, .f32⟩
  | .hbm, ⟨37, _⟩ => ⟨S768x2048, .f32⟩
  | .hbm, ⟨38, _⟩ => ⟨S768x2048, .f32⟩
  | .hbm, ⟨39, _⟩ => ⟨S_, .f32⟩
  | .hbm, ⟨40, _⟩ => ⟨S768x2048, .f32⟩
  | .hbm, ⟨41, _⟩ => ⟨S768x2048, .f32⟩
  | .hbm, ⟨42, _⟩ => ⟨S768x2048, .f32⟩
  | .hbm, ⟨43, _⟩ => ⟨S_, .f32⟩
  | .hbm, ⟨44, _⟩ => ⟨S768x2048, .f32⟩
  | .hbm, ⟨45, _⟩ => ⟨S768x2048, .f32⟩
  | .hbm, ⟨46, _⟩ => ⟨S768x2048, .f32⟩
  | .hbm, ⟨47, _⟩ => ⟨S_, .f32⟩
  | .hbm, ⟨48, _⟩ => ⟨S768x2048, .f32⟩
  | .hbm, ⟨49, _⟩ => ⟨S768x2048, .f32⟩
  | .hbm, ⟨50, _⟩ => ⟨S1x768x2048, .f32⟩
  | .hbm, ⟨51, _⟩ => ⟨S1x768x2048, .f32⟩
  | .hbm, ⟨52, _⟩ => ⟨S2x768x2048, .f32⟩
  | .hbm, ⟨53, _⟩ => ⟨S1x768x2048, .f32⟩
  | .hbm, ⟨54, _⟩ => ⟨S1x768x2048, .f32⟩
  | .hbm, ⟨55, _⟩ => ⟨S2x768x2048, .f32⟩
  | .hbm, ⟨56, _⟩ => ⟨S1x768x2048, .f32⟩
  | .hbm, ⟨57, _⟩ => ⟨S1x768x2048, .f32⟩
  | .hbm, ⟨58, _⟩ => ⟨S2x768x2048, .f32⟩
  | .hbm, ⟨59, _⟩ => ⟨S1x768x2048, .f32⟩
  | .hbm, ⟨60, _⟩ => ⟨S1x768x2048, .f32⟩
  | .hbm, ⟨61, _⟩ => ⟨S2x768x2048, .f32⟩
  | _, _ => ⟨S4x768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel19.lean ====
abbrev S4096x12288 : Shape := ⟨2, ![4096, 12288]⟩
abbrev S3x6144 : Shape := ⟨2, ![3, 6144]⟩
abbrev S4096x6144 : Shape := ⟨2, ![4096, 6144]⟩
abbrev S6144x4096 : Shape := ⟨2, ![6144, 4096]⟩
abbrev S2048x512 : Shape := ⟨2, ![2048, 512]⟩
abbrev S16x512 : Shape := ⟨2, ![16, 512]⟩
abbrev S3x512 : Shape := ⟨2, ![3, 512]⟩
abbrev S512x2048 : Shape := ⟨2, ![512, 2048]⟩
abbrev S2064x512 : Shape := ⟨2, ![2064, 512]⟩
abbrev S1x512 : Shape := ⟨2, ![1, 512]⟩

abbrev nBuf : Space → Nat
  | .hbm => 4
  | .vmem => 12
  | .smem => 0
  | _ => 0

abbrev bufTy : (tb : Table) → Fin (tcTables nBuf tb) → BufTy
  | .hbm, ⟨0, _⟩ => ⟨S4096x12288, .bf16⟩
  | .hbm, ⟨1, _⟩ => ⟨S3x6144, .f32⟩
  | .hbm, ⟨2, _⟩ => ⟨S4096x6144, .bf16⟩
  | .hbm, ⟨3, _⟩ => ⟨S6144x4096, .bf16⟩
  | .local _ .vmem, ⟨0, _⟩ => ⟨S2048x512, .bf16⟩
  | .local _ .vmem, ⟨1, _⟩ => ⟨S2048x512, .bf16⟩
  | .local _ .vmem, ⟨2, _⟩ => ⟨S16x512, .bf16⟩
  | .local _ .vmem, ⟨3, _⟩ => ⟨S16x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel19Ideal.lean ====
variable {F : FTy → Type} [FloatOps F] [Named F]
def κ : String → Option EReal := fun
  | "gelu_cubic" => some ((80338380498831 / 2251799813685248 : ℝ) : EReal)
  | _ => none
-- ==== Reference19Ideal.lean ====
abbrev S4096x12288 : Shape := ⟨2, ![4096, 12288]⟩
abbrev S3x6144 : Shape := ⟨2, ![3, 6144]⟩
abbrev S4096x6144 : Shape := ⟨2, ![4096, 6144]⟩
abbrev S1x6144 : Shape := ⟨2, ![1, 6144]⟩
abbrev S6144 : Shape := ⟨1, ![6144]⟩
abbrev S_ : Shape := ⟨0, ![]⟩
abbrev S2x6144 : Shape := ⟨2, ![2, 6144]⟩
abbrev S4094x6144 : Shape := ⟨2, ![4094, 6144]⟩
abbrev S4095x6144 : Shape := ⟨2, ![4095, 6144]⟩
abbrev S6144x4096 : Shape := ⟨2, ![6144, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S3x6144, .f32⟩
  | .hbm, ⟨2, _⟩ => ⟨S4096x12288, .f32⟩
  | .hbm, ⟨3, _⟩ => ⟨S4096x6144, .f32⟩
  | .hbm, ⟨4, _⟩ => ⟨S4096x6144, .f32⟩
  | .hbm, ⟨5, _⟩ => ⟨S1x6144, .f32⟩
  | .hbm, ⟨6, _⟩ => ⟨S6144, .f32⟩
  | .hbm, ⟨7, _⟩ => ⟨S1x6144, .f32⟩
  | .hbm, ⟨8, _⟩ => ⟨S4096x6144, .f32⟩
  | .hbm, ⟨9, _⟩ => ⟨S4096x6144, .f32⟩
  | .hbm, ⟨10, _⟩ => ⟨S_, .f32⟩
  | .hbm, ⟨11, _⟩ => ⟨S2x6144, .f32⟩
  | .hbm, ⟨12, _⟩ => ⟨S4094x6144, .f32⟩
  | .hbm, ⟨13, _⟩ => ⟨S4096x6144, .f32⟩
  | .hbm, ⟨14, _⟩ => ⟨S1x6144, .f32⟩
  | .hbm, ⟨15, _⟩ => ⟨S6144, .f32⟩
  | .hbm, ⟨16, _⟩ => ⟨S1x6144, .f32⟩
  | .hbm, ⟨17, _⟩ => ⟨S4096x6144, .f32⟩
  | .hbm, ⟨18, _⟩ => ⟨S4096x6144, .f32⟩
  | .hbm, ⟨19, _⟩ => ⟨S4096x6144, .f32⟩
  | .hbm, ⟨20, _⟩ => ⟨S_, .f32⟩
  | .hbm, ⟨21, _⟩ => ⟨S1x6144, .f32⟩
  | .hbm, ⟨22, _⟩ => ⟨S4095x6144, .f32⟩
  | .hbm, ⟨23, _⟩ => ⟨S4096x6144, .f32⟩
  | .hbm, ⟨24, _⟩ => ⟨S1x6144, .f32⟩
  | .hbm, ⟨25, _⟩ => ⟨S6144, .f32⟩
  | .hbm, ⟨26, _⟩ => ⟨S1x6144, .f32⟩
  | .hbm, ⟨27, _⟩ => ⟨S4096x6144, .f32⟩
  | .hbm, ⟨28, _⟩ => ⟨S4096x6144, .f32⟩
  | .hbm, ⟨29, _⟩ => ⟨S4096x6144, .f32⟩
  | .hbm, ⟨30, _⟩ => ⟨S4096x6144, .f32⟩
  | .hbm, ⟨31, _⟩ => ⟨S4096x6144, .f32⟩
  | .hbm, ⟨32, _⟩ => ⟨S_, .f32⟩
  | .hbm, ⟨33, _⟩ => ⟨S4096x6144, .f32⟩
  | .hbm, ⟨34, _⟩ => ⟨S4096x6144, .f32⟩
  | .hbm, ⟨35, _⟩ => ⟨S4096x6144, .f32⟩
  | .hbm, ⟨36, _⟩ => ⟨S_, .f32⟩
  | .hbm, ⟨37, _⟩ => ⟨S4096x6144, .f32⟩
  | .hbm, ⟨38, _⟩ => ⟨S4096x6144, .f32⟩
  | .hbm, ⟨39, _⟩ => ⟨S4096x6144, .f32⟩
  | .hbm, ⟨40, _⟩ => ⟨S_, .f32⟩
  | .hbm, ⟨41, _⟩ => ⟨S4096x6144, .f32⟩
  | .hbm, ⟨42, _⟩ => ⟨S4096x6144, .f32⟩
  | .hbm, ⟨43, _⟩ => ⟨S_, .f32⟩
  | .hbm, ⟨44, _⟩ => ⟨S4096x6144, .f32⟩
  | .hbm, ⟨45, _⟩ => ⟨S4096x6144, .f32⟩
  | .hbm, ⟨46, _⟩ => ⟨S4096x6144, .f32⟩
  | .hbm, ⟨47, _⟩ => ⟨S4096x6144, .f32⟩
  | .hbm, ⟨48, _⟩ => ⟨S4096x6144, .bf16⟩
  | .hbm, ⟨49, _⟩ => ⟨S6144x4096, .f32⟩
  | .hbm, ⟨50, _⟩ => ⟨S6144x4096, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_1 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_v34 : Ref sig .tc := ⟨.hbm, 41, rfl⟩
abbrev main_v35 : Ref sig .tc := ⟨.hbm, 42, rfl⟩
abbrev main_cst_4 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Kernel20.lean ====
abbrev S4096x5376 : Shape := ⟨2, ![4096, 5376]⟩
abbrev S4x768 : Shape := ⟨2, ![4, 768]⟩
abbrev S1x768 : Shape := ⟨2, ![1, 768]⟩
abbrev S4096x768 : Shape := ⟨2, ![4096, 768]⟩
abbrev S4096x128 : Shape := ⟨2, ![4096, 128]⟩
abbrev S8x128 : Shape := ⟨2, ![8, 128]⟩
abbrev S4x128 : Shape := ⟨2, ![4, 128]⟩
abbrev S1x128 : Shape := ⟨2, ![1, 128]⟩
abbrev S4104x128 : Shape := ⟨2, ![4104, 128]⟩

abbrev nBuf : Space → Nat
  | .hbm => 4
  | .vmem => 10
  | .smem => 0
  | _ => 0

abbrev bufTy : (tb : Table) → Fin (tcTables nBuf tb) → BufTy
  | .hbm, ⟨0, _⟩ => ⟨S4096x5376, .f32⟩
  | .hbm, ⟨1, _⟩ => ⟨S4x768, .f32⟩
  | .hbm, ⟨2, _⟩ => ⟨S1x768, .f32⟩
  | .hbm, ⟨3, _⟩ => ⟨S4096x768, .f32⟩
  | .local _ .vmem, ⟨0, _⟩ => ⟨S4096x128, .f32⟩
  | .local _ .vmem, ⟨1, _⟩ => ⟨S4096x128, .f32⟩
  | .local _ .vmem, ⟨2, _⟩ => ⟨S8x128, .f32⟩
  | .local _ .vmem, ⟨3, _⟩ => ⟨S8x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1_i32 : BitVec 32 := 1#32
  let v1 : BitVec 32 := Scalar.subi v0 c1_i32
  let c0_i32 : BitVec 32 := 0#32
  let v2 : BitVec 32 := Scalar.maxsi v1 c0_i32
  let c30_i32 : BitVec 32 := 30#32
  let v3 : BitVec 32 := Scalar.addi c30_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference20Ideal.lean ====
abbrev S4096x5376 : Shape := ⟨2, ![4096, 5376]⟩
abbrev S4x768 : Shape := ⟨2, ![4, 768]⟩
abbrev S1x768 : Shape := ⟨2, ![1, 768]⟩
abbrev S4096x768 : Shape := ⟨2, ![4096, 768]⟩
abbrev S768 : Shape := ⟨1, ![768]⟩
abbrev S_ : Shape := ⟨0, ![]⟩
abbrev S3x768 : Shape := ⟨2, ![3, 768]⟩
abbrev S4093x768 : Shape := ⟨2, ![4093, 768]⟩
abbrev S2x768 : Shape := ⟨2, ![2, 768]⟩
abbrev S4094x768 : Shape := ⟨2, ![4094, 768]⟩
abbrev S4095x768 : Shape := ⟨2, ![4095, 768]⟩

abbrev nBuf : Space → Nat
  | .hbm => 41
  | .vmem => 0
  | .smem => 0
  | _ => 0

abbrev bufTy : (tb : Table) → Fin (tcTables nBuf tb) → BufTy
  | .hbm, ⟨0, _⟩ => ⟨S4096x5376, .f32⟩
  | .hbm, ⟨1, _⟩ => ⟨S4x768, .f32⟩
  | .hbm, ⟨2, _⟩ => ⟨S1x768, .f32⟩
  | .hbm, ⟨3, _⟩ => ⟨S4096x768, .f32⟩
  | .hbm, ⟨4, _⟩ => ⟨S1x768, .f32⟩
  | .hbm, ⟨5, _⟩ => ⟨S768, .f32⟩
  | .hbm, ⟨6, _⟩ => ⟨S1x768, .f32⟩
  | .hbm, ⟨7, _⟩ => ⟨S4096x768, .f32⟩
  | .hbm, ⟨8, _⟩ => ⟨S4096x768, .f32⟩
  | .hbm, ⟨9, _⟩ => ⟨S_, .f32⟩
  | .hbm, ⟨10, _⟩ => ⟨S3x768, .f32⟩
  | .hbm, ⟨11, _⟩ => ⟨S4093x768, .f32⟩
  | .hbm, ⟨12, _⟩ => ⟨S4096x768, .f32⟩
  | .hbm, ⟨13, _⟩ => ⟨S1x768, .f32⟩
  | .hbm, ⟨14, _⟩ => ⟨S768, .f32⟩
  | .hbm, ⟨15, _⟩ => ⟨S1x768, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S2x768, .f32⟩
  | .hbm, ⟨21, _⟩ => ⟨S4094x768, .f32⟩
  | .hbm, ⟨22, _⟩ => ⟨S4096x768, .f32⟩
  | .hbm, ⟨23, _⟩ => ⟨S1x768, .f32⟩
  | .hbm, ⟨24, _⟩ => ⟨S768, .f32⟩
  | .hbm, ⟨25, _⟩ => ⟨S1x768, .f32⟩
  | .hbm, ⟨26, _⟩ => ⟨S4096x768, .f32⟩
  | .hbm, ⟨27, _⟩ => ⟨S4096x768, .f32⟩
  | .hbm, ⟨28, _⟩ => ⟨S4096x768, .f32⟩
  | .hbm, ⟨29, _⟩ => ⟨S_, .f32⟩
  | .hbm, ⟨30, _⟩ => ⟨S1x768, .f32⟩
  | .hbm, ⟨31, _⟩ => ⟨S4095x768, .f32⟩
  | .hbm, ⟨32, _⟩ => ⟨S4096x768, .f32⟩
  | .hbm, ⟨33, _⟩ => ⟨S1x768, .f32⟩
  | .hbm, ⟨34, _⟩ => ⟨S768, .f32⟩
  | .hbm, ⟨35, _⟩ => ⟨S1x768, .f32⟩
  | .hbm, ⟨36, _⟩ => ⟨S4096x768, .f32⟩
  | .hbm, ⟨37, _⟩ => ⟨S4096x768, .f32⟩
  | .hbm, ⟨38, _⟩ => ⟨S4096x768, .f32⟩
  | .hbm, ⟨39, _⟩ => ⟨S4096x768, .f32⟩
  | .hbm, ⟨40, _⟩ => ⟨S4096x768, .f32⟩
  | _, _ => ⟨S4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== Kernel21.lean ====
abbrev S4096x5376 : Shape := ⟨2, ![4096, 5376]⟩
abbrev S4x2304 : Shape := ⟨2, ![4, 2304]⟩
abbrev S4096x2304 : Shape := ⟨2, ![4096, 2304]⟩
abbrev S4096x256 : Shape := ⟨2, ![4096, 256]⟩
abbrev S8x256 : Shape := ⟨2, ![8, 256]⟩
abbrev S4x256 : Shape := ⟨2, ![4, 256]⟩
abbrev S4104x256 : Shape := ⟨2, ![4104, 256]⟩
abbrev S1x256 : Shape := ⟨2, ![1, 256]⟩

abbrev nBuf : Space → Nat
  | .hbm => 3
  | .vmem => 8
  | .smem => 0
  | _ => 0

abbrev bufTy : (tb : Table) → Fin (tcTables nBuf tb) → BufTy
  | .hbm, ⟨0, _⟩ => ⟨S4096x5376, .f32⟩
  | .hbm, ⟨1, _⟩ => ⟨S4x2304, .f32⟩
  | .hbm, ⟨2, _⟩ => ⟨S4096x2304, .f32⟩
  | .local _ .vmem, ⟨0, _⟩ => ⟨S4096x256, .f32⟩
  | .local _ .vmem, ⟨1, _⟩ => ⟨S4096x256, .f32⟩
  | .local _ .vmem, ⟨2, _⟩ => ⟨S8x256, .f32⟩
  | .local _ .vmem, ⟨3, _⟩ => ⟨S8x256, .f32⟩
  | .local _ .vmem, ⟨4, _⟩ => ⟨S4x256, .f32⟩
  | .local _ .vmem, ⟨5, _⟩ => ⟨S4x256, .f32⟩
  | .local _ .vmem, ⟨6, _⟩ => ⟨S4096x256, .f32⟩
  | .local _ .vmem, ⟨7, _⟩ => ⟨S4096x256, .f32⟩
  | _, _ => ⟨S4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 1], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference21Ideal.lean ====
abbrev S4096x5376 : Shape := ⟨2, ![4096, 5376]⟩
abbrev S4x2304 : Shape := ⟨2, ![4, 2304]⟩
abbrev S4096x2304 : Shape := ⟨2, ![4096, 2304]⟩
abbrev S1x2304 : Shape := ⟨2, ![1, 2304]⟩
abbrev S2304 : Shape := ⟨1, ![2304]⟩
abbrev S_ : Shape := ⟨0, ![]⟩
abbrev S3x2304 : Shape := ⟨2, ![3, 2304]⟩
abbrev S4093x2304 : Shape := ⟨2, ![4093, 2304]⟩
abbrev S2x2304 : Shape := ⟨2, ![2, 2304]⟩
abbrev S4094x2304 : Shape := ⟨2, ![4094, 2304]⟩
abbrev S4095x2304 : Shape := ⟨2, ![4095, 2304]⟩

abbrev nBuf : Space → Nat
  | .hbm => 38
  | .vmem => 0
  | .smem => 0
  | _ => 0

abbrev bufTy : (tb : Table) → Fin (tcTables nBuf tb) → BufTy
  | .hbm, ⟨0, _⟩ => ⟨S4096x5376, .f32⟩
  | .hbm, ⟨1, _⟩ => ⟨S4x2304, .f32⟩
  | .hbm, ⟨2, _⟩ => ⟨S4096x2304, .f32⟩
  | .hbm, ⟨3, _⟩ => ⟨S1x2304, .f32⟩
  | .hbm, ⟨4, _⟩ => ⟨S2304, .f32⟩
  | .hbm, ⟨5, _⟩ => ⟨S1x2304, .f32⟩
  | .hbm, ⟨6, _⟩ => ⟨S4096x2304, .f32⟩
  | .hbm, ⟨7, _⟩ => ⟨S4096x2304, .f32⟩
  | .hbm, ⟨8, _⟩ => ⟨S_, .f32⟩
  | .hbm, ⟨9, _⟩ => ⟨S3x2304, .f32⟩
  | .hbm, ⟨10, _⟩ => ⟨S4093x2304, .f32⟩
  | .hbm, ⟨11, _⟩ => ⟨S4096x2304, .f32⟩
  | .hbm, ⟨12, _⟩ => ⟨S1x2304, .f32⟩
  | .hbm, ⟨13, _⟩ => ⟨S2304, .f32⟩
  | .hbm, ⟨14, _⟩ => ⟨S1x2304, .f32⟩
  | .hbm, ⟨15, _⟩ => ⟨S4096x2304, .f32⟩
  | .hbm, ⟨16, _⟩ => ⟨S4096x2304, .f32⟩
  | .hbm, ⟨17, _⟩ => ⟨S4096x2304, .f32⟩
  | .hbm, ⟨18, _⟩ => ⟨S_, .f32⟩
  | .hbm, ⟨19, _⟩ => ⟨S2x2304, .f32⟩
  | .hbm, ⟨20, _⟩ => ⟨S4094x2304, .f32⟩
  | .hbm, ⟨21, _⟩ => ⟨S4096x2304, .f32⟩
  | .hbm, ⟨22, _⟩ => ⟨S1x2304, .f32⟩
  | .hbm, ⟨23, _⟩ => ⟨S2304, .f32⟩
  | .hbm, ⟨24, _⟩ => ⟨S1x2304, .f32⟩
  | .hbm, ⟨25, _⟩ => ⟨S4096x2304, .f32⟩
  | .hbm, ⟨26, _⟩ => ⟨S4096x2304, .f32⟩
  | .hbm, ⟨27, _⟩ => ⟨S4096x2304, .f32⟩
  | .hbm, ⟨28, _⟩ => ⟨S_, .f32⟩
  | .hbm, ⟨29, _⟩ => ⟨S1x2304, .f32⟩
  | .hbm, ⟨30, _⟩ => ⟨S4095x2304, .f32⟩
  | .hbm, ⟨31, _⟩ => ⟨S4096x2304, .f32⟩
  | .hbm, ⟨32, _⟩ => ⟨S1x2304, .f32⟩
  | .hbm, ⟨33, _⟩ => ⟨S2304, .f32⟩
  | .hbm, ⟨34, _⟩ => ⟨S1x2304, .f32⟩
  | .hbm, ⟨35, _⟩ => ⟨S4096x2304, .f32⟩
  | .hbm, ⟨36, _⟩ => ⟨S4096x2304, .f32⟩
  | .hbm, ⟨37, _⟩ => ⟨S4096x2304, .f32⟩
  | _, _ => ⟨S4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== Kernel22.lean ====
abbrev S4096x768 : Shape := ⟨2, ![4096, 768]⟩
abbrev S4096x5376 : Shape := ⟨2, ![4096, 5376]⟩
abbrev S4x768 : Shape := ⟨2, ![4, 768]⟩
abbrev S1x768 : Shape := ⟨2, ![1, 768]⟩
abbrev S2048x128 : Shape := ⟨2, ![2048, 128]⟩
abbrev S8x128 : Shape := ⟨2, ![8, 128]⟩
abbrev S4x128 : Shape := ⟨2, ![4, 128]⟩
abbrev S1x128 : Shape := ⟨2, ![1, 128]⟩
abbrev S2056x128 : Shape := ⟨2, ![2056, 128]⟩
abbrev S128 : Shape := ⟨1, ![128]⟩

abbrev nBuf : Space → Nat
  | .hbm => 7
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x5376, .f32⟩
  | .hbm, ⟨2, _⟩ => ⟨S4x768, .f32⟩
  | .hbm, ⟨3, _⟩ => ⟨S4096x5376, .bf16⟩
  | .hbm, ⟨4, _⟩ => ⟨S4096x5376, .bf16⟩
  | .hbm, ⟨5, _⟩ => ⟨S4x768, .f32⟩
  | .hbm, ⟨6, _⟩ => ⟨S1x768, .f32⟩
  | .local _ .vmem, ⟨0, _⟩ => ⟨S2048x128, .f32⟩
  | .local _ .vmem, ⟨1, _⟩ => ⟨S2048x128, .f32⟩
  | .local _ .vmem, ⟨2, _⟩ => ⟨S8x128, .f32⟩
  | .local _ .vmem, ⟨3, _⟩ => ⟨S8x128, .f32⟩
  | .local _ .vmem, ⟨4, _⟩ => ⟨S2048x128, .f32⟩
  | .local _ .vmem, ⟨5, _⟩ => ⟨S2048x128, .f32⟩
  | .local _ .vmem, ⟨6, _⟩ => ⟨S8x128, .f32⟩
  | .local _ .vmem, ⟨7, _⟩ => ⟨S8x128, .f32⟩
  | .local _ .vmem, ⟨8, _⟩ => ⟨S4x128, .f32⟩
  | .local _ .vmem, ⟨9, _⟩ => ⟨S4x128, .f32⟩
  | .local _ .vmem, ⟨10, _⟩ => ⟨S2048x128, .bf16⟩
  | .local _ .vmem, ⟨11, _⟩ => ⟨S2048x128, .bf16⟩
  | .local _ .vmem, ⟨12, _⟩ => ⟨S4x128, .f32⟩
  | .local _ .vmem, ⟨13, _⟩ => ⟨S4x128, .f32⟩
  | .local _ .vmem, ⟨14, _⟩ => ⟨S1x128, .f32⟩
  | .local _ .vmem, ⟨15, _⟩ => ⟨S1x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c30_i32 : BitVec 32 := 30#32
  let v3 : BitVec 32 := Scalar.addi c30_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference22Ideal.lean ====
abbrev S4096x768 : Shape := ⟨2, ![4096, 768]⟩
abbrev S4096x5376 : Shape := ⟨2, ![4096, 5376]⟩
abbrev S4x768 : Shape := ⟨2, ![4, 768]⟩
abbrev S_ : Shape := ⟨0, ![]⟩
abbrev S1x768 : Shape := ⟨2, ![1, 768]⟩
abbrev S768 : Shape := ⟨1, ![768]⟩
abbrev S3x768 : Shape := ⟨2, ![3, 768]⟩
abbrev S4093x768 : Shape := ⟨2, ![4093, 768]⟩
abbrev S2x768 : Shape := ⟨2, ![2, 768]⟩
abbrev S4094x768 : Shape := ⟨2, ![4094, 768]⟩
abbrev S4095x768 : Shape := ⟨2, ![4095, 768]⟩
abbrev S4096x3840 : Shape := ⟨2, ![4096, 3840]⟩

abbrev nBuf : Space → Nat
  | .hbm => 120
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x5376, .f32⟩
  | .hbm, ⟨2, _⟩ => ⟨S4x768, .f32⟩
  | .hbm, ⟨3, _⟩ => ⟨S4096x5376, .bf16⟩
  | .hbm, ⟨4, _⟩ => ⟨S4096x768, .f32⟩
  | .hbm, ⟨5, _⟩ => ⟨S_, .f32⟩
  | .hbm, ⟨6, _⟩ => ⟨S1x768, .f32⟩
  | .hbm, ⟨7, _⟩ => ⟨S1x768, .f32⟩
  | .hbm, ⟨8, _⟩ => ⟨S768, .f32⟩
  | .hbm, ⟨9, _⟩ => ⟨S1x768, .f32⟩
  | .hbm, ⟨10, _⟩ => ⟨S4096x768, .f32⟩
  | .hbm, ⟨11, _⟩ => ⟨S4096x768, .f32⟩
  | .hbm, ⟨12, _⟩ => ⟨S_, .f32⟩
  | .hbm, ⟨13, _⟩ => ⟨S3x768, .f32⟩
  | .hbm, ⟨14, _⟩ => ⟨S4093x768, .f32⟩
  | .hbm, ⟨15, _⟩ => ⟨S4096x768, .f32⟩
  | .hbm, ⟨16, _⟩ => ⟨S_, .f32⟩
  | .hbm, ⟨17, _⟩ => ⟨S3x768, .f32⟩
  | .hbm, ⟨18, _⟩ => ⟨S1x768, .f32⟩
  | .hbm, ⟨19, _⟩ => ⟨S768, .f32⟩
  | .hbm, ⟨20, _⟩ => ⟨S1x768, .f32⟩
  | .hbm, ⟨21, _⟩ => ⟨S4096x768, .f32⟩
  | .hbm, ⟨22, _⟩ => ⟨S4096x768, .f32⟩
  | .hbm, ⟨23, _⟩ => ⟨S4096x768, .f32⟩
  | .hbm, ⟨24, _⟩ => ⟨S_, .f32⟩
  | .hbm, ⟨25, _⟩ => ⟨S2x768, .f32⟩
  | .hbm, ⟨26, _⟩ => ⟨S4094x768, .f32⟩
  | .hbm, ⟨27, _⟩ => ⟨S4096x768, .f32⟩
  | .hbm, ⟨28, _⟩ => ⟨S_, .f32⟩
  | .hbm, ⟨29, _⟩ => ⟨S2x768, .f32⟩
  | .hbm, ⟨30, _⟩ => ⟨S1x768, .f32⟩
  | .hbm, ⟨31, _⟩ => ⟨S768, .f32⟩
  | .hbm, ⟨32, _⟩ => ⟨S1x768, .f32⟩
  | .hbm, ⟨33, _⟩ => ⟨S4096x768, .f32⟩
  | .hbm, ⟨34, _⟩ => ⟨S4096x768, .f32⟩
  | .hbm, ⟨35, _⟩ => ⟨S4096x768, .f32⟩
  | .hbm, ⟨36, _⟩ => ⟨S_, .f32⟩
  | .hbm, ⟨37, _⟩ => ⟨S1x768, .f32⟩
  | .hbm, ⟨38, _⟩ => ⟨S4095x768, .f32⟩
  | .hbm, ⟨39, _⟩ => ⟨S4096x768, .f32⟩
  | .hbm, ⟨40, _⟩ => ⟨S_, .f32⟩
  | .hbm, ⟨41, _⟩ => ⟨S1x768, .f32⟩
  | .hbm, ⟨42, _⟩ => ⟨S1x768, .f32⟩
  | .hbm, ⟨43, _⟩ => ⟨S768, .f32⟩
  | .hbm, ⟨44, _⟩ => ⟨S1x768, .f32⟩
  | .hbm, ⟨45, _⟩ => ⟨S4096x768, .f32⟩
  | .hbm, ⟨46, _⟩ => ⟨S4096x768, .f32⟩
  | .hbm, ⟨47, _⟩ => ⟨S4096x768, .f32⟩
  | .hbm, ⟨48, _⟩ => ⟨S4096x768, .f32⟩
  | .hbm, ⟨49, _⟩ => ⟨S4096x768, .f32⟩
  | .hbm, ⟨50, _⟩ => ⟨S4096x768, .f32⟩
  | .hbm, ⟨51, _⟩ => ⟨S_, .f32⟩
  | .hbm, ⟨52, _⟩ => ⟨S768, .f32⟩
  | .hbm, ⟨53, _⟩ => ⟨S1x768, .f32⟩
  | .hbm, ⟨54, _⟩ => ⟨S4096x768, .f32⟩
  | .hbm, ⟨55, _⟩ => ⟨S_, .f32⟩
  | .hbm, ⟨56, _⟩ => ⟨S768, .f32⟩
  | .hbm, ⟨57, _⟩ => ⟨S1x768, .f32⟩
  | .hbm, ⟨58, _⟩ => ⟨S4096x768, .f32⟩
  | .hbm, ⟨59, _⟩ => ⟨S4096x768, .f32⟩
  | .hbm, ⟨60, _⟩ => ⟨S_, .f32⟩
  | .hbm, ⟨61, _⟩ => ⟨S768, .f32⟩
  | .hbm, ⟨62, _⟩ => ⟨S1x768, .f32⟩
  | .hbm, ⟨63, _⟩ => ⟨S_, .f32⟩
  | .hbm, ⟨64, _⟩ => ⟨S4x768, .f32⟩
  | .hbm, ⟨65, _⟩ => ⟨S1x768, .f32⟩
  | .hbm, ⟨66, _⟩ => ⟨S4095x768, .f32⟩
  | .hbm, ⟨67, _⟩ => ⟨S_, .f32⟩
  | .hbm, ⟨68, _⟩ => ⟨S4096x768, .f32⟩
  | .hbm, ⟨69, _⟩ => ⟨S4096x768, .f32⟩
  | .hbm, ⟨70, _⟩ => ⟨S_, .f32⟩
  | .hbm, ⟨71, _⟩ => ⟨S768, .f32⟩
  | .hbm, ⟨72, _⟩ => ⟨S1x768, .f32⟩
  | .hbm, ⟨73, _⟩ => ⟨S4096x768, .f32⟩
  | .hbm, ⟨74, _⟩ => ⟨S4096x768, .f32⟩
  | .hbm, ⟨75, _⟩ => ⟨S_, .f32⟩
  | .hbm, ⟨76, _⟩ => ⟨S768, .f32⟩
  | .hbm, ⟨77, _⟩ => ⟨S1x768, .f32⟩
  | .hbm, ⟨78, _⟩ => ⟨S_, .f32⟩
  | .hbm, ⟨79, _⟩ => ⟨S4x768, .f32⟩
  | .hbm, ⟨80, _⟩ => ⟨S4x768, .f32⟩
  | .hbm, ⟨81, _⟩ => ⟨S2x768, .f32⟩
  | .hbm, ⟨82, _⟩ => ⟨S4094x768, .f32⟩
  | .hbm, ⟨83, _⟩ => ⟨S_, .f32⟩
  | .hbm, ⟨84, _⟩ => ⟨S4096x768, .f32⟩
  | .hbm, ⟨85, _⟩ => ⟨S4096x768, .f32⟩
  | .hbm, ⟨86, _⟩ => ⟨S4096x768, .f32⟩
  | .hbm, ⟨87, _⟩ => ⟨S_, .f32⟩
  | .hbm, ⟨88, _⟩ => ⟨S768, .f32⟩
  | .hbm, ⟨89, _⟩ => ⟨S1x768, .f32⟩
  | .hbm, ⟨90, _⟩ => ⟨S4096x768, .f32⟩
  | .hbm, ⟨91, _⟩ => ⟨S4096x768, .f32⟩
  | .hbm, ⟨92, _⟩ => ⟨S_, .f32⟩
  | .hbm, ⟨93, _⟩ => ⟨S768, .f32⟩
  | .hbm, ⟨94, _⟩ => ⟨S1x768, .f32⟩
  | .hbm, ⟨95, _⟩ => ⟨S_, .f32⟩
  | .hbm, ⟨96, _⟩ => ⟨S4x768, .f32⟩
  | .hbm, ⟨97, _⟩ => ⟨S4x768, .f32⟩
  | .hbm, ⟨98, _⟩ => ⟨S3x768, .f32⟩
  | .hbm, ⟨99, _⟩ => ⟨S4093x768, .f32⟩
  | .hbm, ⟨100, _⟩ => ⟨S_, .f32⟩
  | .hbm, ⟨101, _⟩ => ⟨S4096x768, .f32⟩
  | .hbm, ⟨102, _⟩ => ⟨S4096x768, .f32⟩
  | .hbm, ⟨103, _⟩ => ⟨S4096x768, .f32⟩
  | .hbm, ⟨104, _⟩ => ⟨S_, .f32⟩
  | .hbm, ⟨105, _⟩ => ⟨S768, .f32⟩
  | .hbm, ⟨106, _⟩ => ⟨S1x768, .f32⟩
  | .hbm, ⟨107, _⟩ => ⟨S4096x768, .f32⟩
  | .hbm, ⟨108, _⟩ => ⟨S4096x768, .f32⟩
  | .hbm, ⟨109, _⟩ => ⟨S4096x768, .f32⟩
  | .hbm, ⟨110, _⟩ => ⟨S_, .f32⟩
  | .hbm, ⟨111, _⟩ => ⟨S768, .f32⟩
  | .hbm, ⟨112, _⟩ => ⟨S1x768, .f32⟩
  | .hbm, ⟨113, _⟩ => ⟨S_, .f32⟩
  | .hbm, ⟨114, _⟩ => ⟨S4x768, .f32⟩
  | .hbm, ⟨115, _⟩ => ⟨S4x768, .f32⟩
  | .hbm, ⟨116, _⟩ => ⟨S4096x3840, .bf16⟩
  | .hbm, ⟨117, _⟩ => ⟨S4096x768, .bf16⟩
  | .hbm, ⟨118, _⟩ => ⟨S4096x768, .bf16⟩
  | .hbm, ⟨119, _⟩ => ⟨S4096x5376, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_15 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_16 : Ref sig .tc := ⟨.hbm, 92, rfl⟩
abbrev main_v71 : Ref sig .tc := ⟨.hbm, 93, rfl⟩
abbrev main_v72 : Ref sig .tc := ⟨.hbm, 94, rfl⟩
abbrev main_cst_17 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_19 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_20 : Ref sig .tc := ⟨.hbm, 110, rfl⟩
abbrev main_v85 : Ref sig .tc := ⟨.hbm, 111, rfl⟩
abbrev main_v86 : Ref sig .tc := ⟨.hbm, 112, rfl⟩
abbrev main_cst_21 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== Proof.Spec.lean ====
module

public import Idealize.ShloMosaic.PureOps.Ideal.Laws
public import Idealize.ShloMosaic.Lib.IdealHost
public import Idealize.ShloMosaic.Lib.Pointwise

/-! The gated feed-forward layer's backward pass over the real numbers, column by column: `d` is the
cotangent of the layer's activation, `u` the two halves of the up projection side by side (columns
`0 … 6143` the gate, `6144 … 12287` the value), `w` the three taps of the causal convolution. Rows and
columns are natural numbers. -/

@[expose] public section

noncomputable section

namespace Cert.Spec

open Idealize.ShloMosaic

/-- The real number of the float32 word nearest to √(2/π). -/
def g0 : ℝ := 6693141 / 8388608
/-- The real number of the float32 word nearest to 0.044715. -/
def g1 : ℝ := 12003091 / 268435456

/-- The hyperbolic tangent inside GELU. -/
def th (x : ℝ) : ℝ := Real.tanh (x * (g0 + g0 * g1 * (x * x)))
/-- GELU in its tanh form. -/
def gelu (x : ℝ) : ℝ := 1 / 2 * x * (1 + th x)
/-- The derivative of `gelu`. -/
def slope (x : ℝ) : ℝ := 1 / 2 * (1 + th x) + 1 / 2 * x * (1 - th x * th x) * (g0 + 3 * (g0 * g1) * (x * x))

variable (d u w : ℕ → ℕ → ℝ)

/-- The gate's row `t - s`, zero before the first row. -/
def sh (s t c : ℕ) : ℝ := if s ≤ t then u (t - s) c else 0
/-- The gate after the causal convolution. -/
def cv (t c : ℕ) : ℝ := u t c * w 2 c + sh u 2 t c * w 0 c + sh u 1 t c * w 1 c
/-- The cotangent of the convolved gate; zero after the last row. -/
def e (t c : ℕ) : ℝ := if t < 4096 then d t c * u t (6144 + c) * slope (cv u w t c) else 0
/-- The cotangent of the value half. -/
def dval (t c : ℕ) : ℝ := d t c * gelu (cv u w t c)
/-- The cotangent of the gate half. -/
def dgate (t c : ℕ) : ℝ := e d u w t c * w 2 c + e d u w (t + 2) c * w 0 c + e d u w (t + 1) c * w 1 c
/-- The cotangent of the convolution's taps. -/
def dw (j c : ℕ) : ℝ := ∑ t : Fin 4096, e d u w t.val c * sh u (2 - j) t.val c

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

theorem ofBits_half : Ideal.ofBits .f32 0x3F000000#32 = ((1 / 2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_g0 : Ideal.ofBits .f32 0x3F4C422A#32 = (g0 : EReal) := by
  simp [Ideal.ofBits, Ideal.ieee, -EReal.coe_mul, g0]; norm_num
theorem ofBits_g1 : Ideal.ofBits .f32 0x3D372713#32 = (g1 : EReal) := by
  simp [Ideal.ofBits, Ideal.ieee, -EReal.coe_mul, g1]; norm_num

end Cert.Spec

end
-- ==== Proof.Pre.lean ====
module

public import proofs.«01_k».proof.Pre_finite
public import Idealize.ShloMosaic.Lib.ReduceAll
public import proofs.«01_k».proof.Proof.Spec

/-! The precondition, read element by element: every element of the three arguments is a real number. -/

@[expose] public section

noncomputable section

namespace Cert.Pre

open Cert.Pre_finite Idealize.ShloMosaic Idealize.ShloMosaic.Pointwise

theorem ofBits_inf : Ideal.ofBits .f32 0x7F800000#32 = ⊤ := by
  simp [Ideal.ofBits, Ideal.ieee]

instance : Subsingleton S_.Idx := ⟨fun _ _ => funext fun a => a.elim0⟩

/-- An extended real whose absolute value is below infinity is a real number. -/
theorem real_of_lt (x : EReal) (h : Ideal.cmp .olt (max x (-x)) ⊤ = 1#1) : x = (x.toReal : EReal) := by
  have hlt : max x (-x) < ⊤ := by
    by_contra hn
    simp [Ideal.cmp, hn] at h
  refine (EReal.coe_toReal ?_ ?_).symm
  · rintro rfl
    simp at hlt
  · rintro rfl
    simp at hlt

variable [Facts] (x0 : FVec Ideal S4096x6144 .bf16) (x1 : FVec Ideal S4096x12288 .bf16) (x2 : FVec Ideal S3x6144 .f32)
  (h : fn (F := Ideal) x0 x1 x2 = fun _ => 1#1)

include h

theorem all_real : (∀ i, x0 i = ((x0 i).toReal : EReal)) ∧ (∀ i, x1 i = ((x1 i).toReal : EReal)) ∧ ∀ i, x2 i = ((x2 i).toReal : EReal) := by
  have e := congrFun h (fun a => a.elim0)
  dsimp only [fn] at e
  obtain ⟨e01, e2⟩ := IntOp.andi_eq_one.mp e
  obtain ⟨e0, e1⟩ := IntOp.andi_eq_one.mp e01
  refine ⟨fun i => ?_, fun i => ?_, fun i => ?_⟩
  · have := Host.reduce_andi_all _ _ _ _ _ e0 i
    refine real_of_lt _ ?_
    rw [← ofBits_inf]
    exact this
  · have := Host.reduce_andi_all _ _ _ _ _ e1 i
    refine real_of_lt _ ?_
    rw [← ofBits_inf]
    exact this
  · have := Host.reduce_andi_all _ _ _ _ _ e2 i
    refine real_of_lt _ ?_
    rw [← ofBits_inf]
    exact this

end Cert.Pre

end
-- ==== Proof.Recurrence.Scan.lean ====
module

public import Idealize.ShloMosaic.PureOps.Ideal.Laws
public import Idealize.ShloMosaic.Lib.IdealHost
public import Idealize.ShloMosaic.Lib.Pointwise
public import Idealize.ShloMosaic.Lib.Pipeline.Value
public import Idealize.ShloMosaic.Lib.KernelVsHost

/-! The linear recurrence `h t = a t * h (t - 1) + b t` along the rows of a 768-column array, computed by
combining neighbouring rows: the level above has half the rows, and its solution is this level's odd rows.
And its pullback, computed the same way. Arrays are extended reals whose every element is a real number;
`lift n X` is the array of `n` rows of the real function `X`. -/

@[expose] public section

noncomputable section

namespace Cert.Scan

open Idealize.ShloMosaic Idealize.ShloMosaic.Pointwise

/-- `n` rows of 768. -/
abbrev R (n : ℕ) : Shape := ⟨2, ![n, 768]⟩
/-- `n` pairs of rows, each pair side by side. -/
abbrev P (n : ℕ) : Shape := ⟨2, ![n, 1536]⟩

/-- The array of a real function. -/
def lift (n : ℕ) (X : ℕ → ℕ → ℝ) : (R n).Idx → EReal := fun i => ((X (i 0).val (i 1).val : ℝ) : EReal)

/-! ### The operations of a level -/

variable {n : ℕ} (X Y : ℕ → ℕ → ℝ)

theorem mul_lift : mulf (F := Ideal) (φ := .f32) (lift n X) (lift n Y) = lift n (fun k c => X k c * Y k c) :=
  funext fun _ => (EReal.coe_mul _ _).symm

theorem add_lift : addf (F := Ideal) (φ := .f32) (lift n X) (lift n Y) = lift n (fun k c => X k c + Y k c) :=
  funext fun _ => (EReal.coe_add _ _).symm

theorem lift_congr {X Y : ℕ → ℕ → ℝ} (h : ∀ k, k < n → ∀ c, X k c = Y k c) : lift n X = lift n Y :=
  funext fun i => by rw [lift, lift, h _ (i 0).isLt]

theorem even_lift (h : (R (n * 2)).ShapeCasts (P n)) (h' : (P n).Slices ![0, 0] (R n)) :
    extractStridedSlice (R n) ![0, 0] (shapeCast (P n) (lift (n * 2) X) h) h' = lift n (fun k c => X (k * 2) c) := by
  funext i
  have h0 : (i 0).val < n := (i 0).isLt
  have h1 : (i 1).val < 768 := (i 1).isLt
  rw [extractStridedSlice_apply _ _ h' i (ix2 ⟨(i 0).val, h0⟩ ⟨(i 1).val, by omega⟩) (fun a => by
      match a with
      | ⟨0, _⟩ => exact (Nat.zero_add _).symm
      | ⟨1, _⟩ => exact (Nat.zero_add _).symm),
    shapeCast_apply _ h _ (ix2 ⟨(i 0).val * 2, by omega⟩ ⟨(i 1).val, h1⟩) (by
      rw [Shape.rowMajor_val_two, Shape.rowMajor_val_two]
      show (i 0).val * 2 * 768 + (i 1).val = (i 0).val * 1536 + (i 1).val
      omega)]
  rfl

theorem odd_lift (h : (R (n * 2)).ShapeCasts (P n)) (h' : (P n).Slices ![0, 768] (R n)) :
    extractStridedSlice (R n) ![0, 768] (shapeCast (P n) (lift (n * 2) X) h) h' = lift n (fun k c => X (k * 2 + 1) c) := by
  funext i
  have h0 : (i 0).val < n := (i 0).isLt
  have h1 : (i 1).val < 768 := (i 1).isLt
  rw [extractStridedSlice_apply _ _ h' i (ix2 ⟨(i 0).val, h0⟩ ⟨768 + (i 1).val, by omega⟩) (fun a => by
      match a with
      | ⟨0, _⟩ => exact (Nat.zero_add _).symm
      | ⟨1, _⟩ => rfl),
    shapeCast_apply _ h _ (ix2 ⟨(i 0).val * 2 + 1, by omega⟩ ⟨(i 1).val, h1⟩) (by
      rw [Shape.rowMajor_val_two, Shape.rowMajor_val_two]
      show ((i 0).val * 2 + 1) * 768 + (i 1).val = (i 0).val * 1536 + (768 + (i 1).val)
      omega)]
  rfl

/-- The rows one later, zero in the first. -/
theorem before_lift (z : (R 1).Idx → EReal) (hz : ∀ i, z i = 0) (h : Shape.Concatenates [R 1, R n] (R (n + 1)) 0)
    (h' : (R (n + 1)).Slices ![0, 0] (R n)) :
    extractStridedSlice (R n) ![0, 0] (concatenate (R (n + 1)) 0 [⟨R 1, z⟩, ⟨R n, lift n X⟩] h) h'
      = lift n (fun k c => if k = 0 then 0 else X (k - 1) c) := by
  funext i
  have h0 : (i 0).val < n := (i 0).isLt
  have h1 : (i 1).val < 768 := (i 1).isLt
  rw [extractStridedSlice_apply _ _ h' i (ix2 ⟨(i 0).val, by omega⟩ ⟨(i 1).val, h1⟩) (fun a => by
      match a with
      | ⟨0, _⟩ => exact (Nat.zero_add _).symm
      | ⟨1, _⟩ => exact (Nat.zero_add _).symm)]
  by_cases hk : (i 0).val = 0
  · rw [concatenate_pair_apply_left 0 _ _ h _ rfl (ix2 ⟨0, by omega⟩ ⟨(i 1).val, h1⟩) (fun b => by
      match b with
      | ⟨0, _⟩ => exact hk.symm
      | ⟨1, _⟩ => rfl), hz]
    simp only [lift, hk, if_true]; exact EReal.coe_zero.symm
  · rw [concatenate_pair_apply_right 0 _ _ h _ rfl rfl (ix2 ⟨(i 0).val - 1, by omega⟩ ⟨(i 1).val, h1⟩) (fun b hb => by
      match b with
      | ⟨0, _⟩ => exact absurd rfl hb
      | ⟨1, _⟩ => rfl) (by show (i 0).val - 1 + 1 = (i 0).val; omega)]
    simp only [lift, hk, if_false]; rfl

/-- Even and odd rows interleaved. -/
def weave (X Y : ℕ → ℕ → ℝ) : ℕ → ℕ → ℝ := fun t c => if t % 2 = 0 then X (t / 2) c else Y (t / 2) c

theorem join_lift (h : Shape.Concatenates [R n, R n] (P n) 1) (h' : (P n).ShapeCasts (R (n * 2))) :
    shapeCast (R (n * 2)) (concatenate (P n) 1 [⟨R n, lift n X⟩, ⟨R n, lift n Y⟩] h) h' = lift (n * 2) (weave X Y) := by
  funext i
  have h0 : (i 0).val < n * 2 := (i 0).isLt
  have h1 : (i 1).val < 768 := (i 1).isLt
  rw [shapeCast_apply _ h' i (ix2 ⟨(i 0).val / 2, by omega⟩ ⟨(i 0).val % 2 * 768 + (i 1).val, by omega⟩) (by
      rw [Shape.rowMajor_val_two, Shape.rowMajor_val_two]
      show (i 0).val / 2 * 1536 + ((i 0).val % 2 * 768 + (i 1).val) = (i 0).val * 768 + (i 1).val
      omega)]
  by_cases hk : (i 0).val % 2 = 0
  · rw [concatenate_pair_apply_left 1 _ _ h _ rfl (ix2 ⟨(i 0).val / 2, by omega⟩ ⟨(i 1).val, h1⟩) (fun b => by
      match b with
      | ⟨0, _⟩ => rfl
      | ⟨1, _⟩ => show (i 1).val = (i 0).val % 2 * 768 + (i 1).val; omega)]
    simp only [lift, weave, hk, if_true]; rfl
  · rw [concatenate_pair_apply_right 1 _ _ h _ rfl rfl (ix2 ⟨(i 0).val / 2, by omega⟩ ⟨(i 1).val, h1⟩) (fun b hb => by
      match b with
      | ⟨0, _⟩ => rfl
      | ⟨1, _⟩ => exact absurd rfl hb) (by show (i 1).val + 768 = (i 0).val % 2 * 768 + (i 1).val; omega)]
    simp only [lift, weave, hk, if_false]; rfl

/-- The rows one earlier, zero in the last. -/
theorem after_lift {u : Shape} (v : u.Idx → EReal) (hv : ∀ i, v i = 0) (h : (R n).Pads ![0, 0] ![1, 0] ![0, 0] (R (n + 1)))
    (hu : 0 < u.numel) (h' : (R (n + 1)).Slices ![1, 0] (R n)) :
    extractStridedSlice (R n) ![1, 0] (pad (R (n + 1)) ![0, 0] ![1, 0] ![0, 0] (lift n X) v h hu) h'
      = lift n (fun k c => if k + 1 < n then X (k + 1) c else 0) := by
  funext i
  have h0 : (i 0).val < n := (i 0).isLt
  have h1 : (i 1).val < 768 := (i 1).isLt
  rw [extractStridedSlice_apply _ _ h' i (ix2 ⟨(i 0).val + 1, by omega⟩ ⟨(i 1).val, h1⟩) (fun a => by
      match a with
      | ⟨0, _⟩ => exact Nat.add_comm _ _
      | ⟨1, _⟩ => exact (Nat.zero_add _).symm)]
  by_cases hk : (i 0).val + 1 < n
  · rw [pad_apply_of_inside _ _ _ _ _ h hu _ (ix2 ⟨(i 0).val + 1, hk⟩ ⟨(i 1).val, h1⟩) (fun a => by
      match a with
      | ⟨0, _⟩ => show (i 0).val + 1 = 0 + ((i 0).val + 1) * (0 + 1); omega
      | ⟨1, _⟩ => show (i 1).val = 0 + (i 1).val * (0 + 1); omega)]
    simp only [lift, hk, if_true]; rfl
  · rw [pad_apply_of_not_inside _ _ _ _ _ h hu _ 0 (by
      show ¬(0 ≤ (i 0).val + 1 ∧ ((i 0).val + 1 - 0) % (0 + 1) = 0 ∧ ((i 0).val + 1 - 0) / (0 + 1) < n)
      rw [Nat.sub_zero, Nat.zero_add, Nat.div_one]; omega), hv]
    simp only [lift, hk, if_false]; exact EReal.coe_zero.symm

/-- Odd rows padded on the left and even rows on the right, added and interleaved. -/
theorem addJoin_lift {u : Shape} (v v' : u.Idx → EReal) (hv : ∀ i, v i = 0) (hv' : ∀ i, v' i = 0)
    (h : (R n).Pads ![0, 768] ![0, 0] ![0, 0] (P n)) (h₂ : (R n).Pads ![0, 0] ![0, 768] ![0, 0] (P n)) (hu hu' : 0 < u.numel)
    (h' : (P n).ShapeCasts (R (n * 2))) :
    shapeCast (R (n * 2)) (addf (F := Ideal) (φ := .f32) (pad (P n) ![0, 768] ![0, 0] ![0, 0] (lift n Y) v h hu)
        (pad (P n) ![0, 0] ![0, 768] ![0, 0] (lift n X) v' h₂ hu')) h' = lift (n * 2) (weave X Y) := by
  funext i
  have h0 : (i 0).val < n * 2 := (i 0).isLt
  have h1 : (i 1).val < 768 := (i 1).isLt
  rw [shapeCast_apply _ h' i (ix2 ⟨(i 0).val / 2, by omega⟩ ⟨(i 0).val % 2 * 768 + (i 1).val, by omega⟩) (by
      rw [Shape.rowMajor_val_two, Shape.rowMajor_val_two]
      show (i 0).val / 2 * 1536 + ((i 0).val % 2 * 768 + (i 1).val) = (i 0).val * 768 + (i 1).val
      omega)]
  show pad (P n) ![0, 768] ![0, 0] ![0, 0] (lift n Y) v h hu _ + pad (P n) ![0, 0] ![0, 768] ![0, 0] (lift n X) v' h₂ hu' _ = _
  by_cases hk : (i 0).val % 2 = 0
  · rw [pad_apply_of_not_inside _ _ _ _ _ h hu _ 1 (by
      show ¬(768 ≤ (i 0).val % 2 * 768 + (i 1).val ∧ _ ∧ _)
      omega), hv, pad_apply_of_inside _ _ _ _ _ h₂ hu' _ (ix2 ⟨(i 0).val / 2, by omega⟩ ⟨(i 1).val, h1⟩) (fun a => by
      match a with
      | ⟨0, _⟩ => show (i 0).val / 2 = 0 + (i 0).val / 2 * (0 + 1); omega
      | ⟨1, _⟩ => show (i 0).val % 2 * 768 + (i 1).val = 0 + (i 1).val * (0 + 1); omega), zero_add]
    simp only [lift, weave, hk, if_true]; rfl
  · rw [pad_apply_of_not_inside _ _ _ _ _ h₂ hu' _ 1 (by
      show ¬(0 ≤ (i 0).val % 2 * 768 + (i 1).val ∧ _ ∧ ((i 0).val % 2 * 768 + (i 1).val - 0) / (0 + 1) < 768)
      rw [Nat.sub_zero, Nat.zero_add, Nat.div_one]; omega), hv',
      pad_apply_of_inside _ _ _ _ _ h hu _ (ix2 ⟨(i 0).val / 2, by omega⟩ ⟨(i 1).val, h1⟩) (fun a => by
      match a with
      | ⟨0, _⟩ => show (i 0).val / 2 = 0 + (i 0).val / 2 * (0 + 1); omega
      | ⟨1, _⟩ => show (i 0).val % 2 * 768 + (i 1).val = 768 + (i 1).val * (0 + 1); omega), add_zero]
    simp only [lift, weave, hk, if_false]; rfl

/-! ### The recurrence and its pullback over the reals -/

/-- The solution of `h t = a t * h (t - 1) + b t`, with `h (-1) = 0`. -/
def sol (A B : ℕ → ℕ → ℝ) : ℕ → ℕ → ℝ
  | 0, c => B 0 c
  | t + 1, c => A (t + 1) c * sol A B t c + B (t + 1) c

/-- The solution one row earlier. -/
def prev (A B : ℕ → ℕ → ℝ) (t c : ℕ) : ℝ := if t = 0 then 0 else sol A B (t - 1) c

theorem sol_eq (A B : ℕ → ℕ → ℝ) (t c : ℕ) : sol A B t c = A t c * prev A B t c + B t c := by
  cases t with
  | zero => simp [sol, prev]
  | succ t => simp [sol, prev]

/-- The rows combined in pairs: the level above's coefficient, and its inhomogeneity. -/
def up (A : ℕ → ℕ → ℝ) (k c : ℕ) : ℝ := A (k * 2) c * A (k * 2 + 1) c
def upB (A B : ℕ → ℕ → ℝ) (k c : ℕ) : ℝ := A (k * 2 + 1) c * B (k * 2) c + B (k * 2 + 1) c

theorem sol_up (A B : ℕ → ℕ → ℝ) (k c : ℕ) : sol (up A) (upB A B) k c = sol A B (k * 2 + 1) c := by
  induction k with
  | zero => simp [sol, upB]
  | succ k ih =>
    have e : (k + 1) * 2 = k * 2 + 1 + 1 := by ring
    have h : sol A B (k * 2 + 1 + 1 + 1) c = A (k * 2 + 1 + 1 + 1) c * (A (k * 2 + 1 + 1) c * sol A B (k * 2 + 1) c
        + B (k * 2 + 1 + 1) c) + B (k * 2 + 1 + 1 + 1) c := rfl
    rw [sol, ih, up, upB, e, h]; ring

/-- The adjoint `m` rows before the end: `λ t = g t + a (t + 1) * λ (t + 1)`, zero after the last row. -/
def adj (A G : ℕ → ℕ → ℝ) (c : ℕ) : ℕ → ℕ → ℝ
  | 0, _ => 0
  | m + 1, t => G t c + A (t + 1) c * adj A G c m (t + 1)

/-- The adjoint of `n` rows. -/
def lam (n : ℕ) (A G : ℕ → ℕ → ℝ) (t c : ℕ) : ℝ := adj A G c (n - t) t

theorem lam_eq (n : ℕ) (A G : ℕ → ℕ → ℝ) (t c : ℕ) (h : t < n) : lam n A G t c = G t c + A (t + 1) c * lam n A G (t + 1) c := by
  unfold lam
  obtain ⟨m, hm⟩ : ∃ m, n - t = m + 1 := ⟨n - t - 1, by omega⟩
  rw [hm, show n - (t + 1) = m by omega, adj]

theorem lam_end (n : ℕ) (A G : ℕ → ℕ → ℝ) (c : ℕ) : lam n A G n c = 0 := by
  unfold lam; rw [Nat.sub_self, adj]

/-- The level above's cotangent. -/
def upG (n : ℕ) (A G : ℕ → ℕ → ℝ) (k c : ℕ) : ℝ :=
  G (k * 2 + 1) c + if k + 1 < n then A ((k + 1) * 2) c * G ((k + 1) * 2) c else 0

theorem lam_up (n : ℕ) (A G : ℕ → ℕ → ℝ) (c m : ℕ) : ∀ k, n = k + m →
    lam n (up A) (upG n A G) k c = lam (n * 2) A G (k * 2 + 1) c := by
  induction m with
  | zero =>
    intro k hk
    unfold lam
    rw [show n - k = 0 by omega, show n * 2 - (k * 2 + 1) = 0 by omega, adj, adj]
  | succ m ih =>
    intro k hk
    rw [lam_eq _ _ _ _ _ (by omega), ih (k + 1) (by omega), lam_eq (n * 2) A G (k * 2 + 1) c (by omega)]
    unfold upG up
    by_cases h : k + 1 < n
    · rw [if_pos h, show k * 2 + 1 + 1 = (k + 1) * 2 by ring, lam_eq (n * 2) A G ((k + 1) * 2) c (by omega)]; ring
    · obtain rfl : n = k + 1 := by omega
      rw [if_neg h, show k * 2 + 1 + 1 = (k + 1) * 2 by ring, lam_end]
      have e : lam ((k + 1) * 2) A G ((k + 1) * 2 + 1) c = 0 := by
        unfold lam; rw [show (k + 1) * 2 - ((k + 1) * 2 + 1) = 0 by omega, adj]
      rw [e]; ring

/-! ### One level -/

/-- `h` holds the recurrence's solution whenever `a` and `b` hold real numbers. -/
def Solves (n : ℕ) (a b h : (R n).Idx → EReal) : Prop :=
  ∀ A B, a = lift n A → b = lift n B → h = lift n (sol A B)

/-- `l` holds the adjoint of the cotangent `g`, and `d` the cotangent of `a`. -/
def Pulls (n : ℕ) (a b g l d : (R n).Idx → EReal) : Prop :=
  ∀ A B G, a = lift n A → b = lift n B → g = lift n G →
    l = lift n (lam n A G) ∧ d = lift n (fun t c => lam n A G t c * prev A B t c)

theorem solves_one (a b : (R 1).Idx → EReal) : Solves 1 a b b := fun A B _ hb => hb.trans (lift_congr fun k hk c => by
  obtain rfl : k = 0 := by omega
  rfl)

section Level

variable {a b : (R (n * 2)).Idx → EReal} {p q : (P n).Idx → EReal} {a0 a1 b0 b1 m s w h' bf x y : (R n).Idx → EReal}
  {z : (R 1).Idx → EReal} {e : (R (n + 1)).Idx → EReal} {j : (P n).Idx → EReal} {h : (R (n * 2)).Idx → EReal}
  {c1 : (R (n * 2)).ShapeCasts (P n)} {s0 : (P n).Slices ![0, 0] (R n)} {s1 : (P n).Slices ![0, 768] (R n)}
  {k1 : Shape.Concatenates [R 1, R n] (R (n + 1)) 0} {t1 : (R (n + 1)).Slices ![0, 0] (R n)}
  {k2 : Shape.Concatenates [R n, R n] (P n) 1} {c2 : (P n).ShapeCasts (R (n * 2))}

/-- The halves of a level, from its printed lines. -/
structure Halves (n : ℕ) (a b : (R (n * 2)).Idx → EReal) (a0 a1 b0 b1 m s : (R n).Idx → EReal) : Prop where
  out : ∀ A B, a = lift (n * 2) A → b = lift (n * 2) B →
    a0 = lift n (fun k c => A (k * 2) c) ∧ a1 = lift n (fun k c => A (k * 2 + 1) c)
    ∧ b0 = lift n (fun k c => B (k * 2) c) ∧ b1 = lift n (fun k c => B (k * 2 + 1) c)
    ∧ m = lift n (up A) ∧ s = lift n (upB A B)

theorem halves (hp : p = shapeCast (P n) a c1) (hq : q = shapeCast (P n) b c1)
    (h0 : a0 = extractStridedSlice (R n) ![0, 0] p s0) (h1 : a1 = extractStridedSlice (R n) ![0, 768] p s1)
    (h2 : b0 = extractStridedSlice (R n) ![0, 0] q s0) (h3 : b1 = extractStridedSlice (R n) ![0, 768] q s1)
    (hm : m = mulf (F := Ideal) (φ := .f32) a0 a1) (hw : w = mulf (F := Ideal) (φ := .f32) a1 b0)
    (hs : s = addf (F := Ideal) (φ := .f32) w b1) : Halves n a b a0 a1 b0 b1 m s := ⟨fun A B ha hb => by
  subst ha hb hp hq
  rw [even_lift] at h0 h2
  rw [odd_lift] at h1 h3
  subst h0 h1 h2 h3
  rw [mul_lift] at hm hw
  subst hw
  rw [add_lift] at hs
  exact ⟨rfl, rfl, rfl, rfl, hm, hs⟩⟩

/-- The level above's solution one row later: this level's solution before each pair. -/
structure Before (n : ℕ) (a b : (R (n * 2)).Idx → EReal) (bf : (R n).Idx → EReal) : Prop where
  out : ∀ A B, a = lift (n * 2) A → b = lift (n * 2) B → bf = lift n (fun k c => prev A B (k * 2) c)

theorem before (H : Halves n a b a0 a1 b0 b1 m s) (hh : Solves n m s h') (hz : ∀ i, z i = 0)
    (he : e = concatenate (R (n + 1)) 0 [⟨R 1, z⟩, ⟨R n, h'⟩] k1)
    (hb : bf = extractStridedSlice (R n) ![0, 0] e t1) : Before n a b bf := ⟨fun A B ea eb => by
  obtain ⟨_, _, _, _, hm, hs⟩ := H.out A B ea eb
  rw [hb, he, hh _ _ hm hs, before_lift _ _ hz]
  refine lift_congr fun k _ c => ?_
  unfold prev
  by_cases hk : k = 0
  · subst hk; rfl
  · rw [if_neg hk, if_neg (by omega), sol_up, show (k - 1) * 2 + 1 = k * 2 - 1 by omega]⟩

theorem solves (H : Halves n a b a0 a1 b0 b1 m s) (hh : Solves n m s h') (hbf : Before n a b bf)
    (hx : x = mulf (F := Ideal) (φ := .f32) a0 bf) (hy : y = addf (F := Ideal) (φ := .f32) x b0)
    (hj : j = concatenate (P n) 1 [⟨R n, y⟩, ⟨R n, h'⟩] k2) (hr : h = shapeCast (R (n * 2)) j c2) :
    Solves (n * 2) a b h := fun A B ea eb => by
  obtain ⟨e0, e1, e2, e3, hm, hs⟩ := H.out A B ea eb
  rw [hr, hj, hy, hx, hbf.out A B ea eb, hh _ _ hm hs, e0, e2, mul_lift, add_lift, join_lift]
  refine lift_congr fun t _ c => ?_
  by_cases h : t % 2 = 0
  · simp only [weave, if_pos h]; rw [show t / 2 * 2 = t by omega, ← sol_eq]
  · simp only [weave, if_neg h]; rw [sol_up, show t / 2 * 2 + 1 = t by omega]

end Level

section Back

variable {a b g : (R (n * 2)).Idx → EReal} {p : (P n).Idx → EReal} {a0 a1 b0 b1 m s g0 g1 x y u g' bf l' d' : (R n).Idx → EReal}
  {e : (R (n + 1)).Idx → EReal} {c1 : (R (n * 2)).ShapeCasts (P n)} {s0 : (P n).Slices ![0, 0] (R n)} {s1 : (P n).Slices ![0, 768] (R n)}
  {v : Shape} {z z1 z2 z3 z4 : v.Idx → EReal} {hu hu1 hu2 hu3 hu4 : 0 < v.numel}
  {k1 : (R n).Pads ![0, 0] ![1, 0] ![0, 0] (R (n + 1))} {t1 : (R (n + 1)).Slices ![1, 0] (R n)}

/-- A level's cotangents on the way up: the even rows', and the level above's. -/
structure Lifts (n : ℕ) (a b g : (R (n * 2)).Idx → EReal) (g0 y g' : (R n).Idx → EReal) : Prop where
  out : ∀ A B G, a = lift (n * 2) A → b = lift (n * 2) B → g = lift (n * 2) G →
    g0 = lift n (fun k c => G (k * 2) c) ∧ y = lift n (fun k c => G (k * 2) c * prev A B (k * 2) c) ∧ g' = lift n (upG n A G)

theorem lifts (H : Halves n a b a0 a1 b0 b1 m s) (hbf : Before n a b bf) (hp : p = shapeCast (P n) g c1)
    (h0 : g0 = extractStridedSlice (R n) ![0, 0] p s0) (h1 : g1 = extractStridedSlice (R n) ![0, 768] p s1)
    (hx : x = mulf (F := Ideal) (φ := .f32) a0 g0) (hy : y = mulf (F := Ideal) (φ := .f32) g0 bf)
    (hz : ∀ i, z i = 0) (he : e = pad (R (n + 1)) ![0, 0] ![1, 0] ![0, 0] x z k1 hu)
    (hu' : u = extractStridedSlice (R n) ![1, 0] e t1) (hg : g' = addf (F := Ideal) (φ := .f32) g1 u) :
    Lifts n a b g g0 y g' := ⟨fun A B G ea eb eg => by
  obtain ⟨e0, _, _, _, _, _⟩ := H.out A B ea eb
  subst eg hp
  rw [even_lift] at h0
  rw [odd_lift] at h1
  rw [e0, h0, mul_lift] at hx
  rw [h0, hbf.out A B ea eb, mul_lift] at hy
  rw [hu', he, hx, after_lift _ _ hz, h1, add_lift] at hg
  exact ⟨h0, hy, hg⟩⟩

variable {o1 o2 i1 i2 f1 f2 : (R n).Idx → EReal} {j1 j2 j3 j4 J K : (P n).Idx → EReal} {l d : (R (n * 2)).Idx → EReal}
  {q1 : (R n).Pads ![0, 768] ![0, 0] ![0, 0] (P n)} {q2 : (R n).Pads ![0, 0] ![0, 768] ![0, 0] (P n)}
  {c2 : (P n).ShapeCasts (R (n * 2))}

theorem pulls (H : Halves n a b a0 a1 b0 b1 m s) (hL : Lifts n a b g g0 y g') (hP : Pulls n m s g' l' d')
    (ho1 : o1 = mulf (F := Ideal) (φ := .f32) a1 l') (ho2 : o2 = addf (F := Ideal) (φ := .f32) g0 o1)
    (hi1 : i1 = mulf (F := Ideal) (φ := .f32) l' b0) (hi2 : i2 = mulf (F := Ideal) (φ := .f32) a0 d')
    (hf1 : f1 = addf (F := Ideal) (φ := .f32) i1 i2)
    (hx1 : x = mulf (F := Ideal) (φ := .f32) d' a1) (hx2 : f2 = addf (F := Ideal) (φ := .f32) y x)
    (z1' : ∀ i, z1 i = 0) (z2' : ∀ i, z2 i = 0) (z3' : ∀ i, z3 i = 0) (z4' : ∀ i, z4 i = 0)
    (hj1 : j1 = pad (P n) ![0, 768] ![0, 0] ![0, 0] l' z1 q1 hu1) (hj2 : j2 = pad (P n) ![0, 0] ![0, 768] ![0, 0] o2 z2 q2 hu2)
    (hJ : J = addf (F := Ideal) (φ := .f32) j1 j2)
    (hj3 : j3 = pad (P n) ![0, 768] ![0, 0] ![0, 0] f1 z3 q1 hu3) (hj4 : j4 = pad (P n) ![0, 0] ![0, 768] ![0, 0] f2 z4 q2 hu4)
    (hK : K = addf (F := Ideal) (φ := .f32) j3 j4)
    (hl : l = shapeCast (R (n * 2)) J c2) (hd : d = shapeCast (R (n * 2)) K c2) :
    Pulls (n * 2) a b g l d := fun A B G ea eb eg => by
  obtain ⟨e0, e1, e2, _, hm, hs⟩ := H.out A B ea eb
  obtain ⟨hg0, hy, hg'⟩ := hL.out A B G ea eb eg
  obtain ⟨hl', hd'⟩ := hP _ _ _ hm hs hg'
  have E : ∀ k, k < n → ∀ c, lam n (up A) (upG n A G) k c = lam (n * 2) A G (k * 2 + 1) c := fun k hk c =>
    lam_up n A G c (n - k) k (by omega)
  constructor
  · rw [hl, hJ, hj1, hj2, ho2, ho1, hl', e1, hg0, mul_lift, add_lift, addJoin_lift _ _ _ _ z1' z2']
    refine lift_congr fun t ht c => ?_
    by_cases h : t % 2 = 0
    · simp only [weave, if_pos h]; rw [E (t / 2) (by omega), show t / 2 * 2 = t by omega, ← lam_eq _ _ _ _ _ ht]
    · simp only [weave, if_neg h]; rw [E (t / 2) (by omega), show t / 2 * 2 + 1 = t by omega]
  · rw [hd, hK, hj3, hj4, hf1, hx2, hi1, hi2, hx1, hl', hd', hy, e0, e1, e2, mul_lift, mul_lift, mul_lift, add_lift, add_lift,
      addJoin_lift _ _ _ _ z3' z4']
    refine lift_congr fun t ht c => ?_
    have F : ∀ k, prev (up A) (upB A B) k c = prev A B (k * 2) c := fun k => by
      unfold prev
      by_cases hk : k = 0
      · subst hk; rfl
      · rw [if_neg hk, if_neg (by omega), sol_up, show (k - 1) * 2 + 1 = k * 2 - 1 by omega]
    by_cases h : t % 2 = 0
    · simp only [weave, if_pos h]; rw [E (t / 2) (by omega), F, show t / 2 * 2 = t by omega, lam_eq _ _ _ t _ ht]; ring
    · have hp : prev A B t c = sol A B (t / 2 * 2) c := by
        unfold prev; rw [if_neg (by omega), show t / 2 * 2 = t - 1 by omega]
      simp only [weave, if_neg h]; rw [E (t / 2) (by omega), F, hp, sol_eq A B (t / 2 * 2) c, show t / 2 * 2 + 1 = t by omega]; ring

end Back

/-! ### A level's lines as one equation each -/

section Lines

variable (c1 : (R (n * 2)).ShapeCasts (P n)) (s0 : (P n).Slices ![0, 0] (R n)) (s1 : (P n).Slices ![0, 768] (R n))
  (k1 : Shape.Concatenates [R 1, R n] (R (n + 1)) 0) (t1 : (R (n + 1)).Slices ![0, 0] (R n))
  (k2 : Shape.Concatenates [R n, R n] (P n) 1) (c2 : (P n).ShapeCasts (R (n * 2)))
  (p1 : (R n).Pads ![0, 0] ![1, 0] ![0, 0] (R (n + 1))) (t2 : (R (n + 1)).Slices ![1, 0] (R n))
  (q1 : (R n).Pads ![0, 768] ![0, 0] ![0, 0] (P n)) (q2 : (R n).Pads ![0, 0] ![0, 768] ![0, 0] (P n))

/-- The even rows. -/
abbrev ev (a : (R (n * 2)).Idx → EReal) : (R n).Idx → EReal := extractStridedSlice (R n) ![0, 0] (shapeCast (P n) a c1) s0
/-- The odd rows. -/
abbrev od (a : (R (n * 2)).Idx → EReal) : (R n).Idx → EReal := extractStridedSlice (R n) ![0, 768] (shapeCast (P n) a c1) s1
/-- The rows one later, after the row `z`. -/
abbrev bf (z : (R 1).Idx → EReal) (h' : (R n).Idx → EReal) : (R n).Idx → EReal :=
  extractStridedSlice (R n) ![0, 0] (concatenate (R (n + 1)) 0 [⟨R 1, z⟩, ⟨R n, h'⟩] k1) t1
/-- The rows one earlier, then a padded row. -/
abbrev af {u : Shape} (z : u.Idx → EReal) (hu : 0 < u.numel) (x : (R n).Idx → EReal) : (R n).Idx → EReal :=
  extractStridedSlice (R n) ![1, 0] (pad (R (n + 1)) ![0, 0] ![1, 0] ![0, 0] x z p1 hu) t2
/-- Even and odd rows interleaved by padding and adding. -/
abbrev wv {u : Shape} (z z' : u.Idx → EReal) (hu hu' : 0 < u.numel) (x y : (R n).Idx → EReal) : (R (n * 2)).Idx → EReal :=
  shapeCast (R (n * 2)) (addf (F := Ideal) (φ := .f32) (pad (P n) ![0, 768] ![0, 0] ![0, 0] y z q1 hu)
    (pad (P n) ![0, 0] ![0, 768] ![0, 0] x z' q2 hu')) c2

variable {c1 s0 s1 k1 t1 k2 c2 p1 t2 q1 q2}
  {a b h g l d : (R (n * 2)).Idx → EReal} {m s h' g' l' d' : (R n).Idx → EReal} {z : (R 1).Idx → EReal}
  {u : Shape} {z0 z1 z2 z3 z4 : u.Idx → EReal} {hu0 hu1 hu2 hu3 hu4 : 0 < u.numel}

/-- The recurrence one level down. -/
theorem solve (hm : m = mulf (F := Ideal) (φ := .f32) (ev c1 s0 a) (od c1 s1 a))
    (hs : s = addf (F := Ideal) (φ := .f32) (mulf (F := Ideal) (φ := .f32) (od c1 s1 a) (ev c1 s0 b)) (od c1 s1 b))
    (hz : ∀ i, z i = 0)
    (hh : h = shapeCast (R (n * 2)) (concatenate (P n) 1 [⟨R n, addf (F := Ideal) (φ := .f32)
      (mulf (F := Ideal) (φ := .f32) (ev c1 s0 a) (bf k1 t1 z h')) (ev c1 s0 b)⟩, ⟨R n, h'⟩] k2) c2)
    (H : Solves n m s h') : Solves (n * 2) a b h :=
  have L := halves (n := n) (a := a) (b := b) rfl rfl rfl rfl rfl rfl hm rfl hs
  solves L H (before (k1 := k1) (t1 := t1) L H hz rfl rfl) rfl rfl rfl hh

/-- The recurrence and its pullback. -/
structure Level (n : ℕ) (a b h g l d : (R n).Idx → EReal) : Prop where
  solves : Solves n a b h
  pulls : Pulls n a b g l d

/-- Both one level down. -/
theorem level (hm : m = mulf (F := Ideal) (φ := .f32) (ev c1 s0 a) (od c1 s1 a))
    (hs : s = addf (F := Ideal) (φ := .f32) (mulf (F := Ideal) (φ := .f32) (od c1 s1 a) (ev c1 s0 b)) (od c1 s1 b))
    (hz : ∀ i, z i = 0)
    (hh : h = shapeCast (R (n * 2)) (concatenate (P n) 1 [⟨R n, addf (F := Ideal) (φ := .f32)
      (mulf (F := Ideal) (φ := .f32) (ev c1 s0 a) (bf k1 t1 z h')) (ev c1 s0 b)⟩, ⟨R n, h'⟩] k2) c2)
    (hz0 : ∀ i, z0 i = 0)
    (hg : g' = addf (F := Ideal) (φ := .f32) (od c1 s1 g) (af p1 t2 z0 hu0 (mulf (F := Ideal) (φ := .f32) (ev c1 s0 a) (ev c1 s0 g))))
    (hz1 : ∀ i, z1 i = 0) (hz2 : ∀ i, z2 i = 0)
    (hl : l = wv c2 q1 q2 z1 z2 hu1 hu2
      (addf (F := Ideal) (φ := .f32) (ev c1 s0 g) (mulf (F := Ideal) (φ := .f32) (od c1 s1 a) l')) l')
    (hz3 : ∀ i, z3 i = 0) (hz4 : ∀ i, z4 i = 0)
    (hd : d = wv c2 q1 q2 z3 z4 hu3 hu4
      (addf (F := Ideal) (φ := .f32) (mulf (F := Ideal) (φ := .f32) (ev c1 s0 g) (bf k1 t1 z h'))
        (mulf (F := Ideal) (φ := .f32) d' (od c1 s1 a)))
      (addf (F := Ideal) (φ := .f32) (mulf (F := Ideal) (φ := .f32) l' (ev c1 s0 b)) (mulf (F := Ideal) (φ := .f32) (ev c1 s0 a) d')))
    (H : Level n m s h' g' l' d') : Level (n * 2) a b h g l d := by
  have L := halves (n := n) (a := a) (b := b) rfl rfl rfl rfl rfl rfl hm rfl hs
  have B := before (k1 := k1) (t1 := t1) L H.solves hz rfl rfl
  exact ⟨solves L H.solves B rfl rfl rfl hh,
    pulls L (lifts L B rfl rfl rfl rfl rfl hz0 rfl rfl hg) H.pulls rfl rfl rfl rfl rfl rfl rfl hz1 hz2 hz3 hz4 rfl rfl rfl rfl rfl rfl hl hd⟩

/-- One row: the recurrence is its inhomogeneity, the adjoint the cotangent, and the coefficient has no part. -/
theorem level_one (a b g : (R 1).Idx → EReal) : Level 1 a b b g g (lift 1 fun _ _ => 0) := ⟨solves_one a b, fun A B G _ _ hg => by
  have e : ∀ k, k < 1 → ∀ c, lam 1 A G k c = G k c := fun k hk c => by
    obtain rfl : k = 0 := by omega
    rw [lam_eq _ _ _ _ _ hk, lam_end]; ring
  refine ⟨hg.trans (lift_congr fun k hk c => (e k hk c).symm), lift_congr fun k hk c => ?_⟩
  obtain rfl : k = 0 := by omega
  simp [prev]⟩

theorem mul_none (x y w : (R n).Idx → EReal) : addf (F := Ideal) (φ := .f32) (mulf (F := Ideal) (φ := .f32) x y)
    (mulf (F := Ideal) (φ := .f32) w (lift n fun _ _ => 0)) = mulf (F := Ideal) (φ := .f32) x y := funext fun i => by
  show x i * y i + w i * ((0 : ℝ) : EReal) = x i * y i
  rw [EReal.coe_zero, mul_zero, add_zero]

theorem mul_none' (x y w : (R n).Idx → EReal) : addf (F := Ideal) (φ := .f32) (mulf (F := Ideal) (φ := .f32) x y)
    (mulf (F := Ideal) (φ := .f32) (lift n fun _ _ => 0) w) = mulf (F := Ideal) (φ := .f32) x y := funext fun i => by
  show x i * y i + ((0 : ℝ) : EReal) * w i = x i * y i
  rw [EReal.coe_zero, zero_mul, add_zero]

end Lines

end Cert.Scan
-- ==== Proof.Recurrence.Host.lean ====
module

public import proofs.«01_k».proof.Proof.Gen.Kernel14Ideal.Value
public import proofs.«01_k».proof.Proof.Gen.Reference14Ideal.Read
public import proofs.«01_k».proof.Proof.Recurrence.Scan

/-! The states the kernel's program computes on the host before its launch: every host operation writes a
buffer of its own, later in the table than the ones it reads, so each buffer holds its operation's value of
what the others hold at the end. The gates are the reference's, line for line, and the twelve levels of the
recurrence solve it. -/

@[expose] public section

noncomputable section

namespace Cert.RecHost

open Cert.Kernel14Ideal Cert.Kernel14Ideal.Gen Cert.Scan
open Idealize.ShloMosaic Idealize.ShloMosaic.StableHlo

/-- A buffer's place in its table. -/
def slot (d : DevRef τ sig) : ℕ := d.idx.val

/-- Operation `i` of the list writes a buffer in place `n + i` or later. -/
def Ordered : ℕ → List (HloOp τ sig (Elt Ideal)) → Prop
  | _, [] => True
  | n, op :: ops => (∀ r ∈ op.writes, n ≤ slot r) ∧ Ordered (n + 1) ops

theorem ordered_keep : ∀ (ops : List (HloOp τ sig (Elt Ideal))) (V : Valuation τ sig (Elt Ideal)) (n : ℕ) (d : DevRef τ sig),
    Ordered n ops → slot d < n → after ops V d = V d
  | [], _, _, _, _, _ => rfl
  | op :: ops, V, n, d, h, hd => by
    rw [after_cons, ordered_keep ops _ (n + 1) d h.2 (by omega), op.result_of_not_mem V fun hm => by have := h.1 d hm; omega]

theorem ordered_get : ∀ (ops : List (HloOp τ sig (Elt Ideal))) (V : Valuation τ sig (Elt Ideal)) (n i : ℕ) (op : HloOp τ sig (Elt Ideal))
    (d : DevRef τ sig), Ordered n ops → ops[i]? = some op → slot d ≤ n + i →
    after ops V d = op.result (after (ops.take i) V) d
  | [], _, _, _, _, _, _, h, _ => by simp at h
  | o :: ops, V, n, 0, op, d, h, ho, hd => by
    obtain rfl : o = op := by simpa using ho
    rw [after_cons, ordered_keep ops _ (n + 1) d h.2 (by omega)]; rfl
  | o :: ops, V, n, i + 1, op, d, h, ho, hd => by
    rw [after_cons, ordered_get ops (o.result V) (n + 1) i op d h.2 (by simpa using ho) (by omega)]; rfl

theorem ordered_writes : ∀ (ops : List (HloOp τ sig (Elt Ideal))) (n i : ℕ) (op : HloOp τ sig (Elt Ideal)),
    Ordered n ops → ops[i]? = some op → ∀ r ∈ op.writes, n + i ≤ slot r
  | [], _, _, _, _, h => by simp at h
  | o :: ops, n, 0, op, h, ho => by
    obtain rfl : o = op := by simpa using ho
    exact h.1
  | o :: ops, n, i + 1, op, h, ho => fun r hr => by
    have := ordered_writes ops (n + 1) i op h.2 (by simpa using ho) r hr; omega

theorem ordered_pre (ops : List (HloOp τ sig (Elt Ideal))) (V : Valuation τ sig (Elt Ideal)) (n i : ℕ) (op : HloOp τ sig (Elt Ideal))
    (d : DevRef τ sig) (h : Ordered n ops) (ho : ops[i]? = some op) (hd : slot d < n + i) :
    after (ops.take i) V d = after ops V d := by
  rw [ordered_get ops V n i op d h ho hd.le, op.result_of_not_mem _ fun hm => by have := ordered_writes ops n i op h ho d hm; omega]

theorem one {op : HloOp τ sig (Elt Ideal)} {r : DevRef τ sig} {n : ℕ} (hw : op.writes = {r}) (hs : n ≤ slot r) :
    ∀ r ∈ op.writes, n ≤ slot r := fun q hq => by
  rw [hw, Finset.mem_singleton] at hq; exact hq ▸ hs

/-- The host operations before the launch. -/
abbrev ops : List (HloOp τ sig (Elt Ideal)) := List.flatten [hostOps0, hostOps0_1, hostOps0_2, hostOps0_3, hostOps0_4]

set_option maxHeartbeats 4000000 in
theorem ordered : Ordered 9 ops := by
  show Ordered 9 (_ :: _)
  repeat (first | exact trivial | refine ⟨one rfl (by decide), ?_⟩)

variable (m : (ℓ : Loc nD τ sig) → Buf (Elt Ideal) ℓ) (c : Dev nD)

/-- What the launch finds in each buffer. -/
abbrev at' (r : Ref sig .tc) : r.ty.Contents (Elt Ideal) := V m c r

section
variable {x w z : Ref sig .tc}

theorem nul (i : ℕ) (y : Ref sig .tc) {v : y.ty.Contents (Elt Ideal)} {hy} (h : ops[i]? = some (nullary y v hy) := by rfl)
    (h1 : slot (Proc.devRef .tc y) = 9 + i := by rfl) : V m c y = v :=
  (ordered_get ops _ 9 i _ _ ordered h h1.le).trans (nullary_result y v hy _)

theorem un (i : ℕ) (y : Ref sig .tc) {f : x.ty.Contents (Elt Ideal) → y.ty.Contents (Elt Ideal)} {hx hy} (h : ops[i]? = some (unary x y f hx hy) := by rfl)
    (h1 : slot (Proc.devRef .tc y) = 9 + i := by rfl) (h2 : slot (Proc.devRef .tc x) < 9 + i := by decide) :
    V m c y = f (V m c x) :=
  ((ordered_get ops _ 9 i _ _ ordered h h1.le).trans (unary_result x y f hx hy _)).trans
    (congrArg f (ordered_pre ops _ 9 i _ _ ordered h h2))

theorem bin (i : ℕ) (y : Ref sig .tc) {f : x.ty.Contents (Elt Ideal) → w.ty.Contents (Elt Ideal) → y.ty.Contents (Elt Ideal)} {hx hw hy}
    (h : ops[i]? = some (binary x w y f hx hw hy) := by rfl)
    (h1 : slot (Proc.devRef .tc y) = 9 + i := by rfl) (h2 : slot (Proc.devRef .tc x) < 9 + i := by decide)
    (h3 : slot (Proc.devRef .tc w) < 9 + i := by decide) : V m c y = f (V m c x) (V m c w) :=
  ((ordered_get ops _ 9 i _ _ ordered h h1.le).trans (binary_result x w y f hx hw hy _)).trans
    (congrArg₂ f (ordered_pre ops _ 9 i _ _ ordered h h2) (ordered_pre ops _ 9 i _ _ ordered h h3))

theorem ter (i : ℕ) (y : Ref sig .tc) {f : z.ty.Contents (Elt Ideal) → x.ty.Contents (Elt Ideal) → w.ty.Contents (Elt Ideal) → y.ty.Contents (Elt Ideal)}
    {hz hx hw hy} (h : ops[i]? = some (ternary z x w y f hz hx hw hy) := by rfl)
    (h1 : slot (Proc.devRef .tc y) = 9 + i := by rfl) (h4 : slot (Proc.devRef .tc z) < 9 + i := by decide)
    (h2 : slot (Proc.devRef .tc x) < 9 + i := by decide) (h3 : slot (Proc.devRef .tc w) < 9 + i := by decide) :
    V m c y = f (V m c z) (V m c x) (V m c w) := by
  refine ((ordered_get ops _ 9 i _ _ ordered h h1.le).trans (ternary_result z x w y f hz hx hw hy _)).trans ?_
  rw [ordered_pre ops _ 9 i _ _ ordered h h4, ordered_pre ops _ 9 i _ _ ordered h h2, ordered_pre ops _ 9 i _ _ ordered h h3]

theorem re (i : ℕ) (y : Ref sig .tc) {he : x.ty.elt = y.ty.elt} {hn hx hy} (h : ops[i]? = some (reshape x y he hn hx hy) := by rfl)
    (h1 : slot (Proc.devRef .tc y) = 9 + i := by rfl) (h2 : slot (Proc.devRef .tc x) < 9 + i := by decide) :
    V m c y = fun j => he ▸ shapeCast y.ty.shape (V m c x) hn j :=
  ((ordered_get ops _ 9 i _ _ ordered h h1.le).trans (reshape_result x y he hn hx hy _)).trans
    (by rw [ordered_pre ops _ 9 i _ _ ordered h h2])

theorem arg {r : Ref sig .tc} (h : slot (Proc.devRef .tc r) < 9 := by decide) : V m c r = m (c, Proc.devRef .tc r) :=
  ordered_keep ops _ 9 _ ordered h

end

set_option maxHeartbeats 4000000 in
theorem coef : V m c main_v29 = (Cert.Reference14Ideal.Read.val_main_v36 (F := Ideal) (m (c, Proc.devRef .tc main_arg1)) (m (c, Proc.devRef .tc main_arg3)) (m (c, Proc.devRef .tc main_arg4)) (m (c, Proc.devRef .tc main_arg7))) := by
  rw [un m c 47 main_v29, bin m c 46 main_v28, un m c 45 main_v27, ter m c 44 main_v26, bin m c 43 main_call0_v11, un m c 42 main_call0_v10, un m c 41 main_call0_v9, un m c 40 main_call0_v8, un m c 39 main_call0_v7, bin m c 38 main_call0_v6, un m c 37 main_call0_v5, bin m c 36 main_call0_v4, bin m c 35 main_call0_v3, un m c 34 main_call0_v2, bin m c 33 main_call0_v1, un m c 32 main_call0_v0, nul m c 31 main_call0_cst, un m c 30 main_v25, bin m c 29 main_v24, un m c 28 main_v23, nul m c 27 main_cst_3, bin m c 13 main_v11, un m c 12 main_v10, nul m c 11 main_cst_0, bin m c 10 main_v9, un m c 9 main_v8, nul m c 8 main_cst, un m c 7 main_v7, un m c 6 main_v6, bin m c 5 main_v5, un m c 4 main_v4, re m c 3 main_v3, un m c 2 main_v2, bin m c 1 main_v1, re m c 0 main_v0]
  simp only [arg]
  rfl

set_option maxHeartbeats 4000000 in
theorem inhom : V m c main_v41 = (Cert.Reference14Ideal.Read.val_main_v51 (F := Ideal) (m (c, Proc.devRef .tc main_arg1)) (m (c, Proc.devRef .tc main_arg3)) (m (c, Proc.devRef .tc main_arg4)) (m (c, Proc.devRef .tc main_arg5)) (m (c, Proc.devRef .tc main_arg6)) (m (c, Proc.devRef .tc main_arg7))) := by
  rw [bin m c 65 main_v41, bin m c 64 main_v40, ter m c 63 main_v39, un m c 62 main_call1_v2, un m c 61 main_call1_v1, un m c 60 main_call1_v0, nul m c 59 main_cst_5, bin m c 58 main_v38, un m c 57 main_v37, nul m c 56 main_c, un m c 55 main_v36, nul m c 54 main_v35, un m c 53 main_v34, un m c 52 main_v33, un m c 51 main_v32, bin m c 50 main_v31, un m c 49 main_v30, nul m c 48 main_cst_4, bin m c 46 main_v28, un m c 45 main_v27, ter m c 44 main_v26, bin m c 43 main_call0_v11, un m c 42 main_call0_v10, un m c 41 main_call0_v9, un m c 40 main_call0_v8, un m c 39 main_call0_v7, bin m c 38 main_call0_v6, un m c 37 main_call0_v5, bin m c 36 main_call0_v4, bin m c 35 main_call0_v3, un m c 34 main_call0_v2, bin m c 33 main_call0_v1, un m c 32 main_call0_v0, nul m c 31 main_call0_cst, un m c 30 main_v25, bin m c 29 main_v24, un m c 28 main_v23, nul m c 27 main_cst_3, bin m c 26 main_v22, un m c 25 main_v21, nul m c 24 main_cst_2, bin m c 23 main_v20, un m c 22 main_v19, nul m c 21 main_cst_1, un m c 20 main_v18, un m c 19 main_v17, bin m c 18 main_v16, un m c 17 main_v15, re m c 16 main_v14, un m c 15 main_v13, bin m c 14 main_v12, bin m c 13 main_v11, un m c 12 main_v10, nul m c 11 main_cst_0, bin m c 10 main_v9, un m c 9 main_v8, nul m c 8 main_cst, un m c 7 main_v7, un m c 6 main_v6, bin m c 5 main_v5, un m c 4 main_v4, re m c 3 main_v3, un m c 2 main_v2, bin m c 1 main_v1, re m c 0 main_v0]
  simp only [arg]
  rfl

theorem zero {s : Shape} {d} {h} (i) : broadcastInDim s d h (constant (F := Ideal) S_ .f32 0x00000000#32) i = 0 := by
  pointwise []

theorem base : Solves 1 (V m c main_v147) (V m c main_v149) (V m c main_v149) := solves_one _ _

theorem solved_2 : Solves 2 (V m c main_v138) (V m c main_v140) (V m c main_v156) :=
  solve (n := 1) (by rw [bin m c 171 main_v147, un m c 168 main_v144, un m c 167 main_v143, re m c 165 main_v141]; rfl)
    (by rw [bin m c 173 main_v149, bin m c 172 main_v148, un m c 170 main_v146, un m c 169 main_v145, un m c 168 main_v144, re m c 166 main_v142, re m c 165 main_v141]; rfl)
    (z := V m c main_v150) (by rw [un m c 175 main_v150, nul m c 174 main_cst_6]; exact zero)
    (by rw [re m c 181 main_v156, bin m c 180 main_v155, bin m c 179 main_v154, bin m c 178 main_v153, un m c 177 main_v152, bin m c 176 main_v151, un m c 169 main_v145, un m c 167 main_v143, re m c 166 main_v142, re m c 165 main_v141]; rfl) (base m c)

theorem solved_4 : Solves 4 (V m c main_v129) (V m c main_v131) (V m c main_v163) :=
  solve (n := 2) (by rw [bin m c 162 main_v138, un m c 159 main_v135, un m c 158 main_v134, re m c 156 main_v132]; rfl)
    (by rw [bin m c 164 main_v140, bin m c 163 main_v139, un m c 161 main_v137, un m c 160 main_v136, un m c 159 main_v135, re m c 157 main_v133, re m c 156 main_v132]; rfl)
    (z := V m c main_v157) (by rw [un m c 183 main_v157, nul m c 182 main_cst_7]; exact zero)
    (by rw [re m c 189 main_v163, bin m c 188 main_v162, bin m c 187 main_v161, bin m c 186 main_v160, un m c 185 main_v159, bin m c 184 main_v158, un m c 160 main_v136, un m c 158 main_v134, re m c 157 main_v133, re m c 156 main_v132]; rfl) (solved_2 m c)

theorem solved_8 : Solves 8 (V m c main_v120) (V m c main_v122) (V m c main_v170) :=
  solve (n := 4) (by rw [bin m c 153 main_v129, un m c 150 main_v126, un m c 149 main_v125, re m c 147 main_v123]; rfl)
    (by rw [bin m c 155 main_v131, bin m c 154 main_v130, un m c 152 main_v128, un m c 151 main_v127, un m c 150 main_v126, re m c 148 main_v124, re m c 147 main_v123]; rfl)
    (z := V m c main_v164) (by rw [un m c 191 main_v164, nul m c 190 main_cst_8]; exact zero)
    (by rw [re m c 197 main_v170, bin m c 196 main_v169, bin m c 195 main_v168, bin m c 194 main_v167, un m c 193 main_v166, bin m c 192 main_v165, un m c 151 main_v127, un m c 149 main_v125, re m c 148 main_v124, re m c 147 main_v123]; rfl) (solved_4 m c)

theorem solved_16 : Solves 16 (V m c main_v111) (V m c main_v113) (V m c main_v177) :=
  solve (n := 8) (by rw [bin m c 144 main_v120, un m c 141 main_v117, un m c 140 main_v116, re m c 138 main_v114]; rfl)
    (by rw [bin m c 146 main_v122, bin m c 145 main_v121, un m c 143 main_v119, un m c 142 main_v118, un m c 141 main_v117, re m c 139 main_v115, re m c 138 main_v114]; rfl)
    (z := V m c main_v171) (by rw [un m c 199 main_v171, nul m c 198 main_cst_9]; exact zero)
    (by rw [re m c 205 main_v177, bin m c 204 main_v176, bin m c 203 main_v175, bin m c 202 main_v174, un m c 201 main_v173, bin m c 200 main_v172, un m c 142 main_v118, un m c 140 main_v116, re m c 139 main_v115, re m c 138 main_v114]; rfl) (solved_8 m c)

theorem solved_32 : Solves 32 (V m c main_v102) (V m c main_v104) (V m c main_v184) :=
  solve (n := 16) (by rw [bin m c 135 main_v111, un m c 132 main_v108, un m c 131 main_v107, re m c 129 main_v105]; rfl)
    (by rw [bin m c 137 main_v113, bin m c 136 main_v112, un m c 134 main_v110, un m c 133 main_v109, un m c 132 main_v108, re m c 130 main_v106, re m c 129 main_v105]; rfl)
    (z := V m c main_v178) (by rw [un m c 207 main_v178, nul m c 206 main_cst_10]; exact zero)
    (by rw [re m c 213 main_v184, bin m c 212 main_v183, bin m c 211 main_v182, bin m c 210 main_v181, un m c 209 main_v180, bin m c 208 main_v179, un m c 133 main_v109, un m c 131 main_v107, re m c 130 main_v106, re m c 129 main_v105]; rfl) (solved_16 m c)

theorem solved_64 : Solves 64 (V m c main_v93) (V m c main_v95) (V m c main_v191) :=
  solve (n := 32) (by rw [bin m c 126 main_v102, un m c 123 main_v99, un m c 122 main_v98, re m c 120 main_v96]; rfl)
    (by rw [bin m c 128 main_v104, bin m c 127 main_v103, un m c 125 main_v101, un m c 124 main_v100, un m c 123 main_v99, re m c 121 main_v97, re m c 120 main_v96]; rfl)
    (z := V m c main_v185) (by rw [un m c 215 main_v185, nul m c 214 main_cst_11]; exact zero)
    (by rw [re m c 221 main_v191, bin m c 220 main_v190, bin m c 219 main_v189, bin m c 218 main_v188, un m c 217 main_v187, bin m c 216 main_v186, un m c 124 main_v100, un m c 122 main_v98, re m c 121 main_v97, re m c 120 main_v96]; rfl) (solved_32 m c)

theorem solved_128 : Solves 128 (V m c main_v84) (V m c main_v86) (V m c main_v198) :=
  solve (n := 64) (by rw [bin m c 117 main_v93, un m c 114 main_v90, un m c 113 main_v89, re m c 111 main_v87]; rfl)
    (by rw [bin m c 119 main_v95, bin m c 118 main_v94, un m c 116 main_v92, un m c 115 main_v91, un m c 114 main_v90, re m c 112 main_v88, re m c 111 main_v87]; rfl)
    (z := V m c main_v192) (by rw [un m c 223 main_v192, nul m c 222 main_cst_12]; exact zero)
    (by rw [re m c 229 main_v198, bin m c 228 main_v197, bin m c 227 main_v196, bin m c 226 main_v195, un m c 225 main_v194, bin m c 224 main_v193, un m c 115 main_v91, un m c 113 main_v89, re m c 112 main_v88, re m c 111 main_v87]; rfl) (solved_64 m c)

theorem solved_256 : Solves 256 (V m c main_v75) (V m c main_v77) (V m c main_v205) :=
  solve (n := 128) (by rw [bin m c 108 main_v84, un m c 105 main_v81, un m c 104 main_v80, re m c 102 main_v78]; rfl)
    (by rw [bin m c 110 main_v86, bin m c 109 main_v85, un m c 107 main_v83, un m c 106 main_v82, un m c 105 main_v81, re m c 103 main_v79, re m c 102 main_v78]; rfl)
    (z := V m c main_v199) (by rw [un m c 231 main_v199, nul m c 230 main_cst_13]; exact zero)
    (by rw [re m c 237 main_v205, bin m c 236 main_v204, bin m c 235 main_v203, bin m c 234 main_v202, un m c 233 main_v201, bin m c 232 main_v200, un m c 106 main_v82, un m c 104 main_v80, re m c 103 main_v79, re m c 102 main_v78]; rfl) (solved_128 m c)

theorem solved_512 : Solves 512 (V m c main_v66) (V m c main_v68) (V m c main_v212) :=
  solve (n := 256) (by rw [bin m c 99 main_v75, un m c 96 main_v72, un m c 95 main_v71, re m c 93 main_v69]; rfl)
    (by rw [bin m c 101 main_v77, bin m c 100 main_v76, un m c 98 main_v74, un m c 97 main_v73, un m c 96 main_v72, re m c 94 main_v70, re m c 93 main_v69]; rfl)
    (z := V m c main_v206) (by rw [un m c 239 main_v206, nul m c 238 main_cst_14]; exact zero)
    (by rw [re m c 245 main_v212, bin m c 244 main_v211, bin m c 243 main_v210, bin m c 242 main_v209, un m c 241 main_v208, bin m c 240 main_v207, un m c 97 main_v73, un m c 95 main_v71, re m c 94 main_v70, re m c 93 main_v69]; rfl) (solved_256 m c)

theorem solved_1024 : Solves 1024 (V m c main_v57) (V m c main_v59) (V m c main_v219) :=
  solve (n := 512) (by rw [bin m c 90 main_v66, un m c 87 main_v63, un m c 86 main_v62, re m c 84 main_v60]; rfl)
    (by rw [bin m c 92 main_v68, bin m c 91 main_v67, un m c 89 main_v65, un m c 88 main_v64, un m c 87 main_v63, re m c 85 main_v61, re m c 84 main_v60]; rfl)
    (z := V m c main_v213) (by rw [un m c 247 main_v213, nul m c 246 main_cst_15]; exact zero)
    (by rw [re m c 253 main_v219, bin m c 252 main_v218, bin m c 251 main_v217, bin m c 250 main_v216, un m c 249 main_v215, bin m c 248 main_v214, un m c 88 main_v64, un m c 86 main_v62, re m c 85 main_v61, re m c 84 main_v60]; rfl) (solved_512 m c)

theorem solved_2048 : Solves 2048 (V m c main_v48) (V m c main_v50) (V m c main_v226) :=
  solve (n := 1024) (by rw [bin m c 81 main_v57, un m c 78 main_v54, un m c 77 main_v53, re m c 75 main_v51]; rfl)
    (by rw [bin m c 83 main_v59, bin m c 82 main_v58, un m c 80 main_v56, un m c 79 main_v55, un m c 78 main_v54, re m c 76 main_v52, re m c 75 main_v51]; rfl)
    (z := V m c main_v220) (by rw [un m c 255 main_v220, nul m c 254 main_cst_16]; exact zero)
    (by rw [re m c 261 main_v226, bin m c 260 main_v225, bin m c 259 main_v224, bin m c 258 main_v223, un m c 257 main_v222, bin m c 256 main_v221, un m c 79 main_v55, un m c 77 main_v53, re m c 76 main_v52, re m c 75 main_v51]; rfl) (solved_1024 m c)

theorem solved_4096 : Solves 4096 (V m c main_v29) (V m c main_v41) (V m c main_v233) :=
  solve (n := 2048) (by rw [bin m c 72 main_v48, un m c 69 main_v45, un m c 68 main_v44, re m c 66 main_v42]; rfl)
    (by rw [bin m c 74 main_v50, bin m c 73 main_v49, un m c 71 main_v47, un m c 70 main_v46, un m c 69 main_v45, re m c 67 main_v43, re m c 66 main_v42]; rfl)
    (z := V m c main_v227) (by rw [un m c 263 main_v227, nul m c 262 main_cst_17]; exact zero)
    (by rw [re m c 269 main_v233, bin m c 268 main_v232, bin m c 267 main_v231, bin m c 266 main_v230, un m c 265 main_v229, bin m c 264 main_v228, un m c 70 main_v46, un m c 68 main_v44, re m c 67 main_v43, re m c 66 main_v42]; rfl) (solved_2048 m c)

end Cert.RecHost
-- ==== Proof.Recurrence.Levels.lean ====
module

public import proofs.«01_k».proof.Proof.Gen.Reference14Ideal.Read
public import proofs.«01_k».proof.Proof.Recurrence.Scan

/-! The reference's recurrence, level by level: twelve halvings of the 4096 rows. -/

@[expose] public section

noncomputable section

namespace Cert.RecRef

open Cert.Reference14Ideal Cert.Reference14Ideal.Gen Cert.Reference14Ideal.Read Cert.Scan
open Idealize.ShloMosaic Idealize.ShloMosaic.StableHlo Idealize.ShloMosaic.Pointwise

theorem nought (i : S_.Idx) : constant (F := Ideal) S_ .f32 0x00000000#32 i = 0 := by pointwise []

theorem zero (i : S1x768.Idx) : broadcastInDim S1x768 ![] bcast_S_S1x768 (constant (F := Ideal) S_ .f32 0x00000000#32) i = 0 := by
  pointwise []

variable (x0 : (⟨S4096x2048, .f32⟩ : BufTy).Contents (Elt Ideal)) (x1 : (⟨S4096x768, .f32⟩ : BufTy).Contents (Elt Ideal))
  (x2 : (⟨S4096x5376, .f32⟩ : BufTy).Contents (Elt Ideal)) (x3 : (⟨S6x128x128, .f32⟩ : BufTy).Contents (Elt Ideal))
  (x4 : (⟨S1x768, .f32⟩ : BufTy).Contents (Elt Ideal)) (x5 : (⟨S6x128x128, .f32⟩ : BufTy).Contents (Elt Ideal))
  (x6 x7 : (⟨S1x768, .f32⟩ : BufTy).Contents (Elt Ideal))
include x0 x1 x2 x3 x4 x5 x6 x7

theorem level_2 : Level 2 (val_main_v148 (F := Ideal) x1 x3 x4 x7) (val_main_v150 (F := Ideal) x1 x3 x4 x5 x6 x7) (val_main_v167 (F := Ideal) x1 x3 x4 x5 x6 x7) (val_main_v391 (F := Ideal) x0 x1 x2 x3 x4 x7)
    (val_main_v410 (F := Ideal) x0 x1 x2 x3 x4 x7) (val_main_v411 (F := Ideal) x0 x1 x2 x3 x4 x5 x6 x7) :=
  level (n := 1) (d' := lift 1 fun _ _ => 0) rfl rfl zero rfl nought rfl nought nought rfl nought nought
    (by rw [mul_none, mul_none']; rfl) (level_one _ _ _)

theorem level_4 : Level 4 (val_main_v139 (F := Ideal) x1 x3 x4 x7) (val_main_v141 (F := Ideal) x1 x3 x4 x5 x6 x7) (val_main_v175 (F := Ideal) x1 x3 x4 x5 x6 x7) (val_main_v382 (F := Ideal) x0 x1 x2 x3 x4 x7)
    (val_main_v425 (F := Ideal) x0 x1 x2 x3 x4 x7) (val_main_v426 (F := Ideal) x0 x1 x2 x3 x4 x5 x6 x7) :=
  level (n := 2) rfl rfl zero rfl nought rfl nought nought rfl nought nought rfl (level_2 x0 x1 x2 x3 x4 x5 x6 x7)

theorem level_8 : Level 8 (val_main_v130 (F := Ideal) x1 x3 x4 x7) (val_main_v132 (F := Ideal) x1 x3 x4 x5 x6 x7) (val_main_v183 (F := Ideal) x1 x3 x4 x5 x6 x7) (val_main_v373 (F := Ideal) x0 x1 x2 x3 x4 x7)
    (val_main_v440 (F := Ideal) x0 x1 x2 x3 x4 x7) (val_main_v441 (F := Ideal) x0 x1 x2 x3 x4 x5 x6 x7) :=
  level (n := 4) rfl rfl zero rfl nought rfl nought nought rfl nought nought rfl (level_4 x0 x1 x2 x3 x4 x5 x6 x7)

theorem level_16 : Level 16 (val_main_v121 (F := Ideal) x1 x3 x4 x7) (val_main_v123 (F := Ideal) x1 x3 x4 x5 x6 x7) (val_main_v191 (F := Ideal) x1 x3 x4 x5 x6 x7) (val_main_v364 (F := Ideal) x0 x1 x2 x3 x4 x7)
    (val_main_v455 (F := Ideal) x0 x1 x2 x3 x4 x7) (val_main_v456 (F := Ideal) x0 x1 x2 x3 x4 x5 x6 x7) :=
  level (n := 8) rfl rfl zero rfl nought rfl nought nought rfl nought nought rfl (level_8 x0 x1 x2 x3 x4 x5 x6 x7)

theorem level_32 : Level 32 (val_main_v112 (F := Ideal) x1 x3 x4 x7) (val_main_v114 (F := Ideal) x1 x3 x4 x5 x6 x7) (val_main_v199 (F := Ideal) x1 x3 x4 x5 x6 x7) (val_main_v355 (F := Ideal) x0 x1 x2 x3 x4 x7)
    (val_main_v470 (F := Ideal) x0 x1 x2 x3 x4 x7) (val_main_v471 (F := Ideal) x0 x1 x2 x3 x4 x5 x6 x7) :=
  level (n := 16) rfl rfl zero rfl nought rfl nought nought rfl nought nought rfl (level_16 x0 x1 x2 x3 x4 x5 x6 x7)

theorem level_64 : Level 64 (val_main_v103 (F := Ideal) x1 x3 x4 x7) (val_main_v105 (F := Ideal) x1 x3 x4 x5 x6 x7) (val_main_v207 (F := Ideal) x1 x3 x4 x5 x6 x7) (val_main_v346 (F := Ideal) x0 x1 x2 x3 x4 x7)
    (val_main_v485 (F := Ideal) x0 x1 x2 x3 x4 x7) (val_main_v486 (F := Ideal) x0 x1 x2 x3 x4 x5 x6 x7) :=
  level (n := 32) rfl rfl zero rfl nought rfl nought nought rfl nought nought rfl (level_32 x0 x1 x2 x3 x4 x5 x6 x7)

theorem level_128 : Level 128 (val_main_v94 (F := Ideal) x1 x3 x4 x7) (val_main_v96 (F := Ideal) x1 x3 x4 x5 x6 x7) (val_main_v215 (F := Ideal) x1 x3 x4 x5 x6 x7) (val_main_v337 (F := Ideal) x0 x1 x2 x3 x4 x7)
    (val_main_v500 (F := Ideal) x0 x1 x2 x3 x4 x7) (val_main_v501 (F := Ideal) x0 x1 x2 x3 x4 x5 x6 x7) :=
  level (n := 64) rfl rfl zero rfl nought rfl nought nought rfl nought nought rfl (level_64 x0 x1 x2 x3 x4 x5 x6 x7)

theorem level_256 : Level 256 (val_main_v85 (F := Ideal) x1 x3 x4 x7) (val_main_v87 (F := Ideal) x1 x3 x4 x5 x6 x7) (val_main_v223 (F := Ideal) x1 x3 x4 x5 x6 x7) (val_main_v328 (F := Ideal) x0 x1 x2 x3 x4 x7)
    (val_main_v515 (F := Ideal) x0 x1 x2 x3 x4 x7) (val_main_v516 (F := Ideal) x0 x1 x2 x3 x4 x5 x6 x7) :=
  level (n := 128) rfl rfl zero rfl nought rfl nought nought rfl nought nought rfl (level_128 x0 x1 x2 x3 x4 x5 x6 x7)

theorem level_512 : Level 512 (val_main_v76 (F := Ideal) x1 x3 x4 x7) (val_main_v78 (F := Ideal) x1 x3 x4 x5 x6 x7) (val_main_v231 (F := Ideal) x1 x3 x4 x5 x6 x7) (val_main_v319 (F := Ideal) x0 x1 x2 x3 x4 x7)
    (val_main_v530 (F := Ideal) x0 x1 x2 x3 x4 x7) (val_main_v531 (F := Ideal) x0 x1 x2 x3 x4 x5 x6 x7) :=
  level (n := 256) rfl rfl zero rfl nought rfl nought nought rfl nought nought rfl (level_256 x0 x1 x2 x3 x4 x5 x6 x7)

theorem level_1024 : Level 1024 (val_main_v67 (F := Ideal) x1 x3 x4 x7) (val_main_v69 (F := Ideal) x1 x3 x4 x5 x6 x7) (val_main_v239 (F := Ideal) x1 x3 x4 x5 x6 x7) (val_main_v310 (F := Ideal) x0 x1 x2 x3 x4 x7)
    (val_main_v545 (F := Ideal) x0 x1 x2 x3 x4 x7) (val_main_v546 (F := Ideal) x0 x1 x2 x3 x4 x5 x6 x7) :=
  level (n := 512) rfl rfl zero rfl nought rfl nought nought rfl nought nought rfl (level_512 x0 x1 x2 x3 x4 x5 x6 x7)

theorem level_2048 : Level 2048 (val_main_v58 (F := Ideal) x1 x3 x4 x7) (val_main_v60 (F := Ideal) x1 x3 x4 x5 x6 x7) (val_main_v247 (F := Ideal) x1 x3 x4 x5 x6 x7) (val_main_v301 (F := Ideal) x0 x1 x2 x3 x4 x7)
    (val_main_v560 (F := Ideal) x0 x1 x2 x3 x4 x7) (val_main_v561 (F := Ideal) x0 x1 x2 x3 x4 x5 x6 x7) :=
  level (n := 1024) rfl rfl zero rfl nought rfl nought nought rfl nought nought rfl (level_1024 x0 x1 x2 x3 x4 x5 x6 x7)

theorem level_4096 : Level 4096 (val_main_v36 (F := Ideal) x1 x3 x4 x7) (val_main_v51 (F := Ideal) x1 x3 x4 x5 x6 x7) (val_main_v255 (F := Ideal) x1 x3 x4 x5 x6 x7) (val_main_v280 (F := Ideal) x0 x2)
    (val_main_v575 (F := Ideal) x0 x1 x2 x3 x4 x7) (val_main_v576 (F := Ideal) x0 x1 x2 x3 x4 x5 x6 x7) :=
  level (n := 2048) rfl rfl zero rfl nought rfl nought nought rfl nought nought rfl (level_2048 x0 x1 x2 x3 x4 x5 x6 x7)

end Cert.RecRef
-- ==== Proof.Recurrence.Spec.lean ====
module

public import proofs.«01_k».proof.Proof.Spec
public import proofs.«01_k».proof.Proof.Recurrence.Scan

/-! The gradient of the gated linear recurrence over the real numbers. `dm` is the cotangent of the mixed
columns (`1280 …` this mixer's), `x` its input after the convolution, `p` the projection (`4608 …` the output
gate's columns), `wa wx ba bx` the two gates' block-diagonal weights and biases, `l` the decay's parameter.
Rows, columns and blocks are natural numbers. -/

@[expose] public section

noncomputable section

namespace Cert.Lru

open Cert.Spec Cert.Scan

/-- The logistic function. -/
def sg (z : ℝ) : ℝ := 1 / (1 + Real.exp (-z))
/-- `log (1 + exp z)`. -/
def spl (z : ℝ) : ℝ := max z 0 + Real.log (1 + Real.exp (-|z|))

structure Args where
  dm : ℕ → ℕ → ℝ
  x : ℕ → ℕ → ℝ
  p : ℕ → ℕ → ℝ
  wa : ℕ → ℕ → ℕ → ℝ
  ba : ℕ → ℝ
  wx : ℕ → ℕ → ℕ → ℝ
  bx : ℕ → ℝ
  l : ℕ → ℝ

namespace Args

variable (A : Args)

/-- A gate before its logistic function. -/
def pre (w : ℕ → ℕ → ℕ → ℝ) (b : ℕ → ℝ) (t c : ℕ) : ℝ := (∑ k : Fin 128, A.x t (c / 128 * 128 + k.val) * w (c / 128) k.val (c % 128)) + b c
def r (t c : ℕ) : ℝ := sg (A.pre A.wa A.ba t c)
def i (t c : ℕ) : ℝ := sg (A.pre A.wx A.bx t c)
def sp (c : ℕ) : ℝ := spl (-A.l c)
/-- The logarithm of the decay. -/
def la (t c : ℕ) : ℝ := -8 * A.r t c * A.sp c
/-- The decay. -/
def a (t c : ℕ) : ℝ := Real.exp (A.la t c)
def root (t c : ℕ) : ℝ := Real.sqrt (1 - Real.exp (2 * A.la t c))
def mult (t c : ℕ) : ℝ := if t = 0 then 1 else A.root t c
def b (t c : ℕ) : ℝ := A.mult t c * A.i t c * A.x t c
/-- The states. -/
def h : ℕ → ℕ → ℝ := sol A.a A.b
/-- The cotangent of the states from outside the recurrence. -/
def g (t c : ℕ) : ℝ := A.dm t (1280 + c) * gelu (A.p t (4608 + c))
/-- The cotangent of the states. -/
def lm : ℕ → ℕ → ℝ := lam 4096 A.a A.g
def dlog (t c : ℕ) : ℝ := A.a t c * (A.lm t c * prev A.a A.b t c)
  - if t = 0 then 0 else A.lm t c * A.i t c * A.x t c * A.a t c * A.a t c / A.root t c
def dpr (t c : ℕ) : ℝ := A.dlog t c * (-8 * A.sp c) * A.r t c * (1 - A.r t c)
def dpi (t c : ℕ) : ℝ := A.lm t c * A.mult t c * A.x t c * A.i t c * (1 - A.i t c)
/-- What a gate hands back to its input. -/
def back (f : ℕ → ℕ → ℝ) (w : ℕ → ℕ → ℕ → ℝ) (t c : ℕ) : ℝ := ∑ k : Fin 128, f t (c / 128 * 128 + k.val) * w (c / 128) (c % 128) k.val
def dx (t c : ℕ) : ℝ := A.lm t c * A.mult t c * A.i t c + back A.dpr A.wa t c + back A.dpi A.wx t c
def dgate (t c : ℕ) : ℝ := A.dm t (1280 + c) * A.h t c * Cert.Spec.slope (A.p t (4608 + c))
def dw (f : ℕ → ℕ → ℝ) (j k o : ℕ) : ℝ := ∑ t : Fin 4096, A.x t.val (j * 128 + k) * f t.val (j * 128 + o)
def db (f : ℕ → ℕ → ℝ) (c : ℕ) : ℝ := ∑ t : Fin 4096, f t.val c
def dl (c : ℕ) : ℝ := (∑ t : Fin 4096, A.dlog t.val c * (-8 * A.r t.val c)) * -sg (-A.l c)

end Args

theorem sg_pos (z : ℝ) : 0 < sg z := by unfold sg; positivity

theorem spl_pos (z : ℝ) : 0 < spl z := by
  have h : 0 < Real.log (1 + Real.exp (-|z|)) := Real.log_pos (by have := Real.exp_pos (-|z|); linarith)
  have := le_max_right z 0
  unfold spl; linarith

theorem exp_sub_spl (z : ℝ) : Real.exp (z - spl z) = sg z := by
  unfold spl sg
  have h : 0 < 1 + Real.exp (-|z|) := by positivity
  rw [Real.exp_sub, Real.exp_add, Real.exp_log h]
  rcases le_total 0 z with hz | hz
  · rw [max_eq_left hz, abs_of_nonneg hz]
    have := Real.exp_pos z
    field_simp
  · rw [max_eq_right hz, abs_of_nonpos hz, neg_neg, Real.exp_zero, Real.exp_neg]
    have := Real.exp_pos z
    field_simp
    ring

variable (A : Args) (t c : ℕ)

theorem la_neg : A.la t c < 0 := by
  have h1 : 0 < A.r t c := sg_pos _
  have h2 : 0 < A.sp c := spl_pos _
  have := mul_pos h1 h2
  unfold Args.la; linarith

theorem exp_lt_one : Real.exp (2 * A.la t c) < 1 := by
  rw [← Real.exp_zero]
  exact Real.exp_lt_exp.mpr (by have := la_neg A t c; linarith)

theorem root_pos : 0 < A.root t c := Real.sqrt_pos.mpr (by have := exp_lt_one A t c; linarith)

theorem mult_pos : 0 < A.mult t c := by
  unfold Args.mult; split
  · exact one_pos
  · exact root_pos A t c

theorem exp_two : Real.exp (2 * A.la t c) = A.a t c * A.a t c := by
  rw [two_mul, Real.exp_add]; rfl

/-! ### The same formulas over the extended reals -/

open Idealize.ShloMosaic

theorem ofBits_eight : Ideal.ofBits .f32 0xC1000000#32 = ((-8 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_inf : Ideal.ofBits .f32 0x7F800000#32 = ⊤ := by
  simp [Ideal.ofBits, Ideal.ieee]

theorem div_real (u v : ℝ) (h : v ≠ 0) : Ideal.div (u : EReal) (v : EReal) = ((u / v : ℝ) : EReal) := by
  rw [Ideal.div_coe h, ← EReal.coe_mul]
  congr 1; ring

theorem max_coe (u v : ℝ) : max (u : EReal) (v : EReal) = ((max u v : ℝ) : EReal) := (EReal.coe_strictMono.monotone.map_max).symm

theorem abs_coe (u : ℝ) : (FloatOps.absf (F := Ideal) (φ := .f32) (u : EReal) : EReal) = ((|u| : ℝ) : EReal) := by
  show max (u : EReal) (-(u : EReal)) = _
  rw [← EReal.coe_neg, max_coe]; rfl

theorem sg_coe (z : ℝ) : Ideal.div 1 (1 + Ideal.exp (-(z : EReal))) = (sg z : EReal) := by
  rw [← EReal.coe_neg, Ideal.exp_coe, ← EReal.coe_one, ← EReal.coe_add, div_real _ _ (by positivity)]
  rfl

theorem spl_coe (z : ℝ) : max (z : EReal) 0 + Ideal.log1p (Ideal.exp (-(FloatOps.absf (F := Ideal) (φ := .f32) (z : EReal) : EReal)))
    = (spl z : EReal) := by
  rw [abs_coe, ← EReal.coe_neg, Ideal.exp_coe, ← EReal.coe_zero, max_coe]
  show _ + Ideal.log (1 + _) = _
  rw [← EReal.coe_one, ← EReal.coe_add, Ideal.log_coe, if_neg (not_le.mpr (by positivity)), ← EReal.coe_add]
  rfl

theorem root_coe : Ideal.sqrt (-(Ideal.exp ((2 * A.la t c : ℝ) : EReal) - 1)) = (A.root t c : EReal) := by
  have := exp_lt_one A t c
  rw [Ideal.exp_coe, ← EReal.coe_one, ← EReal.coe_sub, ← EReal.coe_neg, Ideal.sqrt_coe, if_neg (by linarith), Args.root]
  congr 2; ring

end Cert.Lru

end
-- ==== Proof.Recurrence.Ref.lean ====
module

public import proofs.«01_k».proof.Proof.Recurrence.Levels
public import proofs.«01_k».proof.Proof.Recurrence.Spec

/-! The reference's results, element by element, are the real formulas of `Recurrence/Spec`. -/

@[expose] public section

noncomputable section

namespace Cert.RecRef

open Cert.Reference14Ideal Cert.Reference14Ideal.Gen Cert.Reference14Ideal.Read Cert.Lru Cert.Spec Cert.Scan
open Idealize.ShloMosaic Idealize.ShloMosaic.StableHlo Idealize.ShloMosaic.Pointwise

/-- The arrays are the finite numbers of `A`. -/
structure Holds (A : Args) (x0 : (⟨S4096x2048, .f32⟩ : BufTy).Contents (Elt Ideal)) (x1 : (⟨S4096x768, .f32⟩ : BufTy).Contents (Elt Ideal))
    (x2 : (⟨S4096x5376, .f32⟩ : BufTy).Contents (Elt Ideal)) (x3 : (⟨S6x128x128, .f32⟩ : BufTy).Contents (Elt Ideal))
    (x4 : (⟨S1x768, .f32⟩ : BufTy).Contents (Elt Ideal)) (x5 : (⟨S6x128x128, .f32⟩ : BufTy).Contents (Elt Ideal))
    (x6 x7 : (⟨S1x768, .f32⟩ : BufTy).Contents (Elt Ideal)) : Prop where
  dm : ∀ a b, x0 (ix2 a b) = (A.dm a.val b.val : EReal)
  x : ∀ a b, x1 (ix2 a b) = (A.x a.val b.val : EReal)
  p : ∀ a b, x2 (ix2 a b) = (A.p a.val b.val : EReal)
  wa : ∀ a b d, x3 (ix3 a b d) = (A.wa a.val b.val d.val : EReal)
  ba : ∀ a b, x4 (ix2 a b) = (A.ba b.val : EReal)
  wx : ∀ a b d, x5 (ix3 a b d) = (A.wx a.val b.val d.val : EReal)
  bx : ∀ a b, x6 (ix2 a b) = (A.bx b.val : EReal)
  l : ∀ a b, x7 (ix2 a b) = (A.l b.val : EReal)

variable {A : Args} {x0 : (⟨S4096x2048, .f32⟩ : BufTy).Contents (Elt Ideal)} {x1 : (⟨S4096x768, .f32⟩ : BufTy).Contents (Elt Ideal)}
  {x2 : (⟨S4096x5376, .f32⟩ : BufTy).Contents (Elt Ideal)} {x3 : (⟨S6x128x128, .f32⟩ : BufTy).Contents (Elt Ideal)}
  {x4 : (⟨S1x768, .f32⟩ : BufTy).Contents (Elt Ideal)} {x5 : (⟨S6x128x128, .f32⟩ : BufTy).Contents (Elt Ideal)}
  {x6 x7 : (⟨S1x768, .f32⟩ : BufTy).Contents (Elt Ideal)} (H : Holds A x0 x1 x2 x3 x4 x5 x6 x7) (t : Fin 4096) (c : Fin 768)

theorem ix2_forall {n k : ℕ} {f : ({ rank := 2, size := ![n, k] } : Shape).Idx → EReal} {g : ℕ → ℕ → ℝ}
    (h : ∀ (t : Fin n) (c : Fin k), f (ix2 t c) = (g t.val c.val : EReal)) (i) : f i = (g (i 0).val (i 1).val : EReal) := by
  rw [← h (i 0) (i 1)]
  exact congrArg f (funext fun a => by match a with
    | ⟨0, _⟩ => rfl
    | ⟨1, _⟩ => rfl)

include H

theorem v6_at : (val_main_v6 (F := Ideal) x1 x3 x4) (ix2 t c) = ((A.pre A.wa A.ba t.val c.val : ℝ) : EReal) := by
  pointwise [val_main_v6, val_main_v5, val_main_v4, val_main_v3, val_main_v2, val_main_v1]
  simp only [H.wa, H.x, H.ba, ← EReal.coe_mul, ← coe_sum, ← EReal.coe_add]
  unfold Args.pre
  simp only [mul_comm]

theorem v20_at : (val_main_v20 (F := Ideal) x1 x5 x6) (ix2 t c) = ((A.pre A.wx A.bx t.val c.val : ℝ) : EReal) := by
  pointwise [val_main_v20, val_main_v19, val_main_v18, val_main_v17, val_main_v16, val_main_v1]
  simp only [H.wx, H.x, H.bx, ← EReal.coe_mul, ← coe_sum, ← EReal.coe_add]
  unfold Args.pre
  simp only [mul_comm]

theorem v12_at : (val_main_v12 (F := Ideal) x1 x3 x4) (ix2 t c) = ((A.r t.val c.val : ℝ) : EReal) := by
  pointwise [val_main_v7, val_main_v8, val_main_v9, val_main_v10, val_main_v11, val_main_v12, val_main_cst, val_main_cst_0]
  rw [v6_at H, sg_coe]
  rfl

theorem v26_at : (val_main_v26 (F := Ideal) x1 x5 x6) (ix2 t c) = ((A.i t.val c.val : ℝ) : EReal) := by
  pointwise [val_main_v21, val_main_v22, val_main_v23, val_main_v24, val_main_v25, val_main_v26, val_main_cst_2, val_main_cst_3]
  rw [v20_at H, sg_coe]
  rfl

theorem v33_0_at : (val_main_v33_0 (F := Ideal) x7) (ix2 0 c) = ((A.sp c.val : ℝ) : EReal) := by
  pointwise [val_main_v33_0, val_main_v32, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_cst]
  rw [if_neg (not_not.mpr rfl), H.l, ← EReal.coe_neg, spl_coe]
  rfl

theorem v33_1_at : (val_main_v33_1 (F := Ideal) x7) (ix2 0 c) = ((sg (-A.l c.val) : ℝ) : EReal) := by
  pointwise [val_main_v33_1, val_main_v32, val_main_call0_v13, val_main_call0_v14, val_main_call0_v15, val_main_call0_v16, val_main_call0_v17, val_main_call0_v18, val_main_call0_v19, val_main_call0_v20, val_main_call0_v21, val_main_call0_cst_0, val_main_call0_cst_1, val_main_call0_cst_2, val_main_call0_cst_3]
  rw [v33_0_at H, H.l, ← EReal.coe_neg, ofBits_inf, if_neg (EReal.coe_ne_top _), if_neg (EReal.coe_ne_top _), ← EReal.coe_sub, Ideal.exp_coe]
  exact congrArg _ (exp_sub_spl _)

theorem v31_at : (val_main_v31 (F := Ideal) x1 x3 x4) (ix2 t c) = ((-8 * A.r t.val c.val : ℝ) : EReal) := by
  pointwise [val_main_v31, val_main_v30, val_main_cst_5]
  rw [v12_at H, ofBits_eight, ← EReal.coe_mul]

theorem v35_at : (val_main_v35 (F := Ideal) x1 x3 x4 x7) (ix2 t c) = ((A.la t.val c.val : ℝ) : EReal) := by
  pointwise [val_main_v35, val_main_v34]
  rw [v31_at H, v33_0_at H, ← EReal.coe_mul]
  rfl

theorem v36_at : (val_main_v36 (F := Ideal) x1 x3 x4 x7) (ix2 t c) = ((A.a t.val c.val : ℝ) : EReal) := by
  pointwise [val_main_v36]
  rw [v35_at H, Ideal.exp_coe]
  rfl

theorem v38_at : (val_main_v38 (F := Ideal) x1 x3 x4 x7) (ix2 t c) = ((2 * A.la t.val c.val : ℝ) : EReal) := by
  pointwise [val_main_v38, val_main_v37, val_main_cst_6]
  rw [v35_at H, ofBits_two, ← EReal.coe_mul]

theorem v40_at : (val_main_v40 (F := Ideal) x1 x3 x4 x7) (ix2 t c) = ((A.a t.val c.val * A.a t.val c.val : ℝ) : EReal) := by
  pointwise [val_main_v40]
  rw [v38_at H, Ideal.exp_coe, exp_two]

theorem v42_at : (val_main_v42 (F := Ideal) x1 x3 x4 x7) (ix2 t c) = ((A.root t.val c.val : ℝ) : EReal) := by
  pointwise [val_main_v42, val_main_v41, val_main_v39]
  rw [v38_at H, root_coe]

theorem v44_at : (val_main_v44 (F := Ideal) x1 x3 x4 x7) (ix2 t c) = ((1 / 2 / A.root t.val c.val : ℝ) : EReal) := by
  pointwise [val_main_v44, val_main_v43, val_main_cst_7]
  rw [v42_at H, ofBits_half, div_real _ _ (root_pos A _ _).ne']

omit H in
theorem first {α : Type} (u v : α) : Scalar.select (IntOp.cmpi CmpIPredicate.eq (BitVec.ofNat 32 t.val) 0#32) u v = if t.val = 0 then u else v := by
  have e : IntOp.cmpi CmpIPredicate.eq (BitVec.ofNat 32 t.val) 0#32 = if t.val = 0 then 1#1 else 0#1 := by
    revert t; decide +kernel
  rw [e]
  split <;> rfl

theorem v49_at : (val_main_v49_0 (F := Ideal) x1 x3 x4 x7) (ix2 t c) = ((A.mult t.val c.val : ℝ) : EReal) := by
  pointwise [val_main_v49_0, val_main_v49_1, val_main_v48, val_main_v47, val_main_v46, val_main_v45, val_main_c, val_main_call1_v2, val_main_call1_v0, val_main_cst_8]
  rw [v42_at H, first]
  unfold Args.mult
  split
  · exact ofBits_one
  · rfl

theorem v50_at : (val_main_v50 (F := Ideal) x1 x3 x4 x5 x6 x7) (ix2 t c) = ((A.mult t.val c.val * A.i t.val c.val : ℝ) : EReal) := by
  pointwise [val_main_v50]
  rw [v49_at H, v26_at H, ← EReal.coe_mul]

theorem v51_at : (val_main_v51 (F := Ideal) x1 x3 x4 x5 x6 x7) (ix2 t c) = ((A.b t.val c.val : ℝ) : EReal) := by
  pointwise [val_main_v51]
  rw [v50_at H, H.x, ← EReal.coe_mul]
  rfl

theorem v266_at : (val_main_v266 (F := Ideal) x2) (ix2 t c) = ((th (A.p t.val (4608 + c.val)) : ℝ) : EReal) := by
  pointwise [val_main_v266, val_main_v265, val_main_v264, val_main_v263, val_main_v262, val_main_v261, val_main_v257, val_main_v256, val_main_v0, val_main_cst_34, val_main_cst_35]
  rw [H.p, ofBits_g0, ofBits_g1]
  simp only [← EReal.coe_mul, ← EReal.coe_add, Ideal.tanh_coe]
  unfold th
  ring_nf

theorem v280_at : (val_main_v280 (F := Ideal) x0 x2) (ix2 t c) = ((A.g t.val c.val : ℝ) : EReal) := by
  pointwise [val_main_v280, val_main_v278, val_main_v276, val_main_v275, val_main_v274, val_main_v273, val_main_v272, val_main_v0, val_main_cst_38, val_main_cst_39]
  rw [v266_at H, H.p, H.dm, ofBits_half]
  simp only [← EReal.coe_one, ← EReal.coe_mul, ← EReal.coe_add]
  unfold Args.g gelu
  ring_nf

theorem v36_lift : (val_main_v36 (F := Ideal) x1 x3 x4 x7) = lift 4096 A.a := funext fun i => ix2_forall (v36_at H) i
theorem v51_lift : (val_main_v51 (F := Ideal) x1 x3 x4 x5 x6 x7) = lift 4096 A.b := funext fun i => ix2_forall (v51_at H) i
theorem v280_lift : (val_main_v280 (F := Ideal) x0 x2) = lift 4096 A.g := funext fun i => ix2_forall (v280_at H) i
theorem v255_at : (val_main_v255 (F := Ideal) x1 x3 x4 x5 x6 x7) (ix2 t c) = (A.h t.val c.val : EReal) :=
  congrFun ((level_4096 x0 x1 x2 x3 x4 x5 x6 x7).solves A.a A.b (v36_lift H) (v51_lift H)) (ix2 t c)
theorem v575_at : (val_main_v575 (F := Ideal) x0 x1 x2 x3 x4 x7) (ix2 t c) = (A.lm t.val c.val : EReal) :=
  congrFun ((level_4096 x0 x1 x2 x3 x4 x5 x6 x7).pulls A.a A.b A.g (v36_lift H) (v51_lift H) (v280_lift H)).1 (ix2 t c)
theorem v576_at : (val_main_v576 (F := Ideal) x0 x1 x2 x3 x4 x5 x6 x7) (ix2 t c) = ((A.lm t.val c.val * prev A.a A.b t.val c.val : ℝ) : EReal) :=
  (congrFun ((level_4096 x0 x1 x2 x3 x4 x5 x6 x7).pulls A.a A.b A.g (v36_lift H) (v51_lift H) (v280_lift H)).2 (ix2 t c)).trans (EReal.coe_mul _ _)

theorem v292_at : (val_main_v292 (F := Ideal) x0 x1 x2 x3 x4 x5 x6 x7) (ix2 t c) = ((A.dgate t.val c.val : ℝ) : EReal) := by
  pointwise [val_main_v281, val_main_v282, val_main_v283, val_main_v284, val_main_v285, val_main_v286, val_main_v287, val_main_v288, val_main_v289, val_main_v290, val_main_v291, val_main_v292, val_main_v279, val_main_v278, val_main_v275, val_main_v274, val_main_v273, val_main_v272, val_main_v271, val_main_v270, val_main_v269, val_main_v268, val_main_v267, val_main_v260, val_main_v259, val_main_v258, val_main_v0, val_main_cst_33, val_main_cst_36, val_main_cst_37, val_main_cst_38, val_main_cst_39, val_main_cst_40, val_main_cst_41, val_main_cst_42]
  rw [v266_at H, v255_at H, H.p, H.dm, ofBits_half, ofBits_three, ofBits_g0, ofBits_g1]
  simp only [← EReal.coe_one, ← EReal.coe_mul, ← EReal.coe_add, ← EReal.coe_sub]
  unfold Args.dgate Spec.slope
  ring_nf

theorem v588_at : (val_main_v588 (F := Ideal) x0 x1 x2 x3 x4 x5 x6 x7) (ix2 t c) = ((A.dlog t.val c.val : ℝ) : EReal) := by
  pointwise [val_main_v578, val_main_v579, val_main_v580, val_main_v581, val_main_v582, val_main_v583, val_main_v584, val_main_v585, val_main_v586, val_main_v587, val_main_v588, val_main_v49_1, val_main_v48, val_main_v47, val_main_v46, val_main_v45, val_main_c, val_main_call2_v0, val_main_call2_cst, val_main_cst_103]
  rw [v576_at H, v575_at H, v26_at H, v36_at H, v40_at H, v44_at H, H.x, ofBits_two, first]
  unfold Args.dlog
  split
  · simp only [← EReal.coe_zero, ← EReal.coe_mul, ← EReal.coe_add, ← EReal.coe_neg]
    ring_nf
  · simp only [← EReal.coe_mul, ← EReal.coe_add, ← EReal.coe_neg]
    ring_nf

theorem v607_at : (val_main_v607 (F := Ideal) x0 x1 x2 x3 x4 x5 x6 x7) (ix2 t c) = ((A.dpr t.val c.val : ℝ) : EReal) := by
  pointwise [val_main_v607, val_main_v597, val_main_v596, val_main_v593, val_main_v592, val_main_v15, val_main_v14, val_main_v13, val_main_cst_1, val_main_cst_105]
  rw [v588_at H, v33_0_at H, v12_at H, ofBits_eight]
  simp only [← EReal.coe_one, ← EReal.coe_mul, ← EReal.coe_sub]
  unfold Args.dpr
  ring_nf

theorem v598_at : (val_main_v598 (F := Ideal) x0 x1 x2 x3 x4 x5 x6 x7) (ix2 t c) = ((A.dpi t.val c.val : ℝ) : EReal) := by
  pointwise [val_main_v598, val_main_v579, val_main_v578, val_main_v29, val_main_v28, val_main_v27, val_main_cst_4]
  rw [v575_at H, v49_at H, v26_at H, H.x]
  simp only [← EReal.coe_one, ← EReal.coe_mul, ← EReal.coe_sub]
  unfold Args.dpi
  ring_nf

theorem v595_at : (val_main_v595 (F := Ideal) x0 x1 x2 x3 x4 x5 x6 x7) (ix2 0 c) = ((A.dl c.val : ℝ) : EReal) := by
  pointwise [val_main_v595, val_main_v594, val_main_v591, val_main_v590, val_main_v589, val_main_cst_104]
  simp only [v588_at H, v31_at H, v33_1_at H, ← EReal.coe_mul, ← coe_sum, ← EReal.coe_neg]
  unfold Args.dl
  simp only [mul_comm, neg_mul, mul_neg]

theorem v609_at : (val_main_v609 (F := Ideal) x0 x1 x2 x3 x4 x5 x6 x7) (ix2 0 c) = ((Args.db A.dpr c.val : ℝ) : EReal) := by
  pointwise [val_main_v609, val_main_v608, val_main_cst_107]
  simp only [v607_at H, ← coe_sum]
  rfl

theorem v600_at : (val_main_v600 (F := Ideal) x0 x1 x2 x3 x4 x5 x6 x7) (ix2 0 c) = ((Args.db A.dpi c.val : ℝ) : EReal) := by
  pointwise [val_main_v600, val_main_v599, val_main_cst_106]
  simp only [v598_at H, ← coe_sum]
  rfl

theorem v616_at (j : Fin 6) (k o : Fin 128) : (val_main_v616 (F := Ideal) x0 x1 x2 x3 x4 x5 x6 x7) (ix3 j k o) = (Args.dw A A.dpr j.val k.val o.val : EReal) := by
  pointwise [val_main_v616, val_main_v615, val_main_v610, val_main_v611, val_main_v1]
  simp only [v607_at H, H.x, ← EReal.coe_mul, ← coe_sum]
  unfold Args.dw
  simp only [mul_comm]

theorem v606_at (j : Fin 6) (k o : Fin 128) : (val_main_v606 (F := Ideal) x0 x1 x2 x3 x4 x5 x6 x7) (ix3 j k o) = (Args.dw A A.dpi j.val k.val o.val : EReal) := by
  pointwise [val_main_v606, val_main_v605, val_main_v601, val_main_v602, val_main_v1]
  simp only [v598_at H, H.x, ← EReal.coe_mul, ← coe_sum]
  unfold Args.dw
  simp only [mul_comm]

theorem v618_at : (val_main_v618 (F := Ideal) x0 x1 x2 x3 x4 x5 x6 x7) (ix2 t c) = ((A.dx t.val c.val : ℝ) : EReal) := by
  pointwise [val_main_v618, val_main_v617, val_main_v614, val_main_v613, val_main_v612, val_main_v611, val_main_v610, val_main_v604, val_main_v603, val_main_v602, val_main_v601, val_main_v577]
  simp only [v575_at H, v50_at H, v607_at H, v598_at H, H.wa, H.wx, ← EReal.coe_mul, ← coe_sum, ← EReal.coe_add]
  unfold Args.dx Args.back
  ring_nf

theorem v621_at (x8) (q : Fin 5376) : (val_main_v621 (F := Ideal) x0 x1 x2 x3 x4 x5 x6 x7 x8) (ix2 t q)
    = if q.val < 4608 then x8 (ix2 t q) else (A.dgate t.val (q.val - 4608) : EReal) := by
  pointwise [val_main_v621, val_main_v620, val_main_v619]
  split
  · rfl
  · rw [v292_at H]

end Cert.RecRef

end
-- ==== Proof.Recurrence.Shift.lean ====
module

public import proofs.«01_k».proof.Proof.Gen.Kernel14Ideal.Skeleton
public import proofs.«01_k».proof.Proof.Recurrence.Spec

/-! One tile's backward recurrence by doubling: the rows `n = 1024 - k` and later have no row `k` below them
in the tile, and each step doubles the `k` over which every row's recurrence is solved. -/

@[expose] public section

noncomputable section

namespace Cert.RecPure

open Cert.Kernel14Ideal Cert.Kernel14Ideal.Gen Cert.Lru
open Idealize.ShloMosaic Idealize.ShloMosaic.Pointwise

/-- A tile of real numbers. -/
def tl (X : ℕ → ℕ → ℝ) : FVec Ideal S1024x128 .f32 := fun i => ((X (i 0).val (i 1).val : ℝ) : EReal)

/-- The rows `1024 - n` below, `Y`'s where there are none. -/
def sft (n : ℕ) (X Y : ℕ → ℕ → ℝ) (r l : ℕ) : ℝ := if r < n then X (r + (1024 - n)) l else Y r l

abbrev rows : IVec S1024x1 32 := iota .tc S1024x1 32 [0] iota_S1024x1_d0_w32

theorem tl_of {f : FVec Ideal S1024x128 .f32} {X : ℕ → ℕ → ℝ} (h : ∀ r l, f (ix2 r l) = (X r.val l.val : EReal)) : f = tl X := by
  funext i
  rw [tl, ← h (i 0) (i 1)]
  exact congrArg f (funext fun a => by match a with
    | ⟨0, _⟩ => rfl
    | ⟨1, _⟩ => rfl)

theorem mask (n : ℕ) (hn : n < 1024) (r : Fin 1024) {α : Type} (u v : α) :
    Scalar.select (IntOp.cmpi CmpIPredicate.slt (BitVec.ofNat 32 r.val) (BitVec.ofNat 32 n)) u v = if r.val < n then u else v := by
  have e : IntOp.cmpi CmpIPredicate.slt (BitVec.ofNat 32 r.val) (BitVec.ofNat 32 n) = if r.val < n then 1#1 else 0#1 := by
    have hr := r.isLt
    have h (a : ℕ) (ha : a < 1024) : (BitVec.ofNat 32 a).toInt = a := by
      have e : (BitVec.ofNat 32 a).toNat = a := by rw [BitVec.toNat_ofNat]; exact Nat.mod_eq_of_lt (by omega)
      rw [BitVec.toInt_eq_toNat_of_lt (by omega), e]
    show BitVec.ofBool ((BitVec.ofNat 32 r.val).slt (BitVec.ofNat 32 n)) = _
    rw [BitVec.slt, h _ hr, h _ hn]
    split <;> rename_i h
    · rw [decide_eq_true (by exact_mod_cast h)]; rfl
    · rw [decide_eq_false (by exact_mod_cast h)]; rfl
  rw [e]
  split <;> rfl

theorem shift (n : ℕ) (hn : 0 < n ∧ n < 1024) (X Y : ℕ → ℕ → ℝ) (h1) (h2) (h3) :
    select (broadcastTo S1024x128 (shapeCast S1024x1 (cmpi .slt rows (broadcast S1024x1 (BitVec.ofNat 32 n))) h1) h2)
      (dynamicRotate 0 (BitVec.ofNat 32 n) none (tl X) h3) (tl Y) = tl (sft n X Y) := by
  refine tl_of fun r l => ?_
  pointwise []
  have hr := r.isLt
  have e : (BitVec.ofNat 32 n).toNat = n := by rw [BitVec.toNat_ofNat]; exact Nat.mod_eq_of_lt (by omega)
  rw [mask n hn.2]
  unfold sft
  split
  · simp only [tl, e]
    have e' : (r.val + 1024 - n % 1024) % 1024 = r.val + (1024 - n) := by omega
    exact congrArg (fun k => ((X k l.val : ℝ) : EReal)) e'
  · rfl

theorem broadcast_tl (w : BitVec 32) (v : ℝ) (h : Ideal.ofBits .f32 w = (v : EReal)) :
    (broadcast S1024x128 (Scalar.ofBits (F := Ideal) .f32 w) : FVec Ideal S1024x128 .f32) = tl fun _ _ => v := funext fun _ => h

theorem zero_tl : (broadcast S1024x128 (Scalar.ofBits (F := Ideal) .f32 0x00000000#32) : FVec Ideal S1024x128 .f32) = tl fun _ _ => 0 :=
  broadcast_tl _ _ (Ideal.ofBits_zero_f32.trans EReal.coe_zero.symm)

theorem one_tl : (broadcast S1024x128 (Scalar.ofBits (F := Ideal) .f32 0x3F800000#32) : FVec Ideal S1024x128 .f32) = tl fun _ _ => 1 :=
  broadcast_tl _ _ ofBits_one

theorem mul_tl (X Y : ℕ → ℕ → ℝ) : mulf (tl X) (tl Y) = tl fun r l => X r l * Y r l := funext fun _ => (EReal.coe_mul _ _).symm

theorem add_tl (X Y : ℕ → ℕ → ℝ) : addf (tl X) (tl Y) = tl fun r l => X r l + Y r l := funext fun _ => (EReal.coe_add _ _).symm

/-- A step's offsets and factors. -/
def stB (n : ℕ) (B C : ℕ → ℕ → ℝ) (r l : ℕ) : ℝ := B r l + C r l * sft n B (fun _ _ => 0) r l
def stC (n : ℕ) (C : ℕ → ℕ → ℝ) (r l : ℕ) : ℝ := C r l * sft n C (fun _ _ => 1) r l

/-- `B` and `C` solve `L`'s recurrence over `k` rows. -/
def Over (L : ℕ → ℕ → ℝ) (k : ℕ) (B C : ℕ → ℕ → ℝ) : Prop :=
  ∀ r l, r < 1024 → l < 128 → L r l = B r l + C r l * L (min (r + k) 1024) l

theorem Over.step {L B C : ℕ → ℕ → ℝ} {k : ℕ} (n : ℕ) (h : Over L k B C) (hn : n + k = 1024) : Over L (k + k) (stB n B C) (stC n C) := by
  intro r l hr hl
  rw [h r l hr hl]
  unfold stB stC sft
  split
  · rw [min_eq_left (by omega), show 1024 - n = k by omega, h (r + k) l (by omega) hl, add_assoc r k k]
    ring
  · rw [min_eq_right (by omega), min_eq_right (by omega)]
    ring

variable (B C : ℕ → ℕ → ℝ)

section
variable (a : ℕ → ℕ → ℝ) {c : ℕ → ℝ} {v134 : Vec Ideal S1x128 .f32} (h : ∀ l, v134 (ix2 0 l) = (c l.val : EReal))
include h

theorem pay36_tl : k0_pay36 (F := Ideal) rows (tl a) v134 = tl (sft 1023 a fun _ => c) := by
  unfold k0_pay36
  have e (h1) (h2) : broadcastTo S1024x128 (shapeCast S1x128 v134 h1) h2 = tl fun _ => c := tl_of fun r l => by
    pointwise []
    exact h l
  dsimp only
  rw [e]
  exact shift 1023 (by omega) _ _ _ _ _

theorem pay38_tl : k0_pay38 (F := Ideal) rows (tl a) v134 = tl (stC 1023 (sft 1023 a fun _ => c)) := by
  unfold k0_pay38
  rw [pay36_tl a h]
  dsimp only
  rw [one_tl, shift 1023 (by omega), mul_tl]
  rfl

theorem pay37_tl {v100 v104 v112 : FVec Ideal S1024x128 .f32} (hb : mulf v100 (mulf v104 v112) = tl B) :
    k0_pay37 (F := Ideal) rows (tl a) v100 v104 v112 v134 = tl (stB 1023 B (sft 1023 a fun _ => c)) := by
  unfold k0_pay37
  rw [pay36_tl a h]
  dsimp only
  rw [hb, zero_tl, shift 1023 (by omega), mul_tl, add_tl]
  rfl
end

abbrev one : Ideal .f32 := FloatOps.ofBits .f32 0x3F800000#32
abbrev rot (v : FVec Ideal S1024x128 .f32) : FVec Ideal S1024x128 .f32 := dynamicRotate 0 1022#32 none v rotates_S1024x128_d0

theorem one_tl' : (broadcast S1024x128 one : FVec Ideal S1024x128 .f32) = tl fun _ _ => 1 := one_tl

theorem pay41_tl : k0_pay41 (F := Ideal) (tl C) (rot (tl C)) one (k0_pay40 rows) = tl (stC 1022 C) := by
  unfold k0_pay41 k0_pay40
  dsimp only
  rw [one_tl', shift 1022 (by omega), mul_tl]
  rfl

theorem pay42_tl : k0_pay42 (F := Ideal) rows (tl B) (tl C) (rot (tl C)) one (k0_pay40 rows) = tl (stB 1020 (stB 1022 B C) (stC 1022 C)) := by
  unfold k0_pay42
  rw [pay41_tl]
  dsimp only
  rw [zero_tl, shift 1022 (by omega), mul_tl, add_tl, shift 1020 (by omega), mul_tl, add_tl]
  rfl

theorem pay43_tl : k0_pay43 (F := Ideal) rows (tl C) (rot (tl C)) one (k0_pay40 rows) = tl (stC 1020 (stC 1022 C)) := by
  unfold k0_pay43
  rw [pay41_tl]
  dsimp only
  rw [one_tl, shift 1020 (by omega), mul_tl]
  rfl

theorem pay44_tl : k0_pay44 (F := Ideal) rows (tl C) (rot (tl C)) one (k0_pay40 rows) = tl (sft 1016 (stC 1020 (stC 1022 C)) fun _ _ => 1) := by
  unfold k0_pay44
  rw [pay43_tl]
  dsimp only
  rw [one_tl, shift 1016 (by omega)]

theorem pay45_tl : k0_pay45 (F := Ideal) rows (tl B) (tl C) (rot (tl C)) one (k0_pay40 rows)
    = tl fun r l => stC 1020 (stC 1022 C) r l * sft 1016 (stB 1020 (stB 1022 B C) (stC 1022 C)) (fun _ _ => 0) r l := by
  unfold k0_pay45
  rw [pay42_tl, pay43_tl]
  dsimp only
  rw [zero_tl, shift 1016 (by omega), mul_tl]

theorem pay46_tl : k0_pay46 (F := Ideal) (tl C) (tl (sft 1016 C fun _ _ => 1)) = tl (stC 1016 C) := mul_tl _ _

theorem pay47_tl : k0_pay47 (F := Ideal) rows (tl C) (tl (sft 1016 C fun _ _ => 1)) = tl (stC 1008 (stC 1016 C)) := by
  unfold k0_pay47
  rw [pay46_tl]
  dsimp only
  rw [one_tl, shift 1008 (by omega), mul_tl]
  rfl

theorem pay48_tl : k0_pay48 (F := Ideal) rows (tl B) (tl C) (tl (sft 1016 C fun _ _ => 1)) (tl fun r l => C r l * sft 1016 B (fun _ _ => 0) r l)
    = tl (stB 992 (stB 1008 (stB 1016 B C) (stC 1016 C)) (stC 1008 (stC 1016 C))) := by
  unfold k0_pay48
  rw [pay46_tl, pay47_tl]
  dsimp only
  rw [zero_tl, add_tl, shift 1008 (by omega), mul_tl, add_tl, shift 992 (by omega), mul_tl, add_tl]
  rfl

theorem pay49_tl : k0_pay49 (F := Ideal) rows (tl C) (tl (sft 1016 C fun _ _ => 1)) = tl (stC 992 (stC 1008 (stC 1016 C))) := by
  unfold k0_pay49
  rw [pay47_tl]
  dsimp only
  rw [one_tl, shift 992 (by omega), mul_tl]
  rfl

theorem pay50_tl : k0_pay50 (F := Ideal) rows (tl C) (tl (sft 1016 C fun _ _ => 1)) = tl (sft 960 (stC 992 (stC 1008 (stC 1016 C))) fun _ _ => 1) := by
  unfold k0_pay50
  rw [pay49_tl]
  dsimp only
  rw [one_tl, shift 960 (by omega)]

theorem pay52_tl : k0_pay52 (F := Ideal) (tl C) (tl (sft 960 C fun _ _ => 1)) = tl (stC 960 C) := mul_tl _ _

theorem pay53_tl : k0_pay53 (F := Ideal) rows (tl C) (tl (sft 960 C fun _ _ => 1)) = tl (stC 896 (stC 960 C)) := by
  unfold k0_pay53
  rw [pay52_tl]
  dsimp only
  rw [one_tl, shift 896 (by omega), mul_tl]
  rfl

theorem pay54_tl : k0_pay54 (F := Ideal) rows (tl B) (tl C) (tl (sft 960 C fun _ _ => 1)) k0_pay51
    = tl (stB 768 (stB 896 (stB 960 B C) (stC 960 C)) (stC 896 (stC 960 C))) := by
  unfold k0_pay54 k0_pay51
  rw [pay52_tl, pay53_tl]
  dsimp only
  rw [zero_tl, shift 960 (by omega), mul_tl, add_tl, shift 896 (by omega), mul_tl, add_tl, shift 768 (by omega), mul_tl, add_tl]
  rfl

theorem pay55_tl : k0_pay55 (F := Ideal) rows (tl C) (tl (sft 960 C fun _ _ => 1)) = tl (stC 768 (stC 896 (stC 960 C))) := by
  unfold k0_pay55
  rw [pay53_tl]
  dsimp only
  rw [one_tl, shift 768 (by omega), mul_tl]
  rfl

theorem pay57_tl {c : ℕ → ℝ} {v310 : Vec Ideal S1x128 .f32} (h : ∀ l, v310 (ix2 0 l) = (c l.val : EReal)) :
    k0_pay57 (F := Ideal) rows (tl B) (tl C) (k0_pay56 rows) v310 = tl fun r l => stB 512 B C r l + stC 512 C r l * c l := by
  have e (h2) : broadcastTo S1024x128 v310 h2 = tl fun _ => c := tl_of fun r l => by
    pointwise []
    exact h l
  unfold k0_pay57 k0_pay56
  dsimp only
  rw [zero_tl, one_tl, shift 512 (by omega), shift 512 (by omega), mul_tl, add_tl, mul_tl, e, mul_tl, add_tl]
  rfl

end Cert.RecPure

end
-- ==== Proof.Recurrence.Tile.lean ====
module

public import proofs.«01_k».proof.Proof.Recurrence.Shift

/-! What a grid point of the recurrence's backward kernel computes from its blocks: a tile of 1024 rows of one
block of 128 columns, with the cotangent and the decay of the first row below it. -/

@[expose] public section

noncomputable section

namespace Cert.RecPure

open Cert.Kernel14Ideal Cert.Kernel14Ideal.Gen Cert.Lru Cert.Spec Cert.Scan
open Idealize.ShloMosaic Idealize.ShloMosaic.Pointwise

theorem tl_congr {X Y : ℕ → ℕ → ℝ} (h : ∀ r l, r < 1024 → l < 128 → X r l = Y r l) : tl X = tl Y :=
  funext fun i => by rw [tl, tl, h _ _ (i 0).isLt (i 1).isLt]

section
variable (v66 v100 v104 v112 : FVec Ideal S1024x128 .f32) (v134 v310 : Vec Ideal S1x128 .f32)

abbrev c1 := k0_pay38 (F := Ideal) rows v66 v134
abbrev c1r := k0_pay39 (F := Ideal) rows v66 v134
abbrev c3 := k0_pay43 (F := Ideal) rows (c1 v66 v134) (c1r v66 v134) one (k0_pay40 rows)
abbrev c3s := k0_pay44 (F := Ideal) rows (c1 v66 v134) (c1r v66 v134) one (k0_pay40 rows)
abbrev c6 := k0_pay49 (F := Ideal) rows (c3 v66 v134) (c3s v66 v134)
abbrev c6s := k0_pay50 (F := Ideal) rows (c3 v66 v134) (c3s v66 v134)
abbrev c9 := k0_pay55 (F := Ideal) rows (c6 v66 v134) (c6s v66 v134)
abbrev p1 := k0_pay37 (F := Ideal) rows v66 v100 v104 v112 v134
abbrev p3 := k0_pay42 (F := Ideal) rows (p1 v66 v100 v104 v112 v134) (c1 v66 v134) (c1r v66 v134) one (k0_pay40 rows)
abbrev p3s := k0_pay45 (F := Ideal) rows (p1 v66 v100 v104 v112 v134) (c1 v66 v134) (c1r v66 v134) one (k0_pay40 rows)
abbrev p6 := k0_pay48 (F := Ideal) rows (p3 v66 v100 v104 v112 v134) (c3 v66 v134) (c3s v66 v134) (p3s v66 v100 v104 v112 v134)
abbrev p9 := k0_pay54 (F := Ideal) rows (p6 v66 v100 v104 v112 v134) (c6 v66 v134) (c6s v66 v134) k0_pay51
/-- The tile's cotangents of the states. -/
abbrev lmP := k0_pay57 (F := Ideal) rows (p9 v66 v100 v104 v112 v134) (c9 v66 v134) (k0_pay56 rows) v310

variable {v66 v100 v104 v112} {v134 v310} {L a b : ℕ → ℕ → ℝ} {ca cl : ℕ → ℝ}

theorem lmP_tl (ha : v66 = tl a) (hb : mulf v100 (mulf v104 v112) = tl b) (h134 : ∀ l, v134 (ix2 0 l) = (ca l.val : EReal))
    (h310 : ∀ l, v310 (ix2 0 l) = (cl l.val : EReal)) (hL : ∀ r l, r < 1024 → l < 128 → L r l = b r l + sft 1023 a (fun _ => ca) r l * L (r + 1) l)
    (hl : ∀ l, l < 128 → L 1024 l = cl l) : lmP v66 v100 v104 v112 v134 v310 = tl L := by
  subst ha
  have e1r : c1r (tl a) v134 = rot (tl (stC 1023 (sft 1023 a fun _ => ca))) := by
    rw [← pay38_tl a h134]; rfl
  unfold lmP p9 c9 p6 c6 c6s p3s p3 p1 c3 c3s
  rw [e1r, c1, pay38_tl a h134, pay37_tl b a h134 hb, pay42_tl, pay43_tl, pay44_tl, pay45_tl, pay48_tl, pay49_tl, pay50_tl, pay54_tl, pay55_tl, pay57_tl _ _ h310]
  have O : Over L 1 b (sft 1023 a fun _ => ca) := fun r l hr hl => by rw [hL r l hr hl, min_eq_left (by omega)]
  have O := ((((((((((O.step 1023 rfl).step 1022 rfl).step 1020 rfl).step 1016 rfl).step 1008 rfl).step 992 rfl).step 960 rfl).step 896 rfl).step 768 rfl).step 512 rfl)
  refine tl_congr fun r l hr hl' => ?_
  rw [O r l hr hl', min_eq_right (by omega), hl l hl']
end

theorem named_cubic : (Named.named (F := Ideal) (φ := .f32) κ "gelu_cubic" 0x3D122279#32 : Ideal .f32) = ((g0 * g1 : ℝ) : EReal) := by
  refine (named_eq κ "gelu_cubic" 0x3D122279#32).trans ?_
  simp only [κ, g0, g1]
  norm_num

theorem named_slope : (Named.named (F := Ideal) (φ := .f32) κ "gelu_cubic_slope" 0x3DDB33B6#32 : Ideal .f32) = ((3 * (g0 * g1) : ℝ) : EReal) := by
  refine (named_eq κ "gelu_cubic_slope" 0x3DDB33B6#32).trans ?_
  simp only [κ, g0, g1]
  norm_num

/-! ### Shapes of the kernel's elementary functions -/

theorem log1p_form (e : ℝ) (he : 0 < e) : (if (1 : EReal) + (e : EReal) = 1 then (e : EReal)
    else Ideal.div (Ideal.log (1 + (e : EReal)) * (e : EReal)) (if (1 : EReal) + (e : EReal) = 1 then 1 else 1 + (e : EReal) - 1))
      = (Real.log (1 + e) : EReal) := by
  have h1 : (1 : EReal) + (e : EReal) = ((1 + e : ℝ) : EReal) := by rw [EReal.coe_add, EReal.coe_one]
  have h2 : ¬((1 + e : ℝ) : EReal) = 1 := fun h => by
    have := EReal.coe_eq_one.mp h; linarith
  rw [h1, if_neg h2, if_neg h2, ← EReal.coe_one, ← EReal.coe_sub, Ideal.log_coe, if_neg (by linarith), ← EReal.coe_mul, div_real _ _ (by linarith)]
  congr 1
  rw [mul_div_assoc, show 1 + e - 1 = e by ring, div_self he.ne', mul_one]

theorem ofBits_neg_one : Ideal.ofBits .f32 0xBF800000#32 = ((-1 : ℝ) : EReal) := by
  simp [Ideal.ofBits, Ideal.ieee, -EReal.coe_mul]; norm_num

theorem expm1_form (z : ℝ) (hz : z < 0) :
    (if Ideal.exp (z : EReal) = 1 then (z : EReal)
      else if Ideal.exp (z : EReal) - 1 = ((-1 : ℝ) : EReal) then ((-1 : ℝ) : EReal)
      else Ideal.div ((Ideal.exp (z : EReal) - 1) * (z : EReal))
        (Scalar.select (IntOp.ori (BitVec.ofBool (decide (Ideal.exp (z : EReal) = 1)))
          (BitVec.ofBool (decide (Ideal.exp (z : EReal) - 1 = ((-1 : ℝ) : EReal))))) 1 (Ideal.log (Ideal.exp (z : EReal)))))
      = ((Real.exp z - 1 : ℝ) : EReal) := by
  have hp := Real.exp_pos z
  have hl : Real.exp z < 1 := by rw [← Real.exp_zero]; exact Real.exp_lt_exp.mpr hz
  have h1 : ¬((Real.exp z : ℝ) : EReal) = 1 := fun h => by have := EReal.coe_eq_one.mp h; linarith
  have h2 : ¬((Real.exp z - 1 : ℝ) : EReal) = ((-1 : ℝ) : EReal) := fun h => by have := EReal.coe_eq_coe_iff.mp h; linarith
  have e : ((Real.exp z : ℝ) : EReal) - 1 = ((Real.exp z - 1 : ℝ) : EReal) := by rw [EReal.coe_sub, EReal.coe_one]
  rw [Ideal.exp_coe, e, if_neg h1, if_neg h2, decide_eq_false h1, decide_eq_false h2]
  rw [show IntOp.ori (BitVec.ofBool false) (BitVec.ofBool false) = 0#1 by decide,
    show ∀ u v : EReal, Scalar.select 0#1 u v = v from fun _ _ => rfl, Ideal.log_coe, if_neg (by linarith), Real.log_exp, ← EReal.coe_mul, div_real _ _ hz.ne, mul_div_assoc, div_self hz.ne, mul_one]

theorem sub_zero_neg (z : EReal) : 0 - z = -z := zero_sub z

theorem top_row : ∀ (tr : Fin 4) (r : Fin 1024),
    IntOp.cmpi CmpIPredicate.eq (IntOp.addi (Scalar.muli (Scalar.subi 3#32 (BitVec.ofNat 32 (3 - tr.val))) 1024#32) (BitVec.ofNat 32 r.val)) 0#32
      = if 1024 * tr.val + r.val = 0 then 1#1 else 0#1 := by decide +kernel

theorem top_tile : ∀ tr : Fin 4, Scalar.cmpi CmpIPredicate.eq (Scalar.subi 3#32 (BitVec.ofNat 32 (3 - tr.val))) 0#32
    = if tr.val = 0 then 1#1 else 0#1 := by decide +kernel

/-- A grid point's blocks, with the carried rows. -/
structure Tile where
  gc : grid0.Coords
  b0 : Vec Ideal S1024x128 .f32
  b1 : Vec Ideal S1024x128 .f32
  b2 : Vec Ideal S1024x128 .f32
  b3 : Vec Ideal S1024x128 .f32
  b4 : Vec Ideal S8x128 .f32
  b5 : Vec Ideal S1x128x128 .f32
  b6 : Vec Ideal S1x128 .f32
  b7 : Vec Ideal S1x128x128 .f32
  b8 : Vec Ideal S1x128 .f32
  b9 : Vec Ideal S1x128 .f32
  ac : Vec Ideal S1x128 .f32
  lc : Vec Ideal S1x128 .f32

namespace Tile
variable (T : Tile)

abbrev r := k0_pay14 (F := Ideal) T.b1 T.b5 T.b6
abbrev i := k0_pay17 (F := Ideal) (k0_pay15 T.b1 T.b7 T.b8) k0_pay16
abbrev sp := k0_pay18 (F := Ideal) T.b9
abbrev a := k0_pay20 (F := Ideal) T.b9 T.r
abbrev gp := k0_pay10 T.gc
abbrev mult := k0_pay27 (F := Ideal) (k0_pay21 T.gp) (k0_pay22 T.b9 T.r) (k0_pay23 T.b9 T.r) (k0_pay24 T.b9 T.r) (k0_pay25 T.b9 T.r) k0_pay26
abbrev h := k0_pay28 (F := Ideal) T.b3
abbrev lm := lmP T.a T.b0 (k0_pay30 T.b2) (k0_pay32 T.b2) T.ac T.lc
abbrev bv := p9 T.a T.b0 (k0_pay30 T.b2) (k0_pay32 T.b2) T.ac
abbrev cv := c9 T.a T.ac
abbrev da := k0_pay60 (F := Ideal) (Scalar.subi 3#32 (BitVec.ofNat 32 (T.gc 1).val)) rows T.h T.bv T.cv (k0_pay56 rows) T.lc T.b4
abbrev dmult := k0_pay61 (F := Ideal) rows T.b1 T.i T.bv T.cv (k0_pay56 rows) T.lc
abbrev di := k0_pay62 (F := Ideal) T.b1 T.mult T.lm
abbrev dxc := k0_pay63 (F := Ideal) T.i T.mult T.lm
abbrev dpr := k0_pay66 (F := Ideal) T.gp T.r T.sp T.a T.mult T.da T.dmult
abbrev dpi := k0_pay67 (F := Ideal) T.i T.di

end Tile

/-- The blocks hold the finite numbers of `A`: rows from `1024 * tr`, columns from `J * 128`. -/
structure Holds (A : Args) (T : Tile) (tr J : ℕ) : Prop where
  gc : (T.gc 1).val = 3 - tr
  htr : tr < 4
  dm : ∀ (r : Fin 1024) (l : Fin 128), T.b0 (ix2 r l) = (A.dm (1024 * tr + r.val) (1280 + (J * 128 + l.val)) : EReal)
  x : ∀ (r : Fin 1024) (l : Fin 128), T.b1 (ix2 r l) = (A.x (1024 * tr + r.val) (J * 128 + l.val) : EReal)
  p : ∀ (r : Fin 1024) (l : Fin 128), T.b2 (ix2 r l) = (A.p (1024 * tr + r.val) (4608 + (J * 128 + l.val)) : EReal)
  h : ∀ (r : Fin 1024) (l : Fin 128), T.b3 (ix2 r l) = (A.h (1024 * tr + r.val) (J * 128 + l.val) : EReal)
  hp : tr ≠ 0 → ∀ l : Fin 128, T.b4 (ix2 7 l) = (A.h (1024 * tr - 1) (J * 128 + l.val) : EReal)
  wa : ∀ k o : Fin 128, T.b5 (ix3 0 k o) = (A.wa J k.val o.val : EReal)
  ba : ∀ l : Fin 128, T.b6 (ix2 0 l) = (A.ba (J * 128 + l.val) : EReal)
  wx : ∀ k o : Fin 128, T.b7 (ix3 0 k o) = (A.wx J k.val o.val : EReal)
  bx : ∀ l : Fin 128, T.b8 (ix2 0 l) = (A.bx (J * 128 + l.val) : EReal)
  l : ∀ l : Fin 128, T.b9 (ix2 0 l) = (A.l (J * 128 + l.val) : EReal)
  ac : ∀ l : Fin 128, T.ac (ix2 0 l) = ((if tr = 3 then 0 else A.a (1024 * tr + 1024) (J * 128 + l.val) : ℝ) : EReal)
  lc : ∀ l : Fin 128, T.lc (ix2 0 l) = (A.lm (1024 * tr + 1024) (J * 128 + l.val) : EReal)

variable {A : Args} {T : Tile} {tr J : ℕ} (H : Holds A T tr J) (r : Fin 1024) (l : Fin 128)

include H

omit H l in
theorem top (htr : tr < 4) {α : Type} (u v : α) : Scalar.select (IntOp.cmpi CmpIPredicate.eq
    (IntOp.addi (Scalar.muli (Scalar.subi 3#32 (BitVec.ofNat 32 (3 - tr))) 1024#32) (BitVec.ofNat 32 r.val)) 0#32) u v
      = if 1024 * tr + r.val = 0 then u else v := by
  rw [top_row ⟨tr, htr⟩ r]
  dsimp only
  split <;> rfl

theorem r_at : T.r (ix2 r l) = (A.r (1024 * tr + r.val) (J * 128 + l.val) : EReal) := by
  pointwise [k0_pay14, k0_pay13, k0_pay11]
  simp only [H.x, H.wa, H.ba, ← EReal.coe_mul, ← coe_sum, ← EReal.coe_add]
  rw [zero_sub, sg_coe]
  unfold Args.r Args.pre
  rw [show (J * 128 + l.val) / 128 = J by omega, show (J * 128 + l.val) % 128 = l.val by omega]

theorem i_at : T.i (ix2 r l) = (A.i (1024 * tr + r.val) (J * 128 + l.val) : EReal) := by
  pointwise [k0_pay17, k0_pay16, k0_pay15, k0_pay13, k0_pay12]
  simp only [H.x, H.wx, H.bx, ← EReal.coe_mul, ← coe_sum, ← EReal.coe_add]
  rw [zero_sub, sg_coe]
  unfold Args.i Args.pre
  rw [show (J * 128 + l.val) / 128 = J by omega, show (J * 128 + l.val) % 128 = l.val by omega]

theorem sp_at : T.sp (ix2 0 l) = (A.sp (J * 128 + l.val) : EReal) := by
  pointwise [k0_pay18]
  simp only [H.l, zero_sub, ← EReal.coe_neg, abs_coe, Ideal.exp_coe]
  rw [log1p_form _ (Real.exp_pos _), ← EReal.coe_zero, max_coe, ← EReal.coe_add]
  rfl

theorem sp_raw : k0_pay18 (F := Ideal) T.b9 (ix2 0 l) = (A.sp (J * 128 + l.val) : EReal) := sp_at H l

theorem la_at : k0_pay19 (F := Ideal) T.b9 T.r (ix2 r l) = (A.la (1024 * tr + r.val) (J * 128 + l.val) : EReal) := by
  pointwise [k0_pay19]
  rw [r_at H, sp_raw H, ofBits_eight, ← EReal.coe_mul, ← EReal.coe_mul]
  rfl

theorem a_at : T.a (ix2 r l) = (A.a (1024 * tr + r.val) (J * 128 + l.val) : EReal) := by
  pointwise [k0_pay20]
  rw [la_at H, Ideal.exp_coe]
  rfl

theorem mult_at : T.mult (ix2 r l) = (A.mult (1024 * tr + r.val) (J * 128 + l.val) : EReal) := by
  pointwise [k0_pay27, k0_pay26, k0_pay25, k0_pay24, k0_pay23, k0_pay22, k0_pay21, k0_pay10]
  rw [H.gc, top r H.htr, la_at H, ofBits_two, ofBits_neg_one, ← EReal.coe_mul, expm1_form _ (by have := la_neg A (1024 * tr + r.val) (J * 128 + l.val); linarith),
    zero_sub, ← EReal.coe_neg, Ideal.sqrt_coe, neg_sub]
  unfold Args.mult
  split
  · exact EReal.coe_one.symm
  · rw [if_neg (by have := exp_lt_one A (1024 * tr + r.val) (J * 128 + l.val); linarith)]
    rfl

theorem th_at : k0_pay31 (F := Ideal) T.b2 (ix2 r l) = (th (A.p (1024 * tr + r.val) (4608 + (J * 128 + l.val))) : EReal) := by
  pointwise [k0_pay31, k0_pay29]
  rw [H.p, ofBits_g0, named_cubic]
  simp only [← EReal.coe_mul, ← EReal.coe_add, Ideal.tanh_coe]
  rfl

theorem g_tl : mulf T.b0 (mulf (k0_pay30 T.b2) (k0_pay32 T.b2)) = tl fun r l => A.g (1024 * tr + r) (J * 128 + l) := by
  refine tl_of fun r l => ?_
  pointwise [k0_pay30, k0_pay32]
  rw [th_at H, H.p, H.dm, ofBits_half]
  simp only [← EReal.coe_one, ← EReal.coe_mul, ← EReal.coe_add]
  rfl

theorem a_tl : T.a = tl fun r l => A.a (1024 * tr + r) (J * 128 + l) := tl_of (a_at H)

theorem lm_tl : T.lm = tl fun r l => A.lm (1024 * tr + r) (J * 128 + l) := by
  have htr := H.htr
  refine lmP_tl (a_tl H) (g_tl H) (ca := fun l => if tr = 3 then 0 else A.a (1024 * tr + 1024) (J * 128 + l))
    (cl := fun l => A.lm (1024 * tr + 1024) (J * 128 + l)) H.ac H.lc (fun r l hr hl => ?_) fun l hl => rfl
  refine (lam_eq 4096 A.a A.g _ _ (by omega)).trans ?_
  show _ = _ + sft _ _ _ _ _ * lam _ _ _ _ _
  rw [← add_assoc]
  unfold sft
  split
  · rfl
  · have e : r = 1023 := by omega
    subst e
    split
    · rename_i h
      subst h
      rw [show 1024 * 3 + 1023 + 1 = 4096 by rfl, lam_end, mul_zero, mul_zero]
    · rfl

theorem lm_at : T.lm (ix2 r l) = (A.lm (1024 * tr + r.val) (J * 128 + l.val) : EReal) := by rw [lm_tl H]; rfl

theorem lm_raw : k0_pay57 (F := Ideal) rows T.bv T.cv (k0_pay56 rows) T.lc (ix2 r l) = (A.lm (1024 * tr + r.val) (J * 128 + l.val) : EReal) := lm_at H r l

theorem da_at : T.da (ix2 r l) = ((A.lm (1024 * tr + r.val) (J * 128 + l.val) * prev A.a A.b (1024 * tr + r.val) (J * 128 + l.val) : ℝ) : EReal) := by
  pointwise [k0_pay60, k0_pay28]
  rw [lm_raw H, H.gc, top_tile ⟨tr, H.htr⟩, EReal.coe_mul]
  congr 1
  have hr := r.isLt
  unfold prev
  split
  · rename_i h
    have h0 : r.val = 0 := by
      have h' : (8 + r.val + 1032 - 1) % 1032 < 8 := h
      omega
    dsimp only
    split
    · rename_i h'
      refine Eq.trans (b := (0 : EReal)) rfl ?_
      rw [if_pos (by omega)]
      rfl
    · rename_i h'
      rw [if_neg (by omega)]
      refine Eq.trans (b := T.b4 (ix2 (7 : Fin 8) l)) (congrArg (fun k => T.b4 (ix2 k l)) (Fin.ext ?_)) ((H.hp h' l).trans ?_)
      · show (8 + r.val + 1032 - 1) % 1032 = 7
        omega
      · rw [h0, if_neg (by omega)]
        rfl
  · rename_i h
    have h0 : r.val ≠ 0 := fun e => h (by rw [e]; decide)
    refine Eq.trans (b := T.b3 (ix2 (⟨r.val - 1, by omega⟩ : Fin 1024) l)) (congrArg (fun k => T.b3 (ix2 k l)) (Fin.ext ?_)) ((H.h _ _).trans ?_)
    · show (8 + r.val + 1032 - 1) % 1032 - 8 = r.val - 1
      omega
    · rw [if_neg (by omega), show 1024 * tr + r.val - 1 = 1024 * tr + (r.val - 1) by omega]
      rfl

theorem dmult_at : T.dmult (ix2 r l) = ((A.lm (1024 * tr + r.val) (J * 128 + l.val) * A.i (1024 * tr + r.val) (J * 128 + l.val) * A.x (1024 * tr + r.val) (J * 128 + l.val) : ℝ) : EReal) := by
  pointwise [k0_pay61]
  rw [lm_raw H, i_at H, H.x, ← EReal.coe_mul, ← EReal.coe_mul]

theorem di_at : T.di (ix2 r l) = ((A.lm (1024 * tr + r.val) (J * 128 + l.val) * A.mult (1024 * tr + r.val) (J * 128 + l.val) * A.x (1024 * tr + r.val) (J * 128 + l.val) : ℝ) : EReal) := by
  pointwise [k0_pay62]
  rw [lm_at H, mult_at H, H.x, ← EReal.coe_mul, ← EReal.coe_mul]

theorem dxc_at : T.dxc (ix2 r l) = ((A.lm (1024 * tr + r.val) (J * 128 + l.val) * A.mult (1024 * tr + r.val) (J * 128 + l.val) * A.i (1024 * tr + r.val) (J * 128 + l.val) : ℝ) : EReal) := by
  pointwise [k0_pay63]
  rw [lm_at H, mult_at H, i_at H, ← EReal.coe_mul, ← EReal.coe_mul]

theorem dlog_at : k0_pay64 (F := Ideal) T.gp T.a T.mult T.da T.dmult (ix2 r l) = (A.dlog (1024 * tr + r.val) (J * 128 + l.val) : EReal) := by
  pointwise [k0_pay64, k0_pay10]
  rw [H.gc, top r H.htr, da_at H, dmult_at H, a_at H, mult_at H, ← EReal.coe_mul, ← EReal.coe_mul, ← EReal.coe_mul,
    div_real _ _ (mult_pos A _ _).ne']
  unfold Args.dlog Args.mult
  split
  · rw [← EReal.coe_zero, ← EReal.coe_sub]
  · rw [← EReal.coe_sub]

theorem dpr_at : T.dpr (ix2 r l) = (A.dpr (1024 * tr + r.val) (J * 128 + l.val) : EReal) := by
  pointwise [k0_pay66]
  rw [dlog_at H, sp_at H, r_at H, ofBits_eight]
  simp only [← EReal.coe_one, ← EReal.coe_mul, ← EReal.coe_sub]
  rfl

theorem dpi_at : T.dpi (ix2 r l) = (A.dpi (1024 * tr + r.val) (J * 128 + l.val) : EReal) := by
  pointwise [k0_pay67]
  rw [di_at H, i_at H]
  simp only [← EReal.coe_one, ← EReal.coe_mul, ← EReal.coe_sub]
  rfl

/-! ### What the point stores -/

theorem dgate_at : k0_pay35 (F := Ideal) T.h T.b0 (k0_pay29 T.b2) (k0_pay33 T.b2) (k0_pay34 T.b2) (ix2 r l) = (A.dgate (1024 * tr + r.val) (J * 128 + l.val) : EReal) := by
  pointwise [k0_pay35, k0_pay34, k0_pay33, k0_pay32, k0_pay30, k0_pay29, k0_pay28]
  rw [th_at H, H.p, H.dm, H.h, ofBits_half, ofBits_g0, named_slope]
  simp only [← EReal.coe_one, ← EReal.coe_mul, ← EReal.coe_add, ← EReal.coe_sub]
  rfl

theorem dx_at : k0_pay2 (F := Ideal) (k0_pay11 T.b5) (k0_pay12 T.b7) T.dxc T.dpr T.dpi (ix2 r l) = (A.dx (1024 * tr + r.val) (J * 128 + l.val) : EReal) := by
  pointwise [k0_pay2, k0_pay11, k0_pay12]
  simp only [dxc_at H, dpr_at H, dpi_at H, H.wa, H.wx, ← EReal.coe_mul, ← coe_sum, ← EReal.coe_add]
  unfold Args.dx Args.back
  rw [show (J * 128 + l.val) / 128 = J by omega, show (J * 128 + l.val) % 128 = l.val by omega]

theorem dwa_at (old : Vec Ideal S1x128x128 .f32) (k o : Fin 128) : k0_pay70 (F := Ideal) T.b1 T.dpr old (ix3 0 k o)
    = old (ix3 0 k o) + ((∑ r : Fin 1024, A.x (1024 * tr + r.val) (J * 128 + k.val) * A.dpr (1024 * tr + r.val) (J * 128 + o.val) : ℝ) : EReal) := by
  pointwise [k0_pay70]
  simp only [H.x, dpr_at H, ← EReal.coe_mul, ← coe_sum]

theorem dwx_at (old : Vec Ideal S1x128x128 .f32) (k o : Fin 128) : k0_pay1 (F := Ideal) (k0_pay71 T.b1 T.i T.di old) (ix3 0 k o)
    = old (ix3 0 k o) + ((∑ r : Fin 1024, A.x (1024 * tr + r.val) (J * 128 + k.val) * A.dpi (1024 * tr + r.val) (J * 128 + o.val) : ℝ) : EReal) := by
  pointwise [k0_pay1, k0_pay71]
  simp only [H.x, dpi_at H, ← EReal.coe_mul, ← coe_sum]

theorem dba_at (old : Vec Ideal S1x128 .f32) : k0_pay68 (F := Ideal) T.dpr old (ix2 0 l)
    = old (ix2 0 l) + ((∑ r : Fin 1024, A.dpr (1024 * tr + r.val) (J * 128 + l.val) : ℝ) : EReal) := by
  pointwise [k0_pay68]
  simp only [dpr_at H, ← coe_sum]

theorem dbx_at (old : Vec Ideal S1x128 .f32) : k0_pay69 (F := Ideal) T.i T.di old (ix2 0 l)
    = old (ix2 0 l) + ((∑ r : Fin 1024, A.dpi (1024 * tr + r.val) (J * 128 + l.val) : ℝ) : EReal) := by
  pointwise [k0_pay69]
  simp only [dpi_at H, ← coe_sum]

theorem dl_at (old : Vec Ideal S1x128 .f32) : k0_pay65 (F := Ideal) T.gp T.b9 T.r T.a T.mult T.da T.dmult old (ix2 0 l)
    = old (ix2 0 l) + (((∑ r : Fin 1024, A.dlog (1024 * tr + r.val) (J * 128 + l.val) * (-8 * A.r (1024 * tr + r.val) (J * 128 + l.val))) * -sg (-A.l (J * 128 + l.val)) : ℝ) : EReal) := by
  pointwise [k0_pay65]
  simp only [dlog_at H, r_at H, H.l, ofBits_eight, zero_sub, ← EReal.coe_mul, ← coe_sum, ← EReal.coe_neg]
  rw [EReal.coe_neg, sg_coe, ← EReal.coe_neg, ← EReal.coe_mul]

theorem lc_at (q : Fin 8) : k0_pay58 (F := Ideal) rows T.bv T.cv (k0_pay56 rows) T.lc (ix2 q l) = (A.lm (1024 * tr) (J * 128 + l.val) : EReal) := by
  pointwise [k0_pay58]
  exact lm_at H 0 l

theorem ac_at (q : Fin 8) : k0_pay59 (F := Ideal) T.a (ix2 q l) = (A.a (1024 * tr) (J * 128 + l.val) : EReal) := by
  pointwise [k0_pay59]
  exact a_at H 0 l

end Cert.RecPure

end
-- ==== Proof.Recurrence.Blocks.lean ====
module

public import proofs.«01_k».proof.Proof.Gen.Kernel14Ideal.Value
public import Idealize.ShloMosaic.Lib.Pipeline.ValueKit
public import Idealize.ShloMosaic.Lib.Pipeline.ReadBack
public import proofs.«01_k».proof.Proof.Recurrence.Host
public import proofs.«01_k».proof.Proof.Recurrence.Ref
public import proofs.«01_k».proof.Proof.Recurrence.Tile

/-! What the kernel's windows hold at a grid point: row tile `3 - t % 4` and column block `t / 4` of the arguments and of the states. -/

@[expose] public section

set_option maxRecDepth 16384

noncomputable section

namespace Cert.RecValue

open Cert.Kernel14Ideal Cert.Kernel14Ideal.Gen Cert.Lru Cert.RecPure Cert.Scan
open Idealize.ShloMosaic Idealize.ShloMosaic.TcCoe Idealize.ShloMosaic.Pointwise Idealize.SL.Sem
open Idealize.ShloMosaic.Pipeline (Dat)

theorem idx : ∀ t : Fin cfg0.N,
    win0_0.index t = ![3 - t.val % 4, 10 + t.val / 4] ∧ win0_1.index t = ![3 - t.val % 4, t.val / 4]
    ∧ win0_2.index t = ![3 - t.val % 4, 36 + t.val / 4] ∧ win0_3.index t = ![3 - t.val % 4, t.val / 4]
    ∧ win0_4.index t = ![(3 - t.val % 4) * 128 - 1, t.val / 4] ∧ win0_5.index t = ![t.val / 4, 0, 0]
    ∧ win0_6.index t = ![0, t.val / 4] ∧ win0_7.index t = ![t.val / 4, 0, 0] ∧ win0_8.index t = ![0, t.val / 4]
    ∧ win0_9.index t = ![0, t.val / 4] ∧ win0_10.index t = ![3 - t.val % 4, t.val / 4] ∧ win0_11.index t = ![3 - t.val % 4, 36 + t.val / 4]
    ∧ win0_12.index t = ![t.val / 4, 0, 0] ∧ win0_13.index t = ![t.val / 4, 0, 0]
    ∧ win0_14.index t = ![0, t.val / 4] ∧ win0_15.index t = ![0, t.val / 4] ∧ win0_16.index t = ![0, t.val / 4]
    ∧ (grid0.coords t 1).val = t.val % 4 :=
  (by decide +kernel : ∀ t : Fin grid0.N, _)

variable (m : (ℓ : Loc nD τ sig) → Buf (Elt Ideal) ℓ) (c : Dev nD) (A : Args)

/-- The launch memory's arguments are the finite numbers of `A`. -/
abbrev Finite : Prop := Cert.RecRef.Holds A (m (c, Proc.devRef .tc main_arg0)) (m (c, Proc.devRef .tc main_arg1)) (m (c, Proc.devRef .tc main_arg2))
  (m (c, Proc.devRef .tc main_arg3)) (m (c, Proc.devRef .tc main_arg4)) (m (c, Proc.devRef .tc main_arg5)) (m (c, Proc.devRef .tc main_arg6))
  (m (c, Proc.devRef .tc main_arg7))

variable {A} (hm : Finite m c A)

include hm in
theorem states (a : Fin 4096) (b : Fin 768) : V m c main_v233 (ix2 a b) = (A.h a.val b.val : EReal) :=
  congrFun (Cert.RecHost.solved_4096 m c A.a A.b ((Cert.RecHost.coef m c).trans (Cert.RecRef.v36_lift hm))
    ((Cert.RecHost.inhom m c).trans (Cert.RecRef.v51_lift hm))) (ix2 a b)

theorem step_back (n : ℕ) : n % 4 = 3 - (3 - n % 4) := by omega

/-! ### A window's block, read off any array -/

theorem read0 (X : (⟨S4096x2048, .f32⟩ : BufTy).Contents (Elt Ideal)) (t : Fin cfg0.N) (r : Fin 1024) (l : Fin 128) (a : Fin 4096) (b : Fin 2048)
    (ha : a.val = 1024 * (3 - t.val % 4) + r.val) (hb : b.val = 1280 + (t.val / 4 * 128 + l.val)) :
    ((cfg0.win 0).blk t).view.read (Elt Ideal) X (ix2 r l) = X (ix2 a b) := by
  blk_ext [idx t]

theorem read1 (X : (⟨S4096x768, .f32⟩ : BufTy).Contents (Elt Ideal)) (t : Fin cfg0.N) (r : Fin 1024) (l : Fin 128) (a : Fin 4096) (b : Fin 768)
    (ha : a.val = 1024 * (3 - t.val % 4) + r.val) (hb : b.val = t.val / 4 * 128 + l.val) :
    ((cfg0.win 1).blk t).view.read (Elt Ideal) X (ix2 r l) = X (ix2 a b) := by
  blk_ext [idx t]

theorem read2 (X : (⟨S4096x5376, .f32⟩ : BufTy).Contents (Elt Ideal)) (t : Fin cfg0.N) (r : Fin 1024) (l : Fin 128) (a : Fin 4096) (b : Fin 5376)
    (ha : a.val = 1024 * (3 - t.val % 4) + r.val) (hb : b.val = 4608 + (t.val / 4 * 128 + l.val)) :
    ((cfg0.win 2).blk t).view.read (Elt Ideal) X (ix2 r l) = X (ix2 a b) := by
  blk_ext [idx t]

theorem read3 (X : (⟨S4096x768, .f32⟩ : BufTy).Contents (Elt Ideal)) (t : Fin cfg0.N) (r : Fin 1024) (l : Fin 128) (a : Fin 4096) (b : Fin 768)
    (ha : a.val = 1024 * (3 - t.val % 4) + r.val) (hb : b.val = t.val / 4 * 128 + l.val) :
    ((cfg0.win 3).blk t).view.read (Elt Ideal) X (ix2 r l) = X (ix2 a b) := by
  blk_ext [idx t]

theorem read4 (X : (⟨S4096x768, .f32⟩ : BufTy).Contents (Elt Ideal)) (t : Fin cfg0.N) (h : 3 - t.val % 4 ≠ 0) (l : Fin 128) (a : Fin 4096) (b : Fin 768)
    (ha : a.val = 1024 * (3 - t.val % 4) - 1) (hb : b.val = t.val / 4 * 128 + l.val) :
    ((cfg0.win 4).blk t).view.read (Elt Ideal) X (ix2 (7 : Fin 8) l) = X (ix2 a b) := by
  blk_ext [idx t]

theorem read5 (X : (⟨S6x128x128, .f32⟩ : BufTy).Contents (Elt Ideal)) (t : Fin cfg0.N) (k l : Fin 128) (a : Fin 6) (ha : a.val = t.val / 4) :
    ((cfg0.win 5).blk t).view.read (Elt Ideal) X (ix3 (0 : Fin 1) k l) = X (ix3 a k l) := by
  blk_ext [idx t]

theorem read7 (X : (⟨S6x128x128, .f32⟩ : BufTy).Contents (Elt Ideal)) (t : Fin cfg0.N) (k l : Fin 128) (a : Fin 6) (ha : a.val = t.val / 4) :
    ((cfg0.win 7).blk t).view.read (Elt Ideal) X (ix3 (0 : Fin 1) k l) = X (ix3 a k l) := by
  blk_ext [idx t]

theorem read6 (X : (⟨S1x768, .f32⟩ : BufTy).Contents (Elt Ideal)) (t : Fin cfg0.N) (l : Fin 128) (b : Fin 768) (hb : b.val = t.val / 4 * 128 + l.val) :
    ((cfg0.win 6).blk t).view.read (Elt Ideal) X (ix2 (0 : Fin 1) l) = X (ix2 (0 : Fin 1) b) := by
  blk_ext [idx t]

theorem read8 (X : (⟨S1x768, .f32⟩ : BufTy).Contents (Elt Ideal)) (t : Fin cfg0.N) (l : Fin 128) (b : Fin 768) (hb : b.val = t.val / 4 * 128 + l.val) :
    ((cfg0.win 8).blk t).view.read (Elt Ideal) X (ix2 (0 : Fin 1) l) = X (ix2 (0 : Fin 1) b) := by
  blk_ext [idx t]

theorem read9 (X : (⟨S1x768, .f32⟩ : BufTy).Contents (Elt Ideal)) (t : Fin cfg0.N) (l : Fin 128) (b : Fin 768) (hb : b.val = t.val / 4 * 128 + l.val) :
    ((cfg0.win 9).blk t).view.read (Elt Ideal) X (ix2 (0 : Fin 1) l) = X (ix2 (0 : Fin 1) b) := by
  blk_ext [idx t]

/-- A point's blocks, over what it finds in the two carried rows. -/
abbrev tile (t : Fin cfg0.N) (ac lc : Vec Ideal S1x128 .f32) : Tile :=
  ⟨grid0.coords t, iblk m c 0 t, iblk m c 1 t, iblk m c 2 t, iblk m c 3 t, iblk m c 4 t, iblk m c 5 t, iblk m c 6 t, iblk m c 7 t,
    iblk m c 8 t, iblk m c 9 t, ac, lc⟩

include hm

theorem blk0 (t : Fin cfg0.N) (r : Fin 1024) (l : Fin 128) :
    (iblk m c 0 t : Vec Ideal S1024x128 .f32) (ix2 r l) = (A.dm (1024 * (3 - t.val % 4) + r.val) (1280 + (t.val / 4 * 128 + l.val)) : EReal) := by
  have ht : t.val < 24 := t.isLt
  exact (read0 _ t r l ⟨1024 * (3 - t.val % 4) + r.val, by omega⟩ ⟨1280 + (t.val / 4 * 128 + l.val), by omega⟩ rfl rfl).trans (((congrFun (Cert.RecHost.arg m c (r := main_arg0)) _).trans (hm.dm _ _)))

theorem blk1 (t : Fin cfg0.N) (r : Fin 1024) (l : Fin 128) :
    (iblk m c 1 t : Vec Ideal S1024x128 .f32) (ix2 r l) = (A.x (1024 * (3 - t.val % 4) + r.val) (t.val / 4 * 128 + l.val) : EReal) := by
  have ht : t.val < 24 := t.isLt
  exact (read1 _ t r l ⟨1024 * (3 - t.val % 4) + r.val, by omega⟩ ⟨t.val / 4 * 128 + l.val, by omega⟩ rfl rfl).trans (((congrFun (Cert.RecHost.arg m c (r := main_arg1)) _).trans (hm.x _ _)))

theorem blk2 (t : Fin cfg0.N) (r : Fin 1024) (l : Fin 128) :
    (iblk m c 2 t : Vec Ideal S1024x128 .f32) (ix2 r l) = (A.p (1024 * (3 - t.val % 4) + r.val) (4608 + (t.val / 4 * 128 + l.val)) : EReal) := by
  have ht : t.val < 24 := t.isLt
  exact (read2 _ t r l ⟨1024 * (3 - t.val % 4) + r.val, by omega⟩ ⟨4608 + (t.val / 4 * 128 + l.val), by omega⟩ rfl rfl).trans (((congrFun (Cert.RecHost.arg m c (r := main_arg2)) _).trans (hm.p _ _)))

theorem blk3 (t : Fin cfg0.N) (r : Fin 1024) (l : Fin 128) :
    (iblk m c 3 t : Vec Ideal S1024x128 .f32) (ix2 r l) = (A.h (1024 * (3 - t.val % 4) + r.val) (t.val / 4 * 128 + l.val) : EReal) := by
  have ht : t.val < 24 := t.isLt
  exact (read3 _ t r l ⟨1024 * (3 - t.val % 4) + r.val, by omega⟩ ⟨t.val / 4 * 128 + l.val, by omega⟩ rfl rfl).trans (states m c hm _ _)

theorem blk4 (t : Fin cfg0.N) (h : 3 - t.val % 4 ≠ 0) (l : Fin 128) :
    (iblk m c 4 t : Vec Ideal S8x128 .f32) (ix2 7 l) = (A.h (1024 * (3 - t.val % 4) - 1) (t.val / 4 * 128 + l.val) : EReal) := by
  have ht : t.val < 24 := t.isLt
  exact (read4 _ t h l ⟨1024 * (3 - t.val % 4) - 1, by omega⟩ ⟨t.val / 4 * 128 + l.val, by omega⟩ rfl rfl).trans (states m c hm _ _)

theorem blk5 (t : Fin cfg0.N) (k l : Fin 128) :
    (iblk m c 5 t : Vec Ideal S1x128x128 .f32) (ix3 0 k l) = (A.wa (t.val / 4) k.val l.val : EReal) := by
  have ht : t.val < 24 := t.isLt
  exact (read5 _ t k l ⟨t.val / 4, by omega⟩ rfl).trans (((congrFun (Cert.RecHost.arg m c (r := main_arg3)) _).trans (hm.wa _ _ _)))

theorem blk7 (t : Fin cfg0.N) (k l : Fin 128) :
    (iblk m c 7 t : Vec Ideal S1x128x128 .f32) (ix3 0 k l) = (A.wx (t.val / 4) k.val l.val : EReal) := by
  have ht : t.val < 24 := t.isLt
  exact (read7 _ t k l ⟨t.val / 4, by omega⟩ rfl).trans (((congrFun (Cert.RecHost.arg m c (r := main_arg5)) _).trans (hm.wx _ _ _)))

theorem blk6 (t : Fin cfg0.N) (l : Fin 128) :
    (iblk m c 6 t : Vec Ideal S1x128 .f32) (ix2 0 l) = (A.ba (t.val / 4 * 128 + l.val) : EReal) := by
  have ht : t.val < 24 := t.isLt
  exact (read6 _ t l ⟨t.val / 4 * 128 + l.val, by omega⟩ rfl).trans (((congrFun (Cert.RecHost.arg m c (r := main_arg4)) _).trans (hm.ba _ _)))

theorem blk8 (t : Fin cfg0.N) (l : Fin 128) :
    (iblk m c 8 t : Vec Ideal S1x128 .f32) (ix2 0 l) = (A.bx (t.val / 4 * 128 + l.val) : EReal) := by
  have ht : t.val < 24 := t.isLt
  exact (read8 _ t l ⟨t.val / 4 * 128 + l.val, by omega⟩ rfl).trans (((congrFun (Cert.RecHost.arg m c (r := main_arg6)) _).trans (hm.bx _ _)))

theorem blk9 (t : Fin cfg0.N) (l : Fin 128) :
    (iblk m c 9 t : Vec Ideal S1x128 .f32) (ix2 0 l) = (A.l (t.val / 4 * 128 + l.val) : EReal) := by
  have ht : t.val < 24 := t.isLt
  exact (read9 _ t l ⟨t.val / 4 * 128 + l.val, by omega⟩ rfl).trans (((congrFun (Cert.RecHost.arg m c (r := main_arg7)) _).trans (hm.l _ _)))

set_option maxHeartbeats 1600000 in
theorem holds (t : Fin cfg0.N) (ac lc : Vec Ideal S1x128 .f32)
    (hac : ∀ l : Fin 128, ac (ix2 0 l) = ((if 3 - t.val % 4 = 3 then 0 else A.a (1024 * (3 - t.val % 4) + 1024) (t.val / 4 * 128 + l.val) : ℝ) : EReal))
    (hlc : ∀ l : Fin 128, lc (ix2 0 l) = (A.lm (1024 * (3 - t.val % 4) + 1024) (t.val / 4 * 128 + l.val) : EReal)) :
    Holds A (tile m c t ac lc) (3 - t.val % 4) (t.val / 4) :=
  ⟨((idx t).2.2.2.2.2.2.2.2.2.2.2.2.2.2.2.2.2).trans (step_back t.val), Nat.lt_of_le_of_lt (Nat.sub_le 3 _) (by decide),
    blk0 m c hm t, blk1 m c hm t, blk2 m c hm t, blk3 m c hm t, blk4 m c hm t, blk5 m c hm t, blk6 m c hm t, blk7 m c hm t, blk8 m c hm t,
    blk9 m c hm t, hac, hlc⟩

end Cert.RecValue

end
-- ==== Proof.Recurrence.Points.lean ====
module

public import proofs.«01_k».proof.Proof.Recurrence.Blocks

/-! What each grid point leaves: the tiles of the two row-by-row results, the sums over all rows from this tile on, and the carried first row of the states' cotangent and of the decay. -/

@[expose] public section

set_option maxRecDepth 16384

noncomputable section

namespace Cert.RecValue

open Cert.Kernel14Ideal Cert.Kernel14Ideal.Gen Cert.Lru Cert.RecPure Cert.Scan
open Idealize.ShloMosaic Idealize.ShloMosaic.TcCoe Idealize.ShloMosaic.Pointwise Idealize.SL.Sem

theorem ne_three {n : ℕ} (h : ¬n % 4 = 0) : ¬3 - n % 4 = 3 := by omega
theorem step_tr (n : ℕ) (h : ¬(n + 1) % 4 = 0) : 3 - n % 4 = 3 - (n + 1) % 4 + 1 := by omega
theorem step_J (n : ℕ) (h : ¬(n + 1) % 4 = 0) : n / 4 = (n + 1) / 4 := by omega

/-- The rows from a tile's first on, summed. -/
def above (f : ℕ → ℝ) (tr : ℕ) : ℝ := ∑ r ∈ Finset.Ico (1024 * tr) 4096, f r

theorem above_4 (f : ℕ → ℝ) : above f 4 = 0 := by simp [above]

theorem above_0 (f : ℕ → ℝ) : above f 0 = ∑ r : Fin 4096, f r.val := by
  rw [above, Nat.mul_zero, ← Finset.range_eq_Ico, Finset.sum_range]

theorem above_step (f : ℕ → ℝ) (tr : ℕ) (h : tr < 4) : above f (tr + 1) + (∑ r : Fin 1024, f (1024 * tr + r.val)) = above f tr := by
  rw [above, above, ← Finset.sum_Ico_consecutive f (show 1024 * tr ≤ 1024 * (tr + 1) by omega) (show 1024 * (tr + 1) ≤ 4096 by omega),
    add_comm, Finset.sum_Ico_eq_sum_range f (1024 * tr) (1024 * (tr + 1)), show 1024 * (tr + 1) - 1024 * tr = 1024 by omega,
    Finset.sum_range fun r => f (1024 * tr + r)]

theorem zero3 (i) : k0_pay3 (F := Ideal) i = 0 := by rw [eq_ix2 i]; pointwise [k0_pay3]
theorem zero4 (i) : k0_pay4 (F := Ideal) i = 0 := by rw [eq_ix2 i]; pointwise [k0_pay4]
theorem zero5 (k o : Fin 128) : k0_pay5 (F := Ideal) (ix3 0 k o) = 0 := by pointwise [k0_pay5]
theorem zero6 (k o : Fin 128) : k0_pay6 (F := Ideal) (ix3 0 k o) = 0 := by pointwise [k0_pay6]
theorem zero7 (l : Fin 128) : k0_pay7 (F := Ideal) (ix2 0 l) = 0 := by pointwise [k0_pay7]
theorem zero8 (l : Fin 128) : k0_pay8 (F := Ideal) (ix2 0 l) = 0 := by pointwise [k0_pay8]
theorem zero9 (l : Fin 128) : k0_pay9 (F := Ideal) (ix2 0 l) = 0 := by pointwise [k0_pay9]

/-- The carried rows a column block starts from. -/
abbrev lc0 : Vec Ideal S1x128 .f32 := (View.whole cc0_scratch0).readCov (Val := Elt Ideal)
  [⟨Rect.unit ![0, 0] ![8, 128] inb_S8x128_S8x128_0_0, k0_pay3 (F := Ideal)⟩] (Rect.unit (s := S8x128) ![0, 0] ![1, 128] inb_S8x128_S1x128_0_0).toLoadRect
abbrev ac0 : Vec Ideal S1x128 .f32 := (View.whole cc0_scratch1).readCov (Val := Elt Ideal)
  [⟨Rect.unit ![0, 0] ![8, 128] inb_S8x128_S8x128_0_0, k0_pay4 (F := Ideal)⟩] (Rect.unit (s := S8x128) ![0, 0] ![1, 128] inb_S8x128_S1x128_0_0).toLoadRect

theorem back (w : Vec Ideal S8x128 .f32) (v : View sig .tc .vmem S8x128 .f32) (L : LoadRect S8x128) (j : L.shape.Idx) (hw : ∀ i, w i = 0) :
    v.readCov (Val := Elt Ideal) [⟨Rect.unit ![0, 0] ![8, 128] inb_S8x128_S8x128_0_0, w⟩] L j = 0 := by
  rw [View.readCov_eq_canon', View.canon_unit_zero (by decide)]
  exact hw _

theorem lc0_at (j) : lc0 j = 0 := back _ _ _ _ zero3

theorem ac0_at (j) : ac0 j = 0 := back _ _ _ _ zero4

/-- … and those it carries on: the first row of what the point before left. -/
def lc1 (X : Vec Ideal S8x128 .f32) : Vec Ideal S1x128 .f32 :=
  View.ld (View.read (Elt Ideal) (View.whole cc0_scratch0) ((Memref.isWhole_whole cc0_scratch0).unread X)) (Rect.unit ![0, 0] ![1, 128] inb_S8x128_S1x128_0_0)
theorem lc1_eq (X : Vec Ideal S8x128 .f32) : @View.ld (Elt Ideal) S8x128 .f32 (@View.read sig (Elt Ideal) .tc .vmem S8x128 .f32 (View.whole cc0_scratch0)
    (@Memref.IsWhole.unread sig (Elt Ideal) .tc .vmem S8x128 .f32 scM0_0 (Memref.isWhole_whole _) X))
    (Rect.unit (s := S8x128) ![0, 0] ![1, 128] inb_S8x128_S1x128_0_0) = lc1 X := rfl
def ac1 (X : Vec Ideal S8x128 .f32) : Vec Ideal S1x128 .f32 :=
  View.ld (View.read (Elt Ideal) (View.whole cc0_scratch1) ((Memref.isWhole_whole cc0_scratch1).unread X)) (Rect.unit ![0, 0] ![1, 128] inb_S8x128_S1x128_0_0)
theorem ac1_eq (X : Vec Ideal S8x128 .f32) : @View.ld (Elt Ideal) S8x128 .f32 (@View.read sig (Elt Ideal) .tc .vmem S8x128 .f32 (View.whole cc0_scratch1)
    (@Memref.IsWhole.unread sig (Elt Ideal) .tc .vmem S8x128 .f32 scM0_1 (Memref.isWhole_whole _) X))
    (Rect.unit (s := S8x128) ![0, 0] ![1, 128] inb_S8x128_S1x128_0_0) = ac1 X := rfl

theorem row (l : Fin 128) : (Rect.unit (s := S8x128) ![0, 0] ![1, 128] inb_S8x128_S1x128_0_0).emb (ix2 (0 : Fin 1) l) = ix2 (0 : Fin 8) l :=
  funext fun a => match a with
    | 0 => rfl
    | 1 => Fin.ext (by show 0 + 1 * l.val = l.val; omega)

theorem lc1_at (X : Vec Ideal S8x128 .f32) (l : Fin 128) : lc1 X (ix2 0 l) = X (ix2 0 l) :=
  (congrFun (Memref.IsWhole.read_unread _ _) _).trans (congrArg X (row l))

theorem ac1_at (X : Vec Ideal S8x128 .f32) (l : Fin 128) : ac1 X (ix2 0 l) = X (ix2 0 l) :=
  (congrFun (Memref.IsWhole.read_unread _ _) _).trans (congrArg X (row l))

variable (m : (ℓ : Loc nD τ sig) → Buf (Elt Ideal) ℓ) (c : Dev nD) {A : Args} (hm : Finite m c A)

include hm in
theorem holds_A (t : Fin cfg0.N) (h : t.val % 4 = 0) : Holds A (tile m c t ac0 lc0) (3 - t.val % 4) (t.val / 4) := by
  refine holds m c hm t _ _ (fun l => ?_) fun l => ?_
  · rw [ac0_at, if_pos (by rw [h])]
    rfl
  · rw [lc0_at, h]
    exact EReal.coe_zero.symm.trans (congrArg (fun x : ℝ => (x : EReal)) (lam_end 4096 A.a A.g _).symm)

/-- The nine things a point leaves. -/
abbrev Outs := Vec Ideal S1024x128 .f32 × Vec Ideal S1024x128 .bf16 × Vec Ideal S1x128x128 .f32 × Vec Ideal S1x128x128 .f32 × Vec Ideal S1x128 .f32 × Vec Ideal S1x128 .f32 × Vec Ideal S1x128 .f32 × Vec Ideal S8x128 .f32 × Vec Ideal S8x128 .f32

/-- What a point stores, over its blocks and what the accumulators held. -/
def out (T : Tile) (wa wx : Vec Ideal S1x128x128 .f32) (ba bx l : Vec Ideal S1x128 .f32) : Outs :=
  (k0_pay2 (k0_pay11 T.b5) (k0_pay12 T.b7) T.dxc T.dpr T.dpi, k0_pay35 T.h T.b0 (k0_pay29 T.b2) (k0_pay33 T.b2) (k0_pay34 T.b2),
    k0_pay70 T.b1 T.dpr wa, k0_pay1 (k0_pay71 T.b1 T.i T.di wx), k0_pay68 T.dpr ba, k0_pay69 T.i T.di bx,
    k0_pay65 T.gp T.b9 T.r T.a T.mult T.da T.dmult l, k0_pay58 rows T.bv T.cv (k0_pay56 rows) T.lc, k0_pay59 T.a)

theorem out_ext {x y : Outs} (h0 : x.1 = y.1) (h1 : x.2.1 = y.2.1) (h2 : x.2.2.1 = y.2.2.1) (h3 : x.2.2.2.1 = y.2.2.2.1)
    (h4 : x.2.2.2.2.1 = y.2.2.2.2.1) (h5 : x.2.2.2.2.2.1 = y.2.2.2.2.2.1) (h6 : x.2.2.2.2.2.2.1 = y.2.2.2.2.2.2.1)
    (h7 : x.2.2.2.2.2.2.2.1 = y.2.2.2.2.2.2.2.1) (h8 : x.2.2.2.2.2.2.2.2 = y.2.2.2.2.2.2.2.2) : x = y :=
  Prod.ext h0 (Prod.ext h1 (Prod.ext h2 (Prod.ext h3 (Prod.ext h4 (Prod.ext h5 (Prod.ext h6 (Prod.ext h7 h8)))))))

set_option maxHeartbeats 1600000 in
omit hm in
theorem outs_A (t : Fin cfg0.N) (h : t.val % 4 = 0) : outsAt0 m c t.val t.isLt
    = out (tile m c t ac0 lc0) (k0_pay5 (F := Ideal)) (k0_pay6 (F := Ideal)) (k0_pay7 (F := Ideal)) (k0_pay8 (F := Ideal)) (k0_pay9 (F := Ideal)) := by
  rw [outsAt0_A m c t h]
  apply out_ext <;> frame_out <;> rfl

/-- What the point before left. -/
abbrev before (t : Fin cfg0.N) : Outs := outsAt0 m c (t.val - 1) (Nat.lt_of_le_of_lt (Nat.sub_le _ _) t.isLt)

set_option maxHeartbeats 1600000 in
omit hm in
theorem outs_B (t : Fin cfg0.N) (h : ¬t.val % 4 = 0) : outsAt0 m c t.val t.isLt
    = out (tile m c t (ac1 (before m c t).2.2.2.2.2.2.2.2) (lc1 (before m c t).2.2.2.2.2.2.2.1)) (before m c t).2.2.1 (before m c t).2.2.2.1 (before m c t).2.2.2.2.1 (before m c t).2.2.2.2.2.1 (before m c t).2.2.2.2.2.2.1 := by
  rw [outsAt0_B m c t h]
  apply out_ext <;> frame_out <;> (try simp only [lc1_eq, ac1_eq]) <;> rfl

/-- What a point leaves in the accumulators and the carried rows. -/
structure After (A : Args) (o : Outs) (tr J : ℕ) : Prop where
  dwa : ∀ k l : Fin 128, o.2.2.1 (ix3 0 k l) = (above (fun r => A.x r (J * 128 + k.val) * A.dpr r (J * 128 + l.val)) tr : EReal)
  dwx : ∀ k l : Fin 128, o.2.2.2.1 (ix3 0 k l) = (above (fun r => A.x r (J * 128 + k.val) * A.dpi r (J * 128 + l.val)) tr : EReal)
  dba : ∀ l : Fin 128, o.2.2.2.2.1 (ix2 0 l) = (above (fun r => A.dpr r (J * 128 + l.val)) tr : EReal)
  dbx : ∀ l : Fin 128, o.2.2.2.2.2.1 (ix2 0 l) = (above (fun r => A.dpi r (J * 128 + l.val)) tr : EReal)
  dl : ∀ l : Fin 128, o.2.2.2.2.2.2.1 (ix2 0 l)
    = ((above (fun r => A.dlog r (J * 128 + l.val) * (-8 * A.r r (J * 128 + l.val))) tr * -sg (-A.l (J * 128 + l.val)) : ℝ) : EReal)
  lc : ∀ l : Fin 128, o.2.2.2.2.2.2.2.1 (ix2 0 l) = (A.lm (1024 * tr) (J * 128 + l.val) : EReal)
  ac : ∀ l : Fin 128, o.2.2.2.2.2.2.2.2 (ix2 0 l) = (A.a (1024 * tr) (J * 128 + l.val) : EReal)
  dx : ∀ (r : Fin 1024) (l : Fin 128), o.1 (ix2 r l) = (A.dx (1024 * tr + r.val) (J * 128 + l.val) : EReal)
  dgate : ∀ (r : Fin 1024) (l : Fin 128), o.2.1 (ix2 r l) = (A.dgate (1024 * tr + r.val) (J * 128 + l.val) : EReal)

/-- An accumulator's step. -/
theorem acc_step (f : ℕ → ℝ) {tr : ℕ} (h : tr < 4) {x y : EReal} (hx : x = y + ((∑ r : Fin 1024, f (1024 * tr + r.val) : ℝ) : EReal))
    (hy : y = (above f (tr + 1) : EReal)) : x = (above f tr : EReal) := by
  rw [hx, hy, ← EReal.coe_add, above_step f tr h]

theorem acc_step_mul (f : ℕ → ℝ) (s : ℝ) {tr : ℕ} (h : tr < 4) {x y : EReal}
    (hx : x = y + (((∑ r : Fin 1024, f (1024 * tr + r.val)) * s : ℝ) : EReal))
    (hy : y = ((above f (tr + 1) * s : ℝ) : EReal)) : x = ((above f tr * s : ℝ) : EReal) := by
  rw [hx, hy, ← EReal.coe_add, ← add_mul, above_step f tr h]

theorem after_out {T : Tile} {tr J : ℕ} (H : Holds A T tr J) {wa wx : Vec Ideal S1x128x128 .f32} {ba bx l : Vec Ideal S1x128 .f32}
    (hwa : ∀ k l : Fin 128, wa (ix3 0 k l) = (above (fun r => A.x r (J * 128 + k.val) * A.dpr r (J * 128 + l.val)) (tr + 1) : EReal))
    (hwx : ∀ k l : Fin 128, wx (ix3 0 k l) = (above (fun r => A.x r (J * 128 + k.val) * A.dpi r (J * 128 + l.val)) (tr + 1) : EReal))
    (hba : ∀ l : Fin 128, ba (ix2 0 l) = (above (fun r => A.dpr r (J * 128 + l.val)) (tr + 1) : EReal))
    (hbx : ∀ l : Fin 128, bx (ix2 0 l) = (above (fun r => A.dpi r (J * 128 + l.val)) (tr + 1) : EReal))
    (hl : ∀ k : Fin 128, l (ix2 0 k) = ((above (fun r => A.dlog r (J * 128 + k.val) * (-8 * A.r r (J * 128 + k.val))) (tr + 1)
      * -sg (-A.l (J * 128 + k.val)) : ℝ) : EReal)) : After A (out T wa wx ba bx l) tr J where
  dwa k o := acc_step (fun r => A.x r (J * 128 + k.val) * A.dpr r (J * 128 + o.val)) H.htr (dwa_at H wa k o) (hwa k o)
  dwx k o := acc_step (fun r => A.x r (J * 128 + k.val) * A.dpi r (J * 128 + o.val)) H.htr (dwx_at H wx k o) (hwx k o)
  dba o := acc_step (fun r => A.dpr r (J * 128 + o.val)) H.htr (dba_at H o ba) (hba o)
  dbx o := acc_step (fun r => A.dpi r (J * 128 + o.val)) H.htr (dbx_at H o bx) (hbx o)
  dl o := acc_step_mul (fun r => A.dlog r (J * 128 + o.val) * (-8 * A.r r (J * 128 + o.val))) _ H.htr (dl_at H o l) (hl o)
  lc o := lc_at H o 0
  ac o := ac_at H o 0
  dx r o := dx_at H r o
  dgate r o := dgate_at H r o

include hm in
theorem after_A (t : Fin cfg0.N) (h : t.val % 4 = 0) : After A (outsAt0 m c t.val t.isLt) (3 - t.val % 4) (t.val / 4) := by
  have h4 : 3 - t.val % 4 + 1 = 4 := by rw [h]
  have z (f : ℕ → ℝ) : (0 : EReal) = (above f (3 - t.val % 4 + 1) : EReal) := by rw [h4, above_4, EReal.coe_zero]
  have z' (f : ℕ → ℝ) (s : ℝ) : (0 : EReal) = ((above f (3 - t.val % 4 + 1) * s : ℝ) : EReal) := by
    rw [h4, above_4, zero_mul, EReal.coe_zero]
  rw [outs_A m c t h]
  exact after_out (holds_A m c hm t h) (fun k l => (zero5 k l).trans (z _)) (fun k l => (zero6 k l).trans (z _))
    (fun l => (zero7 l).trans (z _)) (fun l => (zero8 l).trans (z _)) fun l => (zero9 l).trans (z' _ _)

include hm in
theorem after_B (t : Fin cfg0.N) (h : ¬t.val % 4 = 0) (I : After A (before m c t) (3 - t.val % 4 + 1) (t.val / 4)) :
    After A (outsAt0 m c t.val t.isLt) (3 - t.val % 4) (t.val / 4) := by
  rw [outs_B m c t h]
  exact after_out (holds m c hm t _ _ (fun l => (ac1_at _ l).trans ((I.ac l).trans (congrArg (fun x : ℝ => (x : EReal)) (by
      rw [if_neg (ne_three h), Nat.mul_succ])))) fun l => (lc1_at _ l).trans ((I.lc l).trans (congrArg (fun x : ℝ => (x : EReal)) (by rw [Nat.mul_succ]))))
    I.dwa I.dwx I.dba I.dbx I.dl

include hm in
theorem after (n : ℕ) : ∀ hn : n < cfg0.N, After A (outsAt0 m c n hn) (3 - n % 4) (n / 4) := by
  induction n with
  | zero => exact fun hn => after_A m c hm ⟨0, hn⟩ rfl
  | succ n ih =>
    intro hn
    by_cases h : (n + 1) % 4 = 0
    · exact after_A m c hm ⟨n + 1, hn⟩ h
    · have I := ih (Nat.lt_of_succ_lt hn)
      rw [step_tr n h, step_J n h] at I
      exact after_B m c hm ⟨n + 1, hn⟩ h I

end Cert.RecValue

end
-- ==== Proof.Recurrence.Arrays.lean ====
module

public import proofs.«01_k».proof.Proof.Recurrence.Points

/-! The kernel's seven results as whole arrays: every block is written once, the sums after a column block's last grid point, and of the aliased result only the last 768 columns. -/

@[expose] public section

set_option maxRecDepth 16384

noncomputable section

namespace Cert.RecValue

open Cert.Kernel14Ideal Cert.Kernel14Ideal.Gen Cert.Lru Cert.RecPure Cert.Scan
open Idealize.ShloMosaic Idealize.ShloMosaic.TcCoe Idealize.ShloMosaic.Pointwise Idealize.SL.Sem
open Idealize.ShloMosaic.Pipeline (Dat)

/-! ### The results as arrays -/

def arrX (A : Args) (i : S4096x768.Idx) : EReal := (A.dx (i 0).val (i 1).val : EReal)
def arrG (A : Args) (i : S4096x5376.Idx) : EReal := (A.dgate (i 0).val ((i 1).val - 4608) : EReal)
def arrW (A : Args) (f : ℕ → ℕ → ℝ) (i : S6x128x128.Idx) : EReal := (A.dw f (i 0).val (i 1).val (i 2).val : EReal)
def arrB (f : ℕ → ℕ → ℝ) (i : S1x768.Idx) : EReal := (Args.db f (i 1).val : EReal)
def arrL (A : Args) (i : S1x768.Idx) : EReal := (A.dl (i 1).val : EReal)

variable (m : (ℓ : Loc nD τ sig) → Buf (Elt Ideal) ℓ) (c : Dev nD) {A : Args} (hm : Finite m c A)

theorem first3 (x : S1x128x128.Idx) : x = ix3 (0 : Fin 1) (x 1) (x 2) :=
  (eq_ix3 x).trans (congrArg (fun a : Fin 1 => ix3 a (x 1) (x 2)) (Subsingleton.elim _ _))
theorem first2 (x : S1x128.Idx) : x = ix2 (0 : Fin 1) (x 1) :=
  (eq_ix2 x).trans (congrArg (fun a : Fin 1 => ix2 a (x 1)) (Subsingleton.elim _ _))

theorem embX (t : Fin cfg0.N) (y : ((cfg0.win 10).xblock (cfg0.grid.coords t)).Idx) :
    arrX A (((View.whole main_v234_0).slice (win0_10.rect t)).emb y) = (A.dx (1024 * (3 - t.val % 4) + (y 0).val) (t.val / 4 * 128 + (y 1).val) : EReal) := by
  have h0 : ((((View.whole main_v234_0).slice (win0_10.rect t)).emb y) 0).val = 1024 * (3 - t.val % 4) + (y 0).val := by blk_simp [idx t] <;> try omega
  have h1 : ((((View.whole main_v234_0).slice (win0_10.rect t)).emb y) 1).val = t.val / 4 * 128 + (y 1).val := by blk_simp [idx t] <;> try omega
  rw [arrX, h0, h1]

include hm in
theorem arr10 : (dats m 0 c).arrAt 10 cfg0.N = arrX A := by
  refine (dats m 0 c).arrAt_eq_of_covers 10 _ (by decide +kernel) fun t hf y => ?_
  blk_simp
  rw [after0_10, embX]
  exact (congrArg (outsAt0 m c t.val t.isLt).1 (eq_ix2 y)).trans ((after m c hm t.val t.isLt).dx (y 0) (y 1))

theorem embG (t : Fin cfg0.N) (y : ((cfg0.win 11).xblock (cfg0.grid.coords t)).Idx) :
    arrG A (((View.whole main_v234_1).slice (win0_11.rect t)).emb y) = (A.dgate (1024 * (3 - t.val % 4) + (y 0).val) (t.val / 4 * 128 + (y 1).val) : EReal) := by
  have h0 : ((((View.whole main_v234_1).slice (win0_11.rect t)).emb y) 0).val = 1024 * (3 - t.val % 4) + (y 0).val := by blk_simp [idx t] <;> try omega
  have h1 : ((((View.whole main_v234_1).slice (win0_11.rect t)).emb y) 1).val = 4608 + (t.val / 4 * 128 + (y 1).val) := by blk_simp [idx t] <;> try omega
  rw [arrG, h0, h1, Nat.add_sub_cancel_left]

include hm in
theorem arr11 (i : S4096x5376.Idx) : (dats m 0 c).arrAt 11 cfg0.N i
    = if 36 ≤ (i 1).val / 128 then arrG A i else V m c main_v234_1 i := by
  refine (dats m 0 c).arrAt_apply_of_coversWhere 11 (arrG A) (P := fun i : S4096x5376.Idx => 36 ≤ (i 1).val / 128) (fun β => 36 ≤ β (1 : Fin 2)) (by decide +kernel) (fun t hf y => ?_)
    (fun j => by blk_simp [Pipeline.Window.cell_apply]) i
  blk_simp
  rw [after0_11, embG]
  exact (congrArg (outsAt0 m c t.val t.isLt).2.1 (eq_ix2 y)).trans ((after m c hm t.val t.isLt).dgate (y 0) (y 1))

theorem tr_last {n : ℕ} (h : n % 4 = 3) : 3 - n % 4 = 0 := by omega

include hm in
/-- What the last point of a column block leaves. -/
theorem last (t : Fin cfg0.N) (h : t.val % 4 = 3) : After A (outsAt0 m c t.val t.isLt) 0 (t.val / 4) :=
  tr_last h ▸ after m c hm t.val t.isLt

theorem dw_above (A : Args) (f : ℕ → ℕ → ℝ) (j k l : ℕ) : above (fun r => A.x r (j * 128 + k) * f r (j * 128 + l)) 0 = A.dw f j k l :=
  above_0 _

theorem emb12 (f : ℕ → ℕ → ℝ) (t : Fin cfg0.N) (y : ((cfg0.win 12).xblock (cfg0.grid.coords t)).Idx) :
    arrW A f (((View.whole main_v234_2).slice (win0_12.rect t)).emb y) = (A.dw f (t.val / 4) (y 1).val (y 2).val : EReal) := by
  have h0 : ((((View.whole main_v234_2).slice (win0_12.rect t)).emb y) 0).val = t.val / 4 := by blk_simp [idx t] <;> try omega
  have h1 : ((((View.whole main_v234_2).slice (win0_12.rect t)).emb y) 1).val = (y 1).val := by blk_simp [idx t] <;> try omega
  have h2 : ((((View.whole main_v234_2).slice (win0_12.rect t)).emb y) 2).val = (y 2).val := by blk_simp [idx t] <;> try omega
  rw [arrW, h0, h1, h2]

include hm in
theorem arr12 : (dats m 0 c).arrAt 12 cfg0.N = arrW A A.dpr := by
  refine (dats m 0 c).arrAt_eq_of_covers 12 _ (by decide +kernel) fun t hf y => ?_
  have h := last m c hm t ((flush0_12 t).mp hf)
  blk_simp
  rw [after0_12, emb12]
  exact (congrArg (outsAt0 m c t.val t.isLt).2.2.1 (first3 y)).trans ((h.dwa (y 1) (y 2)).trans (congrArg (fun x : ℝ => (x : EReal)) (dw_above A _ _ _ _)))

theorem emb13 (f : ℕ → ℕ → ℝ) (t : Fin cfg0.N) (y : ((cfg0.win 13).xblock (cfg0.grid.coords t)).Idx) :
    arrW A f (((View.whole main_v234_3).slice (win0_13.rect t)).emb y) = (A.dw f (t.val / 4) (y 1).val (y 2).val : EReal) := by
  have h0 : ((((View.whole main_v234_3).slice (win0_13.rect t)).emb y) 0).val = t.val / 4 := by blk_simp [idx t] <;> try omega
  have h1 : ((((View.whole main_v234_3).slice (win0_13.rect t)).emb y) 1).val = (y 1).val := by blk_simp [idx t] <;> try omega
  have h2 : ((((View.whole main_v234_3).slice (win0_13.rect t)).emb y) 2).val = (y 2).val := by blk_simp [idx t] <;> try omega
  rw [arrW, h0, h1, h2]

include hm in
theorem arr13 : (dats m 0 c).arrAt 13 cfg0.N = arrW A A.dpi := by
  refine (dats m 0 c).arrAt_eq_of_covers 13 _ (by decide +kernel) fun t hf y => ?_
  have h := last m c hm t ((flush0_13 t).mp hf)
  blk_simp
  rw [after0_13, emb13]
  exact (congrArg (outsAt0 m c t.val t.isLt).2.2.2.1 (first3 y)).trans ((h.dwx (y 1) (y 2)).trans (congrArg (fun x : ℝ => (x : EReal)) (dw_above A _ _ _ _)))

theorem emb14 (t : Fin cfg0.N) (y : ((cfg0.win 14).xblock (cfg0.grid.coords t)).Idx) :
    arrB A.dpr (((View.whole main_v234_4).slice (win0_14.rect t)).emb y) = (Args.db A.dpr (t.val / 4 * 128 + (y 1).val) : EReal) := by
  have h1 : ((((View.whole main_v234_4).slice (win0_14.rect t)).emb y) 1).val = t.val / 4 * 128 + (y 1).val := by blk_simp [idx t] <;> try omega
  rw [arrB, h1]

include hm in
theorem arr14 : (dats m 0 c).arrAt 14 cfg0.N = arrB A.dpr := by
  refine (dats m 0 c).arrAt_eq_of_covers 14 _ (by decide +kernel) fun t hf y => ?_
  have h := last m c hm t ((flush0_14 t).mp hf)
  blk_simp
  rw [after0_14, emb14]
  exact (congrArg (outsAt0 m c t.val t.isLt).2.2.2.2.1 (first2 y)).trans ((h.dba (y 1)).trans (congrArg (fun x : ℝ => (x : EReal)) (above_0 _)))

theorem emb15 (t : Fin cfg0.N) (y : ((cfg0.win 15).xblock (cfg0.grid.coords t)).Idx) :
    arrB A.dpi (((View.whole main_v234_5).slice (win0_15.rect t)).emb y) = (Args.db A.dpi (t.val / 4 * 128 + (y 1).val) : EReal) := by
  have h1 : ((((View.whole main_v234_5).slice (win0_15.rect t)).emb y) 1).val = t.val / 4 * 128 + (y 1).val := by blk_simp [idx t] <;> try omega
  rw [arrB, h1]

include hm in
theorem arr15 : (dats m 0 c).arrAt 15 cfg0.N = arrB A.dpi := by
  refine (dats m 0 c).arrAt_eq_of_covers 15 _ (by decide +kernel) fun t hf y => ?_
  have h := last m c hm t ((flush0_15 t).mp hf)
  blk_simp
  rw [after0_15, emb15]
  exact (congrArg (outsAt0 m c t.val t.isLt).2.2.2.2.2.1 (first2 y)).trans ((h.dbx (y 1)).trans (congrArg (fun x : ℝ => (x : EReal)) (above_0 _)))

theorem emb16 (t : Fin cfg0.N) (y : ((cfg0.win 16).xblock (cfg0.grid.coords t)).Idx) :
    arrL A (((View.whole main_v234_6).slice (win0_16.rect t)).emb y) = (A.dl (t.val / 4 * 128 + (y 1).val) : EReal) := by
  have h1 : ((((View.whole main_v234_6).slice (win0_16.rect t)).emb y) 1).val = t.val / 4 * 128 + (y 1).val := by blk_simp [idx t] <;> try omega
  rw [arrL, h1]

include hm in
theorem arr16 : (dats m 0 c).arrAt 16 cfg0.N = arrL A := by
  refine (dats m 0 c).arrAt_eq_of_covers 16 _ (by decide +kernel) fun t hf y => ?_
  have h := last m c hm t ((flush0_16 t).mp hf)
  blk_simp
  rw [after0_16, emb16]
  exact (congrArg (outsAt0 m c t.val t.isLt).2.2.2.2.2.2.1 (first2 y)).trans ((h.dl (y 1)).trans (congrArg (fun x : ℝ => (x : EReal)) (congrArg (· * _) (above_0 _))))

theorem after_concat (ops : List (HloOp τ sig (Elt Ideal))) (op : HloOp τ sig (Elt Ideal)) (W : Valuation τ sig (Elt Ideal)) :
    StableHlo.after (ops ++ [op]) W = op.result (StableHlo.after ops W) := by
  rw [StableHlo.after_append]; rfl

open Cert.RecHost in
/-- The columns the kernel leaves hold the argument aliased to the result. -/
theorem kept : V m c main_v234_1 = m (c, Proc.devRef .tc main_arg8) := by
  have h : ops = ops.take 270 ++ [StableHlo.unary main_arg8 main_v234_1 id] := rfl
  show StableHlo.after ops _ _ = _
  rw [h, after_concat]
  refine (StableHlo.unary_result main_arg8 main_v234_1 id _ _ _).trans ?_
  exact (ordered_pre ops _ 9 270 _ _ ordered rfl (by decide)).trans (arg m c)

end Cert.RecValue

end
-- ==== Proof.Recurrence.Pre.lean ====
module

public import proofs.«01_k».proof.Pre_finite14
public import proofs.«01_k».proof.Proof.Pre
public import proofs.«01_k».proof.Proof.Recurrence.Ref

/-! The gradient of the recurrence's precondition, read element by element: the arguments hold real numbers. -/

@[expose] public section

noncomputable section

namespace Cert.RecPre

open Cert.Pre_finite14 Idealize.ShloMosaic Idealize.ShloMosaic.Pointwise Cert.Lru

instance : Subsingleton S_.Idx := ⟨fun _ _ => funext fun a => a.elim0⟩

/-- One argument's part of the precondition. -/
theorem real {s : Shape} {axes} {hb} {hr : s.ReducesTo axes S_} {h0 : 0 < S_.numel} (x : FVec Ideal s .f32) (j : S_.Idx)
    (e : Host.reduce IntOp.andi (cmpf .olt (Host.absf x) (broadcastInDim s (![] : Fin 0 → Fin s.rank) hb (constant S_ .f32 0x7F800000#32)))
      (constantI S_ 1 1#1) hr h0 j = 1#1) (i : s.Idx) : x i = ((x i).toReal : EReal) := by
  have := Host.reduce_andi_all _ _ _ _ _ e i
  refine Cert.Pre.real_of_lt _ ?_
  rw [← Cert.Pre.ofBits_inf]
  exact this

variable (x0 : FVec Ideal S4096x2048 .f32) (x1 : FVec Ideal S4096x768 .f32) (x2 : FVec Ideal S4096x5376 .f32)
  (x3 : FVec Ideal S6x128x128 .f32) (x4 : FVec Ideal S1x768 .f32) (x5 : FVec Ideal S6x128x128 .f32) (x6 x7 : FVec Ideal S1x768 .f32)
  (x8 : FVec Ideal S4096x5376 .bf16)

/-- A matrix's element, zero outside it. -/
def el2 {n k : ℕ} (x : ({ rank := 2, size := ![n, k] } : Shape).Idx → EReal) (a b : ℕ) : ℝ :=
  if h : a < n ∧ b < k then (x (ix2 ⟨a, h.1⟩ ⟨b, h.2⟩)).toReal else 0
def el3 {n k l : ℕ} (x : ({ rank := 3, size := ![n, k, l] } : Shape).Idx → EReal) (a b d : ℕ) : ℝ :=
  if h : a < n ∧ b < k ∧ d < l then (x (ix3 ⟨a, h.1⟩ ⟨b, h.2.1⟩ ⟨d, h.2.2⟩)).toReal else 0

theorem el2_at {n k : ℕ} {x : ({ rank := 2, size := ![n, k] } : Shape).Idx → EReal} (h : ∀ i, x i = ((x i).toReal : EReal)) (a : Fin n) (b : Fin k) :
    x (ix2 a b) = (el2 x a.val b.val : EReal) := by
  rw [el2, dif_pos ⟨a.isLt, b.isLt⟩]; exact h _
theorem el3_at {n k l : ℕ} {x : ({ rank := 3, size := ![n, k, l] } : Shape).Idx → EReal} (h : ∀ i, x i = ((x i).toReal : EReal)) (a : Fin n) (b : Fin k) (d : Fin l) :
    x (ix3 a b d) = (el3 x a.val b.val d.val : EReal) := by
  rw [el3, dif_pos ⟨a.isLt, b.isLt, d.isLt⟩]; exact h _
theorem row_at {k : ℕ} {x : ({ rank := 2, size := ![1, k] } : Shape).Idx → EReal} (h : ∀ i, x i = ((x i).toReal : EReal)) (a : Fin 1) (b : Fin k) :
    x (ix2 a b) = (el2 x 0 b.val : EReal) := by
  obtain rfl : a = 0 := Subsingleton.elim _ _
  exact el2_at h 0 b

/-- The arguments as real numbers. -/
def args : Args := ⟨el2 x0, el2 x1, el2 x2, el3 x3, el2 x4 0, el3 x5, el2 x6 0, el2 x7 0⟩

theorem holds [Facts] (h : fn (F := Ideal) x0 x1 x2 x3 x4 x5 x6 x7 x8 = fun _ => 1#1) :
    Cert.RecRef.Holds (args x0 x1 x2 x3 x4 x5 x6 x7) x0 x1 x2 x3 x4 x5 x6 x7 := by
  have e := congrFun h (fun a => a.elim0)
  dsimp only [fn, fn_part1, fn_part2] at e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨el2_at (real x0 _ e0), el2_at (real x1 _ e1), el2_at (real x2 _ e2), el3_at (real x3 _ e3), row_at (real x4 _ e4),
    el3_at (real x5 _ e5), row_at (real x6 _ e6), row_at (real x7 _ e7)⟩

end Cert.RecPre

end
-- ==== Proof.Recurrence.Algebraic.lean ====
module

public import proofs.«01_k».proof.Defs
public import proofs.«01_k».proof.Proof.Gen.Reference14Ideal.Run
public import proofs.«01_k».proof.Proof.Gen.Pre_finite14
public import proofs.«01_k».proof.Proof.Recurrence.Arrays
public import proofs.«01_k».proof.Proof.Recurrence.Pre

/-! The gradient of the recurrence: the kernel ends with the reference's seven results. -/

@[expose] public section

noncomputable section

namespace Cert.Recurrence

open Idealize.ShloMosaic Idealize.ShloMosaic.StableHlo Idealize.SL.Sem Cert.RecValue Cert.Lru

/-- The reference declares no semaphore and writes no argument. -/
theorem frame_reference : Cert.quiescent_Reference14Ideal := fun m ρ _ =>
  (θ_run Cert.Reference14Ideal.defs _ _).mono (fun r h => ⟨fun c => (h c).2.2.2.2.2.2.2, sem_eq_zero_of_no_sems (by decide) r.2⟩)
    (Cert.Reference14Ideal.Value.run (F := Ideal) m ρ)

section
variable {A : Args} {m : (ℓ : Loc Cert.Kernel14Ideal.nD Cert.Kernel14Ideal.τ Cert.Kernel14Ideal.sig) → Buf (Elt Ideal) ℓ} {c : Dev Cert.Kernel14Ideal.nD}

theorem first_row (i : Cert.Kernel14Ideal.S1x768.Idx) : i = ix2 (0 : Fin 1) (i 1) :=
  (eq_ix2 i).trans (congrArg (fun a : Fin 1 => ix2 a (i 1)) (Subsingleton.elim _ _))

/-- The gradient of the projection: the gate's columns, the argument's elsewhere. -/
def proj (A : Args) (x8 : Cert.Kernel14Ideal.S4096x5376.Idx → EReal) (i : Cert.Kernel14Ideal.S4096x5376.Idx) : EReal :=
  if (i 1).val < 4608 then x8 i else arrG A i

theorem arr_proj (hm : Finite m c A) : (Cert.Kernel14Ideal.Gen.dats m 0 c).arrAt 11 Cert.Kernel14Ideal.cfg0.N
    = proj A (m (c, Proc.devRef .tc Cert.Kernel14Ideal.main_arg8)) := by
  funext i
  rw [arr11 m c hm i, kept, proj]
  by_cases h : (i 1).val < 4608
  · rw [if_pos h, if_neg (by omega)]
  · rw [if_neg h, if_pos (by omega)]

end

/-- Kernel and reference end with the same gradients: both are the formulas of `Cert.Lru` at the arguments' numbers. -/
theorem algebraic : Cert.algebraic_Kernel14Ideal_Reference14Ideal := by
  intro m ρ m' ρ' hpre hag
  obtain ⟨B, hm⟩ : ∃ B : Dev Cert.Kernel14Ideal.nD → Args, ∀ c, Finite m c (B c) :=
    ⟨_, fun c => Cert.RecPre.holds _ _ _ _ _ _ _ _ _ (hpre c)⟩
  refine ⟨fun c => arrX (B c), fun c => proj (B c) (m (c, Proc.devRef .tc Cert.Kernel14Ideal.main_arg8)), fun c => arrW (B c) (B c).dpr,
    fun c => arrW (B c) (B c).dpi, fun c => arrB (B c).dpr, fun c => arrB (B c).dpi, fun c => arrL (B c), ?_, ?_⟩
  · exact (θ_run Cert.Kernel14Ideal.defs _ _).mono
      (fun r h c => ⟨(h c).1.trans (arr10 m c (hm c)), (h c).2.1.trans (arr_proj (hm c)), (h c).2.2.1.trans (arr12 m c (hm c)),
        (h c).2.2.2.1.trans (arr13 m c (hm c)), (h c).2.2.2.2.1.trans (arr14 m c (hm c)), (h c).2.2.2.2.2.1.trans (arr15 m c (hm c)),
        (h c).2.2.2.2.2.2.1.trans (arr16 m c (hm c)), (h c).2.2.2.2.2.2.2⟩)
      (Cert.Kernel14Ideal.Value.run_blocks m ρ)
  · have hR : ∀ c : Dev Cert.Reference14Ideal.nD, Cert.RecRef.Holds (B c) (launchContents m' c (Proc.devRef .tc Cert.Reference14Ideal.main_arg0))
        (launchContents m' c (Proc.devRef .tc Cert.Reference14Ideal.main_arg1)) (launchContents m' c (Proc.devRef .tc Cert.Reference14Ideal.main_arg2))
        (launchContents m' c (Proc.devRef .tc Cert.Reference14Ideal.main_arg3)) (launchContents m' c (Proc.devRef .tc Cert.Reference14Ideal.main_arg4))
        (launchContents m' c (Proc.devRef .tc Cert.Reference14Ideal.main_arg5)) (launchContents m' c (Proc.devRef .tc Cert.Reference14Ideal.main_arg6))
        (launchContents m' c (Proc.devRef .tc Cert.Reference14Ideal.main_arg7)) := fun c => by
      obtain ⟨h0, h1, h2, h3, h4, h5, h6, h7, _⟩ := hag c
      rw [launchContents_devRef, launchContents_devRef, launchContents_devRef, launchContents_devRef, launchContents_devRef,
        launchContents_devRef, launchContents_devRef, launchContents_devRef]
      exact ⟨fun a b => (congrFun h0 _).trans ((hm c).dm a b), fun a b => (congrFun h1 _).trans ((hm c).x a b),
        fun a b => (congrFun h2 _).trans ((hm c).p a b), fun a b d => (congrFun h3 _).trans ((hm c).wa a b d),
        fun a b => (congrFun h4 _).trans ((hm c).ba a b), fun a b d => (congrFun h5 _).trans ((hm c).wx a b d),
        fun a b => (congrFun h6 _).trans ((hm c).bx a b), fun a b => (congrFun h7 _).trans ((hm c).l a b)⟩
    refine (θ_run Cert.Reference14Ideal.defs _ _).mono (fun r h c => ?_) (Cert.Reference14Ideal.Value.run m' ρ')
    obtain ⟨h0, h1, h2, h3, h4, h5, h6, hk⟩ := h c
    refine ⟨h0.trans ?_, h1.trans ?_, h2.trans ?_, h3.trans ?_, h4.trans ?_, h5.trans ?_, h6.trans ?_, hk⟩
    · refine (Cert.Reference14Ideal.Read.val_main_v618_eq (launchContents m' c)).trans (funext fun i => ?_)
      rw [eq_ix2 i]
      exact Cert.RecRef.v618_at (hR c) _ _
    · refine (Cert.Reference14Ideal.Read.val_main_v621_eq (launchContents m' c)).trans (funext fun i => ?_)
      have h8 : launchContents m' c (Proc.devRef .tc Cert.Reference14Ideal.main_arg8) = m (c, Proc.devRef .tc Cert.Kernel14Ideal.main_arg8) :=
        (hag c).2.2.2.2.2.2.2.2
      rw [h8, eq_ix2 i]
      exact Cert.RecRef.v621_at (hR c) (i 0) _ (i 1)
    · refine (Cert.Reference14Ideal.Read.val_main_v616_eq (launchContents m' c)).trans (funext fun i => ?_)
      rw [eq_ix3 i]
      exact Cert.RecRef.v616_at (hR c) _ _ _
    · refine (Cert.Reference14Ideal.Read.val_main_v606_eq (launchContents m' c)).trans (funext fun i => ?_)
      rw [eq_ix3 i]
      exact Cert.RecRef.v606_at (hR c) _ _ _
    · refine (Cert.Reference14Ideal.Read.val_main_v609_eq (launchContents m' c)).trans (funext fun i => ?_)
      rw [first_row i]
      exact Cert.RecRef.v609_at (hR c) _
    · refine (Cert.Reference14Ideal.Read.val_main_v600_eq (launchContents m' c)).trans (funext fun i => ?_)
      rw [first_row i]
      exact Cert.RecRef.v600_at (hR c) _
    · refine (Cert.Reference14Ideal.Read.val_main_v595_eq (launchContents m' c)).trans (funext fun i => ?_)
      rw [first_row i]
      exact Cert.RecRef.v595_at (hR c) _

end Cert.Recurrence

end
-- ==== Proof.Ref.lean ====
module

public import proofs.«01_k».proof.Proof.Gen.ReferenceIdeal.Read
public import proofs.«01_k».proof.Proof.Spec

/-! The reference's results, element by element, are the real formulas of `Spec`. -/

@[expose] public section

noncomputable section

namespace Cert.Ref

open Cert.ReferenceIdeal Cert.ReferenceIdeal.Gen Cert.ReferenceIdeal.Read Cert.Spec
open Idealize.ShloMosaic Idealize.ShloMosaic.StableHlo Idealize.ShloMosaic.Pointwise

variable (x0 : (⟨S4096x6144, .bf16⟩ : BufTy).Contents (Elt Ideal)) (x1 : (⟨S4096x12288, .bf16⟩ : BufTy).Contents (Elt Ideal))
  (x2 : (⟨S3x6144, .f32⟩ : BufTy).Contents (Elt Ideal)) (d u w : ℕ → ℕ → ℝ)

section
variable (h1 : ∀ a b, x1 (ix2 a b) = (u a.val b.val : EReal)) (t : Fin 4096) (c : Fin 6144)
include h1

theorem v1_at : val_main_v1 (F := Ideal) x1 (ix2 t c) = (u t.val c.val : EReal) := by
  pointwise [val_main_v1, val_main_v0]
  rw [h1]

theorem v2_at : val_main_v2 (F := Ideal) x1 (ix2 t c) = (u t.val (6144 + c.val) : EReal) := by
  pointwise [val_main_v2, val_main_v0]
  rw [h1]

theorem v10_at : val_main_v10 (F := Ideal) x1 (ix2 t c) = (sh u 2 t.val c.val : EReal) := by
  pointwise [val_main_v10, val_main_v8, val_main_v9, val_main_cst]
  unfold sh
  split
  · rw [if_neg (by omega), EReal.coe_zero]
  · exact (v1_at x1 u h1 _ _).trans (congrArg _ (if_pos (by omega)).symm)

theorem v20_at : val_main_v20 (F := Ideal) x1 (ix2 t c) = (sh u 1 t.val c.val : EReal) := by
  pointwise [val_main_v20, val_main_v18, val_main_v19, val_main_cst_1]
  unfold sh
  split
  · rw [if_neg (by omega), EReal.coe_zero]
  · exact (v1_at x1 u h1 _ _).trans (congrArg _ (if_pos (by omega)).symm)

variable (h2 : ∀ a b, x2 (ix2 a b) = (w a.val b.val : EReal))
include h2

theorem v27_at : val_main_v27 (F := Ideal) x1 x2 (ix2 t c) = (cv u w t.val c.val : EReal) := by
  pointwise [val_main_v27, val_main_v26, val_main_v17, val_main_v16, val_main_v7, val_main_v6, val_main_v5, val_main_v4, val_main_v3, val_main_v15, val_main_v14, val_main_v13, val_main_v12, val_main_v25, val_main_v24, val_main_v23, val_main_v22]
  rw [v1_at x1 u h1, v10_at x1 u h1, v20_at x1 u h1, h2, h2, h2]
  rfl

theorem v38_at : val_main_v38 (F := Ideal) x1 x2 (ix2 t c) = (th (cv u w t.val c.val) : EReal) := by
  pointwise [val_main_v38, val_main_v37, val_main_v36, val_main_v35, val_main_v34, val_main_v33, val_main_v29, val_main_v28, val_main_cst_4, val_main_cst_5]
  rw [v27_at x1 x2 u w h1 t c h2, ofBits_g0, ofBits_g1]
  simp only [← EReal.coe_mul, ← EReal.coe_add, Ideal.tanh_coe]
  unfold th
  ring_nf

variable (h0 : ∀ a b, x0 (ix2 a b) = (d a.val b.val : EReal))
include h0

theorem v51_at : val_main_v51 (F := Ideal) x0 x1 x2 (ix2 t c) = (dval d u w t.val c.val : EReal) := by
  pointwise [val_main_v51, val_main_v50, val_main_v48, val_main_v47, val_main_v46, val_main_v45, val_main_v44, val_main_cst_8, val_main_cst_9]
  rw [v27_at x1 x2 u w h1 t c h2, v38_at x1 x2 u w h1 t c h2, h0, ofBits_half]
  simp only [← EReal.coe_one, ← EReal.coe_mul, ← EReal.coe_add]
  unfold dval gelu
  ring_nf

theorem v64_at : val_main_v64 (F := Ideal) x0 x1 x2 (ix2 t c) = (e d u w t.val c.val : EReal) := by
  pointwise [val_main_v64, val_main_v63, val_main_v62, val_main_v61, val_main_v60, val_main_v59, val_main_v58, val_main_v57, val_main_v56, val_main_v55, val_main_v54, val_main_v53, val_main_v52, val_main_v50, val_main_v47, val_main_v46, val_main_v45, val_main_v44, val_main_v43, val_main_v42, val_main_v41, val_main_v40, val_main_v39, val_main_v32, val_main_v31, val_main_v30, val_main_cst_3, val_main_cst_6, val_main_cst_7, val_main_cst_8, val_main_cst_9, val_main_cst_10, val_main_cst_11, val_main_cst_12]
  rw [v27_at x1 x2 u w h1 t c h2, v38_at x1 x2 u w h1 t c h2, v2_at x1 u h1, h0, ofBits_half, ofBits_three, ofBits_g0, ofBits_g1]
  simp only [← EReal.coe_one, ← EReal.coe_mul, ← EReal.coe_add, ← EReal.coe_sub]
  unfold e Spec.slope
  rw [if_pos t.isLt]
  ring_nf

theorem v94_at : val_main_v94 (F := Ideal) x0 x1 x2 (ix2 t c) = (dgate d u w t.val c.val : EReal) := by
  pointwise [val_main_v94, val_main_v93, val_main_v92, val_main_v5, val_main_v4, val_main_v3, val_main_v88, val_main_v87, val_main_v86, val_main_v80, val_main_v79, val_main_v14, val_main_v13, val_main_v12, val_main_v75, val_main_v74, val_main_v69, val_main_v68, val_main_v24, val_main_v23, val_main_v22, val_main_cst_16, val_main_cst_20]
  simp only [v64_at x0 x1 x2 d u w h1 _ _ h2 h0, h2]
  have hz : ∀ n, 4096 ≤ n → e d u w n c.val = 0 := fun n h => if_neg (by omega)
  have v0 : ((0 : Fin 3) : ℕ) = 0 := rfl
  have v1 : ((1 : Fin 3) : ℕ) = 1 := rfl
  have v2 : ((2 : Fin 3) : ℕ) = 2 := rfl
  unfold dgate
  simp only [v0, v1, v2]
  rw [add_comm 1 t.val, add_comm 2 t.val]
  split <;> split <;> first | omega | skip
  · simp only [← EReal.coe_mul, ← EReal.coe_add]
    ring_nf
  · rw [hz (t.val + 2) (by omega), add_zero]
    simp only [← EReal.coe_mul, ← EReal.coe_add]
    ring_nf
  · rw [hz (t.val + 2) (by omega), hz (t.val + 1) (by omega), zero_add, zero_add, ← EReal.coe_mul]
    ring_nf

theorem v102_at (p : Fin 2) : val_main_v102 (F := Ideal) x0 x1 x2 (ix3 p t c)
    = ((if p.val = 0 then dgate d u w t.val c.val else dval d u w t.val c.val : ℝ) : EReal) := by
  pointwise [val_main_v102, val_main_v101, val_main_v99, val_main_v100]
  rw [v94_at x0 x1 x2 d u w h1 _ _ h2 h0, v51_at x0 x1 x2 d u w h1 _ _ h2 h0]
  split
  · rw [if_pos (by omega)]
  · rw [if_neg (by omega)]

omit t in
theorem v98_at (j : Fin 3) : val_main_v98 (F := Ideal) x0 x1 x2 (ix2 j c) = (dw d u w j.val c.val : EReal) := by
  pointwise [val_main_v98, val_main_v97, val_main_v96, val_main_v95, val_main_v91, val_main_v90, val_main_v89, val_main_v84, val_main_v83, val_main_v82, val_main_v81, val_main_v78, val_main_v77, val_main_v76, val_main_v72, val_main_v71, val_main_v70, val_main_v67, val_main_v66, val_main_v65, val_main_cst_13, val_main_cst_14, val_main_cst_15, val_main_cst_17, val_main_cst_18, val_main_cst_19, val_main_cst_21, val_main_cst_22, val_main_cst_23]
  simp only [v64_at x0 x1 x2 d u w h1 _ _ h2 h0, v1_at x1 u h1, v10_at x1 u h1, v20_at x1 u h1]
  unfold dw
  fin_cases j
  all_goals simp [sh, ← EReal.coe_mul, ← coe_sum, mul_comm]
end

end Cert.Ref

end
-- ==== Proof.Pure.lean ====
module

public import proofs.«01_k».proof.Proof.Gen.KernelIdeal.Skeleton
public import proofs.«01_k».proof.Proof.Spec

@[expose] public section

noncomputable section

namespace Cert.Pure

open Cert.KernelIdeal Cert.KernelIdeal.Gen Cert.Spec
open Idealize.ShloMosaic Idealize.ShloMosaic.Pointwise

theorem named_cubic : (Named.named (F := Ideal) (φ := .f32) κ "gelu_cubic" 0x3D122279#32 : Ideal .f32) = ((g0 * g1 : ℝ) : EReal) := by
  refine (named_eq κ "gelu_cubic" 0x3D122279#32).trans ?_
  simp only [κ, g0, g1]
  norm_num

theorem named_slope : (Named.named (F := Ideal) (φ := .f32) κ "gelu_cubic_slope" 0x3DDB33B6#32 : Ideal .f32) = ((3 * (g0 * g1) : ℝ) : EReal) := by
  refine (named_eq κ "gelu_cubic_slope" 0x3DDB33B6#32).trans ?_
  simp only [κ, g0, g1]
  norm_num

/-- A grid point's input blocks hold the finite numbers `d`, `u` and `w` of the array: rows from `2048 * b`
for the point's second coordinate `b`, columns from `C`. Halo rows beyond the array are not asked about. -/
structure Holds (i : grid0.Coords) (b C : ℕ) (d u w : ℕ → ℕ → ℝ)
    (dT : Vec Ideal S2048x512 .bf16) (dN : Vec Ideal S16x512 .bf16) (gT : Vec Ideal S2048x512 .bf16) (gP gN : Vec Ideal S16x512 .bf16)
    (vT : Vec Ideal S2048x512 .bf16) (vN : Vec Ideal S16x512 .bf16) (w0 w1 w2 : Vec Ideal S1x512 .f32) : Prop where
  at_b : (i 1).val = b
  b_lt : b < 2
  dT : ∀ (r : Fin 2048) (l : Fin 512), dT (ix2 r l) = (d (2048 * b + r.val) (C + l.val) : EReal)
  dN : b = 0 → ∀ (r : Fin 16) (l : Fin 512), dN (ix2 r l) = (d (2048 + r.val) (C + l.val) : EReal)
  gT : ∀ (r : Fin 2048) (l : Fin 512), gT (ix2 r l) = (u (2048 * b + r.val) (C + l.val) : EReal)
  gP : b = 1 → ∀ (r : Fin 16) (l : Fin 512), gP (ix2 r l) = (u (2032 + r.val) (C + l.val) : EReal)
  gN : b = 0 → ∀ (r : Fin 16) (l : Fin 512), gN (ix2 r l) = (u (2048 + r.val) (C + l.val) : EReal)
  vT : ∀ (r : Fin 2048) (l : Fin 512), vT (ix2 r l) = (u (2048 * b + r.val) (6144 + (C + l.val)) : EReal)
  vN : b = 0 → ∀ (r : Fin 16) (l : Fin 512), vN (ix2 r l) = (u (2048 + r.val) (6144 + (C + l.val)) : EReal)
  w0 : ∀ l : Fin 512, w0 (ix2 0 l) = (w 0 (C + l.val) : EReal)
  w1 : ∀ l : Fin 512, w1 (ix2 0 l) = (w 1 (C + l.val) : EReal)
  w2 : ∀ l : Fin 512, w2 (ix2 0 l) = (w 2 (C + l.val) : EReal)

variable {i : grid0.Coords} {b C : ℕ} {d u w : ℕ → ℕ → ℝ}
  {dT : Vec Ideal S2048x512 .bf16} {dN : Vec Ideal S16x512 .bf16} {gT : Vec Ideal S2048x512 .bf16} {gP gN : Vec Ideal S16x512 .bf16}
  {vT : Vec Ideal S2048x512 .bf16} {vN : Vec Ideal S16x512 .bf16} {w0 w1 w2 : Vec Ideal S1x512 .f32}

theorem pay2_rows (q : Fin 2080) (l : Fin 512) : k0_pay2 (F := Ideal) i gP gT gN (ix2 q l)
    = if h : q.val < 16 then Scalar.select (Scalar.cmpi .eq (BitVec.ofNat 32 (i 1).val) 0#32) 0 (gP (ix2 ⟨q.val, h⟩ l))
      else if h' : q.val - 16 < 2048 then gT (ix2 ⟨q.val - 16, h'⟩ l) else gN (ix2 ⟨q.val - 16 - 2048, by omega⟩ l) := by
  pointwise [k0_pay2]

theorem pay9_rows (q : Fin 2064) (l : Fin 512) (n : BitVec 32) : k0_pay9 (F := Ideal) n dT dN (ix2 q l)
    = if h : q.val < 2048 then dT (ix2 ⟨q.val, h⟩ l)
      else Scalar.select (Scalar.cmpi .eq n 1#32) 0 (dN (ix2 ⟨q.val - 2048, by omega⟩ l)) := by
  pointwise [k0_pay9]

theorem pay11_rows (q : Fin 2064) (l : Fin 512) (n : BitVec 32) (x24 x26 x32 x36 : FVec Ideal S2064x512 .f32) :
    k0_pay11 (F := Ideal) n x24 x26 x32 x36 dT dN vT vN (ix2 q l)
      = k0_pay9 (F := Ideal) n dT dN (ix2 q l) * (if h : q.val < 2048 then vT (ix2 ⟨q.val, h⟩ l) else vN (ix2 ⟨q.val - 2048, by omega⟩ l))
        * (x36 (ix2 q l) + x26 (ix2 q l) * (1 - x32 (ix2 q l) * x32 (ix2 q l))
          * (Ideal.ofBits .f32 0x3F4C422A#32 + (Named.named (F := Ideal) (φ := .f32) κ "gelu_cubic_slope" 0x3DDB33B6#32 : Ideal .f32) * x24 (ix2 q l))) := by
  pointwise [k0_pay11]

theorem sh_zero (u : ℕ → ℕ → ℝ) (B q c : ℕ) : sh u 16 (B + (16 + q)) c = u (B + q) c := by
  rw [sh, if_pos (by omega)]
  exact congrArg (fun n => u n c) (by omega)

theorem sh_back (u : ℕ → ℕ → ℝ) (s B q c : ℕ) (hs : s ≤ 16) (h : q + 16 < 2080) : sh u 16 (B + (16 + q + 2080 - s) % 2080) c = sh u s (B + q) c := by
  simp only [sh]
  rw [show (16 + q + 2080 - s) % 2080 = 16 + q - s by omega]
  split
  · rw [if_pos (by omega)]
    exact congrArg (fun n => u n c) (by omega)
  · rw [if_neg (by omega)]

set_option maxRecDepth 16384 in
theorem pay15_rows (r : Fin 2048) (l : Fin 512) (x68 x71 x72 x74 : FVec Ideal S2064x512 .f32) (x78 : Vec Ideal S1x512 .f32) :
    k0_pay15 (F := Ideal) x68 x71 x72 x74 x78 (ix3 0 r l)
      = x71 (ix2 ⟨r.val, by omega⟩ l) + x72 (ix2 ⟨r.val, by omega⟩ l) * x74 (ix2 ⟨r.val, by omega⟩ l)
        + x68 (ix2 ⟨(r.val + 2064 - 2063) % 2064, by omega⟩ l) * x78 (ix2 0 l) := by
  pointwise [k0_pay15]

theorem pay12_rows (q : Fin 2064) (l : Fin 512) (n : BitVec 32) (x24 x26 x32 x36 : FVec Ideal S2064x512 .f32) :
    k0_pay12 (F := Ideal) n x24 x26 x32 x36 dT dN vT vN w2 (ix2 q l) = k0_pay11 (F := Ideal) n x24 x26 x32 x36 dT dN vT vN (ix2 q l) * w2 (ix2 0 l) := by
  pointwise [k0_pay12]

set_option maxRecDepth 16384 in
theorem pay13_rows (q : Fin 2064) (l : Fin 512) (n : BitVec 32) (x24 x26 x32 x36 : FVec Ideal S2064x512 .f32) :
    k0_pay13 (F := Ideal) n x24 x26 x32 x36 dT dN vT vN (ix2 q l)
      = k0_pay11 (F := Ideal) n x24 x26 x32 x36 dT dN vT vN (ix2 ⟨(q.val + 2064 - 2062) % 2064, by omega⟩ l) := by
  pointwise [k0_pay13]

theorem pay14_rows (q : Fin 2064) (l : Fin 512) : k0_pay14 (F := Ideal) w0 (ix2 q l) = w0 (ix2 0 l) := by
  pointwise [k0_pay14]

variable (H : Holds i b C d u w dT dN gT gP gN vT vN w0 w1 w2) (l : Fin 512)
include H

/-- The gate's rows with their halos: row `q` is the array's row `q - 16` of the tile. -/
theorem ge_at (q : Fin 2080) (hq : b = 0 ∨ q.val < 2064) :
    k0_pay2 (F := Ideal) i gP gT gN (ix2 q l) = (sh u 16 (2048 * b + q.val) (C + l.val) : EReal) := by
  have h2 := H.b_lt
  rw [pay2_rows, H.at_b]
  unfold sh
  split
  · rcases (by omega : b = 0 ∨ b = 1) with rfl | rfl
    · rw [if_neg (by omega)]
      rfl
    · rw [if_pos (by omega)]
      exact (H.gP rfl _ _).trans (congrArg (fun n => ((u n (C + l.val) : ℝ) : EReal)) (by simp only; omega))
  · rw [if_pos (by omega)]
    split
    · exact (H.gT _ _).trans (congrArg (fun n => ((u n (C + l.val) : ℝ) : EReal)) (by simp only; omega))
    · exact (H.gN (by omega) _ _).trans (congrArg (fun n => ((u n (C + l.val) : ℝ) : EReal)) (by simp only; omega))

theorem gc_at (q : Fin 2064) (hq : b = 0 ∨ q.val < 2048) :
    k0_pay3 (F := Ideal) i gP gT gN w2 w0 w1 (ix2 q l) = (cv u w (2048 * b + q.val) (C + l.val) : EReal) := by
  pointwise [k0_pay3]
  rw [ge_at H l _ (by simp only; omega), ge_at H l _ (by simp only; omega), ge_at H l _ (by simp only; omega), H.w0, H.w1, H.w2]
  simp only [← EReal.coe_mul, ← EReal.coe_add]
  rw [sh_zero, sh_back u 2 _ _ _ (by omega) (by omega), sh_back u 1 _ _ _ (by omega) (by omega)]
  rfl

theorem th_at (q : Fin 2064) (hq : b = 0 ∨ q.val < 2048) :
    k0_pay6 (F := Ideal) i gP gT gN w2 w0 w1 (ix2 q l) = (th (cv u w (2048 * b + q.val) (C + l.val)) : EReal) := by
  pointwise [k0_pay6, k0_pay4]
  rw [gc_at H l q hq, named_cubic, ofBits_g0]
  simp only [← EReal.coe_mul, ← EReal.coe_add, Ideal.tanh_coe]
  rfl

theorem de_at (q : Fin 2064) : k0_pay9 (F := Ideal) (BitVec.ofNat 32 (i 1).val) dT dN (ix2 q l)
    = ((if 2048 * b + q.val < 4096 then d (2048 * b + q.val) (C + l.val) else 0 : ℝ) : EReal) := by
  have h2 := H.b_lt
  rw [pay9_rows, H.at_b]
  split
  · rw [if_pos (by omega), H.dT]
  · rcases (by omega : b = 0 ∨ b = 1) with rfl | rfl
    · rw [if_pos (by omega)]
      exact (H.dN rfl _ _).trans (congrArg (fun n => ((d n (C + l.val) : ℝ) : EReal)) (by simp only; omega))
    · rw [if_neg (by omega)]
      rfl

theorem dval_at (r : Fin 2048) : k0_pay10 (F := Ideal) (BitVec.ofNat 32 (i 1).val) (k0_pay5 i gP gT gN w2 w0 w1) (k0_pay7 i gP gT gN w2 w0 w1) dT dN (ix3 0 r l)
    = (dval d u w (2048 * b + r.val) (C + l.val) : EReal) := by
  have h2 := H.b_lt
  pointwise [k0_pay10, k0_pay5, k0_pay7]
  rw [de_at H, gc_at H l _ (.inr (by simp only; omega)), th_at H l _ (.inr (by simp only; omega)), ofBits_half]
  simp only [← EReal.coe_one, ← EReal.coe_mul, ← EReal.coe_add]
  rw [if_pos (by omega)]
  rfl

/-- The cotangent of the convolved gate over the tile and its following halo. -/
theorem dgc_at (q : Fin 2064) : k0_pay11 (F := Ideal) (BitVec.ofNat 32 (i 1).val) (k0_pay4 i gP gT gN w2 w0 w1) (k0_pay5 i gP gT gN w2 w0 w1)
      (k0_pay6 i gP gT gN w2 w0 w1) (k0_pay8 i gP gT gN w2 w0 w1) dT dN vT vN (ix2 q l)
    = (e d u w (2048 * b + q.val) (C + l.val) : EReal) := by
  have h2 := H.b_lt
  rw [pay11_rows, de_at H]
  by_cases hq : 2048 * b + q.val < 4096
  · have hv : (if h : q.val < 2048 then vT (ix2 ⟨q.val, h⟩ l) else vN (ix2 ⟨q.val - 2048, by omega⟩ l))
        = (u (2048 * b + q.val) (6144 + (C + l.val)) : EReal) := by
      split
      · exact H.vT _ _
      · exact (H.vN (by omega) _ _).trans (congrArg (fun n => ((u n (6144 + (C + l.val)) : ℝ) : EReal)) (by simp only; omega))
    rw [hv]
    pointwise [k0_pay4, k0_pay5, k0_pay8, k0_pay7]
    rw [gc_at H l q (by omega), th_at H l q (by omega), ofBits_half, ofBits_g0, named_slope, if_pos hq]
    simp only [← EReal.coe_one, ← EReal.coe_mul, ← EReal.coe_add, ← EReal.coe_sub]
    rw [e, if_pos hq]
    rfl
  · rw [if_neg hq, e, if_neg hq, EReal.coe_zero, zero_mul, zero_mul]

/-- The tile's cotangent rows and their halo, as the body computes them. -/
abbrev dgc (i : grid0.Coords) (dT : Vec Ideal S2048x512 .bf16) (dN : Vec Ideal S16x512 .bf16) (gT : Vec Ideal S2048x512 .bf16) (gP gN : Vec Ideal S16x512 .bf16)
    (vT : Vec Ideal S2048x512 .bf16) (vN : Vec Ideal S16x512 .bf16) (w0 w1 w2 : Vec Ideal S1x512 .f32) : FVec Ideal S2064x512 .f32 :=
  k0_pay11 (F := Ideal) (BitVec.ofNat 32 (i 1).val) (k0_pay4 i gP gT gN w2 w0 w1) (k0_pay5 i gP gT gN w2 w0 w1)
      (k0_pay6 i gP gT gN w2 w0 w1) (k0_pay8 i gP gT gN w2 w0 w1) dT dN vT vN

theorem dgc_tile (q : Fin 2064) : dgc i dT dN gT gP gN vT vN w0 w1 w2 (ix2 q l) = (e d u w (2048 * b + q.val) (C + l.val) : EReal) :=
  dgc_at H l q

theorem dgate_at (r : Fin 2048) : k0_pay15 (F := Ideal) (dgc i dT dN gT gP gN vT vN w0 w1 w2)
      (k0_pay12 (BitVec.ofNat 32 (i 1).val) (k0_pay4 i gP gT gN w2 w0 w1) (k0_pay5 i gP gT gN w2 w0 w1)
        (k0_pay6 i gP gT gN w2 w0 w1) (k0_pay8 i gP gT gN w2 w0 w1) dT dN vT vN w2)
      (k0_pay13 (BitVec.ofNat 32 (i 1).val) (k0_pay4 i gP gT gN w2 w0 w1) (k0_pay5 i gP gT gN w2 w0 w1)
        (k0_pay6 i gP gT gN w2 w0 w1) (k0_pay8 i gP gT gN w2 w0 w1) dT dN vT vN)
      (k0_pay14 w0) w1 (ix3 0 r l)
    = (dgate d u w (2048 * b + r.val) (C + l.val) : EReal) := by
  rw [pay15_rows, pay12_rows, pay13_rows, pay14_rows, dgc_at H, dgc_at H, dgc_tile H, H.w0, H.w1, H.w2]
  simp only [← EReal.coe_mul, ← EReal.coe_add]
  rw [dgate, show 2048 * b + (r.val + 2064 - 2062) % 2064 = 2048 * b + r.val + 2 by omega,
    show 2048 * b + (r.val + 2064 - 2063) % 2064 = 2048 * b + r.val + 1 by omega]

/-- What a tile adds to tap `j` of the convolution's cotangent. -/
def dwTile (d u w : ℕ → ℕ → ℝ) (b j c : ℕ) : ℝ :=
  ∑ r : Fin 2048, e d u w (2048 * b + r.val) c * sh u (2 - j) (2048 * b + r.val) c

theorem dw0_at (x : Vec Ideal S1x512 .f32) : k0_pay18 (F := Ideal) (k0_pay2 i gP gT gN) (dgc i dT dN gT gP gN vT vN w0 w1 w2) x (ix2 0 l)
    = x (ix2 0 l) + (dwTile d u w b 0 (C + l.val) : EReal) := by
  pointwise [k0_pay18, k0_pay17]
  rw [dwTile, coe_sum]
  refine congrArg _ (Finset.sum_congr rfl fun r _ => ?_)
  rw [dgc_tile H, ge_at H l _ (.inr (by simp only; omega)), ← EReal.coe_mul, sh_back u 2 _ _ _ (by omega) (by omega)]

theorem dw1_at (x : Vec Ideal S1x512 .f32) : k0_pay19 (F := Ideal) (k0_pay2 i gP gT gN) (dgc i dT dN gT gP gN vT vN w0 w1 w2) x (ix2 0 l)
    = x (ix2 0 l) + (dwTile d u w b 1 (C + l.val) : EReal) := by
  pointwise [k0_pay19, k0_pay17]
  rw [dwTile, coe_sum]
  refine congrArg _ (Finset.sum_congr rfl fun r _ => ?_)
  rw [dgc_tile H, ge_at H l _ (.inr (by simp only; omega)), ← EReal.coe_mul, sh_back u 1 _ _ _ (by omega) (by omega)]

theorem dw2_at (x : Vec Ideal S1x512 .f32) : k0_pay1 (F := Ideal) (k0_pay17 (dgc i dT dN gT gP gN vT vN w0 w1 w2)) (k0_pay20 (k0_pay2 i gP gT gN)) x (ix2 0 l)
    = x (ix2 0 l) + (dwTile d u w b 2 (C + l.val) : EReal) := by
  pointwise [k0_pay1, k0_pay17, k0_pay20]
  rw [dwTile, coe_sum]
  refine congrArg _ (Finset.sum_congr rfl fun r _ => ?_)
  rw [dgc_tile H, ge_at H l _ (.inr (by simp only; omega)), ← EReal.coe_mul, sh_zero, sh, if_pos (by omega)]
  rfl

end Cert.Pure

end
-- ==== Proof.Value.lean ====
module

public import proofs.«01_k».proof.Proof.Gen.KernelIdeal.Value
public import Idealize.ShloMosaic.Lib.Pipeline.ValueKit
public import Idealize.ShloMosaic.Lib.Pipeline.ReadBack
public import proofs.«01_k».proof.Proof.Pure

@[expose] public section

set_option maxRecDepth 16384

noncomputable section

namespace Cert.KernelValue

open Cert.KernelIdeal Cert.KernelIdeal.Gen Cert.Spec Cert.Pure
open Idealize.ShloMosaic Idealize.ShloMosaic.TcCoe Idealize.ShloMosaic.Pointwise Idealize.SL.Sem
open Idealize.ShloMosaic.Pipeline (Dat)

theorem idx : ∀ t : Fin cfg0.N,
    win0_0.index t = ![t.val % 2, t.val / 2] ∧ win0_1.index t = ![if t.val % 2 = 0 then 128 else 255, t.val / 2]
    ∧ win0_2.index t = ![t.val % 2, t.val / 2] ∧ win0_3.index t = ![if t.val % 2 = 0 then 0 else 127, t.val / 2]
    ∧ win0_4.index t = ![if t.val % 2 = 0 then 128 else 255, t.val / 2] ∧ win0_5.index t = ![t.val % 2, 12 + t.val / 2]
    ∧ win0_6.index t = ![if t.val % 2 = 0 then 128 else 255, 12 + t.val / 2] ∧ win0_7.index t = ![0, t.val / 2]
    ∧ win0_8.index t = ![0, t.val % 2, t.val / 2] ∧ win0_9.index t = ![0, t.val / 2]
    ∧ (grid0.coords t 1).val = t.val % 2 :=
  (by decide +kernel : ∀ t : Fin grid0.N, _)

variable (m : (ℓ : Loc nD τ sig) → Buf (Elt Ideal) ℓ) (c : Dev nD)

variable (d u w : ℕ → ℕ → ℝ)

/-- The launch memory's arguments are the finite numbers `d`, `u`, `w`. -/
structure Finite : Prop where
  a0 : ∀ (a : Fin 4096) (b : Fin 6144), m ((c : Thread nD τ).loc main_arg0) (ix2 a b) = (d a.val b.val : EReal)
  a1 : ∀ (a : Fin 4096) (b : Fin 12288), m ((c : Thread nD τ).loc main_arg1) (ix2 a b) = (u a.val b.val : EReal)
  a2 : ∀ (a : Fin 3) (b : Fin 6144), m ((c : Thread nD τ).loc main_arg2) (ix2 a b) = (w a.val b.val : EReal)

variable {d u w} (hm : Finite m c d u w)

include hm in
theorem holds (t : Fin cfg0.N) : Holds (grid0.coords t) (t.val % 2) (512 * (t.val / 2)) d u w
    (iblk m c 0 t) (iblk m c 1 t) (iblk m c 2 t) (iblk m c 3 t) (iblk m c 4 t) (iblk m c 5 t) (iblk m c 6 t)
    (View.ld (iblk m c 7 t) (Rect.unit ![0, 0] ![1, 512] inb_S3x512_S1x512_0_0))
    (View.ld (iblk m c 7 t) (Rect.unit ![1, 0] ![1, 512] inb_S3x512_S1x512_1_0))
    (View.ld (iblk m c 7 t) (Rect.unit ![2, 0] ![1, 512] inb_S3x512_S1x512_2_0)) := by
  have ht : t.val < 24 := t.isLt
  have hi := idx t
  constructor
  case at_b => exact hi.2.2.2.2.2.2.2.2.2.2
  case b_lt => omega
  case dT =>
    intro r l
    refine Eq.trans ?_ (hm.a0 ⟨2048 * (t.val % 2) + r.val, by omega⟩ ⟨512 * (t.val / 2) + l.val, by omega⟩)
    blk_point [iblk, V, idx t]
  case dN =>
    intro h r l
    simp only [h, reduceIte] at hi
    refine Eq.trans ?_ (hm.a0 ⟨2048 + r.val, by omega⟩ ⟨512 * (t.val / 2) + l.val, by omega⟩)
    blk_point [iblk, V, hi]
  case gT =>
    intro r l
    refine Eq.trans ?_ (hm.a1 ⟨2048 * (t.val % 2) + r.val, by omega⟩ ⟨512 * (t.val / 2) + l.val, by omega⟩)
    blk_point [iblk, V, idx t]
  case gP =>
    intro h r l
    simp only [h, one_ne_zero, reduceIte] at hi
    refine Eq.trans ?_ (hm.a1 ⟨2032 + r.val, by omega⟩ ⟨512 * (t.val / 2) + l.val, by omega⟩)
    blk_point [iblk, V, hi]
  case gN =>
    intro h r l
    simp only [h, reduceIte] at hi
    refine Eq.trans ?_ (hm.a1 ⟨2048 + r.val, by omega⟩ ⟨512 * (t.val / 2) + l.val, by omega⟩)
    blk_point [iblk, V, hi]
  case vT =>
    intro r l
    refine Eq.trans ?_ (hm.a1 ⟨2048 * (t.val % 2) + r.val, by omega⟩ ⟨6144 + (512 * (t.val / 2) + l.val), by omega⟩)
    blk_point [iblk, V, idx t]
  case vN =>
    intro h r l
    simp only [h, reduceIte] at hi
    refine Eq.trans ?_ (hm.a1 ⟨2048 + r.val, by omega⟩ ⟨6144 + (512 * (t.val / 2) + l.val), by omega⟩)
    blk_point [iblk, V, hi]
  case w0 =>
    intro l
    refine Eq.trans ?_ (hm.a2 0 ⟨512 * (t.val / 2) + l.val, by omega⟩)
    blk_point [iblk, V, idx t]
  case w1 =>
    intro l
    refine Eq.trans ?_ (hm.a2 1 ⟨512 * (t.val / 2) + l.val, by omega⟩)
    blk_point [iblk, V, idx t]
  case w2 =>
    intro l
    refine Eq.trans ?_ (hm.a2 2 ⟨512 * (t.val / 2) + l.val, by omega⟩)
    blk_point [iblk, V, idx t]

def dup (d u w : ℕ → ℕ → ℝ) (i : S2x4096x6144.Idx) : EReal :=
  ((if (i 0).val = 0 then dgate d u w (i 1).val (i 2).val else dval d u w (i 1).val (i 2).val : ℝ) : EReal)

theorem dup_emb (t : Fin cfg0.N) (y : ((cfg0.win 8).xblock (cfg0.grid.coords t)).Idx) :
    dup d u w (((View.whole main_v0_0).slice (win0_8.rect t)).emb y)
      = ((if (y 0).val = 0 then dgate d u w (2048 * (t.val % 2) + (y 1).val) (512 * (t.val / 2) + (y 2).val)
          else dval d u w (2048 * (t.val % 2) + (y 1).val) (512 * (t.val / 2) + (y 2).val) : ℝ) : EReal) := by
  have h0 : ((((View.whole main_v0_0).slice (win0_8.rect t)).emb y) 0).val = (y 0).val := by blk_simp [idx t] <;> try omega
  have h1 : ((((View.whole main_v0_0).slice (win0_8.rect t)).emb y) 1).val = 2048 * (t.val % 2) + (y 1).val := by blk_simp [idx t] <;> try omega
  have h2 : ((((View.whole main_v0_0).slice (win0_8.rect t)).emb y) 2).val = 512 * (t.val / 2) + (y 2).val := by blk_simp [idx t] <;> try omega
  rw [dup, h0, h1, h2]

theorem first (x : S1x2048x512.Idx) : x = ix3 (0 : Fin 1) (x 1) (x 2) :=
  (eq_ix3 x).trans (congrArg (fun a : Fin 1 => ix3 a (x 1) (x 2)) (Subsingleton.elim _ _))

include hm in
theorem arr8 : (dats m 0 c).arrAt 8 cfg0.N = dup d u w := by
  refine (dats m 0 c).arrAt_eq_of_covers 8 _ (by decide +kernel) fun t hf y => ?_
  blk_simp
  have H := holds m c hm t
  rw [after0_8]
  by_cases h : t.val % 2 = 0
  · rw [outsAt0_A m c t h]
    frame_out
    canon_tiles x h'
    · rw [dup_emb, if_pos (show (y 0).val = 0 by omega), h'1, h'2]
      refine Eq.trans ?_ (dgate_at H (x 2) (x 1))
      exact congrArg _ (first x)
    · rw [dup_emb, if_neg (show ¬(y 0).val = 0 by omega), h'1, h'2]
      refine Eq.trans ?_ (dval_at H (x 2) (x 1))
      exact congrArg _ (first x)
  · rw [outsAt0_B m c t h]
    frame_out
    canon_tiles x h'
    · rw [dup_emb, if_pos (show (y 0).val = 0 by omega), h'1, h'2]
      refine Eq.trans ?_ (dgate_at H (x 2) (x 1))
      exact congrArg _ (first x)
    · rw [dup_emb, if_neg (show ¬(y 0).val = 0 by omega), h'1, h'2]
      refine Eq.trans ?_ (dval_at H (x 2) (x 1))
      exact congrArg _ (first x)

def taps (d u w : ℕ → ℕ → ℝ) (i : S3x6144.Idx) : EReal := (dw d u w (i 0).val (i 1).val : EReal)

theorem dw_emb (t : Fin cfg0.N) (y : ((cfg0.win 9).xblock (cfg0.grid.coords t)).Idx) :
    taps d u w (((View.whole main_v0_1).slice (win0_9.rect t)).emb y)
      = (dw d u w (y 0).val (512 * (t.val / 2) + (y 1).val) : EReal) := by
  have h0 : ((((View.whole main_v0_1).slice (win0_9.rect t)).emb y) 0).val = (y 0).val := by blk_simp [idx t] <;> try omega
  have h1 : ((((View.whole main_v0_1).slice (win0_9.rect t)).emb y) 1).val = 512 * (t.val / 2) + (y 1).val := by blk_simp [idx t] <;> try omega
  rw [taps, h0, h1]

theorem zero16 (i : S3x512.Idx) : k0_pay16 (F := Ideal) i = 0 := by
  rw [eq_ix2 i]
  pointwise [k0_pay16]

theorem back (v : View sig .tc .vmem S3x512 .f32) (L : LoadRect S3x512) (j : L.shape.Idx) :
    v.readCov (Val := Elt Ideal) [⟨Rect.unit ![0, 0] ![3, 512] inb_S3x512_S3x512_0_0, k0_pay16 (F := Ideal)⟩] L j = 0 := by
  rw [View.readCov_eq_canon', View.canon_unit_zero (by decide)]
  exact zero16 _

theorem first2 (x : S1x512.Idx) : x = ix2 (0 : Fin 1) (x 1) :=
  (eq_ix2 x).trans (congrArg (fun a : Fin 1 => ix2 a (x 1)) (Subsingleton.elim _ _))

theorem row0 (l : Fin 512) : (Rect.unit (s := S3x512) ![0, 0] ![1, 512] inb_S3x512_S1x512_0_0).emb (ix2 (0 : Fin 1) l) = ix2 (0 : Fin 3) l :=
  funext fun a => match a with
    | 0 => rfl
    | 1 => Fin.ext (by show 0 + 1 * l.val = l.val; omega)
theorem row1 (l : Fin 512) : (Rect.unit (s := S3x512) ![1, 0] ![1, 512] inb_S3x512_S1x512_1_0).emb (ix2 (0 : Fin 1) l) = ix2 (1 : Fin 3) l :=
  funext fun a => match a with
    | 0 => rfl
    | 1 => Fin.ext (by show 0 + 1 * l.val = l.val; omega)
theorem row2 (l : Fin 512) : (Rect.unit (s := S3x512) ![2, 0] ![1, 512] inb_S3x512_S1x512_2_0).emb (ix2 (0 : Fin 1) l) = ix2 (2 : Fin 3) l :=
  funext fun a => match a with
    | 0 => rfl
    | 1 => Fin.ext (by show 0 + 1 * l.val = l.val; omega)

/-- Three stored rows, over anything, leave the three rows. -/
theorem rows3 (G : S3x512.Idx → EReal) (p0 p1 p2 : S1x512.Idx → EReal) (L : List (View.Piece (Elt Ideal) S3x512 .f32))
    (h0 : ∀ l : Fin 512, p0 (ix2 (0 : Fin 1) l) = G (ix2 (0 : Fin 3) l))
    (h1 : ∀ l : Fin 512, p1 (ix2 (0 : Fin 1) l) = G (ix2 (1 : Fin 3) l))
    (h2 : ∀ l : Fin 512, p2 (ix2 (0 : Fin 1) l) = G (ix2 (2 : Fin 3) l)) (y : S3x512.Idx) :
    View.canon (Val := Elt Ideal) (⟨Rect.unit ![2, 0] ![1, 512] inb_S3x512_S1x512_2_0, p2⟩ :: ⟨Rect.unit ![1, 0] ![1, 512] inb_S3x512_S1x512_1_0, p1⟩
      :: ⟨Rect.unit ![0, 0] ![1, 512] inb_S3x512_S1x512_0_0, p0⟩ :: L) y = G y := by
  refine View.canon_append_of_piecesOf (Val := Elt Ideal) (e := .f32) G L [_, _, _] ⟨fun x => ?_, fun x => ?_, fun x => ?_, trivial⟩ y ?_
  · rw [first2 x]
    exact (h2 (x 1)).trans (congrArg G (row2 (x 1)).symm)
  · rw [first2 x]
    exact (h1 (x 1)).trans (congrArg G (row1 (x 1)).symm)
  · rw [first2 x]
    exact (h0 (x 1)).trans (congrArg G (row0 (x 1)).symm)
  · obtain ⟨j, l, rfl⟩ : ∃ (j : Fin 3) (l : Fin 512), y = ix2 j l := ⟨y 0, y 1, eq_ix2 y⟩
    fin_cases j
    · exact ⟨_, .tail _ (.tail _ (.head _)), row0 l ▸ LoadRect.idx_mem _ _⟩
    · exact ⟨_, .tail _ (.head _), row1 l ▸ LoadRect.idx_mem _ _⟩
    · exact ⟨_, .head _, row2 l ▸ LoadRect.idx_mem _ _⟩

include hm in
/-- The taps' block after the first of a column's two points. -/
theorem fst9 (t : Fin cfg0.N) (h : t.val % 2 = 0) (y : S3x512.Idx) :
    (outsAt0 m c t.val t.isLt).2 y = (dwTile d u w (t.val % 2) (y 0).val (512 * (t.val / 2) + (y 1).val) : EReal) := by
  have H := holds m c hm t
  rw [outsAt0_A m c t h]
  frame_out
  simp (disch := decide) only [↓ View.readCov_skip]
  refine rows3 (fun y => (dwTile d u w (t.val % 2) (y 0).val (512 * (t.val / 2) + (y 1).val) : EReal)) _ _ _ _ (fun l => ?_) (fun l => ?_) (fun l => ?_) y
  · exact (dw0_at H l _).trans (by rw [back, zero_add]; rfl)
  · exact (dw1_at H l _).trans (by rw [back, zero_add]; rfl)
  · exact (dw2_at H l _).trans (by rw [back, zero_add]; rfl)

include hm in
/-- … and after the second. -/
theorem snd9 (t : Fin cfg0.N) (h : ¬t.val % 2 = 0) (y : S3x512.Idx) :
    (outsAt0 m c t.val t.isLt).2 y = (outsAt0 m c (t.val - 1) (Nat.lt_of_le_of_lt (Nat.sub_le _ _) t.isLt)).2 y
      + (dwTile d u w (t.val % 2) (y 0).val (512 * (t.val / 2) + (y 1).val) : EReal) := by
  have H := holds m c hm t
  rw [outsAt0_B m c t h]
  frame_out
  refine rows3 (fun y => (outsAt0 m c (t.val - 1) (Nat.lt_of_le_of_lt (Nat.sub_le _ _) t.isLt)).2 y + (dwTile d u w (t.val % 2) (y 0).val (512 * (t.val / 2) + (y 1).val) : EReal)) _ _ _ _ (fun l => ?_) (fun l => ?_) (fun l => ?_) y
  · exact (dw0_at H l _).trans (congrArg (· + _) (congrArg _ (row0 l)))
  · exact (dw1_at H l _).trans (congrArg (· + _) (congrArg _ (row1 l)))
  · exact (dw2_at H l _).trans (congrArg (· + _) (congrArg _ (row2 l)))

theorem dw_tiles (j k : ℕ) : dw d u w j k = dwTile d u w 0 j k + dwTile d u w 1 j k := by
  rw [dw, dwTile, dwTile, Fin.sum_univ_add (a := 2048) (b := 2048) (fun t : Fin (2048 + 2048) => e d u w t.val k * sh u (2 - j) t.val k)]
  simp only [Fin.val_castAdd, Fin.val_natAdd, Nat.mul_zero, Nat.zero_add, Nat.mul_one]

include hm in
theorem arr9 : (dats m 0 c).arrAt 9 cfg0.N = taps d u w := by
  refine (dats m 0 c).arrAt_eq_of_covers 9 _ (by decide +kernel) fun t hf y => ?_
  have h : t.val % 2 = 1 := (flush0_9 t).mp hf
  have ht : t.val < 24 := t.isLt
  blk_simp
  rw [after0_9, dw_emb]
  refine (snd9 m c hm t (by omega) y).trans ?_
  refine (congrArg (· + _) (fst9 m c hm ⟨t.val - 1, Nat.lt_of_le_of_lt (Nat.sub_le _ _) t.isLt⟩ (by simp only; omega) y)).trans ?_
  have hd : (t.val - 1) / 2 = t.val / 2 := by omega
  have hr : (t.val - 1) % 2 = 0 := by omega
  simp only [hd, hr, h, ← EReal.coe_add, ← dw_tiles]

end Cert.KernelValue

end
-- ==== Proof.Products.DownDx.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Adequacy
public import Idealize.ShloMosaic.Init

/-! The cotangent of the down projection's input: the call's blocks are one product of the cotangent's rows with the weight's rows. -/

@[expose] public section

set_option maxRecDepth 16384

noncomputable section

namespace Cert.DownDx

open Idealize.ShloMosaic Idealize.ShloMosaic.TcCoe Idealize.ShloMosaic.Pointwise Idealize.SL.Sem
open Idealize.ShloMosaic.Pipeline (Dat)

def value (x : Cert.Kernel2Ideal.S4096x2048.Idx → EReal) (w : Cert.Kernel2Ideal.S6144x2048.Idx → EReal)
    (i : Cert.Kernel2Ideal.S4096x6144.Idx) : EReal :=
  ∑ k : Fin 2048, x (ix2 (i 0) k) * w (ix2 (i 1) k)

section Kernel

open Cert.Kernel2Ideal Cert.Kernel2Ideal.Gen

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem block (x : Vec Ideal S1024x2048 .bf16) (w : Vec Ideal S1536x2048 .bf16) (j : S1024x1536.Idx) :
    k0_pay1 (F := Ideal) x w j = ∑ k : Fin 2048, x (ix2 (j 0) k) * w (ix2 (j 1) k) := by
  pointwise [k0_pay1]

variable (m : (ℓ : Loc nD τ sig) → Buf (Elt Ideal) ℓ) (c : Dev nD)

theorem arr : (dats m 0 c).arrAt 2 cfg0.N = value (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [block]
  unfold value
  refine Fin.sum_fin_congr fun k => ?_
  blk_point [iblk, V, idx t]

end Kernel

section Reference

open Cert.Reference2Ideal Cert.Reference2Ideal.Read

theorem ref_at (x : (⟨S4096x2048, .bf16⟩ : BufTy).Contents (Elt Ideal)) (w : (⟨S6144x2048, .bf16⟩ : BufTy).Contents (Elt Ideal))
    (i : S4096x6144.Idx) : val_main_v5 (F := Ideal) x w i = value x w i := by
  pointwise [val_main_v5, val_main_v4, val_main_v3, val_main_v0]
  rfl

end Reference

section Claims

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  intro m ρ m' ρ' _ hag
  refine ⟨fun c => value (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)), ?_, ?_⟩
  · exact (θ_run Cert.Kernel2Ideal.defs _ _).mono (fun r h c => ⟨(h c).1.trans (arr m c), (h c).2⟩) (Cert.Kernel2Ideal.Value.run_blocks m ρ)
  · refine (θ_run Cert.Reference2Ideal.defs _ _).mono (fun r h c => ⟨(h c).1.trans ?_, (h c).2⟩) (Cert.Reference2Ideal.Value.run m' ρ')
    refine (Cert.Reference2Ideal.Read.val_main_v5_eq _ _).trans (funext fun i => ?_)
    rw [(hag c).1, (hag c).2]
    exact ref_at _ _ i

end Claims

end Cert.DownDx

end
-- ==== Proof.Products.DownDw.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Adequacy
public import Idealize.ShloMosaic.Init
public import Idealize.ShloMosaic.Lib.Pipeline.ReadBack

/-! The down projection's weight gradient: two stretches of rows, accumulated. -/

@[expose] public section

set_option maxRecDepth 16384

noncomputable section

namespace Cert.DownDw

open Idealize.ShloMosaic Idealize.ShloMosaic.TcCoe Idealize.ShloMosaic.Pointwise Idealize.SL.Sem
open Idealize.ShloMosaic.Pipeline (Dat)

def value (x : Cert.Kernel3Ideal.S6144x4096.Idx → EReal) (w : Cert.Kernel3Ideal.S4096x2048.Idx → EReal)
    (i : Cert.Kernel3Ideal.S6144x2048.Idx) : EReal :=
  ∑ l : Fin 4096, x (ix2 (i 0) l) * w (ix2 l (i 1))

section Kernel

open Cert.Kernel3Ideal Cert.Kernel3Ideal.Gen

theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

theorem last (acc : Vec Ideal S1024x2048 .f32) (j : S1024x2048.Idx) : k0_pay4 (F := Ideal) acc j = acc j := by
  pointwise [k0_pay4]

theorem first (x : Vec Ideal S1024x2048 .bf16) (w : Vec Ideal S2048x2048 .bf16) (j : S1024x2048.Idx) :
    k0_pay2 (F := Ideal) x w j = ∑ k : Fin 2048, x (ix2 (j 0) k) * w (ix2 k (j 1)) := by
  pointwise [k0_pay2, k0_pay1]

theorem next (x : Vec Ideal S1024x2048 .bf16) (w : Vec Ideal S2048x2048 .bf16) (acc : Vec Ideal S1024x2048 .f32) (j : S1024x2048.Idx) :
    k0_pay3 (F := Ideal) x w acc j = acc j + ∑ k : Fin 2048, x (ix2 (j 0) k) * w (ix2 k (j 1)) := by
  pointwise [k0_pay3, k0_pay1]

variable (m : (ℓ : Loc nD τ sig) → Buf (Elt Ideal) ℓ) (c : Dev nD)

/-- What grid point `t` adds to the accumulator. -/
def part (t : Fin cfg0.N) (j : S1024x2048.Idx) : EReal :=
  ∑ k : Fin 2048, (show Vec Ideal S1024x2048 .bf16 from iblk m c 0 t) (ix2 (j 0) k)
    * (show Vec Ideal S2048x2048 .bf16 from iblk m c 1 t) (ix2 k (j 1))

theorem acc_reset (t : Fin cfg0.N) (h : t.val % 2 = 0) (j : S1024x2048.Idx) :
    (outsAt0 m c t.val t.isLt).2 j = (0 : EReal) + part m c t j := by
  rw [outsAt0_A m c t h (by omega) (by omega)]
  frame_out
  rw [first, zero_add]
  rfl

theorem acc_step (t : Fin cfg0.N) (h : ¬t.val % 2 = 0) (j : S1024x2048.Idx) :
    (outsAt0 m c t.val t.isLt).2 j
      = (outsAt0 m c (t.val - 1) (Nat.lt_of_le_of_lt (Nat.sub_le _ _) t.isLt)).2 j + part m c t j := by
  rw [outsAt0_B m c t h (by omega) (by omega)]
  frame_out
  rw [next]
  exact congrArg (· + part m c t j) (congrFun (Memref.IsWhole.read_unread _ _) j)

theorem arr : (dats m 0 c).arrAt 2 cfg0.N = value (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  have hf' : (outsAt0 m c t.val t.isLt).1 y = (outsAt0 m c t.val t.isLt).2 y := by
    rw [outsAt0_B m c t (by omega) hl hl]
    frame_out
    exact last _ y
  rw [after0_2, hf']
  rw [Pipeline.eq_sum_fin_of_reset_step_apply_of_flush (fun n h => (outsAt0 m c n h).2) 2
    (fun _ => 0) (part m c) (acc_reset m c) (acc_step m c) t hl _, zero_add]
  unfold value
  refine Fin.sum_mul_add_congr fun s k hl' => ?_
  blk_point [iblk, V, idx t, idx ⟨_, Pipeline.run_point_lt_of_flush t hl s⟩]

end Kernel

section Reference

open Cert.Reference3Ideal Cert.Reference3Ideal.Read

theorem ref_at (x : (⟨S6144x4096, .bf16⟩ : BufTy).Contents (Elt Ideal)) (w : (⟨S4096x2048, .bf16⟩ : BufTy).Contents (Elt Ideal))
    (i : S6144x2048.Idx) : val_main_v7 (F := Ideal) x w i = value x w i := by
  pointwise [val_main_v7, val_main_v6, val_main_v5, val_main_v4, val_main_v1, val_main_v0]
  exact Fin.sum_fin_congr fun l => mul_comm _ _

end Reference

section Claims

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m ρ m' ρ' _ hag
  refine ⟨fun c => value (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)), ?_, ?_⟩
  · exact (θ_run Cert.Kernel3Ideal.defs _ _).mono (fun r h c => ⟨(h c).1.trans (arr m c), (h c).2⟩) (Cert.Kernel3Ideal.Value.run_blocks m ρ)
  · refine (θ_run Cert.Reference3Ideal.defs _ _).mono (fun r h c => ⟨(h c).1.trans ?_, (h c).2⟩) (Cert.Reference3Ideal.Value.run m' ρ')
    refine (Cert.Reference3Ideal.Read.val_main_v7_eq _ _).trans (funext fun i => ?_)
    rw [(hag c).1, (hag c).2]
    exact ref_at _ _ i

end Claims

end Cert.DownDw

end
-- ==== Proof.Products.Halves.lean ====
module

public import Mathlib.Algebra.BigOperators.Fin

/-! A sum over an axis of two halves is the sum of its halves' sums. -/

@[expose] public section

namespace Cert.Products

theorem halves {M : Type} [AddCommMonoid M] {N : ℕ} (n : ℕ) (f : Fin N → M) (h : N = n + n) :
    ∑ l : Fin N, f l = ∑ a : Fin n, f ⟨a.val, by omega⟩ + ∑ a : Fin n, f ⟨n + a.val, by omega⟩ := by
  subst h
  exact Fin.sum_univ_add f

end Cert.Products

end
-- ==== Proof.Products.UpDx.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Adequacy
public import Idealize.ShloMosaic.Init
public import Idealize.ShloMosaic.Lib.Pipeline.ReadBack
public import proofs.«01_k».proof.Proof.Products.Halves

@[expose] public section

set_option maxRecDepth 16384

noncomputable section

namespace Cert.UpDx

open Idealize.ShloMosaic Idealize.ShloMosaic.TcCoe Idealize.ShloMosaic.Pointwise Idealize.SL.Sem
open Idealize.ShloMosaic.Pipeline (Dat)

/-- Row `i 0` of the cotangent, gate columns first, times row `i 1` of the weight's column blocks. -/
def value (x : Cert.Kernel4Ideal.S2x4096x6144.Idx → EReal) (w : Cert.Kernel4Ideal.S8x2048x1536.Idx → EReal)
    (i : Cert.Kernel4Ideal.S4096x2048.Idx) : EReal :=
  ∑ l : Fin 12288, x (ix3 ⟨l.val / 6144, by omega⟩ (i 0) ⟨l.val % 6144, by omega⟩)
    * w (ix3 ⟨l.val / 1536, by omega⟩ (i 1) ⟨l.val % 1536, by omega⟩)

section Kernel

open Cert.Kernel4Ideal Cert.Kernel4Ideal.Gen

theorem idx : ∀ t : Fin cfg0.N, win0_0.index t = ![t.val % 8 / 4, t.val / 8, t.val % 8 % 4]
    ∧ win0_1.index t = ![t.val % 8, 0, 0] ∧ win0_2.index t = ![t.val / 8, 0] :=
  (by decide +kernel : ∀ t : Fin grid0.N, _)

theorem first (x : Vec Ideal S1x1024x1536 .bf16) (w : Vec Ideal S1x2048x1536 .bf16) (j : S1024x2048.Idx) :
    k0_pay2 (F := Ideal) x w j = ∑ k : Fin 1536, x (ix3 0 (j 0) k) * w (ix3 0 (j 1) k) := by
  pointwise [k0_pay2, k0_pay1]

theorem next (x : Vec Ideal S1x1024x1536 .bf16) (w : Vec Ideal S1x2048x1536 .bf16) (acc : Vec Ideal S1024x2048 .f32) (j : S1024x2048.Idx) :
    k0_pay3 (F := Ideal) x w acc j = acc j + ∑ k : Fin 1536, x (ix3 0 (j 0) k) * w (ix3 0 (j 1) k) := by
  pointwise [k0_pay3, k0_pay1]

variable (m : (ℓ : Loc nD τ sig) → Buf (Elt Ideal) ℓ) (c : Dev nD)

/-- What grid point `t` adds to the accumulator. -/
def part (t : Fin cfg0.N) (j : S1024x2048.Idx) : EReal :=
  ∑ k : Fin 1536, (show Vec Ideal S1x1024x1536 .bf16 from iblk m c 0 t) (ix3 0 (j 0) k)
    * (show Vec Ideal S1x2048x1536 .bf16 from iblk m c 1 t) (ix3 0 (j 1) k)

theorem acc_reset (t : Fin cfg0.N) (h : t.val % 8 = 0) (j : S1024x2048.Idx) :
    (outsAt0 m c t.val t.isLt).2 j = (0 : EReal) + part m c t j := by
  rw [outsAt0_A m c t h (by omega) (by omega)]
  frame_out
  rw [first, zero_add]
  rfl

theorem acc_step (t : Fin cfg0.N) (h : ¬t.val % 8 = 0) (j : S1024x2048.Idx) :
    (outsAt0 m c t.val t.isLt).2 j
      = (outsAt0 m c (t.val - 1) (Nat.lt_of_le_of_lt (Nat.sub_le _ _) t.isLt)).2 j + part m c t j := by
  by_cases h7 : t.val % 8 = 7
  · rw [outsAt0_C m c t h (by omega) h7]
    frame_out
    rw [next]
    exact congrArg (· + part m c t j) (congrFun (Memref.IsWhole.read_unread _ _) j)
  · rw [outsAt0_B m c t h (by omega) h7]
    frame_out
    rw [next]
    exact congrArg (· + part m c t j) (congrFun (Memref.IsWhole.read_unread _ _) j)

theorem acc_last (t : Fin cfg0.N) (h : t.val % 8 = 7) (j : S1024x2048.Idx) :
    (outsAt0 m c t.val t.isLt).1 j = (outsAt0 m c t.val t.isLt).2 j := by
  rw [outsAt0_C m c t (by omega) (by omega) h]
  frame_out

theorem arr : (dats m 0 c).arrAt 2 cfg0.N = value (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, acc_last m c t h7, Pipeline.eq_sum_fin_of_reset_step_apply_of_flush (fun n h => (outsAt0 m c n h).2) 8
    (fun _ => 0) (part m c) (acc_reset m c) (acc_step m c) t h7 y, zero_add]
  unfold value
  refine Fin.sum_mul_add_congr fun s k hl => ?_
  blk_point [iblk, V, idx t, idx ⟨_, Pipeline.run_point_lt_of_flush t h7 s⟩]

end Kernel

section Reference

open Cert.Reference4Ideal Cert.Reference4Ideal.Read

theorem ref_at (x : (⟨S2x4096x6144, .bf16⟩ : BufTy).Contents (Elt Ideal)) (w : (⟨S8x2048x1536, .bf16⟩ : BufTy).Contents (Elt Ideal))
    (i : S4096x2048.Idx) : val_main_v11 (F := Ideal) x w i = value x w i := by
  pointwise [val_main_v11, val_main_v8, val_main_v7, val_main_v6, val_main_v5, val_main_v4, val_main_v3, val_main_v2, val_main_v1, val_main_v0]
  unfold value
  rw [Cert.Products.halves 6144 _ rfl]
  refine congrArg₂ (· + ·) (Fin.sum_fin_congr fun a => ?_) (Fin.sum_fin_congr fun a => ?_) <;> refine congrArg₂ (· * ·) ?_ ?_ <;> blk_ext

end Reference

section Claims

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hag
  refine ⟨fun c => value (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)), ?_, ?_⟩
  · exact (θ_run Cert.Kernel4Ideal.defs _ _).mono (fun r h c => ⟨(h c).1.trans (arr m c), (h c).2⟩) (Cert.Kernel4Ideal.Value.run_blocks m ρ)
  · refine (θ_run Cert.Reference4Ideal.defs _ _).mono (fun r h c => ⟨(h c).1.trans ?_, (h c).2⟩) (Cert.Reference4Ideal.Value.run m' ρ')
    refine (Cert.Reference4Ideal.Read.val_main_v11_eq _ _).trans (funext fun i => ?_)
    rw [(hag c).1, (hag c).2]
    exact ref_at _ _ i

end Claims

end Cert.UpDx

end
-- ==== Proof.Products.UpDw.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Adequacy
public import Idealize.ShloMosaic.Init
public import Idealize.ShloMosaic.Lib.Pipeline.ReadBack

/-! The up projection's weight gradient, in eight blocks of columns: two stretches of rows, accumulated. -/

@[expose] public section

set_option maxRecDepth 16384

noncomputable section

namespace Cert.UpDw

open Idealize.ShloMosaic Idealize.ShloMosaic.TcCoe Idealize.ShloMosaic.Pointwise Idealize.SL.Sem
open Idealize.ShloMosaic.Pipeline (Dat)

def value (x : Cert.Kernel5Ideal.S2048x4096.Idx → EReal) (w : Cert.Kernel5Ideal.S2x4096x6144.Idx → EReal)
    (i : Cert.Kernel5Ideal.S8x2048x1536.Idx) : EReal :=
  ∑ l : Fin 4096, x (ix2 (i 1) l)
    * w (ix3 ⟨(i 0).val / 4, by have h : (i 0).val < 8 := (i 0).isLt; omega⟩ l
      ⟨(i 0).val % 4 * 1536 + (i 2).val, by have h : (i 2).val < 1536 := (i 2).isLt; omega⟩)

section Kernel

open Cert.Kernel5Ideal Cert.Kernel5Ideal.Gen

theorem idx : ∀ t : Fin cfg0.N, win0_0.index t = ![t.val / 16, t.val % 2]
    ∧ win0_1.index t = ![t.val / 2 % 8 / 4, t.val % 2, t.val / 2 % 8 % 4] ∧ win0_2.index t = ![t.val / 2 % 8, t.val / 16, 0] :=
  (by decide +kernel : ∀ t : Fin grid0.N, _)

theorem last (acc : Vec Ideal S1024x1536 .f32) (j : S1x1024x1536.Idx) : k0_pay4 (F := Ideal) acc j = acc (ix2 (j 1) (j 2)) := by
  pointwise [k0_pay4]

theorem first (x : Vec Ideal S1024x2048 .bf16) (w : Vec Ideal S1x2048x1536 .bf16) (j : S1024x1536.Idx) :
    k0_pay2 (F := Ideal) x w j = ∑ k : Fin 2048, x (ix2 (j 0) k) * w (ix3 0 k (j 1)) := by
  pointwise [k0_pay2, k0_pay1]

theorem next (x : Vec Ideal S1024x2048 .bf16) (w : Vec Ideal S1x2048x1536 .bf16) (acc : Vec Ideal S1024x1536 .f32) (j : S1024x1536.Idx) :
    k0_pay3 (F := Ideal) x w acc j = acc j + ∑ k : Fin 2048, x (ix2 (j 0) k) * w (ix3 0 k (j 1)) := by
  pointwise [k0_pay3, k0_pay1]

variable (m : (ℓ : Loc nD τ sig) → Buf (Elt Ideal) ℓ) (c : Dev nD)

/-- What grid point `t` adds to the accumulator. -/
def part (t : Fin cfg0.N) (j : S1024x1536.Idx) : EReal :=
  ∑ k : Fin 2048, (show Vec Ideal S1024x2048 .bf16 from iblk m c 0 t) (ix2 (j 0) k)
    * (show Vec Ideal S1x2048x1536 .bf16 from iblk m c 1 t) (ix3 0 k (j 1))

theorem acc_reset (t : Fin cfg0.N) (h : t.val % 2 = 0) (j : S1024x1536.Idx) :
    (outsAt0 m c t.val t.isLt).2 j = (0 : EReal) + part m c t j := by
  rw [outsAt0_A m c t h (by omega) (by omega)]
  frame_out
  rw [first, zero_add]
  rfl

theorem acc_step (t : Fin cfg0.N) (h : ¬t.val % 2 = 0) (j : S1024x1536.Idx) :
    (outsAt0 m c t.val t.isLt).2 j
      = (outsAt0 m c (t.val - 1) (Nat.lt_of_le_of_lt (Nat.sub_le _ _) t.isLt)).2 j + part m c t j := by
  rw [outsAt0_B m c t h (by omega) (by omega)]
  frame_out
  rw [next]
  exact congrArg (· + part m c t j) (congrFun (Memref.IsWhole.read_unread _ _) j)

theorem arr : (dats m 0 c).arrAt 2 cfg0.N = value (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  have hf' : (outsAt0 m c t.val t.isLt).1 y = (outsAt0 m c t.val t.isLt).2 (ix2 (y 1) (y 2)) := by
    rw [outsAt0_B m c t (by omega) hl hl]
    frame_out
    exact last _ y
  rw [after0_2, hf']
  rw [Pipeline.eq_sum_fin_of_reset_step_apply_of_flush (fun n h => (outsAt0 m c n h).2) 2
    (fun _ => 0) (part m c) (acc_reset m c) (acc_step m c) t hl _, zero_add]
  unfold value
  refine Fin.sum_mul_add_congr fun s k hl' => ?_
  blk_point [iblk, V, idx t, idx ⟨_, Pipeline.run_point_lt_of_flush t hl s⟩]

end Kernel

section Reference

open Cert.Reference5Ideal Cert.Reference5Ideal.Read

theorem ref_at (x : (⟨S2048x4096, .bf16⟩ : BufTy).Contents (Elt Ideal)) (w : (⟨S2x4096x6144, .bf16⟩ : BufTy).Contents (Elt Ideal))
    (i : S8x2048x1536.Idx) : val_main_v14 (F := Ideal) x w i = value x w i := by
  pointwise [val_main_v14, val_main_v13, val_main_v12, val_main_v11, val_main_v10, val_main_v7, val_main_v6, val_main_v5, val_main_v4, val_main_v3, val_main_v2, val_main_v1, val_main_v0]
  unfold value
  refine Fin.sum_fin_congr fun l => (mul_comm _ _).trans (congrArg₂ (· * ·) rfl ?_)
  have h0 : (i 0).val < 8 := (i 0).isLt
  have h2 : (i 2).val < 1536 := (i 2).isLt
  split <;> blk_ext

end Reference

section Claims

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  intro m ρ m' ρ' _ hag
  refine ⟨fun c => value (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)), ?_, ?_⟩
  · exact (θ_run Cert.Kernel5Ideal.defs _ _).mono (fun r h c => ⟨(h c).1.trans (arr m c), (h c).2⟩) (Cert.Kernel5Ideal.Value.run_blocks m ρ)
  · refine (θ_run Cert.Reference5Ideal.defs _ _).mono (fun r h c => ⟨(h c).1.trans ?_, (h c).2⟩) (Cert.Reference5Ideal.Value.run m' ρ')
    refine (Cert.Reference5Ideal.Read.val_main_v14_eq _ _).trans (funext fun i => ?_)
    rw [(hag c).1, (hag c).2]
    exact ref_at _ _ i

end Claims

end Cert.UpDw

end
-- ==== Proof.Products.OutDx.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Adequacy
public import Idealize.ShloMosaic.Init

/-! The cotangent of the output projection's input, in four blocks of rows. -/

@[expose] public section

set_option maxRecDepth 16384

noncomputable section

namespace Cert.OutDx

open Idealize.ShloMosaic Idealize.ShloMosaic.TcCoe Idealize.ShloMosaic.Pointwise Idealize.SL.Sem
open Idealize.ShloMosaic.Pipeline (Dat)

def value (x : Cert.Kernel6Ideal.S4096x2048.Idx → EReal) (w : Cert.Kernel6Ideal.S2048x2048.Idx → EReal)
    (i : Cert.Kernel6Ideal.S4096x2048.Idx) : EReal :=
  ∑ k : Fin 2048, x (ix2 (i 0) k) * w (ix2 (i 1) k)

section Kernel

open Cert.Kernel6Ideal Cert.Kernel6Ideal.Gen

theorem idx : ∀ t : Fin cfg0.N, win0_0.index t = ![t.val, 0] ∧ win0_1.index t = ![0, 0] ∧ win0_2.index t = ![t.val, 0] :=
  (by decide +kernel : ∀ t : Fin grid0.N, _)

theorem block (x : Vec Ideal S1024x2048 .bf16) (w : Vec Ideal S2048x2048 .bf16) (j : S1024x2048.Idx) :
    k0_pay1 (F := Ideal) x w j = ∑ k : Fin 2048, x (ix2 (j 0) k) * w (ix2 (j 1) k) := by
  pointwise [k0_pay1]

variable (m : (ℓ : Loc nD τ sig) → Buf (Elt Ideal) ℓ) (c : Dev nD)

theorem arr : (dats m 0 c).arrAt 2 cfg0.N = value (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [block]
  unfold value
  refine Fin.sum_fin_congr fun k => ?_
  blk_point [iblk, V, idx t]

end Kernel

section Reference

open Cert.Reference6Ideal Cert.Reference6Ideal.Read

theorem ref_at (x : (⟨S4096x2048, .bf16⟩ : BufTy).Contents (Elt Ideal)) (w : (⟨S2048x2048, .bf16⟩ : BufTy).Contents (Elt Ideal))
    (i : S4096x2048.Idx) : val_main_v4 (F := Ideal) x w i = value x w i := by
  pointwise [val_main_v4, val_main_v3, val_main_v0]
  rfl

end Reference

section Claims

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m ρ m' ρ' _ hag
  refine ⟨fun c => value (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)), ?_, ?_⟩
  · exact (θ_run Cert.Kernel6Ideal.defs _ _).mono (fun r h c => ⟨(h c).1.trans (arr m c), (h c).2⟩) (Cert.Kernel6Ideal.Value.run_blocks m ρ)
  · refine (θ_run Cert.Reference6Ideal.defs _ _).mono (fun r h c => ⟨(h c).1.trans ?_, (h c).2⟩) (Cert.Reference6Ideal.Value.run m' ρ')
    refine (Cert.Reference6Ideal.Read.val_main_v4_eq _ _).trans (funext fun i => ?_)
    rw [(hag c).1, (hag c).2]
    exact ref_at _ _ i

end Claims

end Cert.OutDx

end
-- ==== Proof.Products.OutDw.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Adequacy
public import Idealize.ShloMosaic.Init
public import Idealize.ShloMosaic.Lib.Pipeline.ReadBack

/-! The output projection's weight gradient: four stretches of rows, accumulated. -/

@[expose] public section

set_option maxRecDepth 16384

noncomputable section

namespace Cert.OutDw

open Idealize.ShloMosaic Idealize.ShloMosaic.TcCoe Idealize.ShloMosaic.Pointwise Idealize.SL.Sem
open Idealize.ShloMosaic.Pipeline (Dat)

def value (x : Cert.Kernel7Ideal.S4096x2048.Idx → EReal) (w : Cert.Kernel7Ideal.S4096x2048.Idx → EReal)
    (i : Cert.Kernel7Ideal.S2048x2048.Idx) : EReal :=
  ∑ l : Fin 4096, x (ix2 l (i 0)) * w (ix2 l (i 1))

section Kernel

open Cert.Kernel7Ideal Cert.Kernel7Ideal.Gen

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem last (acc : Vec Ideal S1024x2048 .f32) (j : S1024x2048.Idx) : k0_pay4 (F := Ideal) acc j = acc j := by
  pointwise [k0_pay4]

theorem first (x : Vec Ideal S1024x1024 .bf16) (w : Vec Ideal S1024x2048 .bf16) (j : S1024x2048.Idx) :
    k0_pay2 (F := Ideal) x w j = ∑ k : Fin 1024, x (ix2 k (j 0)) * w (ix2 k (j 1)) := by
  pointwise [k0_pay2, k0_pay1]

theorem next (x : Vec Ideal S1024x1024 .bf16) (w : Vec Ideal S1024x2048 .bf16) (acc : Vec Ideal S1024x2048 .f32) (j : S1024x2048.Idx) :
    k0_pay3 (F := Ideal) x w acc j = acc j + ∑ k : Fin 1024, x (ix2 k (j 0)) * w (ix2 k (j 1)) := by
  pointwise [k0_pay3, k0_pay1]

variable (m : (ℓ : Loc nD τ sig) → Buf (Elt Ideal) ℓ) (c : Dev nD)

/-- What grid point `t` adds to the accumulator. -/
def part (t : Fin cfg0.N) (j : S1024x2048.Idx) : EReal :=
  ∑ k : Fin 1024, (show Vec Ideal S1024x1024 .bf16 from iblk m c 0 t) (ix2 k (j 0))
    * (show Vec Ideal S1024x2048 .bf16 from iblk m c 1 t) (ix2 k (j 1))

theorem acc_reset (t : Fin cfg0.N) (h : t.val % 4 = 0) (j : S1024x2048.Idx) :
    (outsAt0 m c t.val t.isLt).2 j = (0 : EReal) + part m c t j := by
  rw [outsAt0_A m c t h (by omega) (by omega)]
  frame_out
  rw [first, zero_add]
  rfl

theorem acc_step (t : Fin cfg0.N) (h : ¬t.val % 4 = 0) (j : S1024x2048.Idx) :
    (outsAt0 m c t.val t.isLt).2 j
      = (outsAt0 m c (t.val - 1) (Nat.lt_of_le_of_lt (Nat.sub_le _ _) t.isLt)).2 j + part m c t j := by
  by_cases hl : t.val % 4 = 3
  · rw [outsAt0_C m c t h (by omega) hl]
    frame_out
    rw [next]
    exact congrArg (· + part m c t j) (congrFun (Memref.IsWhole.read_unread _ _) j)
  · rw [outsAt0_B m c t h (by omega) hl]
    frame_out
    rw [next]
    exact congrArg (· + part m c t j) (congrFun (Memref.IsWhole.read_unread _ _) j)

theorem arr : (dats m 0 c).arrAt 2 cfg0.N = value (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  have hf' : (outsAt0 m c t.val t.isLt).1 y = (outsAt0 m c t.val t.isLt).2 y := by
    rw [outsAt0_C m c t (by omega) (by omega) hl]
    frame_out
    exact last _ y
  rw [after0_2, hf']
  rw [Pipeline.eq_sum_fin_of_reset_step_apply_of_flush (fun n h => (outsAt0 m c n h).2) 4
    (fun _ => 0) (part m c) (acc_reset m c) (acc_step m c) t hl _, zero_add]
  unfold value
  refine Fin.sum_mul_add_congr fun s k hl' => ?_
  blk_point [iblk, V, idx t, idx ⟨_, Pipeline.run_point_lt_of_flush t hl s⟩]

end Kernel

section Reference

open Cert.Reference7Ideal Cert.Reference7Ideal.Read

theorem ref_at (x : (⟨S4096x2048, .bf16⟩ : BufTy).Contents (Elt Ideal)) (w : (⟨S4096x2048, .bf16⟩ : BufTy).Contents (Elt Ideal))
    (i : S2048x2048.Idx) : val_main_v6 (F := Ideal) x w i = value x w i := by
  pointwise [val_main_v6, val_main_v5, val_main_v4, val_main_v3, val_main_v0]
  exact Fin.sum_fin_congr fun l => mul_comm _ _

end Reference

section Claims

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m ρ m' ρ' _ hag
  refine ⟨fun c => value (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)), ?_, ?_⟩
  · exact (θ_run Cert.Kernel7Ideal.defs _ _).mono (fun r h c => ⟨(h c).1.trans (arr m c), (h c).2⟩) (Cert.Kernel7Ideal.Value.run_blocks m ρ)
  · refine (θ_run Cert.Reference7Ideal.defs _ _).mono (fun r h c => ⟨(h c).1.trans ?_, (h c).2⟩) (Cert.Reference7Ideal.Value.run m' ρ')
    refine (Cert.Reference7Ideal.Read.val_main_v6_eq _ _).trans (funext fun i => ?_)
    rw [(hag c).1, (hag c).2]
    exact ref_at _ _ i

end Claims

end Cert.OutDw

end
-- ==== Proof.Products.InDx.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Adequacy
public import Idealize.ShloMosaic.Init
public import Idealize.ShloMosaic.Lib.Pipeline.ReadBack

/-! The cotangent of the input projection's input: three stretches of columns, accumulated. -/

@[expose] public section

set_option maxRecDepth 16384

noncomputable section

namespace Cert.InDx

open Idealize.ShloMosaic Idealize.ShloMosaic.TcCoe Idealize.ShloMosaic.Pointwise Idealize.SL.Sem
open Idealize.ShloMosaic.Pipeline (Dat)

def value (x : Cert.Kernel8Ideal.S4096x5376.Idx → EReal) (w : Cert.Kernel8Ideal.S2048x5376.Idx → EReal)
    (i : Cert.Kernel8Ideal.S4096x2048.Idx) : EReal :=
  ∑ l : Fin 5376, x (ix2 (i 0) l) * w (ix2 (i 1) l)

section Kernel

open Cert.Kernel8Ideal Cert.Kernel8Ideal.Gen

theorem idx : ∀ t : Fin cfg0.N, win0_0.index t = ![t.val / 6, t.val % 3] ∧ win0_1.index t = ![t.val / 3 % 2, t.val % 3] ∧ win0_2.index t = ![t.val / 6, t.val / 3 % 2] :=
  (by decide +kernel : ∀ t : Fin grid0.N, _)

theorem first (x : Vec Ideal S1024x1792 .bf16) (w : Vec Ideal S1024x1792 .bf16) (j : S1024x1024.Idx) :
    k0_pay2 (F := Ideal) x w j = ∑ k : Fin 1792, x (ix2 (j 0) k) * w (ix2 (j 1) k) := by
  pointwise [k0_pay2, k0_pay1]

theorem next (x : Vec Ideal S1024x1792 .bf16) (w : Vec Ideal S1024x1792 .bf16) (acc : Vec Ideal S1024x1024 .f32) (j : S1024x1024.Idx) :
    k0_pay3 (F := Ideal) x w acc j = acc j + ∑ k : Fin 1792, x (ix2 (j 0) k) * w (ix2 (j 1) k) := by
  pointwise [k0_pay3, k0_pay1]

variable (m : (ℓ : Loc nD τ sig) → Buf (Elt Ideal) ℓ) (c : Dev nD)

/-- What grid point `t` adds to the accumulator. -/
def part (t : Fin cfg0.N) (j : S1024x1024.Idx) : EReal :=
  ∑ k : Fin 1792, (show Vec Ideal S1024x1792 .bf16 from iblk m c 0 t) (ix2 (j 0) k)
    * (show Vec Ideal S1024x1792 .bf16 from iblk m c 1 t) (ix2 (j 1) k)

theorem acc_reset (t : Fin cfg0.N) (h : t.val % 3 = 0) (j : S1024x1024.Idx) :
    (outsAt0 m c t.val t.isLt).2 j = (0 : EReal) + part m c t j := by
  rw [outsAt0_A m c t h (by omega) (by omega)]
  frame_out
  rw [first, zero_add]
  rfl

theorem acc_step (t : Fin cfg0.N) (h : ¬t.val % 3 = 0) (j : S1024x1024.Idx) :
    (outsAt0 m c t.val t.isLt).2 j
      = (outsAt0 m c (t.val - 1) (Nat.lt_of_le_of_lt (Nat.sub_le _ _) t.isLt)).2 j + part m c t j := by
  by_cases hl : t.val % 3 = 2
  · rw [outsAt0_C m c t h (by omega) hl]
    frame_out
    rw [next]
    exact congrArg (· + part m c t j) (congrFun (Memref.IsWhole.read_unread _ _) j)
  · rw [outsAt0_B m c t h (by omega) hl]
    frame_out
    rw [next]
    exact congrArg (· + part m c t j) (congrFun (Memref.IsWhole.read_unread _ _) j)

theorem arr : (dats m 0 c).arrAt 2 cfg0.N = value (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  have hf' : (outsAt0 m c t.val t.isLt).1 y = (outsAt0 m c t.val t.isLt).2 y := by
    rw [outsAt0_C m c t (by omega) (by omega) hl]
    frame_out
  rw [after0_2, hf']
  rw [Pipeline.eq_sum_fin_of_reset_step_apply_of_flush (fun n h => (outsAt0 m c n h).2) 3
    (fun _ => 0) (part m c) (acc_reset m c) (acc_step m c) t hl _, zero_add]
  unfold value
  refine Fin.sum_mul_add_congr fun s k hl' => ?_
  blk_point [iblk, V, idx t, idx ⟨_, Pipeline.run_point_lt_of_flush t hl s⟩]

end Kernel

section Reference

open Cert.Reference8Ideal Cert.Reference8Ideal.Read

theorem ref_at (x : (⟨S4096x5376, .bf16⟩ : BufTy).Contents (Elt Ideal)) (w : (⟨S2048x5376, .bf16⟩ : BufTy).Contents (Elt Ideal))
    (i : S4096x2048.Idx) : val_main_v4 (F := Ideal) x w i = value x w i := by
  pointwise [val_main_v4, val_main_v3, val_main_v0]
  rfl

end Reference

section Claims

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  intro m ρ m' ρ' _ hag
  refine ⟨fun c => value (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)), ?_, ?_⟩
  · exact (θ_run Cert.Kernel8Ideal.defs _ _).mono (fun r h c => ⟨(h c).1.trans (arr m c), (h c).2⟩) (Cert.Kernel8Ideal.Value.run_blocks m ρ)
  · refine (θ_run Cert.Reference8Ideal.defs _ _).mono (fun r h c => ⟨(h c).1.trans ?_, (h c).2⟩) (Cert.Reference8Ideal.Value.run m' ρ')
    refine (Cert.Reference8Ideal.Read.val_main_v4_eq _ _).trans (funext fun i => ?_)
    rw [(hag c).1, (hag c).2]
    exact ref_at _ _ i

end Claims

end Cert.InDx

end
-- ==== Proof.Products.InDw.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Adequacy
public import Idealize.ShloMosaic.Init
public import Idealize.ShloMosaic.Lib.Pipeline.ReadBack

/-! The input projection's weight gradient: two stretches of rows, accumulated. -/

@[expose] public section

set_option maxRecDepth 16384

noncomputable section

namespace Cert.InDw

open Idealize.ShloMosaic Idealize.ShloMosaic.TcCoe Idealize.ShloMosaic.Pointwise Idealize.SL.Sem
open Idealize.ShloMosaic.Pipeline (Dat)

def value (x : Cert.Kernel9Ideal.S2048x4096.Idx → EReal) (w : Cert.Kernel9Ideal.S4096x5376.Idx → EReal)
    (i : Cert.Kernel9Ideal.S2048x5376.Idx) : EReal :=
  ∑ l : Fin 4096, x (ix2 (i 0) l) * w (ix2 l (i 1))

section Kernel

open Cert.Kernel9Ideal Cert.Kernel9Ideal.Gen

theorem idx : ∀ t : Fin cfg0.N, win0_0.index t = ![t.val / 6, t.val % 2] ∧ win0_1.index t = ![t.val % 2, t.val / 2 % 3] ∧ win0_2.index t = ![t.val / 6, t.val / 2 % 3] :=
  (by decide +kernel : ∀ t : Fin grid0.N, _)

theorem last (acc : Vec Ideal S1024x1792 .f32) (j : S1024x1792.Idx) : k0_pay4 (F := Ideal) acc j = acc j := by
  pointwise [k0_pay4]

theorem first (x : Vec Ideal S1024x2048 .bf16) (w : Vec Ideal S2048x1792 .bf16) (j : S1024x1792.Idx) :
    k0_pay2 (F := Ideal) x w j = ∑ k : Fin 2048, x (ix2 (j 0) k) * w (ix2 k (j 1)) := by
  pointwise [k0_pay2, k0_pay1]

theorem next (x : Vec Ideal S1024x2048 .bf16) (w : Vec Ideal S2048x1792 .bf16) (acc : Vec Ideal S1024x1792 .f32) (j : S1024x1792.Idx) :
    k0_pay3 (F := Ideal) x w acc j = acc j + ∑ k : Fin 2048, x (ix2 (j 0) k) * w (ix2 k (j 1)) := by
  pointwise [k0_pay3, k0_pay1]

variable (m : (ℓ : Loc nD τ sig) → Buf (Elt Ideal) ℓ) (c : Dev nD)

/-- What grid point `t` adds to the accumulator. -/
def part (t : Fin cfg0.N) (j : S1024x1792.Idx) : EReal :=
  ∑ k : Fin 2048, (show Vec Ideal S1024x2048 .bf16 from iblk m c 0 t) (ix2 (j 0) k)
    * (show Vec Ideal S2048x1792 .bf16 from iblk m c 1 t) (ix2 k (j 1))

theorem acc_reset (t : Fin cfg0.N) (h : t.val % 2 = 0) (j : S1024x1792.Idx) :
    (outsAt0 m c t.val t.isLt).2 j = (0 : EReal) + part m c t j := by
  rw [outsAt0_A m c t h (by omega) (by omega)]
  frame_out
  rw [first, zero_add]
  rfl

theorem acc_step (t : Fin cfg0.N) (h : ¬t.val % 2 = 0) (j : S1024x1792.Idx) :
    (outsAt0 m c t.val t.isLt).2 j
      = (outsAt0 m c (t.val - 1) (Nat.lt_of_le_of_lt (Nat.sub_le _ _) t.isLt)).2 j + part m c t j := by
  rw [outsAt0_B m c t h (by omega) (by omega)]
  frame_out
  rw [next]
  exact congrArg (· + part m c t j) (congrFun (Memref.IsWhole.read_unread _ _) j)

theorem arr : (dats m 0 c).arrAt 2 cfg0.N = value (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  have hf' : (outsAt0 m c t.val t.isLt).1 y = (outsAt0 m c t.val t.isLt).2 y := by
    rw [outsAt0_B m c t (by omega) hl hl]
    frame_out
    exact last _ y
  rw [after0_2, hf']
  rw [Pipeline.eq_sum_fin_of_reset_step_apply_of_flush (fun n h => (outsAt0 m c n h).2) 2
    (fun _ => 0) (part m c) (acc_reset m c) (acc_step m c) t hl _, zero_add]
  unfold value
  refine Fin.sum_mul_add_congr fun s k hl' => ?_
  blk_point [iblk, V, idx t, idx ⟨_, Pipeline.run_point_lt_of_flush t hl s⟩]

end Kernel

section Reference

open Cert.Reference9Ideal Cert.Reference9Ideal.Read

theorem ref_at (x : (⟨S2048x4096, .bf16⟩ : BufTy).Contents (Elt Ideal)) (w : (⟨S4096x5376, .bf16⟩ : BufTy).Contents (Elt Ideal))
    (i : S2048x5376.Idx) : val_main_v7 (F := Ideal) x w i = value x w i := by
  pointwise [val_main_v7, val_main_v6, val_main_v5, val_main_v4, val_main_v1, val_main_v0]
  exact Fin.sum_fin_congr fun l => mul_comm _ _

end Reference

section Claims

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  intro m ρ m' ρ' _ hag
  refine ⟨fun c => value (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1)), ?_, ?_⟩
  · exact (θ_run Cert.Kernel9Ideal.defs _ _).mono (fun r h c => ⟨(h c).1.trans (arr m c), (h c).2⟩) (Cert.Kernel9Ideal.Value.run_blocks m ρ)
  · refine (θ_run Cert.Reference9Ideal.defs _ _).mono (fun r h c => ⟨(h c).1.trans ?_, (h c).2⟩) (Cert.Reference9Ideal.Value.run m' ρ')
    refine (Cert.Reference9Ideal.Read.val_main_v7_eq _ _).trans (funext fun i => ?_)
    rw [(hag c).1, (hag c).2]
    exact ref_at _ _ i

end Claims

end Cert.InDw

end
-- ==== Proof.Products.In.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Adequacy
public import Idealize.ShloMosaic.Init

/-! The input projection, in blocks of rows and of columns. -/

@[expose] public section

set_option maxRecDepth 16384

noncomputable section

namespace Cert.In

open Idealize.ShloMosaic Idealize.ShloMosaic.TcCoe Idealize.ShloMosaic.Pointwise Idealize.SL.Sem
open Idealize.ShloMosaic.Pipeline (Dat)

def value (x : Cert.Kernel10Ideal.S4096x2048.Idx → EReal) (w : Cert.Kernel10Ideal.S2048x5376.Idx → EReal)
    (i : Cert.Kernel10Ideal.S4096x5376.Idx) : EReal :=
  ∑ k : Fin 2048, x (ix2 (i 0) k) * w (ix2 k (i 1))

section Kernel

open Cert.Kernel10Ideal Cert.Kernel10Ideal.Gen

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

theorem block (x : Vec Ideal S1024x2048 .bf16) (w : Vec Ideal S2048x1792 .bf16) (j : S1024x1792.Idx) :
    k0_pay1 (F := Ideal) x w j = ∑ k : Fin 2048, x (ix2 (j 0) k) * w (ix2 k (j 1)) := by
  pointwise [k0_pay1]

variable (m : (ℓ : Loc nD τ sig) → Buf (Elt Ideal) ℓ) (c : Dev nD)

theorem arr : (dats m 0 c).arrAt 2 cfg0.N = value (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [block]
  unfold value
  refine Fin.sum_fin_congr fun k => ?_
  blk_point [iblk, V, idx t]

end Kernel

section Reference

open Cert.Reference10Ideal Cert.Reference10Ideal.Read

theorem ref_at (x : (⟨S4096x2048, .bf16⟩ : BufTy).Contents (Elt Ideal)) (w : (⟨S2048x5376, .bf16⟩ : BufTy).Contents (Elt Ideal))
    (i : S4096x5376.Idx) : val_main_v2 (F := Ideal) x w i = value x w i := by
  pointwise [val_main_v2, val_main_v1, val_main_v0]
  rfl

end Reference

section Claims

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  intro m ρ m' ρ' _ hag
  refine ⟨fun c => value (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1)), ?_, ?_⟩
  · exact (θ_run Cert.Kernel10Ideal.defs _ _).mono (fun r h c => ⟨(h c).1.trans (arr m c), (h c).2⟩) (Cert.Kernel10Ideal.Value.run_blocks m ρ)
  · refine (θ_run Cert.Reference10Ideal.defs _ _).mono (fun r h c => ⟨(h c).1.trans ?_, (h c).2⟩) (Cert.Reference10Ideal.Value.run m' ρ')
    refine (Cert.Reference10Ideal.Read.val_main_v2_eq _ _).trans (funext fun i => ?_)
    rw [(hag c).1, (hag c).2]
    exact ref_at _ _ i

end Claims

end Cert.In

end
-- ==== Proof.Products.Out.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Adequacy
public import Idealize.ShloMosaic.Init

/-! The output projection and the residual, in blocks of rows and of columns. -/

@[expose] public section

set_option maxRecDepth 16384

noncomputable section

namespace Cert.Out

open Idealize.ShloMosaic Idealize.ShloMosaic.TcCoe Idealize.ShloMosaic.Pointwise Idealize.SL.Sem
open Idealize.ShloMosaic.Pipeline (Dat)

def value (x : Cert.Kernel11Ideal.S4096x2048.Idx → EReal) (w : Cert.Kernel11Ideal.S2048x2048.Idx → EReal) (r : Cert.Kernel11Ideal.S4096x2048.Idx → EReal)
    (i : Cert.Kernel11Ideal.S4096x2048.Idx) : EReal :=
  r i + ∑ k : Fin 2048, x (ix2 (i 0) k) * w (ix2 k (i 1))

section Kernel

open Cert.Kernel11Ideal Cert.Kernel11Ideal.Gen

theorem idx : ∀ t : Fin cfg0.N, win0_0.index t = ![t.val / 2, 0] ∧ win0_1.index t = ![0, t.val % 2] ∧ win0_2.index t = ![t.val / 2, t.val % 2]
    ∧ win0_3.index t = ![t.val / 2, t.val % 2] :=
  (by decide +kernel : ∀ t : Fin grid0.N, _)

theorem block (x : Vec Ideal S1024x2048 .bf16) (w : Vec Ideal S2048x1024 .bf16) (r : Vec Ideal S1024x1024 .f32) (j : S1024x1024.Idx) :
    k0_pay1 (F := Ideal) x w r j = r j + ∑ k : Fin 2048, x (ix2 (j 0) k) * w (ix2 k (j 1)) := by
  pointwise [k0_pay1]
  exact add_comm _ _

variable (m : (ℓ : Loc nD τ sig) → Buf (Elt Ideal) ℓ) (c : Dev nD)

theorem arr : (dats m 0 c).arrAt 3 cfg0.N = value (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  rw [block]
  unfold value
  refine congrArg₂ (· + ·) ?_ (Fin.sum_fin_congr fun k => ?_)
  · blk_point [iblk, V, idx t]
  blk_point [iblk, V, idx t]

end Kernel

section Reference

open Cert.Reference11Ideal Cert.Reference11Ideal.Read

theorem ref_at (x : (⟨S4096x2048, .bf16⟩ : BufTy).Contents (Elt Ideal)) (w : (⟨S2048x2048, .bf16⟩ : BufTy).Contents (Elt Ideal))
    (r : (⟨S4096x2048, .f32⟩ : BufTy).Contents (Elt Ideal))
    (i : S4096x2048.Idx) : val_main_v3 (F := Ideal) x w r i = value x w r i := by
  pointwise [val_main_v3, val_main_v2, val_main_v1, val_main_v0]
  rfl

end Reference

section Claims

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := by
  intro m ρ m' ρ' _ hag
  refine ⟨fun c => value (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2)), ?_, ?_⟩
  · exact (θ_run Cert.Kernel11Ideal.defs _ _).mono (fun r h c => ⟨(h c).1.trans (arr m c), (h c).2⟩) (Cert.Kernel11Ideal.Value.run_blocks m ρ)
  · refine (θ_run Cert.Reference11Ideal.defs _ _).mono (fun r h c => ⟨(h c).1.trans ?_, (h c).2⟩) (Cert.Reference11Ideal.Value.run m' ρ')
    refine (Cert.Reference11Ideal.Read.val_main_v3_eq _ _ _).trans (funext fun i => ?_)
    rw [(hag c).1, (hag c).2.1, (hag c).2.2]
    exact ref_at _ _ _ i

end Claims

end Cert.Out

end
-- ==== Proof.Products.Up.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Adequacy
public import Idealize.ShloMosaic.Init

/-! The up projection, the weight held in eight blocks of columns. -/

@[expose] public section

set_option maxRecDepth 16384

noncomputable section

namespace Cert.Up

open Idealize.ShloMosaic Idealize.ShloMosaic.TcCoe Idealize.ShloMosaic.Pointwise Idealize.SL.Sem
open Idealize.ShloMosaic.Pipeline (Dat)

def value (x : Cert.Kernel12Ideal.S4096x2048.Idx → EReal) (w : Cert.Kernel12Ideal.S8x2048x1536.Idx → EReal)
    (i : Cert.Kernel12Ideal.S4096x12288.Idx) : EReal :=
  ∑ k : Fin 2048, x (ix2 (i 0) k)
    * w (ix3 ⟨(i 1).val / 1536, by have h : (i 1).val < 12288 := (i 1).isLt; omega⟩ k ⟨(i 1).val % 1536, Nat.mod_lt _ (by omega)⟩)

section Kernel

open Cert.Kernel12Ideal Cert.Kernel12Ideal.Gen

theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

theorem block (x : Vec Ideal S1024x2048 .bf16) (w : Vec Ideal S1x2048x1536 .bf16) (j : S1024x1536.Idx) :
    k0_pay1 (F := Ideal) x w j = ∑ k : Fin 2048, x (ix2 (j 0) k) * w (ix3 0 k (j 1)) := by
  pointwise [k0_pay1]

variable (m : (ℓ : Loc nD τ sig) → Buf (Elt Ideal) ℓ) (c : Dev nD)

theorem arr : (dats m 0 c).arrAt 2 cfg0.N = value (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [block]
  unfold value
  refine Fin.sum_fin_congr fun k => ?_
  blk_point [iblk, V, idx t]

end Kernel

section Reference

open Cert.Reference12Ideal Cert.Reference12Ideal.Read

theorem ref_at (x : (⟨S4096x2048, .bf16⟩ : BufTy).Contents (Elt Ideal)) (w : (⟨S8x2048x1536, .bf16⟩ : BufTy).Contents (Elt Ideal))
    (i : S4096x12288.Idx) : val_main_v5 (F := Ideal) x w i = value x w i := by
  pointwise [val_main_v5, val_main_v4, val_main_v3, val_main_v2, val_main_v1, val_main_v0]
  unfold value
  refine Fin.sum_fin_congr fun l => ?_
  blk_ext

end Reference

section Claims

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic : Cert.algebraic_Kernel12Ideal_Reference12Ideal := by
  intro m ρ m' ρ' _ hag
  refine ⟨fun c => value (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1)), ?_, ?_⟩
  · exact (θ_run Cert.Kernel12Ideal.defs _ _).mono (fun r h c => ⟨(h c).1.trans (arr m c), (h c).2⟩) (Cert.Kernel12Ideal.Value.run_blocks m ρ)
  · refine (θ_run Cert.Reference12Ideal.defs _ _).mono (fun r h c => ⟨(h c).1.trans ?_, (h c).2⟩) (Cert.Reference12Ideal.Value.run m' ρ')
    refine (Cert.Reference12Ideal.Read.val_main_v5_eq _ _).trans (funext fun i => ?_)
    rw [(hag c).1, (hag c).2]
    exact ref_at _ _ i

end Claims

end Cert.Up

end
-- ==== Proof.Products.Down.lean ====
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Adequacy
public import Idealize.ShloMosaic.Init
public import Idealize.ShloMosaic.Lib.Pipeline.ReadBack

/-! The down projection and the residual: two stretches of columns, accumulated. -/

@[expose] public section

set_option maxRecDepth 16384

noncomputable section

namespace Cert.Down

open Idealize.ShloMosaic Idealize.ShloMosaic.TcCoe Idealize.ShloMosaic.Pointwise Idealize.SL.Sem
open Idealize.ShloMosaic.Pipeline (Dat)

def value (x : Cert.Kernel13Ideal.S4096x6144.Idx → EReal) (w : Cert.Kernel13Ideal.S6144x2048.Idx → EReal) (r : Cert.Kernel13Ideal.S4096x2048.Idx → EReal)
    (i : Cert.Kernel13Ideal.S4096x2048.Idx) : EReal :=
  r i + ∑ l : Fin 6144, x (ix2 (i 0) l) * w (ix2 l (i 1))

section Kernel

open Cert.Kernel13Ideal Cert.Kernel13Ideal.Gen

theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

theorem last (acc : Vec Ideal S1024x1024 .f32) (r : Vec Ideal S1024x1024 .f32) (j : S1024x1024.Idx) :
    k0_pay4 (F := Ideal) acc r j = r j + acc j := by
  pointwise [k0_pay4]
  exact add_comm _ _

theorem first (x : Vec Ideal S1024x3072 .bf16) (w : Vec Ideal S3072x1024 .bf16) (j : S1024x1024.Idx) :
    k0_pay2 (F := Ideal) x w j = ∑ k : Fin 3072, x (ix2 (j 0) k) * w (ix2 k (j 1)) := by
  pointwise [k0_pay2, k0_pay1]

theorem next (x : Vec Ideal S1024x3072 .bf16) (w : Vec Ideal S3072x1024 .bf16) (acc : Vec Ideal S1024x1024 .f32) (j : S1024x1024.Idx) :
    k0_pay3 (F := Ideal) x w acc j = acc j + ∑ k : Fin 3072, x (ix2 (j 0) k) * w (ix2 k (j 1)) := by
  pointwise [k0_pay3, k0_pay1]

variable (m : (ℓ : Loc nD τ sig) → Buf (Elt Ideal) ℓ) (c : Dev nD)

/-- What grid point `t` adds to the accumulator. -/
def part (t : Fin cfg0.N) (j : S1024x1024.Idx) : EReal :=
  ∑ k : Fin 3072, (show Vec Ideal S1024x3072 .bf16 from iblk m c 0 t) (ix2 (j 0) k)
    * (show Vec Ideal S3072x1024 .bf16 from iblk m c 1 t) (ix2 k (j 1))

theorem acc_reset (t : Fin cfg0.N) (h : t.val % 2 = 0) (j : S1024x1024.Idx) :
    (outsAt0 m c t.val t.isLt).2 j = (0 : EReal) + part m c t j := by
  rw [outsAt0_A m c t h (by omega) (by omega)]
  frame_out
  rw [first, zero_add]
  rfl

theorem acc_step (t : Fin cfg0.N) (h : ¬t.val % 2 = 0) (j : S1024x1024.Idx) :
    (outsAt0 m c t.val t.isLt).2 j
      = (outsAt0 m c (t.val - 1) (Nat.lt_of_le_of_lt (Nat.sub_le _ _) t.isLt)).2 j + part m c t j := by
  rw [outsAt0_B m c t h (by omega) (by omega)]
  frame_out
  rw [next]
  exact congrArg (· + part m c t j) (congrFun (Memref.IsWhole.read_unread _ _) j)

theorem arr : (dats m 0 c).arrAt 3 cfg0.N = value (m ((c : Thread nD τ).loc main_arg0)) (m ((c : Thread nD τ).loc main_arg1)) (m ((c : Thread nD τ).loc main_arg2)) := by
  refine (dats m 0 c).arrAt_eq_of_covers 3 _ (by decide +kernel) fun t hf y => ?_
  have hl := (flush0_3 t).mp hf
  blk_simp
  have hf' : (outsAt0 m c t.val t.isLt).1 y = (show Vec Ideal S1024x1024 .f32 from iblk m c 2 t) y + (outsAt0 m c t.val t.isLt).2 y := by
    rw [outsAt0_B m c t (by omega) hl hl]
    frame_out
    exact last _ _ y
  rw [after0_3, hf']
  rw [Pipeline.eq_sum_fin_of_reset_step_apply_of_flush (fun n h => (outsAt0 m c n h).2) 2
    (fun _ => 0) (part m c) (acc_reset m c) (acc_step m c) t hl _, zero_add]
  unfold value
  refine congrArg₂ (· + ·) ?_ (Fin.sum_mul_add_congr fun s k hl' => ?_)
  · blk_point [iblk, V, idx t]
  blk_point [iblk, V, idx t, idx ⟨_, Pipeline.run_point_lt_of_flush t hl s⟩]

end Kernel

section Reference

open Cert.Reference13Ideal Cert.Reference13Ideal.Read

theorem ref_at (x : (⟨S4096x6144, .bf16⟩ : BufTy).Contents (Elt Ideal)) (w : (⟨S6144x2048, .bf16⟩ : BufTy).Contents (Elt Ideal))
    (r : (⟨S4096x2048, .f32⟩ : BufTy).Contents (Elt Ideal))
    (i : S4096x2048.Idx) : val_main_v3 (F := Ideal) x w r i = value x w r i := by
  pointwise [val_main_v3, val_main_v2, val_main_v1, val_main_v0]
  rfl

end Reference

section Claims

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic : Cert.algebraic_Kernel13Ideal_Reference13Ideal := by
  intro m ρ m' ρ' _ hag
  refine ⟨fun c => value (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1))
      (m ((c.tc : Thread Cert.Kernel13Ideal.nD Cert.Kernel13Ideal.τ).loc Cert.Kernel13Ideal.main_arg2)), ?_, ?_⟩
  · exact (θ_run Cert.Kernel13Ideal.defs _ _).mono (fun r h c => ⟨(h c).1.trans (arr m c), (h c).2⟩) (Cert.Kernel13Ideal.Value.run_blocks m ρ)
  · refine (θ_run Cert.Reference13Ideal.defs _ _).mono (fun r h c => ⟨(h c).1.trans ?_, (h c).2⟩) (Cert.Reference13Ideal.Value.run m' ρ')
    refine (Cert.Reference13Ideal.Read.val_main_v3_eq _ _ _).trans (funext fun i => ?_)
    rw [(hag c).1, (hag c).2.1, (hag c).2.2]
    exact ref_at _ _ _ i

end Claims

end Cert.Down

end
-- ==== Proof.Norm.Spec.lean ====
module

public import proofs.«01_k».proof.Proof.Recurrence.Spec

/-! The norm's gradient at one row, over the extended reals: the kernel's and the reference's formula agree, infinite entries included. -/

@[expose] public section

noncomputable section

namespace Cert.Norm

open Idealize.ShloMosaic Cert.Lru

theorem ofBits_len : Ideal.ofBits .f32 0x45000000#32 = ((2048 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_eps : ∃ e : ℝ, 0 < e ∧ Ideal.ofBits .f32 0x358637BD#32 = (e : EReal) :=
  ⟨8796093 * (2 : ℝ) ^ (-43 : ℤ), by positivity, by simp [Ideal.ofBits, Ideal.ieee, -EReal.coe_mul]⟩

/-- A row's mean square, raised by the norm's constant. -/
def level (x : Fin 2048 → EReal) : EReal :=
  Ideal.div (∑ k, x k * x k) (Ideal.ofBits .f32 0x45000000#32) + Ideal.ofBits .f32 0x358637BD#32

/-- The kernel's gradient at column `l` of a row `x`: `d` is the result's cotangent times the weight, `y` the residual's. -/
def grad (x d : Fin 2048 → EReal) (y : EReal) (l : Fin 2048) : EReal :=
  y + Ideal.rsqrt (level x) * (d l - x l * Ideal.rsqrt (level x)
    * Ideal.div (∑ k, d k * (x k * Ideal.rsqrt (level x))) (Ideal.ofBits .f32 0x45000000#32))

/-- What the reference sends back through the mean. -/
def back (x d : Fin 2048 → EReal) : EReal :=
  Ideal.div ((∑ k, x k * d k) * (Ideal.ofBits .f32 0xBF000000#32 * Ideal.div (Ideal.rsqrt (level x)) (level x))) (Ideal.ofBits .f32 0x45000000#32)

theorem square_nonneg (a : EReal) : 0 ≤ a * a := by
  induction a with
  | bot => simp
  | top => simp
  | coe r => rw [← EReal.coe_mul]; exact_mod_cast mul_self_nonneg r

theorem level_cases (x : Fin 2048 → EReal) : level x = ⊤ ∨ ∃ s : ℝ, 0 < s ∧ level x = (s : EReal) := by
  obtain ⟨e, he, hE⟩ := ofBits_eps
  have h : 0 ≤ Ideal.div (∑ k, x k * x k) (Ideal.ofBits .f32 0x45000000#32) := by
    rw [ofBits_len, Ideal.div_coe (by norm_num)]
    exact mul_nonneg (Finset.sum_nonneg fun k _ => square_nonneg _) (by exact_mod_cast (by norm_num : (0 : ℝ) ≤ 1 / 2048))
  unfold level
  rw [hE]
  generalize Ideal.div (∑ k, x k * x k) (Ideal.ofBits .f32 0x45000000#32) = q at h
  induction q with
  | bot => simp at h
  | top => exact .inl (EReal.top_add_coe e)
  | coe r => exact .inr ⟨r + e, add_pos_of_nonneg_of_pos (by exact_mod_cast h) he, (EReal.coe_add r e).symm⟩

/-- The reciprocal root is a number `r ≥ 0`, and divided by the level it is `r³`. -/
theorem root (x : Fin 2048 → EReal) : ∃ r : ℝ, 0 ≤ r ∧ Ideal.rsqrt (level x) = (r : EReal)
    ∧ Ideal.div (Ideal.rsqrt (level x)) (level x) = ((r * r * r : ℝ) : EReal) := by
  rcases level_cases x with h | ⟨s, hs, h⟩
  · refine ⟨0, le_rfl, by rw [h]; rfl, ?_⟩
    rw [h, Ideal.div, if_neg (by simp), Ideal.rsqrt_top, zero_mul]
    norm_num
  · obtain ⟨q, hq, rfl⟩ : ∃ q : ℝ, 0 < q ∧ s = q * q := ⟨Real.sqrt s, Real.sqrt_pos.mpr hs, (Real.mul_self_sqrt hs.le).symm⟩
    have hr : Ideal.rsqrt ((q * q : ℝ) : EReal) = ((q⁻¹ : ℝ) : EReal) := by
      rw [Ideal.rsqrt_coe, if_neg (by linarith), if_neg hs.ne', Real.sqrt_mul_self hq.le]
    refine ⟨q⁻¹, by positivity, by rw [h, hr], ?_⟩
    rw [h, hr, div_real _ _ hs.ne']
    exact congrArg _ (by field_simp)

theorem mul_sum {n : ℕ} (r : ℝ) (hr : 0 ≤ r) (f : Fin n → EReal) : ∑ k, f k * (r : EReal) = (∑ k, f k) * (r : EReal) := by
  induction n with
  | zero => simp
  | succ n ih =>
    rw [Fin.sum_univ_succ, Fin.sum_univ_succ, ih, EReal.right_distrib_of_nonneg_of_ne_top (by exact_mod_cast hr) (EReal.coe_ne_top r)]

theorem grad_eq (x d : Fin 2048 → EReal) (y : EReal) (l : Fin 2048) :
    y + d l * Ideal.rsqrt (level x) + x l * back x d + back x d * x l = grad x d y l := by
  obtain ⟨r, hr, h1, h2⟩ := root x
  unfold grad back
  rw [h2, h1, ofBits_len, ofBits_neg_half, Ideal.div_coe (by norm_num), Ideal.div_coe (by norm_num)]
  have hS : ∑ k, d k * (x k * (r : EReal)) = (∑ k, x k * d k) * (r : EReal) := by
    rw [← mul_sum r hr]
    exact Finset.sum_congr rfl fun k _ => by rw [mul_comm (x k) (d k), mul_assoc]
  rw [hS]
  generalize (∑ k, x k * d k) = S
  have hq : (0 : ℝ) ≤ r * r * r / 4096 := by positivity
  have e1 : S * (((-(1 / 2) : ℝ) : EReal) * ((r * r * r : ℝ) : EReal)) * ((1 / 2048 : ℝ) : EReal) = -S * ((r * r * r / 4096 : ℝ) : EReal) := by
    rw [mul_assoc, ← EReal.coe_mul, ← EReal.coe_mul, neg_mul S, ← mul_neg, ← EReal.coe_neg]
    exact congrArg (S * ·) (congrArg _ (by ring))
  have e2 : x l * (r : EReal) * (S * (r : EReal) * ((1 / 2048 : ℝ) : EReal)) = x l * S * ((r * r / 2048 : ℝ) : EReal) := by
    rw [show (r * r / 2048 : ℝ) = r * (r * (1 / 2048)) by ring, EReal.coe_mul, EReal.coe_mul]
    ac_rfl
  rw [e1, e2, sub_eq_add_neg, EReal.left_distrib_of_nonneg_of_ne_top (by exact_mod_cast hr) (EReal.coe_ne_top r), add_assoc, add_assoc]
  refine congrArg (y + ·) ?_
  rw [mul_comm (d l)]
  refine congrArg ((r : EReal) * d l + ·) ?_
  rw [mul_comm (-S * _) (x l), ← mul_assoc (x l), ← EReal.left_distrib_of_nonneg (by exact_mod_cast hq) (by exact_mod_cast hq), ← EReal.coe_add,
    mul_neg, neg_mul, mul_neg, mul_comm (r : EReal), mul_assoc (x l * S), ← EReal.coe_mul]
  exact congrArg (fun u : ℝ => -(x l * S * (u : EReal))) (by ring)

end Cert.Norm

end
-- ==== Proof.Norm.Gradient.lean ====
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ReadBack
public import proofs.«01_k».proof.Proof.Norm.Spec

/-! The norm's gradient: eight tiles of 512 rows, the weight's gradient summed over them. -/

@[expose] public section

set_option maxRecDepth 16384

noncomputable section

namespace Cert.NormBwd

open Idealize.ShloMosaic Idealize.ShloMosaic.TcCoe Idealize.ShloMosaic.Pointwise Idealize.ShloMosaic.StableHlo Idealize.SL.Sem Cert.Norm
open Idealize.ShloMosaic.Pipeline (Dat)

/-- The input's gradient, for the input `x`, the weight `w`, the result's cotangent `d` and the residual's `y`. -/
def valueX (x : Cert.Kernel15Ideal.S4096x2048.Idx → EReal) (w : Cert.Kernel15Ideal.S1x2048.Idx → EReal)
    (d y : Cert.Kernel15Ideal.S4096x2048.Idx → EReal) (i : Cert.Kernel15Ideal.S4096x2048.Idx) : EReal :=
  grad (fun k => x (ix2 (i 0) k)) (fun k => d (ix2 (i 0) k) * w (ix2 0 k)) (y i) (i 1)

/-- The weight's gradient. -/
def valueW (x d : Cert.Kernel15Ideal.S4096x2048.Idx → EReal) (i : Cert.Kernel15Ideal.S1x2048.Idx) : EReal :=
  ∑ t : Fin 4096, d (ix2 t (i 1)) * (x (ix2 t (i 1)) * Ideal.rsqrt (level fun k => x (ix2 t k)))

section Kernel

open Cert.Kernel15Ideal Cert.Kernel15Ideal.Gen

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

section
variable (x d y : Vec Ideal S512x2048 .f32) (w acc : Vec Ideal S1x2048 .f32)

theorem pay4_at (i : S512x2048.Idx) : k0_pay4 (F := Ideal) x d w y i
    = grad (fun k => x (ix2 (i 0) k)) (fun k => d (ix2 (i 0) k) * w (ix2 0 k)) (y i) (i 1) := by
  obtain ⟨a, b, rfl⟩ : ∃ (a : Fin 512) (b : Fin 2048), i = ix2 a b := ⟨_, _, eq_ix2 i⟩
  pointwise [k0_pay4, k0_pay3, k0_pay2]
  rfl

theorem pay5_at (i : S512x2048.Idx) : k0_pay5 (F := Ideal) x d w y i = k0_pay4 (F := Ideal) x d w y i := by
  pointwise [k0_pay5]

theorem pay6_at (i : S1x2048.Idx) : k0_pay6 (F := Ideal) x d i
    = ∑ r : Fin 512, d (ix2 r (i 1)) * (x (ix2 r (i 1)) * Ideal.rsqrt (level fun k => x (ix2 r k))) := by
  pointwise [k0_pay6, k0_pay3, k0_pay2]
  rfl

theorem pay1_at (v : FVec Ideal S1x2048 .f32) (i : S1x2048.Idx) : k0_pay1 (F := Ideal) v acc i = acc i + v i := by
  pointwise [k0_pay1]

end

variable (m : (ℓ : Loc nD τ sig) → Buf (Elt Ideal) ℓ) (c : Dev nD)

/-- A grid point's rows of the input's gradient. -/
theorem tile (t : Fin cfg0.N) : (outsAt0 m c t.val t.isLt).1 = k0_pay4 (F := Ideal) (iblk m c 0 t) (iblk m c 2 t) (iblk m c 1 t) (iblk m c 3 t)
    ∧ (outsAt0 m c t.val t.isLt).2.1 = k0_pay5 (F := Ideal) (iblk m c 0 t) (iblk m c 2 t) (iblk m c 1 t) (iblk m c 3 t) := by
  have ht : t.val < 8 := t.isLt
  by_cases h : t.val % 8 = 0
  · rw [outsAt0_A m c t h (by omega)]
    constructor <;> (funext y; frame_out)
  · rw [outsAt0_B m c t h (by omega)]
    constructor <;> (funext y; frame_out)

/-- What grid point `t` adds to the weight's gradient. -/
def part (t : Fin cfg0.N) (j : S1x2048.Idx) : EReal := k0_pay6 (F := Ideal) (iblk m c 0 t) (iblk m c 2 t) j

theorem acc_reset (t : Fin cfg0.N) (h : t.val % 8 = 0) (j : S1x2048.Idx) :
    (outsAt0 m c t.val t.isLt).2.2 j = (0 : EReal) + part m c t j := by
  have ht : t.val < 8 := t.isLt
  rw [outsAt0_A m c t h (by omega), zero_add]
  frame_out
  rfl

theorem acc_step (t : Fin cfg0.N) (h : ¬t.val % 8 = 0) (j : S1x2048.Idx) :
    (outsAt0 m c t.val t.isLt).2.2 j
      = (outsAt0 m c (t.val - 1) (Nat.lt_of_le_of_lt (Nat.sub_le _ _) t.isLt)).2.2 j + part m c t j := by
  rw [outsAt0_B m c t h (by omega)]
  frame_out
  exact pay1_at _ _ _

/-- The input's gradient off the arguments, at a grid point's row. -/
theorem tile_at (t : Fin cfg0.N) (j : S512x2048.Idx) (i : S4096x2048.Idx) (h0 : (i 0).val = t.val * 512 + (j 0).val) (h1 : (i 1).val = (j 1).val) :
    k0_pay4 (F := Ideal) (iblk m c 0 t) (iblk m c 2 t) (iblk m c 1 t) (iblk m c 3 t) j
      = valueX (m ((c : Thread nD τ).loc main_arg0)) (m ((c : Thread nD τ).loc main_arg1)) (m ((c : Thread nD τ).loc main_arg2))
        (m ((c : Thread nD τ).loc main_arg3)) i := by
  have e1 : j 1 = i 1 := Fin.ext h1.symm
  rw [pay4_at, valueX, e1]
  congr 1
  · funext k
    blk_point [iblk, V, idx t]
  · funext k
    blk_point [iblk, V, idx t]
  · blk_point [iblk, V, idx t]

theorem arr4 : (dats m 0 c).arrAt 4 cfg0.N = valueX (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4, (tile m c t).1]
  exact tile_at m c t y _ (by blk_simp [idx t]) (by blk_simp [idx t])

theorem arr5 : (dats m 0 c).arrAt 5 cfg0.N = valueX (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5, (tile m c t).2, pay5_at]
  exact tile_at m c t y _ (by blk_simp [idx t]) (by blk_simp [idx t])

theorem arr6 : (dats m 0 c).arrAt 6 cfg0.N = valueW (m ((c : Thread nD τ).loc main_arg0)) (m ((c : Thread nD τ).loc main_arg2)) := by
  refine (dats m 0 c).arrAt_eq_of_covers 6 _ (by decide +kernel) fun t hf y => ?_
  have hl := (flush0_6 t).mp hf
  blk_simp
  rw [after0_6, Pipeline.eq_sum_fin_of_reset_step_apply_of_flush (fun n h => (outsAt0 m c n h).2.2) 8
    (fun _ => 0) (part m c) (acc_reset m c) (acc_step m c) t hl _, zero_add]
  unfold valueW part
  simp only [pay6_at]
  refine Fin.sum_mul_add_congr fun s k hl' => ?_
  have ht : t.val < 8 := t.isLt
  congr 1
  · blk_point [iblk, V, idx t, idx ⟨_, Pipeline.run_point_lt_of_flush t hl s⟩]
  congr 1
  · blk_point [iblk, V, idx t, idx ⟨_, Pipeline.run_point_lt_of_flush t hl s⟩]
  congr 2
  funext k'
  blk_point [iblk, V, idx t, idx ⟨_, Pipeline.run_point_lt_of_flush t hl s⟩]

end Kernel

section Reference

open Cert.Reference15Ideal Cert.Reference15Ideal.Gen Cert.Reference15Ideal.Read

variable (x : (⟨S4096x2048, .f32⟩ : BufTy).Contents (Elt Ideal)) (w : (⟨S1x2048, .f32⟩ : BufTy).Contents (Elt Ideal))
  (d y : (⟨S4096x2048, .f32⟩ : BufTy).Contents (Elt Ideal))

theorem dx_at (i : S4096x2048.Idx) : val_main_v34 (F := Ideal) x w d y i = valueX x w d y i := by
  rw [eq_ix2 i]
  refine Eq.trans ?_ (grad_eq _ _ _ _)
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v10, val_main_v9,
    val_main_v8, val_main_v7, val_main_v6, val_main_v5, val_main_v4, val_main_v3, val_main_v2, val_main_v1, val_main_v0,
    val_main_cst, val_main_cst_0, val_main_cst_1, val_main_cst_2, val_main_cst_4, val_main_cst_5, val_main_cst_6]
  simp only [Finset.univ_unique, Finset.sum_singleton]
  rfl

theorem half_at (i : S4096x2048.Idx) : val_main_v35 (F := Ideal) x w d y i = valueX x w d y i := by
  refine Eq.trans ?_ (dx_at x w d y i)
  pointwise [val_main_v35]

theorem dw_at (i : S1x2048.Idx) : val_main_v17 (F := Ideal) x d i = valueW x d i := by
  pointwise [val_main_v17, val_main_v16, val_main_v15, val_main_v12, val_main_v11, val_main_v7, val_main_v6, val_main_v5, val_main_v4, val_main_v3,
    val_main_v2, val_main_v1, val_main_v0, val_main_cst, val_main_cst_0, val_main_cst_1, val_main_cst_3]
  exact Fin.sum_fin_congr fun t => mul_comm _ _

end Reference

section Claims

theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem algebraic : Cert.algebraic_Kernel15Ideal_Reference15Ideal := by
  intro m ρ m' ρ' _ hag
  refine ⟨_, _, _, (θ_run Cert.Kernel15Ideal.defs _ _).mono
    (fun r h c => ⟨(h c).1.trans (arr4 m c), (h c).2.1.trans (arr5 m c), (h c).2.2.1.trans (arr6 m c), (h c).2.2.2⟩)
    (Cert.Kernel15Ideal.Value.run_blocks m ρ), ?_⟩
  refine (θ_run Cert.Reference15Ideal.defs _ _).mono (fun r h c => ?_) (Cert.Reference15Ideal.Value.run m' ρ')
  obtain ⟨a0, a1, a2, a3⟩ := hag c
  refine ⟨(h c).1.trans ?_, (h c).2.1.trans ?_, (h c).2.2.1.trans ?_, (h c).2.2.2⟩
  · refine (Cert.Reference15Ideal.Read.val_main_v34_eq _ _ _ _).trans (funext fun i => ?_)
    rw [a0, a1, a2, a3]
    exact dx_at _ _ _ _ i
  · refine (Cert.Reference15Ideal.Read.val_main_v35_eq _ _ _ _).trans (funext fun i => ?_)
    rw [a0, a1, a2, a3]
    exact half_at _ _ _ _ i
  · refine (Cert.Reference15Ideal.Read.val_main_v17_eq _ _).trans (funext fun i => ?_)
    rw [a0, a2]
    exact dw_at _ _ i

end Claims

end Cert.NormBwd

end
-- ==== Proof.Norm.Forward.lean ====
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ReadBack
public import proofs.«01_k».proof.Proof.Norm.Spec

/-! The norm: eight tiles of 512 rows, each also stored transposed. -/

@[expose] public section

set_option maxRecDepth 16384

noncomputable section

namespace Cert.NormFwd

open Idealize.ShloMosaic Idealize.ShloMosaic.TcCoe Idealize.ShloMosaic.Pointwise Idealize.ShloMosaic.StableHlo Idealize.SL.Sem Cert.Norm
open Idealize.ShloMosaic.Pipeline (Dat)

/-- Row `a` of the input `x`, normalised and times the weight `w`, at column `b`. -/
def norm (x : Cert.Kernel16Ideal.S4096x2048.Idx → EReal) (w : Cert.Kernel16Ideal.S1x2048.Idx → EReal) (a : Fin 4096) (b : Fin 2048) : EReal :=
  x (ix2 a b) * Ideal.rsqrt (level fun k => x (ix2 a k)) * w (ix2 0 b)

section Kernel

open Cert.Kernel16Ideal Cert.Kernel16Ideal.Gen

theorem idx : ∀ t : Fin cfg0.N, win0_0.index t = ![t.val, 0] ∧ win0_1.index t = ![0, 0] ∧ win0_2.index t = ![t.val, 0] ∧ win0_3.index t = ![0, t.val] :=
  (by decide +kernel : ∀ t : Fin grid0.N, _)

variable (m : (ℓ : Loc nD τ sig) → Buf (Elt Ideal) ℓ) (c : Dev nD)

/-- The row of the array that a tile's row is. -/
def row (t : Fin cfg0.N) (r : Fin 512) : Fin 4096 := ⟨t.val * 512 + r.val, by have : t.val < 8 := t.isLt; omega⟩

theorem pay1_at (t : Fin cfg0.N) (r : Fin 512) (b : Fin 2048) : k0_pay1 (F := Ideal) (iblk m c 0 t) (iblk m c 1 t) (ix2 r b)
    = norm (m ((c : Thread nD τ).loc main_arg0)) (m ((c : Thread nD τ).loc main_arg1)) (row t r) b := by
  have hx : ∀ k : Fin 2048, iblk m c 0 t (ix2 r k) = m ((c : Thread nD τ).loc main_arg0) (ix2 (row t r) k) := fun k => by
    blk_point [iblk, V, idx t, row]
  have hw : iblk m c 1 t (ix2 0 b) = m ((c : Thread nD τ).loc main_arg1) (ix2 0 b) := by
    blk_point [iblk, V, idx t]
  unfold norm level
  simp only [← hx, ← hw]
  pointwise [k0_pay1]

theorem tile (t : Fin cfg0.N) (y : S512x2048.Idx) : out0_2 (F := Ideal) (iblk m c 0 t) (iblk m c 1 t) y
    = norm (m ((c : Thread nD τ).loc main_arg0)) (m ((c : Thread nD τ).loc main_arg1)) (row t (y 0)) (y 1) := by
  obtain ⟨r, b, rfl⟩ : ∃ (r : Fin 512) (b : Fin 2048), y = ix2 r b := ⟨_, _, eq_ix2 y⟩
  refine Eq.trans ?_ (pay1_at m c t r b)
  frame_out
  pointwise [k0_pay2]

theorem tile_t (t : Fin cfg0.N) (y : S2048x512.Idx) : out0_3 (F := Ideal) (iblk m c 0 t) (iblk m c 1 t) y
    = norm (m ((c : Thread nD τ).loc main_arg0)) (m ((c : Thread nD τ).loc main_arg1)) (row t (y 1)) (y 0) := by
  obtain ⟨b, r, rfl⟩ : ∃ (b : Fin 2048) (r : Fin 512), y = ix2 b r := ⟨_, _, eq_ix2 y⟩
  refine Eq.trans ?_ (pay1_at m c t r b)
  frame_out
  pointwise [k0_pay3]

theorem arr2 : (dats m 0 c).arrAt 2 cfg0.N
    = fun i : S4096x2048.Idx => norm (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (tile m c t y).trans (congrArg₂ (norm _ _) (Fin.ext ?_) (Fin.ext ?_)) <;> blk_simp [idx t, row]

theorem arr3 : (dats m 0 c).arrAt 3 cfg0.N
    = fun i : S2048x4096.Idx => norm (m ((c : Thread nD τ).loc main_arg0)) (m ((c : Thread nD τ).loc main_arg1)) (i 1) (i 0) := by
  refine (dats m 0 c).arrAt_eq_of_covers 3 _ (by decide +kernel) fun t hf y => ?_
  blk_simp
  rw [after0_3]
  refine (tile_t m c t y).trans (congrArg₂ (norm _ _) (Fin.ext ?_) (Fin.ext ?_)) <;> blk_simp [idx t, row]

end Kernel

section Reference

open Cert.Reference16Ideal Cert.Reference16Ideal.Gen Cert.Reference16Ideal.Read

variable (x : (⟨S4096x2048, .f32⟩ : BufTy).Contents (Elt Ideal)) (w : (⟨S1x2048, .f32⟩ : BufTy).Contents (Elt Ideal))

theorem all_at (a : Fin 4096) (b : Fin 2048) : val_main_v11 (F := Ideal) x w (ix2 a b) = norm x w a b := by
  pointwise [val_main_v11, val_main_v10, val_main_v9, val_main_v8, val_main_v7, val_main_v6, val_main_v5, val_main_v4, val_main_v3, val_main_v2,
    val_main_v1, val_main_v0, val_main_cst, val_main_cst_0, val_main_cst_1]
  rfl

theorem h_at (i : S4096x2048.Idx) : val_main_v12 (F := Ideal) x w i = norm x w (i 0) (i 1) := by
  obtain ⟨a, b, rfl⟩ : ∃ (a : Fin 4096) (b : Fin 2048), i = ix2 a b := ⟨_, _, eq_ix2 i⟩
  refine Eq.trans ?_ (all_at x w a b)
  pointwise [val_main_v12]

theorem ht_at (i : S2048x4096.Idx) : val_main_v14 (F := Ideal) x w i = norm x w (i 1) (i 0) := by
  obtain ⟨b, a, rfl⟩ : ∃ (b : Fin 2048) (a : Fin 4096), i = ix2 b a := ⟨_, _, eq_ix2 i⟩
  refine Eq.trans ?_ (all_at x w a b)
  pointwise [val_main_v14, val_main_v13]

end Reference

section Claims

theorem frame_reference : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)

theorem algebraic : Cert.algebraic_Kernel16Ideal_Reference16Ideal := by
  intro m ρ m' ρ' _ hag
  refine ⟨_, _, (θ_run Cert.Kernel16Ideal.defs _ _).mono
    (fun r h c => ⟨(h c).1.trans (arr2 m c), (h c).2.1.trans (arr3 m c), (h c).2.2⟩) (Cert.Kernel16Ideal.Value.run_blocks m ρ), ?_⟩
  refine (θ_run Cert.Reference16Ideal.defs _ _).mono (fun r h c => ?_) (Cert.Reference16Ideal.Value.run m' ρ')
  obtain ⟨a0, a1⟩ := hag c
  refine ⟨(h c).1.trans ?_, (h c).2.1.trans ?_, (h c).2.2⟩
  · refine (Cert.Reference16Ideal.Read.val_main_v12_eq _ _).trans (funext fun i => ?_)
    rw [a0, a1]
    exact h_at _ _ i
  · refine (Cert.Reference16Ideal.Read.val_main_v14_eq _ _).trans (funext fun i => ?_)
    rw [a0, a1]
    exact ht_at _ _ i

end Claims

end Cert.NormFwd

end
-- ==== Proof.Norm.Loss.lean ====
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pipeline.ReadBack
public import proofs.«01_k».proof.Proof.Norm.Spec

/-! The loss and its gradients: eight tiles of 512 rows, the loss and the weight's gradient summed over them. -/

@[expose] public section

set_option maxRecDepth 16384

noncomputable section

namespace Cert.LossHead

open Idealize.ShloMosaic Idealize.ShloMosaic.TcCoe Idealize.ShloMosaic.Pointwise Idealize.ShloMosaic.StableHlo Idealize.SL.Sem Cert.Norm
open Idealize.ShloMosaic.Pipeline (Dat)

/-- The error at column `k` of a row `x`, for the weight `w` and the target `g`. -/
def err (x w g : Fin 2048 → EReal) (k : Fin 2048) : EReal := x k * Ideal.rsqrt (level x) * w k - g k

/-- The cotangent of the norm's result. -/
def dy (x w g : Fin 2048 → EReal) (k : Fin 2048) : EReal := err x w g k * Ideal.ofBits .f32 0x3A000000#32

/-- A row's part of the loss. -/
def half (x w g : Fin 2048 → EReal) : EReal :=
  Ideal.div (∑ k, err x w g k * err x w g k) (Ideal.ofBits .f32 0x45000000#32) * Ideal.ofBits .f32 0x3F000000#32

variable (x : Cert.Kernel17Ideal.S4096x2048.Idx → EReal) (w : Cert.Kernel17Ideal.S1x2048.Idx → EReal) (g : Cert.Kernel17Ideal.S4096x2048.Idx → EReal)

def loss (_ : Cert.Kernel17Ideal.S1x128.Idx) : EReal :=
  ∑ t : Fin 4096, half (fun k => x (ix2 t k)) (fun k => w (ix2 0 k)) (fun k => g (ix2 t k))

/-- The input's gradient. -/
def valueX (i : Cert.Kernel17Ideal.S4096x2048.Idx) : EReal :=
  grad (fun k => x (ix2 (i 0) k)) (fun k => dy (fun k => x (ix2 (i 0) k)) (fun k => w (ix2 0 k)) (fun k => g (ix2 (i 0) k)) k * w (ix2 0 k)) 0 (i 1)

/-- The weight's gradient. -/
def valueW (i : Cert.Kernel17Ideal.S1x2048.Idx) : EReal :=
  ∑ t : Fin 4096, dy (fun k => x (ix2 t k)) (fun k => w (ix2 0 k)) (fun k => g (ix2 t k)) (i 1)
    * (x (ix2 t (i 1)) * Ideal.rsqrt (level fun k => x (ix2 t k)))

section Kernel

open Cert.Kernel17Ideal Cert.Kernel17Ideal.Gen

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

section
variable (x g : Vec Ideal S512x2048 .f32) (w : Vec Ideal S1x2048 .f32)

theorem pay11_at (i : S512x2048.Idx) : k0_pay11 (F := Ideal) x w g w i
    = grad (fun k => x (ix2 (i 0) k)) (fun k => dy (fun k => x (ix2 (i 0) k)) (fun k => w (ix2 0 k)) (fun k => g (ix2 (i 0) k)) k * w (ix2 0 k)) 0 (i 1) := by
  obtain ⟨a, b, rfl⟩ : ∃ (a : Fin 512) (b : Fin 2048), i = ix2 a b := ⟨_, _, eq_ix2 i⟩
  unfold grad
  rw [zero_add]
  pointwise [k0_pay11, k0_pay10, k0_pay8, k0_pay7, k0_pay6]
  rfl

/-- A tile's part of the weight's gradient. -/
theorem pay2_at (i : S1x2048.Idx) : k0_pay2 (F := Ideal) (k0_pay7 (F := Ideal) x) (k0_pay10 (F := Ideal) x w g) i
    = ∑ r : Fin 512, dy (fun k => x (ix2 r k)) (fun k => w (ix2 0 k)) (fun k => g (ix2 r k)) (i 1)
      * (x (ix2 r (i 1)) * Ideal.rsqrt (level fun k => x (ix2 r k))) := by
  pointwise [k0_pay2, k0_pay10, k0_pay8, k0_pay7, k0_pay6]
  rfl

theorem half_real : ∃ r : ℝ, 0 ≤ r ∧ Ideal.ofBits .f32 0x3F000000#32 = (r : EReal) :=
  ⟨1 / 2, by norm_num, by simp [Ideal.ofBits, Ideal.ieee, -EReal.coe_mul]; norm_num⟩

/-- A tile's part of the loss. -/
theorem pay3_at (i : S1x128.Idx) : k0_pay3 (F := Ideal) (k0_pay9 (F := Ideal) x w g) i
    = ∑ r : Fin 512, half (fun k => x (ix2 r k)) (fun k => w (ix2 0 k)) (fun k => g (ix2 r k)) := by
  obtain ⟨q, hq, hh⟩ := half_real
  unfold half
  rw [hh, mul_sum q hq, mul_comm, ← hh]
  obtain ⟨a, b, rfl⟩ : ∃ (a : Fin 1) (b : Fin 128), i = ix2 a b := ⟨_, _, eq_ix2 i⟩
  pointwise [k0_pay3, k0_pay9, k0_pay8, k0_pay7, k0_pay6]
  rfl

end

variable (m : (ℓ : Loc nD τ sig) → Buf (Elt Ideal) ℓ) (c : Dev nD)

theorem tile (t : Fin cfg0.N) : (outsAt0 m c t.val t.isLt).2.1 = k0_pay11 (F := Ideal) (iblk m c 0 t) (iblk m c 1 t) (iblk m c 2 t) (iblk m c 1 t)
    ∧ (outsAt0 m c t.val t.isLt).2.2.1 = k0_pay1 (F := Ideal) (k0_pay11 (F := Ideal) (iblk m c 0 t) (iblk m c 1 t) (iblk m c 2 t) (iblk m c 1 t)) := by
  have ht : t.val < 8 := t.isLt
  by_cases h : t.val % 8 = 0
  · rw [outsAt0_A m c t h (by omega)]
    constructor <;> (funext y; frame_out)
  · rw [outsAt0_B m c t h (by omega)]
    constructor <;> (funext y; frame_out)

/-- What grid point `t` adds to the weight's gradient. -/
def partW (t : Fin cfg0.N) (j : S1x2048.Idx) : EReal :=
  k0_pay2 (F := Ideal) (k0_pay7 (F := Ideal) (iblk m c 0 t)) (k0_pay10 (F := Ideal) (iblk m c 0 t) (iblk m c 1 t) (iblk m c 2 t)) j

/-- What it adds to the loss. -/
def partL (t : Fin cfg0.N) (j : S1x128.Idx) : EReal := k0_pay3 (F := Ideal) (k0_pay9 (F := Ideal) (iblk m c 0 t) (iblk m c 1 t) (iblk m c 2 t)) j

theorem reset (t : Fin cfg0.N) (h : t.val % 8 = 0) : (∀ j, (outsAt0 m c t.val t.isLt).1 j = (0 : EReal) + partL m c t j)
    ∧ ∀ j, (outsAt0 m c t.val t.isLt).2.2.2 j = (0 : EReal) + partW m c t j := by
  have ht : t.val < 8 := t.isLt
  rw [outsAt0_A m c t h (by omega)]
  constructor <;> (intro j; rw [zero_add]; frame_out; rfl)

theorem step (t : Fin cfg0.N) (h : ¬t.val % 8 = 0) :
    (∀ j, (outsAt0 m c t.val t.isLt).1 j = (outsAt0 m c (t.val - 1) (Nat.lt_of_le_of_lt (Nat.sub_le _ _) t.isLt)).1 j + partL m c t j)
    ∧ ∀ j, (outsAt0 m c t.val t.isLt).2.2.2 j = (outsAt0 m c (t.val - 1) (Nat.lt_of_le_of_lt (Nat.sub_le _ _) t.isLt)).2.2.2 j + partW m c t j := by
  rw [outsAt0_B m c t h (by omega)]
  constructor
  · intro j
    frame_out
    pointwise [k0_pay5]
    rfl
  · intro j
    frame_out
    pointwise [k0_pay4]
    rfl

theorem pay1_at (v : FVec Ideal S512x2048 .f32) (i : S512x2048.Idx) : k0_pay1 (F := Ideal) v i = v i := by
  pointwise [k0_pay1]

theorem tile_at (t : Fin cfg0.N) (j : S512x2048.Idx) (i : S4096x2048.Idx) (h0 : (i 0).val = t.val * 512 + (j 0).val) (h1 : (i 1).val = (j 1).val) :
    k0_pay11 (F := Ideal) (iblk m c 0 t) (iblk m c 1 t) (iblk m c 2 t) (iblk m c 1 t) j
      = valueX (m ((c : Thread nD τ).loc main_arg0)) (m ((c : Thread nD τ).loc main_arg1)) (m ((c : Thread nD τ).loc main_arg2)) i := by
  have e1 : j 1 = i 1 := Fin.ext h1.symm
  have hx : (fun k => iblk m c 0 t (ix2 (j 0) k)) = fun k => m ((c : Thread nD τ).loc main_arg0) (ix2 (i 0) k) := by
    funext k
    blk_point [iblk, V, idx t]
  have hw : (fun k => iblk m c 1 t (ix2 0 k)) = fun k => m ((c : Thread nD τ).loc main_arg1) (ix2 0 k) := by
    funext k
    blk_point [iblk, V, idx t]
  have hg : (fun k => iblk m c 2 t (ix2 (j 0) k)) = fun k => m ((c : Thread nD τ).loc main_arg2) (ix2 (i 0) k) := by
    funext k
    blk_point [iblk, V, idx t]
  rw [pay11_at, valueX, e1, hx, hw, hg]
  congr 1
  funext k
  exact congrArg (dy _ _ _ k * ·) (congrFun hw k)

theorem arr4 : (dats m 0 c).arrAt 4 cfg0.N = valueX (m ((c : Thread nD τ).loc main_arg0)) (m ((c : Thread nD τ).loc main_arg1))
    (m ((c : Thread nD τ).loc main_arg2)) := by
  refine (dats m 0 c).arrAt_eq_of_covers 4 _ (by decide +kernel) fun t hf y => ?_
  blk_simp
  rw [after0_4, (tile m c t).1]
  exact tile_at m c t y _ (by blk_simp [idx t]) (by blk_simp [idx t])

theorem arr5 : (dats m 0 c).arrAt 5 cfg0.N = valueX (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp
  rw [after0_5, (tile m c t).2, pay1_at]
  exact tile_at m c t y _ (by blk_simp [idx t]) (by blk_simp [idx t])

theorem arr3 : (dats m 0 c).arrAt 3 cfg0.N = loss (m ((c : Thread nD τ).loc main_arg0)) (m ((c : Thread nD τ).loc main_arg1))
    (m ((c : Thread nD τ).loc main_arg2)) := by
  refine (dats m 0 c).arrAt_eq_of_covers 3 _ (by decide +kernel) fun t hf y => ?_
  have hl := (flush0_3 t).mp hf
  blk_simp
  rw [after0_3, Pipeline.eq_sum_fin_of_reset_step_apply_of_flush (fun n h => (outsAt0 m c n h).1) 8
    (fun _ => 0) (partL m c) (fun t h j => (reset m c t h).1 j) (fun t h j => (step m c t h).1 j) t hl _, zero_add]
  unfold loss partL
  simp only [pay3_at]
  refine Fin.sum_mul_add_congr fun s k hl' => ?_
  have ht : t.val < 8 := t.isLt
  congr 1 <;>
  · funext k'
    blk_point [iblk, V, idx t, idx ⟨_, Pipeline.run_point_lt_of_flush t hl s⟩]

theorem arr6 : (dats m 0 c).arrAt 6 cfg0.N = valueW (m ((c : Thread nD τ).loc main_arg0)) (m ((c : Thread nD τ).loc main_arg1))
    (m ((c : Thread nD τ).loc main_arg2)) := by
  refine (dats m 0 c).arrAt_eq_of_covers 6 _ (by decide +kernel) fun t hf y => ?_
  have hl := (flush0_6 t).mp hf
  blk_simp
  rw [after0_6, Pipeline.eq_sum_fin_of_reset_step_apply_of_flush (fun n h => (outsAt0 m c n h).2.2.2) 8
    (fun _ => 0) (partW m c) (fun t h j => (reset m c t h).2 j) (fun t h j => (step m c t h).2 j) t hl _, zero_add]
  unfold valueW partW
  simp only [pay2_at]
  refine Fin.sum_mul_add_congr fun s k hl' => ?_
  have ht : t.val < 8 := t.isLt
  congr 1
  · congr 1
    · funext k'
      blk_point [iblk, V, idx t, idx ⟨_, Pipeline.run_point_lt_of_flush t hl s⟩]
    · funext k'
      blk_point [iblk, V, idx t, idx ⟨_, Pipeline.run_point_lt_of_flush t hl s⟩]
    · funext k'
      blk_point [iblk, V, idx t, idx ⟨_, Pipeline.run_point_lt_of_flush t hl s⟩]
    · refine Fin.ext ?_
      blk_simp [idx t]
  congr 1
  · blk_point [iblk, V, idx t, idx ⟨_, Pipeline.run_point_lt_of_flush t hl s⟩]
  congr 2
  funext k'
  blk_point [iblk, V, idx t, idx ⟨_, Pipeline.run_point_lt_of_flush t hl s⟩]

end Kernel

section Reference

open Cert.Reference17Ideal Cert.Reference17Ideal.Gen Cert.Reference17Ideal.Read

variable (x : (⟨S4096x2048, .f32⟩ : BufTy).Contents (Elt Ideal)) (w : (⟨S1x2048, .f32⟩ : BufTy).Contents (Elt Ideal))
  (g : (⟨S4096x2048, .f32⟩ : BufTy).Contents (Elt Ideal))

/-- The reference's factors of the error: half of one, over the width, times two. -/
theorem factor (e : EReal) : Ideal.div (Ideal.ofBits .f32 0x3F000000#32 * Ideal.ofBits .f32 0x3F800000#32) (Ideal.ofBits .f32 0x45000000#32)
    * (Ideal.ofBits .f32 0x40000000#32 * e) = e * Ideal.ofBits .f32 0x3A000000#32 := by
  have h1 : Ideal.ofBits .f32 0x3F000000#32 = ((1 / 2 : ℝ) : EReal) := by
    simp [Ideal.ofBits, Ideal.ieee, -EReal.coe_mul]; norm_num
  have h2 : Ideal.ofBits .f32 0x3F800000#32 = ((1 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A000000#32 = ((1 / 2048 : ℝ) : EReal) := by
    simp [Ideal.ofBits, Ideal.ieee, -EReal.coe_mul]; norm_num
  rw [h1, h2, h3, h4, ofBits_len, Ideal.div_coe (by norm_num), ← mul_assoc, ← EReal.coe_mul, ← EReal.coe_mul, ← EReal.coe_mul, mul_comm]
  exact congrArg (e * ·) (congrArg _ (by norm_num))

theorem dy_at (i : S4096x2048.Idx) : val_main_v29 (F := Ideal) x w g i
    = dy (fun k => x (ix2 (i 0) k)) (fun k => w (ix2 0 k)) (fun k => g (ix2 (i 0) k)) (i 1) := by
  obtain ⟨a, b, rfl⟩ : ∃ (a : Fin 4096) (b : Fin 2048), i = ix2 a b := ⟨_, _, eq_ix2 i⟩
  refine Eq.trans ?_ (factor _)
  pointwise [val_main_v29, val_main_v28, val_main_v27, val_main_v26, val_main_v25, val_main_v24, val_main_v18, val_main_v17, val_main_v15,
    val_main_v14, val_main_v13, val_main_v12, val_main_v11, val_main_v7, val_main_v6, val_main_v5, val_main_v4, val_main_v3, val_main_v2,
    val_main_v1, val_main_v0, val_main_cst, val_main_cst_0, val_main_cst_1, val_main_cst_3, val_main_cst_8, val_main_cst_9, val_main_cst_10]
  rfl

theorem dx_at (i : S4096x2048.Idx) : val_main_v48 (F := Ideal) x w g i = valueX x w g i := by
  rw [eq_ix2 i]
  refine Eq.trans ?_ (grad_eq _ _ _ _)
  rw [zero_add]
  pointwise [val_main_v48, val_main_v47, val_main_v46, val_main_v45, val_main_v44, val_main_v43, val_main_v42, val_main_v41, val_main_v40,
    val_main_v39, val_main_v38, val_main_v37, val_main_v36, val_main_v35, val_main_v34, val_main_v33, dy_at, val_main_v10, val_main_v9,
    val_main_v8, val_main_v7, val_main_v6, val_main_v5, val_main_v4, val_main_v3, val_main_v2, val_main_v1, val_main_v0,
    val_main_cst, val_main_cst_0, val_main_cst_1, val_main_cst_2, val_main_cst_12, val_main_cst_13, val_main_cst_14]
  simp only [Finset.univ_unique, Finset.sum_singleton]
  rfl

theorem dx_half_at (i : S4096x2048.Idx) : val_main_v50 (F := Ideal) x w g i = valueX x w g i := by
  refine Eq.trans ?_ (dx_at x w g i)
  pointwise [val_main_v50]

theorem dw_at (i : S1x2048.Idx) : val_main_v32 (F := Ideal) x w g i = valueW x w g i := by
  pointwise [val_main_v32, val_main_v31, val_main_v30, dy_at, val_main_v12, val_main_v11, val_main_v7, val_main_v6, val_main_v5, val_main_v4,
    val_main_v3, val_main_v2, val_main_v1, val_main_v0, val_main_cst, val_main_cst_0, val_main_cst_1, val_main_cst_11]
  exact Fin.sum_fin_congr fun t => mul_comm _ _

theorem loss_at (i : S1x128.Idx) : val_main_v49 (F := Ideal) x w g i = loss x w g i := by
  obtain ⟨q, hq, hh⟩ := half_real
  unfold loss half
  rw [hh, mul_sum q hq, mul_comm, ← hh]
  obtain ⟨a, b, rfl⟩ : ∃ (a : Fin 1) (b : Fin 128), i = ix2 a b := ⟨_, _, eq_ix2 i⟩
  pointwise [val_main_v49, val_main_v23, val_main_v22, val_main_v21, val_main_v20, val_main_v19, val_main_v16, val_main_v15,
    val_main_v14, val_main_v13, val_main_v12, val_main_v11, val_main_v7, val_main_v6, val_main_v5, val_main_v4, val_main_v3, val_main_v2,
    val_main_v1, val_main_v0, val_main_cst, val_main_cst_0, val_main_cst_1, val_main_cst_4, val_main_cst_5, val_main_cst_6, val_main_cst_7]
  rfl

end Reference

section Claims

theorem frame_reference : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

theorem algebraic : Cert.algebraic_Kernel17Ideal_Reference17Ideal := by
  intro m ρ m' ρ' _ hag
  refine ⟨_, _, _, _, (θ_run Cert.Kernel17Ideal.defs _ _).mono
    (fun r h c => ⟨(h c).1.trans (arr3 m c), (h c).2.1.trans (arr4 m c), (h c).2.2.1.trans (arr5 m c), (h c).2.2.2.1.trans (arr6 m c), (h c).2.2.2.2⟩)
    (Cert.Kernel17Ideal.Value.run_blocks m ρ), ?_⟩
  refine (θ_run Cert.Reference17Ideal.defs _ _).mono (fun r h c => ?_) (Cert.Reference17Ideal.Value.run m' ρ')
  obtain ⟨a0, a1, a2⟩ := hag c
  refine ⟨(h c).1.trans ?_, (h c).2.1.trans ?_, (h c).2.2.1.trans ?_, (h c).2.2.2.1.trans ?_, (h c).2.2.2.2⟩
  · refine (Cert.Reference17Ideal.Read.val_main_v49_eq _ _ _).trans (funext fun i => ?_)
    rw [a0, a1, a2]
    exact loss_at _ _ _ i
  · refine (Cert.Reference17Ideal.Read.val_main_v48_eq _ _).trans (funext fun i => ?_)
    rw [a0, a1, a2]
    exact dx_at _ _ _ i
  · refine (Cert.Reference17Ideal.Read.val_main_v50_eq _ _).trans (funext fun i => ?_)
    rw [a0, a1, a2]
    exact dx_half_at _ _ _ i
  · refine (Cert.Reference17Ideal.Read.val_main_v32_eq _ _ _).trans (funext fun i => ?_)
    rw [a0, a1, a2]
    exact dw_at _ _ _ i

end Claims

end Cert.LossHead

end
-- ==== Proof.Optimizer.Step.lean ====
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.ReadBack

/-! One step of AdamW on layer 0 of a weight, in six tiles of 128 rows; layer 1 of each result is the argument aliased to it. -/

@[expose] public section

set_option maxRecDepth 16384

noncomputable section

namespace Cert.Adamw

open Idealize.ShloMosaic Idealize.ShloMosaic.TcCoe Idealize.ShloMosaic.Pointwise Idealize.ShloMosaic.StableHlo Idealize.SL.Sem
open Idealize.ShloMosaic.Pipeline (Dat)

abbrev Words := Cert.Kernel18Ideal.S2x768x2048.Idx → EReal

/-- The gradient: the sum of the parts. -/
def grad (p : Cert.Kernel18Ideal.S4x768x2048.Idx → EReal) (a : Fin 768) (b : Fin 2048) : EReal := ∑ q : Fin 4, p (ix3 q a b)

def moment (g m : EReal) : EReal := Ideal.ofBits .f32 0x3F666666#32 * m + Ideal.ofBits .f32 0x3DCCCCCD#32 * g
def square (g v : EReal) : EReal := Ideal.ofBits .f32 0x3F7FBE77#32 * v + Ideal.ofBits .f32 0x3A83126F#32 * (g * g)
/-- The weight's change, for the weight `w` and the two new averages. -/
def delta (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

/-- A result: `f` on layer 0, the argument `old` on layer 1. -/
def layer (f : Fin 768 → Fin 2048 → EReal) (old : Words) (i : Cert.Kernel18Ideal.S2x768x2048.Idx) : EReal :=
  if (i 0).val = 0 then f (i 1) (i 2) else old i

variable (w x v : Words) (p : Cert.Kernel18Ideal.S4x768x2048.Idx → EReal)

def stepM (a : Fin 768) (b : Fin 2048) : EReal := moment (grad p a b) (x (ix3 0 a b))
def stepV (a : Fin 768) (b : Fin 2048) : EReal := square (grad p a b) (v (ix3 0 a b))
def stepD (a : Fin 768) (b : Fin 2048) : EReal := delta (w (ix3 0 a b)) (stepM x p a b) (stepV v p a b)

section Kernel

open Cert.Kernel18Ideal Cert.Kernel18Ideal.Gen

variable (m : (ℓ : Loc nD τ sig) → Buf (Elt Ideal) ℓ) (c : Dev nD)

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The parts' sum at a tile's row `r`. -/
def sum (t : Fin cfg0.N) (r : Fin 128) (b : Fin 2048) : EReal := ∑ q : Fin 4, iblk m c 0 t (ix3 q r b)

theorem tileG (t : Fin cfg0.N) (r : Fin 128) (b : Fin 2048) : (outsAt0 m c t).1 (ix3 0 r b) = sum m c t r b := by
  unfold outsAt0 sum
  frame_out
  rw [Fin.sum_univ_four]
  pointwise [k0_pay1, k0_pay5]

theorem tileM (t : Fin cfg0.N) (r : Fin 128) (b : Fin 2048) : (outsAt0 m c t).2.2.1 (ix3 0 r b) = moment (sum m c t r b) (iblk m c 2 t (ix3 0 r b)) := by
  unfold outsAt0 moment sum
  frame_out
  rw [Fin.sum_univ_four]
  pointwise [k0_pay3, k0_pay5, k0_pay7]

theorem tileV (t : Fin cfg0.N) (r : Fin 128) (b : Fin 2048) : (outsAt0 m c t).2.2.2 (ix3 0 r b) = square (sum m c t r b) (iblk m c 3 t (ix3 0 r b)) := by
  unfold outsAt0 square sum
  frame_out
  rw [Fin.sum_univ_four]
  pointwise [k0_pay4, k0_pay5, k0_pay8]

theorem tileD (t : Fin cfg0.N) (r : Fin 128) (b : Fin 2048) : (outsAt0 m c t).2.1 (ix3 0 r b)
    = delta (iblk m c 1 t (ix3 0 r b)) (moment (sum m c t r b) (iblk m c 2 t (ix3 0 r b))) (square (sum m c t r b) (iblk m c 3 t (ix3 0 r b))) := by
  unfold outsAt0 delta moment square sum
  frame_out
  rw [Fin.sum_univ_four]
  pointwise [k0_pay2, k0_pay5, k0_pay6, k0_pay7, k0_pay8, k0_pay9]

theorem kept4 : V m c main_v0_0 = m (c, Proc.devRef .tc main_arg4) := by
  unfold V
  rfl
theorem kept5 : V m c main_v0_1 = m (c, Proc.devRef .tc main_arg5) := by
  unfold V
  rfl
theorem kept6 : V m c main_v0_2 = m (c, Proc.devRef .tc main_arg6) := by
  unfold V
  rfl
theorem kept7 : V m c main_v0_3 = m (c, Proc.devRef .tc main_arg7) := by
  unfold V
  rfl

theorem first3 (y : S1x128x2048.Idx) : ∃ (r : Fin 128) (b : Fin 2048), y = ix3 0 r b :=
  ⟨y 1, y 2, (eq_ix3 y).trans (congrArg (fun a : Fin 1 => ix3 a (y 1) (y 2)) (Subsingleton.elim _ _))⟩

/-- The row of the array that a tile's row is. -/
def row (t : Fin cfg0.N) (r : Fin 128) : Fin 768 := ⟨t.val * 128 + r.val, by have : t.val < 6 := t.isLt; omega⟩

theorem sum_eq (t : Fin cfg0.N) (r : Fin 128) (b : Fin 2048) : sum m c t r b = grad (m ((c : Thread nD τ).loc main_arg0)) (row t r) b := by
  unfold sum grad
  refine Finset.sum_congr rfl fun q _ => ?_
  blk_point [iblk, V, idx t, row]

theorem w_eq (t : Fin cfg0.N) (r : Fin 128) (b : Fin 2048) : iblk m c 1 t (ix3 0 r b) = m ((c : Thread nD τ).loc main_arg1) (ix3 0 (row t r) b) := by
  blk_point [iblk, V, idx t, row]
theorem m_eq (t : Fin cfg0.N) (r : Fin 128) (b : Fin 2048) : iblk m c 2 t (ix3 0 r b) = m ((c : Thread nD τ).loc main_arg2) (ix3 0 (row t r) b) := by
  blk_point [iblk, V, idx t, row]
theorem v_eq (t : Fin cfg0.N) (r : Fin 128) (b : Fin 2048) : iblk m c 3 t (ix3 0 r b) = m ((c : Thread nD τ).loc main_arg3) (ix3 0 (row t r) b) := by
  blk_point [iblk, V, idx t, row]

theorem outG (t : Fin cfg0.N) (y : S1x128x2048.Idx) : (outsAt0 m c t).1 y = grad (m ((c : Thread nD τ).loc main_arg0)) (row t (y 1)) (y 2) := by
  obtain ⟨r, b, rfl⟩ := first3 y
  rw [tileG, sum_eq]
  rfl
theorem outM (t : Fin cfg0.N) (y : S1x128x2048.Idx) : (outsAt0 m c t).2.2.1 y
    = stepM (m ((c : Thread nD τ).loc main_arg2)) (m ((c : Thread nD τ).loc main_arg0)) (row t (y 1)) (y 2) := by
  obtain ⟨r, b, rfl⟩ := first3 y
  rw [tileM, sum_eq, m_eq]
  rfl
theorem outV (t : Fin cfg0.N) (y : S1x128x2048.Idx) : (outsAt0 m c t).2.2.2 y
    = stepV (m ((c : Thread nD τ).loc main_arg3)) (m ((c : Thread nD τ).loc main_arg0)) (row t (y 1)) (y 2) := by
  obtain ⟨r, b, rfl⟩ := first3 y
  rw [tileV, sum_eq, v_eq]
  rfl
theorem outD (t : Fin cfg0.N) (y : S1x128x2048.Idx) : (outsAt0 m c t).2.1 y
    = stepD (m ((c : Thread nD τ).loc main_arg1)) (m ((c : Thread nD τ).loc main_arg2)) (m ((c : Thread nD τ).loc main_arg3))
      (m ((c : Thread nD τ).loc main_arg0)) (row t (y 1)) (y 2) := by
  obtain ⟨r, b, rfl⟩ := first3 y
  rw [tileD, sum_eq, w_eq, m_eq, v_eq]
  rfl

theorem arr4 : (dats m 0 c).arrAt 4 cfg0.N
    = layer (grad (m ((c : Thread nD τ).loc main_arg0)))
      (m ((c : Thread nD τ).loc main_arg4)) := by
  funext i
  refine ((dats m 0 c).arrAt_apply_of_coversWhere 4 (fun i : S2x768x2048.Idx => grad (m ((c : Thread nD τ).loc main_arg0)) (i 1) (i 2))
    (P := fun i : S2x768x2048.Idx => (i 0).val = 0) (fun β => β (0 : Fin 3) = 0) (by decide +kernel) (fun t hf y => ?_)
    (fun j => by blk_simp [Pipeline.Window.cell_apply, Nat.div_one]) i).trans (if_congr Iff.rfl rfl (congrFun (kept4 m c) i))
  blk_simp
  rw [after0_4]
  refine (outG m c t y).trans (congrArg₂ (grad (m ((c : Thread nD τ).loc main_arg0))) (Fin.ext ?_) (Fin.ext ?_)) <;> blk_simp [idx t, row]

theorem arr5 : (dats m 0 c).arrAt 5 cfg0.N
    = layer (stepD (m ((c : Thread nD τ).loc main_arg1)) (m ((c : Thread nD τ).loc main_arg2)) (m ((c : Thread nD τ).loc main_arg3)) (m ((c : Thread nD τ).loc main_arg0)))
      (m ((c : Thread nD τ).loc main_arg5)) := by
  funext i
  refine ((dats m 0 c).arrAt_apply_of_coversWhere 5 (fun i : S2x768x2048.Idx => stepD (m ((c : Thread nD τ).loc main_arg1)) (m ((c : Thread nD τ).loc main_arg2)) (m ((c : Thread nD τ).loc main_arg3)) (m ((c : Thread nD τ).loc main_arg0)) (i 1) (i 2))
    (P := fun i : S2x768x2048.Idx => (i 0).val = 0) (fun β => β (0 : Fin 3) = 0) (by decide +kernel) (fun t hf y => ?_)
    (fun j => by blk_simp [Pipeline.Window.cell_apply, Nat.div_one]) i).trans (if_congr Iff.rfl rfl (congrFun (kept5 m c) i))
  blk_simp
  rw [after0_5]
  refine (outD m c t y).trans (congrArg₂ (stepD (m ((c : Thread nD τ).loc main_arg1)) (m ((c : Thread nD τ).loc main_arg2)) (m ((c : Thread nD τ).loc main_arg3)) (m ((c : Thread nD τ).loc main_arg0))) (Fin.ext ?_) (Fin.ext ?_)) <;> blk_simp [idx t, row]

theorem arr6 : (dats m 0 c).arrAt 6 cfg0.N
    = layer (stepM (m ((c : Thread nD τ).loc main_arg2)) (m ((c : Thread nD τ).loc main_arg0)))
      (m ((c : Thread nD τ).loc main_arg6)) := by
  funext i
  refine ((dats m 0 c).arrAt_apply_of_coversWhere 6 (fun i : S2x768x2048.Idx => stepM (m ((c : Thread nD τ).loc main_arg2)) (m ((c : Thread nD τ).loc main_arg0)) (i 1) (i 2))
    (P := fun i : S2x768x2048.Idx => (i 0).val = 0) (fun β => β (0 : Fin 3) = 0) (by decide +kernel) (fun t hf y => ?_)
    (fun j => by blk_simp [Pipeline.Window.cell_apply, Nat.div_one]) i).trans (if_congr Iff.rfl rfl (congrFun (kept6 m c) i))
  blk_simp
  rw [after0_6]
  refine (outM m c t y).trans (congrArg₂ (stepM (m ((c : Thread nD τ).loc main_arg2)) (m ((c : Thread nD τ).loc main_arg0))) (Fin.ext ?_) (Fin.ext ?_)) <;> blk_simp [idx t, row]

theorem arr7 : (dats m 0 c).arrAt 7 cfg0.N
    = layer (stepV (m ((c : Thread nD τ).loc main_arg3)) (m ((c : Thread nD τ).loc main_arg0)))
      (m ((c : Thread nD τ).loc main_arg7)) := by
  funext i
  refine ((dats m 0 c).arrAt_apply_of_coversWhere 7 (fun i : S2x768x2048.Idx => stepV (m ((c : Thread nD τ).loc main_arg3)) (m ((c : Thread nD τ).loc main_arg0)) (i 1) (i 2))
    (P := fun i : S2x768x2048.Idx => (i 0).val = 0) (fun β => β (0 : Fin 3) = 0) (by decide +kernel) (fun t hf y => ?_)
    (fun j => by blk_simp [Pipeline.Window.cell_apply, Nat.div_one]) i).trans (if_congr Iff.rfl rfl (congrFun (kept7 m c) i))
  blk_simp
  rw [after0_7]
  refine (outV m c t y).trans (congrArg₂ (stepV (m ((c : Thread nD τ).loc main_arg3)) (m ((c : Thread nD τ).loc main_arg0))) (Fin.ext ?_) (Fin.ext ?_)) <;> blk_simp [idx t, row]

end Kernel

section Reference

open Cert.Reference18Ideal Cert.Reference18Ideal.Gen Cert.Reference18Ideal.Read

theorem layers (i : S2x768x2048.Idx) : (∃ (a : Fin 768) (b : Fin 2048), i = ix3 0 a b) ∨ ∃ (a : Fin 768) (b : Fin 2048), i = ix3 1 a b := by
  obtain ⟨l, a, b, rfl⟩ : ∃ (l : Fin 2) (a : Fin 768) (b : Fin 2048), i = ix3 l a b := ⟨_, _, _, eq_ix3 i⟩
  match l with
  | 0 => exact .inl ⟨a, b, rfl⟩
  | 1 => exact .inr ⟨a, b, rfl⟩

variable (p : (⟨S4x768x2048, .bf16⟩ : BufTy).Contents (Elt Ideal)) (w x v old : (⟨S2x768x2048, .f32⟩ : BufTy).Contents (Elt Ideal))

theorem grad_at (i : S2x768x2048.Idx) : val_main_v34 (F := Ideal) p old i = layer (grad p) old i := by
  rcases layers i with ⟨a, b, rfl⟩ | ⟨a, b, rfl⟩
  · pointwise [val_main_v34, val_main_v33, val_main_v32, val_main_v1, val_main_v0, val_main_cst]
    rfl
  · pointwise [val_main_v34, val_main_v33]
    rfl

theorem delta_at (i : S2x768x2048.Idx) : val_main_v37 (F := Ideal) p w x v old i = layer (stepD w x v p) old i := by
  rcases layers i with ⟨a, b, rfl⟩ | ⟨a, b, rfl⟩
  · pointwise [val_main_v37, val_main_v36, val_main_v35, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
    rfl
  · pointwise [val_main_v37, val_main_v36]
    rfl

theorem m_at (i : S2x768x2048.Idx) : val_main_v40 (F := Ideal) p x old i = layer (stepM x p) old i := by
  rcases layers i with ⟨a, b, rfl⟩ | ⟨a, b, rfl⟩
  · pointwise [val_main_v40, val_main_v39, val_main_v38, val_main_v12, val_main_v11, val_main_v10, val_main_v9, val_main_v8, val_main_v5, val_main_v4, val_main_v1, val_main_v0, val_main_cst, val_main_cst_0, val_main_cst_1]
    rfl
  · pointwise [val_main_v40, val_main_v39]
    rfl

theorem v_at (i : S2x768x2048.Idx) : val_main_v43 (F := Ideal) p v old i = layer (stepV v p) old i := by
  rcases layers i with ⟨a, b, rfl⟩ | ⟨a, b, rfl⟩
  · pointwise [val_main_v43, val_main_v42, val_main_v41, val_main_v18, val_main_v17, val_main_v16, val_main_v15, val_main_v14, val_main_v13, val_main_v7, val_main_v6, val_main_v1, val_main_v0, val_main_cst, val_main_cst_2, val_main_cst_3]
    rfl
  · pointwise [val_main_v43, val_main_v42]
    rfl

end Reference

section Claims

theorem frame_reference : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

theorem algebraic : Cert.algebraic_Kernel18Ideal_Reference18Ideal := by
  intro m ρ m' ρ' _ hag
  refine ⟨_, _, _, _, (θ_run Cert.Kernel18Ideal.defs _ _).mono
    (fun r h c => ⟨(h c).1.trans (arr4 m c), (h c).2.1.trans (arr5 m c), (h c).2.2.1.trans (arr6 m c), (h c).2.2.2.1.trans (arr7 m c), (h c).2.2.2.2⟩)
    (Cert.Kernel18Ideal.Value.run_blocks m ρ), ?_⟩
  refine (θ_run Cert.Reference18Ideal.defs _ _).mono (fun r h c => ?_) (Cert.Reference18Ideal.Value.run m' ρ')
  obtain ⟨a0, a1, a2, a3, a4, a5, a6, a7⟩ := hag c
  refine ⟨(h c).1.trans ?_, (h c).2.1.trans ?_, (h c).2.2.1.trans ?_, (h c).2.2.2.1.trans ?_, (h c).2.2.2.2⟩
  · refine (Cert.Reference18Ideal.Read.val_main_v34_eq _ _).trans (funext fun i => ?_)
    rw [a0, a4]
    exact grad_at _ _ i
  · refine (Cert.Reference18Ideal.Read.val_main_v37_eq _ _ _ _ _).trans (funext fun i => ?_)
    rw [a0, a1, a2, a3, a5]
    exact delta_at _ _ _ _ _ i
  · refine (Cert.Reference18Ideal.Read.val_main_v40_eq _ _ _).trans (funext fun i => ?_)
    rw [a0, a2, a6]
    exact m_at _ _ _ i
  · refine (Cert.Reference18Ideal.Read.val_main_v43_eq _ _ _).trans (funext fun i => ?_)
    rw [a0, a3, a7]
    exact v_at _ _ _ i

end Claims

end Cert.Adamw

end
-- ==== Proof.Conv.Spec.lean ====
module

public import Idealize.ShloMosaic.Lib.Pipeline.ValueKit
public import Idealize.ShloMosaic.Lib.Pipeline.ReadBack

/-! The causal convolution with four taps and its gradient, of arrays as functions of a row and a column,
and the rows of a tile joined to the eight before it or after it. No element needs to be finite. -/

@[expose] public section

noncomputable section

namespace Cert.Conv

open Idealize.ShloMosaic Idealize.ShloMosaic.Pointwise

/-- An array's element at a row and a column. -/
def at2 {n k : ℕ} [NeZero n] [NeZero k] (X : Shape.Idx ⟨2, ![n, k]⟩ → EReal) (a b : ℕ) : EReal := X (ix2 (Fin.ofNat n a) (Fin.ofNat k b))

theorem at2_eq {n k : ℕ} [NeZero n] [NeZero k] (X : Shape.Idx ⟨2, ![n, k]⟩ → EReal) (a : Fin n) (b : Fin k) : X (ix2 a b) = at2 X a.val b.val :=
  (congrArg₂ (fun p q => X (ix2 p q)) (Fin.ext (Nat.mod_eq_of_lt a.isLt)) (Fin.ext (Nat.mod_eq_of_lt b.isLt))).symm

/-- The columns from `k` on. -/
def cols (k : ℕ) (u : ℕ → ℕ → EReal) (t c : ℕ) : EReal := u t (k + c)

variable (u w : ℕ → ℕ → EReal)

/-- Row `t - s`, zero before the first row. -/
def sh (s t c : ℕ) : EReal := if s ≤ t then u (t - s) c else 0

/-- Row `t + s`, zero after the last of 4096 rows. -/
def fw (s t c : ℕ) : EReal := if t + s < 4096 then u (t + s) c else 0

/-- The convolution. -/
def conv (t c : ℕ) : EReal := u t c * w 3 c + sh u 3 t c * w 0 c + sh u 2 t c * w 1 c + sh u 1 t c * w 2 c

/-- The gradient of its input, `u` the result's. -/
def back (t c : ℕ) : EReal := u t c * w 3 c + fw u 3 t c * w 0 c + fw u 2 t c * w 1 c + fw u 1 t c * w 2 c

/-- The gradient of tap `a`, `u` the result's and `x` the input. -/
def taps (x : ℕ → ℕ → EReal) (a c : ℕ) : EReal := ∑ t : Fin 4096, u t.val c * sh x (3 - a) t.val c

/-- What the tile of 2048 rows from row `n` on gives of it. -/
def tapsTile (x : ℕ → ℕ → EReal) (n a c : ℕ) : EReal := ∑ r : Fin 2048, u (n + r.val) c * sh x (3 - a) (n + r.val) c

/-- The gradient of the bias, … -/
def bias (c : ℕ) : EReal := ∑ t : Fin 4096, u t.val c

/-- … and a tile's part of it. -/
def biasTile (n c : ℕ) : EReal := ∑ r : Fin 2048, u (n + r.val) c

theorem taps_tiles (x : ℕ → ℕ → EReal) (a c : ℕ) : taps u x a c = tapsTile u x 0 a c + tapsTile u x 2048 a c := by
  rw [taps, tapsTile, tapsTile, Fin.sum_univ_add (a := 2048) (b := 2048) (fun t : Fin (2048 + 2048) => u t.val c * sh x (3 - a) t.val c)]
  simp only [Fin.val_castAdd, Fin.val_natAdd, Nat.zero_add]

theorem bias_tiles (c : ℕ) : bias u c = biasTile u 0 c + biasTile u 2048 c := by
  rw [bias, biasTile, biasTile, Fin.sum_univ_add (a := 2048) (b := 2048) (fun t : Fin (2048 + 2048) => u t.val c)]
  simp only [Fin.val_castAdd, Fin.val_natAdd, Nat.zero_add]

theorem sh_zero (t c : ℕ) : sh u 0 t c = u t c := if_pos (Nat.zero_le t)

section Tile

variable {N b : ℕ} (k : BitVec 1) (p : Shape.Idx ⟨2, ![8, b]⟩ → EReal) (x : Shape.Idx ⟨2, ![N, b]⟩ → EReal)

/-- A tile's rows after the eight before it, or after eight zeros. -/
def after (q : Fin (8 + N)) (l : Fin b) : EReal :=
  if h : q.val < 8 then Scalar.select k 0 (p (ix2 ⟨q.val, h⟩ l)) else x (ix2 ⟨q.val - 8, by omega⟩ l)

/-- A tile's rows before the eight after it, or before eight zeros. -/
def before (q : Fin (N + 8)) (l : Fin b) : EReal :=
  if h : q.val < N then x (ix2 ⟨q.val, h⟩ l) else Scalar.select k 0 (p (ix2 ⟨q.val - N, by omega⟩ l))

theorem after_sh {t0 c0 : ℕ} (hx : ∀ r l, x (ix2 r l) = u (t0 + r.val) (c0 + l.val))
    (hp : (k = 1#1 ∧ t0 = 0) ∨ (k = 0#1 ∧ 8 ≤ t0 ∧ ∀ r l, p (ix2 r l) = u (t0 - 8 + r.val) (c0 + l.val)))
    (s : ℕ) (hs : s ≤ 8) (r : Fin N) (l : Fin b) (q : Fin (8 + N)) (hq : q.val = 8 + r.val - s) :
    after k p x q l = sh u s (t0 + r.val) (c0 + l.val) := by
  unfold after sh
  split
  · rename_i h
    rcases hp with ⟨hk, h0⟩ | ⟨hk, h0, hp⟩
    · rw [hk, if_neg (by omega)]
      rfl
    · rw [hk, if_pos (by omega)]
      exact (hp _ l).trans (congrArg (fun n => u n _) (by simp only; omega))
  · rename_i h
    rw [if_pos (by omega), hx]
    exact congrArg (fun n => u n _) (by simp only; omega)

theorem before_fw {t0 c0 : ℕ} (hx : ∀ r l, x (ix2 r l) = u (t0 + r.val) (c0 + l.val))
    (hp : (k = 1#1 ∧ t0 + N = 4096) ∨ (k = 0#1 ∧ t0 + N + 8 ≤ 4096 ∧ ∀ r l, p (ix2 r l) = u (t0 + N + r.val) (c0 + l.val)))
    (s : ℕ) (hs : s ≤ 8) (r : Fin N) (l : Fin b) (q : Fin (N + 8)) (hq : q.val = r.val + s) :
    before k p x q l = fw u s (t0 + r.val) (c0 + l.val) := by
  have hr := r.isLt
  unfold before fw
  split
  · rename_i h
    rw [if_pos (by rcases hp with ⟨_, h0⟩ | ⟨_, h0, _⟩ <;> omega), hx]
    exact congrArg (fun n => u n _) (by simp only; omega)
  · rename_i h
    rcases hp with ⟨hk, h0⟩ | ⟨hk, h0, hp⟩
    · rw [hk, if_neg (by omega)]
      rfl
    · rw [hk, if_pos (by omega)]
      exact (hp _ l).trans (congrArg (fun n => u n _) (by simp only; omega))

end Tile

end Cert.Conv

end
-- ==== Proof.Gate.Forward.lean ====
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pipeline.ReadBack
public import proofs.«01_k».proof.Proof.Spec
public import proofs.«01_k».proof.Proof.Conv.Spec

/-! The gated activation: twelve blocks of 512 columns by two tiles of 2048 rows, the convolution's two
earlier rows coming from a halo of 16. Infinities need no exception: the two forms of GELU agree there. -/

@[expose] public section

set_option maxRecDepth 16384

noncomputable section

namespace Cert.GateFwd

open Idealize.ShloMosaic Idealize.ShloMosaic.TcCoe Idealize.ShloMosaic.Pointwise Idealize.ShloMosaic.StableHlo Idealize.SL.Sem
open Idealize.ShloMosaic.Pipeline (Dat)
open Cert.Spec (g0 g1 ofBits_half ofBits_g0 ofBits_g1)
open Cert.Conv (at2 at2_eq sh)

/-- The kernel's GELU. -/
def gelu (x : EReal) : EReal :=
  Ideal.ofBits .f32 0x3F000000#32 * x * (1 + Ideal.tanh (x * (Ideal.ofBits .f32 0x3F4C422A#32 + ((g0 * g1 : ℝ) : EReal) * (x * x))))

/-- The reference's GELU is the kernel's. -/
theorem gelu_eq (x : EReal) : x * (Ideal.ofBits .f32 0x3F000000#32
    * (1 + Ideal.tanh (Ideal.ofBits .f32 0x3F4C422A#32 * (x + Ideal.ofBits .f32 0x3D372713#32 * (x * x * x))))) = gelu x := by
  have p0 : 0 < g0 := by unfold g0; norm_num
  have p1 : 0 < g1 := by unfold g1; norm_num
  have p : 0 < g0 * g1 := mul_pos p0 p1
  have h : (0 : ℝ) < 1 / 2 := by norm_num
  unfold gelu
  rw [ofBits_half, ofBits_g0, ofBits_g1]
  induction x with
  | bot =>
    rw [EReal.bot_mul_bot, EReal.coe_mul_top_of_pos p, EReal.coe_add_top, EReal.bot_mul_top, EReal.top_mul_bot, EReal.coe_mul_bot_of_pos p1,
      EReal.bot_add, EReal.coe_mul_bot_of_pos p0, Ideal.tanh_bot, EReal.coe_mul_bot_of_pos h, show (1 : EReal) + -1 = 0 by
        rw [← EReal.coe_one, ← EReal.coe_neg, ← EReal.coe_add]; norm_num, mul_zero, mul_zero]
  | top =>
    rw [EReal.top_mul_top, EReal.coe_mul_top_of_pos p, EReal.coe_add_top, EReal.top_mul_top, EReal.coe_mul_top_of_pos p1, EReal.top_add_top,
      EReal.coe_mul_top_of_pos p0, Ideal.tanh_top, EReal.coe_mul_top_of_pos h, ← EReal.coe_one, ← EReal.coe_add, ← EReal.coe_mul,
      EReal.top_mul_coe_of_pos (by norm_num), EReal.top_mul_coe_of_pos (by norm_num)]
  | coe r =>
    rw [← EReal.coe_one]
    simp only [← EReal.coe_mul, ← EReal.coe_add, Ideal.tanh_coe]
    ring_nf

variable (u w : ℕ → ℕ → EReal)

/-- The gated activation at row `t`, column `c`. -/
def act (t c : ℕ) : EReal := gelu (u t c * w 2 c + sh u 2 t c * w 0 c + sh u 1 t c * w 1 c) * u t (6144 + c)

section Kernel

open Cert.Kernel19Ideal Cert.Kernel19Ideal.Gen

theorem named_cubic : (Named.named (F := Ideal) (φ := .f32) κ "gelu_cubic" 0x3D122279#32 : Ideal .f32) = ((g0 * g1 : ℝ) : EReal) := by
  refine (named_eq κ "gelu_cubic" 0x3D122279#32).trans ?_
  simp only [κ, g0, g1]
  norm_num

theorem idx : ∀ t : Fin cfg0.N,
    win0_0.index t = ![t.val % 2, t.val / 2] ∧ win0_1.index t = ![if t.val % 2 = 0 then 0 else 127, t.val / 2]
    ∧ win0_2.index t = ![t.val % 2, 12 + t.val / 2] ∧ win0_3.index t = ![0, t.val / 2]
    ∧ win0_4.index t = ![t.val % 2, t.val / 2] ∧ win0_5.index t = ![t.val / 2, t.val % 2] ∧ (grid0.coords t 1).val = t.val % 2 :=
  (by decide +kernel : ∀ t : Fin grid0.N, _)

/-- The tile's gate rows after the halo's 16. -/
def rows (i : grid0.Coords) (gP : Vec Ideal S16x512 .bf16) (gT : Vec Ideal S2048x512 .bf16) (q : Fin 2064) (l : Fin 512) : EReal :=
  if h : q.val < 16 then Scalar.select (Scalar.cmpi .eq (BitVec.ofNat 32 (i 1).val) 0#32) 0 (gP (ix2 ⟨q.val, h⟩ l))
  else gT (ix2 ⟨q.val - 16, by omega⟩ l)

theorem pay2_at (i : grid0.Coords) (gP : Vec Ideal S16x512 .bf16) (gT : Vec Ideal S2048x512 .bf16) (w2 w0 w1 : Vec Ideal S1x512 .f32)
    (vT : Vec Ideal S2048x512 .bf16) (r : Fin 2048) (l : Fin 512) : k0_pay2 (F := Ideal) i gP gT w2 w0 w1 vT (ix2 r l)
      = gelu (gT (ix2 r l) * w2 (ix2 0 l) + rows i gP gT ⟨(16 + r.val + 2064 - 2) % 2064, by omega⟩ l * w0 (ix2 0 l)
        + rows i gP gT ⟨(16 + r.val + 2064 - 1) % 2064, by omega⟩ l * w1 (ix2 0 l)) * vT (ix2 r l) := by
  unfold gelu
  rw [← named_cubic]
  pointwise [k0_pay2]
  rfl

variable (m : (ℓ : Loc nD τ sig) → Buf (Elt Ideal) ℓ) (c : Dev nD)

theorem gate_at (t : Fin cfg0.N) (r : Fin 2048) (l : Fin 512) :
    iblk m c 0 t (ix2 r l) = at2 (m ((c : Thread nD τ).loc main_arg0)) (2048 * (t.val % 2) + r.val) (512 * (t.val / 2) + l.val) := by
  have ht : t.val < 24 := t.isLt
  refine Eq.trans ?_ (at2_eq (m ((c : Thread nD τ).loc main_arg0)) ⟨2048 * (t.val % 2) + r.val, by omega⟩ ⟨512 * (t.val / 2) + l.val, by omega⟩)
  blk_point [iblk, V, idx t]

theorem halo_at (t : Fin cfg0.N) (h : t.val % 2 = 1) (r : Fin 16) (l : Fin 512) :
    iblk m c 1 t (ix2 r l) = at2 (m ((c : Thread nD τ).loc main_arg0)) (2032 + r.val) (512 * (t.val / 2) + l.val) := by
  have ht : t.val < 24 := t.isLt
  have hi := idx t
  simp only [h, one_ne_zero, reduceIte] at hi
  refine Eq.trans ?_ (at2_eq (m ((c : Thread nD τ).loc main_arg0)) ⟨2032 + r.val, by omega⟩ ⟨512 * (t.val / 2) + l.val, by omega⟩)
  blk_point [iblk, V, hi]

theorem rows_at (t : Fin cfg0.N) (s : ℕ) (hs : s ≤ 16) (hp : 0 < s) (r : Fin 2048) (l : Fin 512) :
    rows (grid0.coords t) (iblk m c 1 t) (iblk m c 0 t) ⟨(16 + r.val + 2064 - s) % 2064, by omega⟩ l
      = sh (at2 (m ((c : Thread nD τ).loc main_arg0))) s (2048 * (t.val % 2) + r.val) (512 * (t.val / 2) + l.val) := by
  have e : (16 + r.val + 2064 - s) % 2064 = 16 + r.val - s := by omega
  unfold rows sh
  rw [(idx t).2.2.2.2.2.2]
  split
  · rename_i h
    simp only at h
    rcases (by omega : t.val % 2 = 0 ∨ t.val % 2 = 1) with h0 | h1
    · rw [h0, if_neg (by omega)]
      rfl
    · rw [if_pos (by omega)]
      refine Eq.trans ?_ ((halo_at m c t h1 ⟨(16 + r.val + 2064 - s) % 2064, h⟩ l).trans (congrArg (fun n => at2 _ n _) (by simp only; omega)))
      rw [h1]
      rfl
  · rename_i h
    simp only at h
    rw [if_pos (by omega)]
    exact (gate_at m c t _ l).trans (congrArg (fun n => at2 _ n _) (by simp only; omega))

theorem value_at (t : Fin cfg0.N) (r : Fin 2048) (l : Fin 512) :
    iblk m c 2 t (ix2 r l) = at2 (m ((c : Thread nD τ).loc main_arg0)) (2048 * (t.val % 2) + r.val) (6144 + (512 * (t.val / 2) + l.val)) := by
  have ht : t.val < 24 := t.isLt
  refine Eq.trans ?_ (at2_eq (m ((c : Thread nD τ).loc main_arg0)) ⟨2048 * (t.val % 2) + r.val, by omega⟩ ⟨6144 + (512 * (t.val / 2) + l.val), by omega⟩)
  blk_point [iblk, V, idx t]

/-- What grid point `t` computes. -/
abbrev tile (t : Fin cfg0.N) : FVec Ideal S2048x512 .f32 :=
  k0_pay2 (F := Ideal) (grid0.coords t) (iblk m c 1 t) (iblk m c 0 t)
    (View.ld (iblk m c 3 t) (Rect.unit ![2, 0] ![1, 512] inb_S3x512_S1x512_2_0))
    (View.ld (iblk m c 3 t) (Rect.unit ![0, 0] ![1, 512] inb_S3x512_S1x512_0_0))
    (View.ld (iblk m c 3 t) (Rect.unit ![1, 0] ![1, 512] inb_S3x512_S1x512_1_0)) (iblk m c 2 t)

theorem tile_at (t : Fin cfg0.N) (r : Fin 2048) (l : Fin 512) : tile m c t (ix2 r l)
    = act (at2 (m ((c : Thread nD τ).loc main_arg0))) (at2 (m ((c : Thread nD τ).loc main_arg1))) (2048 * (t.val % 2) + r.val) (512 * (t.val / 2) + l.val) := by
  have ht : t.val < 24 := t.isLt
  have h2 : View.ld (iblk m c 3 t) (Rect.unit ![2, 0] ![1, 512] inb_S3x512_S1x512_2_0) (ix2 0 l)
      = at2 (m ((c : Thread nD τ).loc main_arg1)) 2 (512 * (t.val / 2) + l.val) := by
    refine Eq.trans ?_ (at2_eq (m ((c : Thread nD τ).loc main_arg1)) 2 ⟨512 * (t.val / 2) + l.val, by omega⟩)
    blk_point [iblk, V, idx t]
  have h0 : View.ld (iblk m c 3 t) (Rect.unit ![0, 0] ![1, 512] inb_S3x512_S1x512_0_0) (ix2 0 l)
      = at2 (m ((c : Thread nD τ).loc main_arg1)) 0 (512 * (t.val / 2) + l.val) := by
    refine Eq.trans ?_ (at2_eq (m ((c : Thread nD τ).loc main_arg1)) 0 ⟨512 * (t.val / 2) + l.val, by omega⟩)
    blk_point [iblk, V, idx t]
  have h1 : View.ld (iblk m c 3 t) (Rect.unit ![1, 0] ![1, 512] inb_S3x512_S1x512_1_0) (ix2 0 l)
      = at2 (m ((c : Thread nD τ).loc main_arg1)) 1 (512 * (t.val / 2) + l.val) := by
    refine Eq.trans ?_ (at2_eq (m ((c : Thread nD τ).loc main_arg1)) 1 ⟨512 * (t.val / 2) + l.val, by omega⟩)
    blk_point [iblk, V, idx t]
  rw [tile, pay2_at, rows_at m c t 2 (by omega) (by omega), rows_at m c t 1 (by omega) (by omega), gate_at, value_at, h2, h0, h1]
  rfl

theorem pay3_at (i : grid0.Coords) (gP : Vec Ideal S16x512 .bf16) (gT : Vec Ideal S2048x512 .bf16) (w2 w0 w1 : Vec Ideal S1x512 .f32)
    (vT : Vec Ideal S2048x512 .bf16) (y : S2048x512.Idx) : k0_pay3 (F := Ideal) i gP gT w2 w0 w1 vT y = k0_pay2 (F := Ideal) i gP gT w2 w0 w1 vT y := by
  pointwise [k0_pay3]

theorem pay1_at (v : FVec Ideal S2048x512 .f32) (y : S512x2048.Idx) : k0_pay1 (F := Ideal) v y = v (ix2 (y 1) (y 0)) := by
  pointwise [k0_pay1]

theorem out4 (t : Fin cfg0.N) (y : S2048x512.Idx) :
    out0_4 (F := Ideal) (grid0.coords t) (iblk m c 0 t) (iblk m c 1 t) (iblk m c 2 t) (iblk m c 3 t) y = tile m c t (ix2 (y 0) (y 1)) := by
  refine Eq.trans ?_ ((pay3_at _ _ _ _ _ _ _ y).trans (congrArg (tile m c t) (eq_ix2 y)))
  frame_out
  rfl

theorem out5 (t : Fin cfg0.N) (y : S512x2048.Idx) :
    out0_5 (F := Ideal) (grid0.coords t) (iblk m c 0 t) (iblk m c 1 t) (iblk m c 2 t) (iblk m c 3 t) y = tile m c t (ix2 (y 1) (y 0)) := by
  refine Eq.trans ?_ (pay1_at (tile m c t) y)
  frame_out
  rfl

/-- The first result. -/
def value (u : ℕ → ℕ → EReal) (w : ℕ → ℕ → EReal) (i : S4096x6144.Idx) : EReal := act u w (i 0).val (i 1).val

/-- The second: its transpose. -/
def valueT (u : ℕ → ℕ → EReal) (w : ℕ → ℕ → EReal) (i : S6144x4096.Idx) : EReal := act u w (i 1).val (i 0).val

theorem arr4 : (dats m 0 c).arrAt 4 cfg0.N = value (at2 (m ((c : Thread nD τ).loc main_arg0))) (at2 (m ((c : Thread nD τ).loc main_arg1))) := by
  refine (dats m 0 c).arrAt_eq_of_covers 4 _ (by decide +kernel) fun t hf y => ?_
  blk_simp
  rw [after0_4]
  refine (out4 m c t y).trans ((tile_at m c t _ _).trans (congrArg₂ (act _ _) ?_ ?_)) <;> (blk_simp [idx t]; try omega)

theorem arr5 : (dats m 0 c).arrAt 5 cfg0.N = valueT (at2 (m ((c : Thread nD τ).loc main_arg0))) (at2 (m ((c : Thread nD τ).loc main_arg1))) := by
  refine (dats m 0 c).arrAt_eq_of_covers 5 _ (by decide +kernel) fun t hf y => ?_
  blk_simp
  rw [after0_5]
  refine (out5 m c t y).trans ((tile_at m c t _ _).trans (congrArg₂ (act _ _) ?_ ?_)) <;> (blk_simp [idx t]; try omega)

end Kernel

section Reference

open Cert.Reference19Ideal Cert.Reference19Ideal.Gen Cert.Reference19Ideal.Read

variable (x : (⟨S4096x12288, .bf16⟩ : BufTy).Contents (Elt Ideal)) (k : (⟨S3x6144, .f32⟩ : BufTy).Contents (Elt Ideal))

theorem v1_at (t : Fin 4096) (l : Fin 6144) : val_main_v1 (F := Ideal) x (ix2 t l) = at2 x t.val l.val := by
  pointwise [val_main_v1, val_main_v0]
  exact at2_eq x t ⟨l.val, by omega⟩

theorem v2_at (t : Fin 4096) (l : Fin 6144) : val_main_v2 (F := Ideal) x (ix2 t l) = at2 x t.val (6144 + l.val) := by
  pointwise [val_main_v2, val_main_v0]
  exact at2_eq x t ⟨6144 + l.val, by omega⟩

theorem v10_at (t : Fin 4096) (l : Fin 6144) : val_main_v10 (F := Ideal) x (ix2 t l) = sh (at2 x) 2 t.val l.val := by
  pointwise [val_main_v10, val_main_v8, val_main_v9, val_main_cst]
  unfold sh
  split
  · rw [if_neg (by omega)]
  · exact (v1_at x _ _).trans (if_pos (by omega)).symm

theorem v19_at (t : Fin 4096) (l : Fin 6144) : val_main_v19 (F := Ideal) x (ix2 t l) = sh (at2 x) 1 t.val l.val := by
  pointwise [val_main_v19, val_main_v17, val_main_v18, val_main_cst_0]
  unfold sh
  split
  · rw [if_neg (by omega)]
  · exact (v1_at x _ _).trans (if_pos (by omega)).symm

theorem v25_at (t : Fin 4096) (l : Fin 6144) : val_main_v25 (F := Ideal) x k (ix2 t l)
    = at2 x t.val l.val * at2 k 2 l.val + sh (at2 x) 2 t.val l.val * at2 k 0 l.val + sh (at2 x) 1 t.val l.val * at2 k 1 l.val := by
  pointwise [val_main_v25, val_main_v24, val_main_v16, val_main_v15, val_main_v7, val_main_v6, val_main_v5, val_main_v4, val_main_v3,
    val_main_v14, val_main_v13, val_main_v12, val_main_v11, val_main_v23, val_main_v22, val_main_v21, val_main_v20]
  rw [v1_at, v10_at, v19_at, at2_eq k, at2_eq k, at2_eq k]
  rfl

theorem v39_at (t : Fin 4096) (l : Fin 6144) : val_main_v39 (F := Ideal) x k (ix2 t l) = act (at2 x) (at2 k) t.val l.val := by
  rw [act, ← gelu_eq, ← v2_at, ← v25_at]
  pointwise [val_main_v39, val_main_v38, val_main_v37, val_main_v36, val_main_v35, val_main_v34, val_main_v33, val_main_v32, val_main_v31,
    val_main_v30, val_main_v29, val_main_v28, val_main_v27, val_main_v26, val_main_cst_1, val_main_cst_2, val_main_cst_3, val_main_cst_4]

theorem v40_at (i : S4096x6144.Idx) : val_main_v40 (F := Ideal) x k i = value (at2 x) (at2 k) i := by
  refine Eq.trans ?_ (v39_at x k (i 0) (i 1))
  pointwise [val_main_v40]

theorem v42_at (i : S6144x4096.Idx) : val_main_v42 (F := Ideal) x k i = valueT (at2 x) (at2 k) i := by
  refine Eq.trans ?_ (v39_at x k (i 1) (i 0))
  pointwise [val_main_v42, val_main_v41]

end Reference

section Claims

theorem frame_reference : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

theorem algebraic : Cert.algebraic_Kernel19Ideal_Reference19Ideal := by
  intro m ρ m' ρ' _ hag
  refine ⟨_, _, (θ_run Cert.Kernel19Ideal.defs _ _).mono
    (fun r h c => ⟨(h c).1.trans (arr4 m c), (h c).2.1.trans (arr5 m c), (h c).2.2⟩)
    (Cert.Kernel19Ideal.Value.run_blocks m ρ), ?_⟩
  refine (θ_run Cert.Reference19Ideal.defs _ _).mono (fun r h c => ?_) (Cert.Reference19Ideal.Value.run m' ρ')
  obtain ⟨a0, a1⟩ := hag c
  refine ⟨(h c).1.trans ?_, (h c).2.1.trans ?_, (h c).2.2⟩
  · refine (Cert.Reference19Ideal.Read.val_main_v40_eq _ _).trans (funext fun i => ?_)
    rw [a0, a1]
    exact v40_at _ _ i
  · refine (Cert.Reference19Ideal.Read.val_main_v42_eq _ _).trans (funext fun i => ?_)
    rw [a0, a1]
    exact v42_at _ _ i

end Claims

end Cert.GateFwd

end
-- ==== Proof.Conv.LruForward.lean ====
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pipeline.ReadBack
public import proofs.«01_k».proof.Proof.Conv.Spec

/-! The recurrence's convolution, in six blocks of 128 columns: one tile holds all the rows, so that the eight rows before it are zeros. -/

@[expose] public section

set_option maxRecDepth 16384

noncomputable section

namespace Cert.LruConv

open Idealize.ShloMosaic Idealize.ShloMosaic.TcCoe Idealize.ShloMosaic.Pointwise Idealize.ShloMosaic.StableHlo Idealize.SL.Sem
open Idealize.ShloMosaic.Pipeline (Dat)
open Cert.Conv

/-- The result. -/
def value (u w b : ℕ → ℕ → EReal) (i : Cert.Kernel20Ideal.S4096x768.Idx) : EReal :=
  conv (cols 3840 u) w (i 0).val (i 1).val + b 0 (i 1).val

section Kernel

open Cert.Kernel20Ideal Cert.Kernel20Ideal.Gen

theorem idx : ∀ t : Fin cfg0.N, win0_0.index t = ![0, 30 + t.val] ∧ win0_1.index t = ![0, 30 + t.val] ∧ win0_2.index t = ![0, t.val]
    ∧ win0_3.index t = ![0, t.val] ∧ win0_4.index t = ![0, t.val] ∧ (grid0.coords t 1).val = 0 :=
  (by decide +kernel : ∀ t : Fin grid0.N, _)

theorem pay1_at (i : grid0.Coords) (p : Vec Ideal S8x128 .f32) (x : Vec Ideal S4096x128 .f32) (w3 w0 w1 w2 b : Vec Ideal S1x128 .f32)
    (r : Fin 4096) (l : Fin 128) : k0_pay1 (F := Ideal) i p x w3 w0 w1 w2 b (ix2 r l)
      = x (ix2 r l) * w3 (ix2 0 l)
        + after (Scalar.cmpi .eq (BitVec.ofNat 32 (i 1).val) 0#32) p x ⟨(8 + r.val + 4104 - 3) % 4104, by omega⟩ l * w0 (ix2 0 l)
        + after (Scalar.cmpi .eq (BitVec.ofNat 32 (i 1).val) 0#32) p x ⟨(8 + r.val + 4104 - 2) % 4104, by omega⟩ l * w1 (ix2 0 l)
        + after (Scalar.cmpi .eq (BitVec.ofNat 32 (i 1).val) 0#32) p x ⟨(8 + r.val + 4104 - 1) % 4104, by omega⟩ l * w2 (ix2 0 l)
        + b (ix2 0 l) := by
  pointwise [k0_pay1]
  rfl

variable (m : (ℓ : Loc nD τ sig) → Buf (Elt Ideal) ℓ) (c : Dev nD)

theorem x_at (t : Fin cfg0.N) (r : Fin 4096) (l : Fin 128) :
    iblk m c 0 t (ix2 r l) = cols 3840 (at2 (m ((c : Thread nD τ).loc main_arg0))) (0 + r.val) (128 * t.val + l.val) := by
  have ht : t.val < 6 := t.isLt
  refine Eq.trans ?_ ((at2_eq (m ((c : Thread nD τ).loc main_arg0)) r ⟨3840 + (128 * t.val + l.val), by omega⟩).trans
    (congrArg (fun n => at2 _ n _) (Nat.zero_add _).symm))
  blk_point [iblk, V, idx t]

theorem rows_at (t : Fin cfg0.N) (s : ℕ) (hs : s ≤ 8) (hp : 0 < s) (r : Fin 4096) (l : Fin 128) :
    after (Scalar.cmpi .eq (BitVec.ofNat 32 (grid0.coords t 1).val) 0#32) (iblk m c 1 t) (iblk m c 0 t) ⟨(8 + r.val + 4104 - s) % 4104, by omega⟩ l
      = sh (cols 3840 (at2 (m ((c : Thread nD τ).loc main_arg0)))) s (0 + r.val) (128 * t.val + l.val) :=
  after_sh _ _ _ _ (x_at m c t) (.inl ⟨by rw [(idx t).2.2.2.2.2]; rfl, rfl⟩) s hs r l _ (by simp only; omega)

theorem b_at (t : Fin cfg0.N) (l : Fin 128) :
    iblk m c 3 t (ix2 0 l) = at2 (m ((c : Thread nD τ).loc main_arg2)) 0 (128 * t.val + l.val) := by
  have ht : t.val < 6 := t.isLt
  refine Eq.trans ?_ (at2_eq (m ((c : Thread nD τ).loc main_arg2)) 0 ⟨128 * t.val + l.val, by omega⟩)
  blk_point [iblk, V, idx t]

/-- What grid point `t` computes. -/
abbrev tile (t : Fin cfg0.N) : FVec Ideal S4096x128 .f32 :=
  k0_pay1 (F := Ideal) (grid0.coords t) (iblk m c 1 t) (iblk m c 0 t) (View.ld (iblk m c 2 t) (Rect.unit ![3, 0] ![1, 128] inb_S4x128_S1x128_3_0))
    (View.ld (iblk m c 2 t) (Rect.unit ![0, 0] ![1, 128] inb_S4x128_S1x128_0_0)) (View.ld (iblk m c 2 t) (Rect.unit ![1, 0] ![1, 128] inb_S4x128_S1x128_1_0))
    (View.ld (iblk m c 2 t) (Rect.unit ![2, 0] ![1, 128] inb_S4x128_S1x128_2_0)) (iblk m c 3 t)

theorem tile_at (t : Fin cfg0.N) (r : Fin 4096) (l : Fin 128) : tile m c t (ix2 r l)
    = conv (cols 3840 (at2 (m ((c : Thread nD τ).loc main_arg0)))) (at2 (m ((c : Thread nD τ).loc main_arg1))) (0 + r.val) (128 * t.val + l.val)
      + at2 (m ((c : Thread nD τ).loc main_arg2)) 0 (128 * t.val + l.val) := by
  have ht : t.val < 6 := t.isLt
  have h3 : View.ld (iblk m c 2 t) (Rect.unit ![3, 0] ![1, 128] inb_S4x128_S1x128_3_0) (ix2 0 l)
      = at2 (m ((c : Thread nD τ).loc main_arg1)) 3 (128 * t.val + l.val) := by
    refine Eq.trans ?_ (at2_eq (m ((c : Thread nD τ).loc main_arg1)) 3 ⟨128 * t.val + l.val, by omega⟩)
    blk_point [iblk, V, idx t]
  have h0 : View.ld (iblk m c 2 t) (Rect.unit ![0, 0] ![1, 128] inb_S4x128_S1x128_0_0) (ix2 0 l)
      = at2 (m ((c : Thread nD τ).loc main_arg1)) 0 (128 * t.val + l.val) := by
    refine Eq.trans ?_ (at2_eq (m ((c : Thread nD τ).loc main_arg1)) 0 ⟨128 * t.val + l.val, by omega⟩)
    blk_point [iblk, V, idx t]
  have h1 : View.ld (iblk m c 2 t) (Rect.unit ![1, 0] ![1, 128] inb_S4x128_S1x128_1_0) (ix2 0 l)
      = at2 (m ((c : Thread nD τ).loc main_arg1)) 1 (128 * t.val + l.val) := by
    refine Eq.trans ?_ (at2_eq (m ((c : Thread nD τ).loc main_arg1)) 1 ⟨128 * t.val + l.val, by omega⟩)
    blk_point [iblk, V, idx t]
  have h2 : View.ld (iblk m c 2 t) (Rect.unit ![2, 0] ![1, 128] inb_S4x128_S1x128_2_0) (ix2 0 l)
      = at2 (m ((c : Thread nD τ).loc main_arg1)) 2 (128 * t.val + l.val) := by
    refine Eq.trans ?_ (at2_eq (m ((c : Thread nD τ).loc main_arg1)) 2 ⟨128 * t.val + l.val, by omega⟩)
    blk_point [iblk, V, idx t]
  rw [tile, pay1_at, rows_at m c t 3 (by omega) (by omega), rows_at m c t 2 (by omega) (by omega), rows_at m c t 1 (by omega) (by omega), x_at, b_at,
    h3, h0, h1, h2]
  rfl

theorem out4 (t : Fin cfg0.N) (y : S4096x128.Idx) :
    out0_4 (F := Ideal) (grid0.coords t) (iblk m c 0 t) (iblk m c 1 t) (iblk m c 2 t) (iblk m c 3 t) y = tile m c t (ix2 (y 0) (y 1)) := by
  refine Eq.trans ?_ (congrArg (tile m c t) (eq_ix2 y))
  frame_out
  rfl

theorem arr4 : (dats m 0 c).arrAt 4 cfg0.N = value (at2 (m ((c : Thread nD τ).loc main_arg0))) (at2 (m ((c : Thread nD τ).loc main_arg1)))
    (at2 (m ((c : Thread nD τ).loc main_arg2))) := by
  refine (dats m 0 c).arrAt_eq_of_covers 4 _ (by decide +kernel) fun t hf y => ?_
  blk_simp
  rw [after0_4]
  refine (out4 m c t y).trans ((tile_at m c t _ _).trans (congrArg₂ (fun p q => conv _ _ p q + at2 _ 0 q) ?_ ?_)) <;> (blk_simp [idx t]; try omega)

end Kernel

section Reference

open Cert.Reference20Ideal Cert.Reference20Ideal.Gen Cert.Reference20Ideal.Read

variable (x : (⟨S4096x5376, .f32⟩ : BufTy).Contents (Elt Ideal)) (k : (⟨S4x768, .f32⟩ : BufTy).Contents (Elt Ideal))
  (b : (⟨S1x768, .f32⟩ : BufTy).Contents (Elt Ideal))

theorem v0_at (t : Fin 4096) (l : Fin 768) : val_main_v0 (F := Ideal) x (ix2 t l) = cols 3840 (at2 x) t.val l.val := by
  pointwise [val_main_v0]
  exact at2_eq x t ⟨3840 + l.val, by omega⟩

theorem v8_at (t : Fin 4096) (l : Fin 768) : val_main_v8 (F := Ideal) x (ix2 t l) = sh (cols 3840 (at2 x)) 3 t.val l.val := by
  pointwise [val_main_v8, val_main_v6, val_main_v7, val_main_cst]
  unfold sh
  split
  · rw [if_neg (by omega)]
  · exact (v0_at x _ _).trans (if_pos (by omega)).symm

theorem v17_at (t : Fin 4096) (l : Fin 768) : val_main_v17 (F := Ideal) x (ix2 t l) = sh (cols 3840 (at2 x)) 2 t.val l.val := by
  pointwise [val_main_v17, val_main_v15, val_main_v16, val_main_cst_0]
  unfold sh
  split
  · rw [if_neg (by omega)]
  · exact (v0_at x _ _).trans (if_pos (by omega)).symm

theorem v26_at (t : Fin 4096) (l : Fin 768) : val_main_v26 (F := Ideal) x (ix2 t l) = sh (cols 3840 (at2 x)) 1 t.val l.val := by
  pointwise [val_main_v26, val_main_v24, val_main_v25, val_main_cst_1]
  unfold sh
  split
  · rw [if_neg (by omega)]
  · exact (v0_at x _ _).trans (if_pos (by omega)).symm

theorem v34_at (i : S4096x768.Idx) : val_main_v34 (F := Ideal) x k b i = value (at2 x) (at2 k) (at2 b) i := by
  obtain ⟨t, l, rfl⟩ : ∃ (t : Fin 4096) (l : Fin 768), i = ix2 t l := ⟨_, _, eq_ix2 i⟩
  pointwise [val_main_v34, val_main_v33, val_main_v32, val_main_v23, val_main_v14, val_main_v5, val_main_v4, val_main_v3, val_main_v2, val_main_v1,
    val_main_v13, val_main_v12, val_main_v11, val_main_v10, val_main_v9, val_main_v22, val_main_v21, val_main_v20, val_main_v19, val_main_v18,
    val_main_v31, val_main_v30, val_main_v29, val_main_v28, val_main_v27]
  rw [v0_at, v8_at, v17_at, v26_at, at2_eq k, at2_eq k, at2_eq k, at2_eq k, at2_eq b]
  rfl

end Reference

section Claims

theorem frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic : Cert.algebraic_Kernel20Ideal_Reference20Ideal := by
  intro m ρ m' ρ' _ hag
  refine ⟨_, (θ_run Cert.Kernel20Ideal.defs _ _).mono (fun r h c => ⟨(h c).1.trans (arr4 m c), (h c).2⟩)
    (Cert.Kernel20Ideal.Value.run_blocks m ρ), ?_⟩
  refine (θ_run Cert.Reference20Ideal.defs _ _).mono (fun r h c => ?_) (Cert.Reference20Ideal.Value.run m' ρ')
  obtain ⟨a0, a1, a2⟩ := hag c
  refine ⟨(h c).1.trans ?_, (h c).2⟩
  refine (Cert.Reference20Ideal.Read.val_main_v34_eq _ _ _).trans (funext fun i => ?_)
  rw [a0, a1, a2]
  exact v34_at _ _ _ i

end Claims

end Cert.LruConv

end
-- ==== Proof.Conv.GdnForward.lean ====
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pipeline.ReadBack
public import proofs.«01_k».proof.Proof.Conv.Spec

/-! The delta rule's convolution, in nine blocks of 256 columns: one tile holds all the rows, so that the eight rows before it are zeros. -/

@[expose] public section

set_option maxRecDepth 16384

noncomputable section

namespace Cert.GdnConv

open Idealize.ShloMosaic Idealize.ShloMosaic.TcCoe Idealize.ShloMosaic.Pointwise Idealize.ShloMosaic.StableHlo Idealize.SL.Sem
open Idealize.ShloMosaic.Pipeline (Dat)
open Cert.Conv

/-- The result. -/
def value (u w : ℕ → ℕ → EReal) (i : Cert.Kernel21Ideal.S4096x2304.Idx) : EReal :=
  conv (cols 512 u) w (i 0).val (i 1).val

section Kernel

open Cert.Kernel21Ideal Cert.Kernel21Ideal.Gen

theorem idx : ∀ t : Fin cfg0.N, win0_0.index t = ![0, 2 + t.val] ∧ win0_1.index t = ![0, 2 + t.val] ∧ win0_2.index t = ![0, t.val]
    ∧ win0_3.index t = ![0, t.val] ∧ (grid0.coords t 1).val = 0 :=
  (by decide +kernel : ∀ t : Fin grid0.N, _)

theorem pay1_at (i : grid0.Coords) (p : Vec Ideal S8x256 .f32) (x : Vec Ideal S4096x256 .f32) (w3 w0 w1 w2 : Vec Ideal S1x256 .f32)
    (r : Fin 4096) (l : Fin 256) : k0_pay1 (F := Ideal) i p x w3 w0 w1 w2 (ix2 r l)
      = x (ix2 r l) * w3 (ix2 0 l)
        + after (Scalar.cmpi .eq (BitVec.ofNat 32 (i 1).val) 0#32) p x ⟨(8 + r.val + 4104 - 3) % 4104, by omega⟩ l * w0 (ix2 0 l)
        + after (Scalar.cmpi .eq (BitVec.ofNat 32 (i 1).val) 0#32) p x ⟨(8 + r.val + 4104 - 2) % 4104, by omega⟩ l * w1 (ix2 0 l)
        + after (Scalar.cmpi .eq (BitVec.ofNat 32 (i 1).val) 0#32) p x ⟨(8 + r.val + 4104 - 1) % 4104, by omega⟩ l * w2 (ix2 0 l) := by
  pointwise [k0_pay1]
  rfl

variable (m : (ℓ : Loc nD τ sig) → Buf (Elt Ideal) ℓ) (c : Dev nD)

theorem x_at (t : Fin cfg0.N) (r : Fin 4096) (l : Fin 256) :
    iblk m c 0 t (ix2 r l) = cols 512 (at2 (m ((c : Thread nD τ).loc main_arg0))) (0 + r.val) (256 * t.val + l.val) := by
  have ht : t.val < 9 := t.isLt
  refine Eq.trans ?_ ((at2_eq (m ((c : Thread nD τ).loc main_arg0)) r ⟨512 + (256 * t.val + l.val), by omega⟩).trans
    (congrArg (fun n => at2 _ n _) (Nat.zero_add _).symm))
  blk_point [iblk, V, idx t]

theorem rows_at (t : Fin cfg0.N) (s : ℕ) (hs : s ≤ 8) (hp : 0 < s) (r : Fin 4096) (l : Fin 256) :
    after (Scalar.cmpi .eq (BitVec.ofNat 32 (grid0.coords t 1).val) 0#32) (iblk m c 1 t) (iblk m c 0 t) ⟨(8 + r.val + 4104 - s) % 4104, by omega⟩ l
      = sh (cols 512 (at2 (m ((c : Thread nD τ).loc main_arg0)))) s (0 + r.val) (256 * t.val + l.val) :=
  after_sh _ _ _ _ (x_at m c t) (.inl ⟨by rw [(idx t).2.2.2.2]; rfl, rfl⟩) s hs r l _ (by simp only; omega)

/-- What grid point `t` computes. -/
abbrev tile (t : Fin cfg0.N) : FVec Ideal S4096x256 .f32 :=
  k0_pay1 (F := Ideal) (grid0.coords t) (iblk m c 1 t) (iblk m c 0 t) (View.ld (iblk m c 2 t) (Rect.unit ![3, 0] ![1, 256] inb_S4x256_S1x256_3_0))
    (View.ld (iblk m c 2 t) (Rect.unit ![0, 0] ![1, 256] inb_S4x256_S1x256_0_0)) (View.ld (iblk m c 2 t) (Rect.unit ![1, 0] ![1, 256] inb_S4x256_S1x256_1_0))
    (View.ld (iblk m c 2 t) (Rect.unit ![2, 0] ![1, 256] inb_S4x256_S1x256_2_0))

theorem tile_at (t : Fin cfg0.N) (r : Fin 4096) (l : Fin 256) : tile m c t (ix2 r l)
    = conv (cols 512 (at2 (m ((c : Thread nD τ).loc main_arg0)))) (at2 (m ((c : Thread nD τ).loc main_arg1))) (0 + r.val) (256 * t.val + l.val) := by
  have ht : t.val < 9 := t.isLt
  have h3 : View.ld (iblk m c 2 t) (Rect.unit ![3, 0] ![1, 256] inb_S4x256_S1x256_3_0) (ix2 0 l)
      = at2 (m ((c : Thread nD τ).loc main_arg1)) 3 (256 * t.val + l.val) := by
    refine Eq.trans ?_ (at2_eq (m ((c : Thread nD τ).loc main_arg1)) 3 ⟨256 * t.val + l.val, by omega⟩)
    blk_point [iblk, V, idx t]
  have h0 : View.ld (iblk m c 2 t) (Rect.unit ![0, 0] ![1, 256] inb_S4x256_S1x256_0_0) (ix2 0 l)
      = at2 (m ((c : Thread nD τ).loc main_arg1)) 0 (256 * t.val + l.val) := by
    refine Eq.trans ?_ (at2_eq (m ((c : Thread nD τ).loc main_arg1)) 0 ⟨256 * t.val + l.val, by omega⟩)
    blk_point [iblk, V, idx t]
  have h1 : View.ld (iblk m c 2 t) (Rect.unit ![1, 0] ![1, 256] inb_S4x256_S1x256_1_0) (ix2 0 l)
      = at2 (m ((c : Thread nD τ).loc main_arg1)) 1 (256 * t.val + l.val) := by
    refine Eq.trans ?_ (at2_eq (m ((c : Thread nD τ).loc main_arg1)) 1 ⟨256 * t.val + l.val, by omega⟩)
    blk_point [iblk, V, idx t]
  have h2 : View.ld (iblk m c 2 t) (Rect.unit ![2, 0] ![1, 256] inb_S4x256_S1x256_2_0) (ix2 0 l)
      = at2 (m ((c : Thread nD τ).loc main_arg1)) 2 (256 * t.val + l.val) := by
    refine Eq.trans ?_ (at2_eq (m ((c : Thread nD τ).loc main_arg1)) 2 ⟨256 * t.val + l.val, by omega⟩)
    blk_point [iblk, V, idx t]
  rw [tile, pay1_at, rows_at m c t 3 (by omega) (by omega), rows_at m c t 2 (by omega) (by omega), rows_at m c t 1 (by omega) (by omega), x_at,
    h3, h0, h1, h2]
  rfl

theorem out3 (t : Fin cfg0.N) (y : S4096x256.Idx) :
    out0_3 (F := Ideal) (grid0.coords t) (iblk m c 0 t) (iblk m c 1 t) (iblk m c 2 t) y = tile m c t (ix2 (y 0) (y 1)) := by
  refine Eq.trans ?_ (congrArg (tile m c t) (eq_ix2 y))
  frame_out
  rfl

theorem arr3 : (dats m 0 c).arrAt 3 cfg0.N = value (at2 (m ((c : Thread nD τ).loc main_arg0))) (at2 (m ((c : Thread nD τ).loc main_arg1))) := by
  refine (dats m 0 c).arrAt_eq_of_covers 3 _ (by decide +kernel) fun t hf y => ?_
  blk_simp
  rw [after0_3]
  refine (out3 m c t y).trans ((tile_at m c t _ _).trans (congrArg₂ (conv _ _) ?_ ?_)) <;> (blk_simp [idx t]; try omega)

end Kernel

section Reference

open Cert.Reference21Ideal Cert.Reference21Ideal.Gen Cert.Reference21Ideal.Read

variable (x : (⟨S4096x5376, .f32⟩ : BufTy).Contents (Elt Ideal)) (k : (⟨S4x2304, .f32⟩ : BufTy).Contents (Elt Ideal))

theorem v0_at (t : Fin 4096) (l : Fin 2304) : val_main_v0 (F := Ideal) x (ix2 t l) = cols 512 (at2 x) t.val l.val := by
  pointwise [val_main_v0]
  exact at2_eq x t ⟨512 + l.val, by omega⟩

theorem v8_at (t : Fin 4096) (l : Fin 2304) : val_main_v8 (F := Ideal) x (ix2 t l) = sh (cols 512 (at2 x)) 3 t.val l.val := by
  pointwise [val_main_v8, val_main_v6, val_main_v7, val_main_cst]
  unfold sh
  split
  · rw [if_neg (by omega)]
  · exact (v0_at x _ _).trans (if_pos (by omega)).symm

theorem v17_at (t : Fin 4096) (l : Fin 2304) : val_main_v17 (F := Ideal) x (ix2 t l) = sh (cols 512 (at2 x)) 2 t.val l.val := by
  pointwise [val_main_v17, val_main_v15, val_main_v16, val_main_cst_0]
  unfold sh
  split
  · rw [if_neg (by omega)]
  · exact (v0_at x _ _).trans (if_pos (by omega)).symm

theorem v26_at (t : Fin 4096) (l : Fin 2304) : val_main_v26 (F := Ideal) x (ix2 t l) = sh (cols 512 (at2 x)) 1 t.val l.val := by
  pointwise [val_main_v26, val_main_v24, val_main_v25, val_main_cst_1]
  unfold sh
  split
  · rw [if_neg (by omega)]
  · exact (v0_at x _ _).trans (if_pos (by omega)).symm

theorem v32_at (i : S4096x2304.Idx) : val_main_v32 (F := Ideal) x k i = value (at2 x) (at2 k) i := by
  obtain ⟨t, l, rfl⟩ : ∃ (t : Fin 4096) (l : Fin 2304), i = ix2 t l := ⟨_, _, eq_ix2 i⟩
  pointwise [val_main_v32, val_main_v23, val_main_v14, val_main_v5, val_main_v4, val_main_v3, val_main_v2, val_main_v1,
    val_main_v13, val_main_v12, val_main_v11, val_main_v10, val_main_v9, val_main_v22, val_main_v21, val_main_v20, val_main_v19, val_main_v18,
    val_main_v31, val_main_v30, val_main_v29, val_main_v28, val_main_v27]
  rw [v0_at, v8_at, v17_at, v26_at, at2_eq k, at2_eq k, at2_eq k, at2_eq k]
  rfl

end Reference

section Claims

theorem frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem algebraic : Cert.algebraic_Kernel21Ideal_Reference21Ideal := by
  intro m ρ m' ρ' _ hag
  refine ⟨_, (θ_run Cert.Kernel21Ideal.defs _ _).mono (fun r h c => ⟨(h c).1.trans (arr3 m c), (h c).2⟩)
    (Cert.Kernel21Ideal.Value.run_blocks m ρ), ?_⟩
  refine (θ_run Cert.Reference21Ideal.defs _ _).mono (fun r h c => ?_) (Cert.Reference21Ideal.Value.run m' ρ')
  obtain ⟨a0, a1⟩ := hag c
  refine ⟨(h c).1.trans ?_, (h c).2⟩
  refine (Cert.Reference21Ideal.Read.val_main_v32_eq _ _).trans (funext fun i => ?_)
  rw [a0, a1]
  exact v32_at _ _ i

end Claims

end Cert.GdnConv

end
-- ==== Proof.Conv.LruGradient.lean ====
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Pipeline.ReadBack
public import proofs.«01_k».proof.Proof.Conv.Spec

/-! The gradient of the recurrence's convolution: six blocks of 128 columns by two tiles of 2048 rows, the later rows of the result's
gradient and the earlier rows of the input coming from halos of eight; the taps' and the bias's gradients are summed over the two tiles. -/

@[expose] public section

set_option maxRecDepth 16384

noncomputable section

namespace Cert.LruConvBwd

open Idealize.ShloMosaic Idealize.ShloMosaic.TcCoe Idealize.ShloMosaic.Pointwise Idealize.ShloMosaic.StableHlo Idealize.SL.Sem
open Idealize.ShloMosaic.Pipeline (Dat)
open Cert.Conv

/-- The first result: the input's gradient in 768 of the columns, the argument aliased to it in the others. -/
def valueX (u w : ℕ → ℕ → EReal) (old : Cert.Kernel22Ideal.S4096x5376.Idx → EReal) (i : Cert.Kernel22Ideal.S4096x5376.Idx) : EReal :=
  if 30 ≤ (i 1).val / 128 ∧ (i 1).val / 128 < 36 then back u w (i 0).val ((i 1).val - 3840) else old i

/-- The second: the taps' gradients. -/
def valueW (u x : ℕ → ℕ → EReal) (i : Cert.Kernel22Ideal.S4x768.Idx) : EReal := taps u (cols 3840 x) (i 0).val (i 1).val

/-- The third: the bias's. -/
def valueB (u : ℕ → ℕ → EReal) (i : Cert.Kernel22Ideal.S1x768.Idx) : EReal := bias u (i 1).val

section Kernel

open Cert.Kernel22Ideal Cert.Kernel22Ideal.Gen

theorem idx : ∀ t : Fin cfg0.N,
    win0_0.index t = ![t.val % 2, t.val / 2] ∧ win0_1.index t = ![if t.val % 2 = 0 then 256 else 511, t.val / 2]
    ∧ win0_2.index t = ![t.val % 2, 30 + t.val / 2] ∧ win0_3.index t = ![if t.val % 2 = 0 then 0 else 255, 30 + t.val / 2]
    ∧ win0_4.index t = ![0, t.val / 2] ∧ win0_5.index t = ![t.val % 2, 30 + t.val / 2] ∧ win0_6.index t = ![0, t.val / 2]
    ∧ win0_7.index t = ![0, t.val / 2] ∧ (grid0.coords t 1).val = t.val % 2 :=
  (by decide +kernel : ∀ t : Fin grid0.N, _)

/-- Whether the tile is the last, … -/
abbrev isLast (i : grid0.Coords) : BitVec 1 := Scalar.cmpi .eq (BitVec.ofNat 32 (i 1).val) 1#32
/-- … and the first. -/
abbrev isFirst (i : grid0.Coords) : BitVec 1 := Scalar.cmpi .eq (BitVec.ofNat 32 (i 1).val) 0#32

theorem pay3_at (i : grid0.Coords) (d : Vec Ideal S2048x128 .f32) (n : Vec Ideal S8x128 .f32) (w3 w0 w1 w2 : Vec Ideal S1x128 .f32)
    (r : Fin 2048) (l : Fin 128) : k0_pay3 (F := Ideal) i d n w3 w0 w1 w2 (ix2 r l)
      = d (ix2 r l) * w3 (ix2 0 l) + before (isLast i) n d ⟨(r.val + 2056 - 2053) % 2056, by omega⟩ l * w0 (ix2 0 l)
        + before (isLast i) n d ⟨(r.val + 2056 - 2054) % 2056, by omega⟩ l * w1 (ix2 0 l)
        + before (isLast i) n d ⟨(r.val + 2056 - 2055) % 2056, by omega⟩ l * w2 (ix2 0 l) := by
  pointwise [k0_pay3]
  rfl

variable (i : grid0.Coords) (d : Vec Ideal S2048x128 .f32) (p : Vec Ideal S8x128 .f32) (x : Vec Ideal S2048x128 .f32) (v : Vec Ideal S1x128 .f32)

theorem pay8_at (l : Fin 128) : k0_pay8 (F := Ideal) d (k0_pay4 i p) x v (ix2 0 l)
    = v (ix2 0 l) + ∑ r : Fin 2048, d (ix2 r l) * after (isFirst i) p x ⟨(8 + r.val + 2056 - 3) % 2056, by omega⟩ l := by
  pointwise [k0_pay8, k0_pay5, k0_pay4]
  rfl

theorem pay9_at (l : Fin 128) : k0_pay9 (F := Ideal) d (k0_pay4 i p) x v (ix2 0 l)
    = v (ix2 0 l) + ∑ r : Fin 2048, d (ix2 r l) * after (isFirst i) p x ⟨(8 + r.val + 2056 - 2) % 2056, by omega⟩ l := by
  pointwise [k0_pay9, k0_pay5, k0_pay4]
  rfl

theorem pay10_at (l : Fin 128) : k0_pay10 (F := Ideal) d (k0_pay4 i p) x v (ix2 0 l)
    = v (ix2 0 l) + ∑ r : Fin 2048, d (ix2 r l) * after (isFirst i) p x ⟨(8 + r.val + 2056 - 1) % 2056, by omega⟩ l := by
  pointwise [k0_pay10, k0_pay5, k0_pay4]
  rfl

theorem pay1_at (l : Fin 128) : k0_pay1 (F := Ideal) d (k0_pay11 (k0_pay4 i p) x) (k0_pay12 v) (ix2 0 l)
    = v (ix2 0 l) + ∑ r : Fin 2048, d (ix2 r l) * x (ix2 r l) := by
  pointwise [k0_pay1, k0_pay11, k0_pay12, k0_pay5, k0_pay4]

theorem pay2_at (l : Fin 128) : k0_pay2 (F := Ideal) d v (ix2 0 l) = v (ix2 0 l) + ∑ r : Fin 2048, d (ix2 r l) := by
  pointwise [k0_pay2]

theorem pay6_at (j : S4x128.Idx) : k0_pay6 (F := Ideal) j = 0 := by
  rw [eq_ix2 j]
  pointwise [k0_pay6]

theorem pay7_at (j : S1x128.Idx) : k0_pay7 (F := Ideal) j = 0 := by
  rw [eq_ix2 j]
  pointwise [k0_pay7]

variable (m : (ℓ : Loc nD τ sig) → Buf (Elt Ideal) ℓ) (c : Dev nD)

theorem d_at (t : Fin cfg0.N) (r : Fin 2048) (l : Fin 128) :
    iblk m c 0 t (ix2 r l) = at2 (m ((c : Thread nD τ).loc main_arg0)) (2048 * (t.val % 2) + r.val) (128 * (t.val / 2) + l.val) := by
  have ht : t.val < 12 := t.isLt
  refine Eq.trans ?_ (at2_eq (m ((c : Thread nD τ).loc main_arg0)) ⟨2048 * (t.val % 2) + r.val, by omega⟩ ⟨128 * (t.val / 2) + l.val, by omega⟩)
  blk_point [iblk, V, idx t]

theorem next_at (t : Fin cfg0.N) (h : t.val % 2 = 0) (r : Fin 8) (l : Fin 128) :
    iblk m c 1 t (ix2 r l) = at2 (m ((c : Thread nD τ).loc main_arg0)) (2048 * (t.val % 2) + 2048 + r.val) (128 * (t.val / 2) + l.val) := by
  have ht : t.val < 12 := t.isLt
  have hi := idx t
  simp only [h, reduceIte] at hi
  refine Eq.trans ?_ (at2_eq (m ((c : Thread nD τ).loc main_arg0)) ⟨2048 * (t.val % 2) + 2048 + r.val, by omega⟩ ⟨128 * (t.val / 2) + l.val, by omega⟩)
  blk_point [iblk, V, hi]

theorem x_at (t : Fin cfg0.N) (r : Fin 2048) (l : Fin 128) :
    iblk m c 2 t (ix2 r l) = cols 3840 (at2 (m ((c : Thread nD τ).loc main_arg1))) (2048 * (t.val % 2) + r.val) (128 * (t.val / 2) + l.val) := by
  have ht : t.val < 12 := t.isLt
  refine Eq.trans ?_ (at2_eq (m ((c : Thread nD τ).loc main_arg1)) ⟨2048 * (t.val % 2) + r.val, by omega⟩ ⟨3840 + (128 * (t.val / 2) + l.val), by omega⟩)
  blk_point [iblk, V, idx t]

theorem prev_at (t : Fin cfg0.N) (h : t.val % 2 = 1) (r : Fin 8) (l : Fin 128) :
    iblk m c 3 t (ix2 r l) = cols 3840 (at2 (m ((c : Thread nD τ).loc main_arg1))) (2048 * (t.val % 2) - 8 + r.val) (128 * (t.val / 2) + l.val) := by
  have ht : t.val < 12 := t.isLt
  have hi := idx t
  simp only [h, one_ne_zero, reduceIte] at hi
  refine Eq.trans ?_ (at2_eq (m ((c : Thread nD τ).loc main_arg1)) ⟨2048 * (t.val % 2) - 8 + r.val, by omega⟩ ⟨3840 + (128 * (t.val / 2) + l.val), by omega⟩)
  blk_point [iblk, V, hi]

theorem before_at (t : Fin cfg0.N) (s : ℕ) (hs : s ≤ 8) (r : Fin 2048) (l : Fin 128) (q : Fin (2048 + 8)) (hq : q.val = r.val + s) :
    before (isLast (grid0.coords t)) (iblk m c 1 t) (iblk m c 0 t) q l
      = fw (at2 (m ((c : Thread nD τ).loc main_arg0))) s (2048 * (t.val % 2) + r.val) (128 * (t.val / 2) + l.val) := by
  refine before_fw _ _ _ _ (d_at m c t) ?_ s hs r l q hq
  rcases (by omega : t.val % 2 = 0 ∨ t.val % 2 = 1) with h | h
  · exact .inr ⟨by rw [isLast, (idx t).2.2.2.2.2.2.2.2, h]; rfl, by omega, next_at m c t h⟩
  · exact .inl ⟨by rw [isLast, (idx t).2.2.2.2.2.2.2.2, h]; rfl, by omega⟩

theorem after_at (t : Fin cfg0.N) (s : ℕ) (hs : s ≤ 8) (r : Fin 2048) (l : Fin 128) (q : Fin (8 + 2048)) (hq : q.val = 8 + r.val - s) :
    after (isFirst (grid0.coords t)) (iblk m c 3 t) (iblk m c 2 t) q l
      = sh (cols 3840 (at2 (m ((c : Thread nD τ).loc main_arg1)))) s (2048 * (t.val % 2) + r.val) (128 * (t.val / 2) + l.val) := by
  refine after_sh _ _ _ _ (x_at m c t) ?_ s hs r l q hq
  rcases (by omega : t.val % 2 = 0 ∨ t.val % 2 = 1) with h | h
  · exact .inl ⟨by rw [isFirst, (idx t).2.2.2.2.2.2.2.2, h]; rfl, by omega⟩
  · exact .inr ⟨by rw [isFirst, (idx t).2.2.2.2.2.2.2.2, h]; rfl, by omega, prev_at m c t h⟩

/-! ### The input's gradient -/

/-- What grid point `t` stores of it. -/
abbrev tile (t : Fin cfg0.N) : FVec Ideal S2048x128 .bf16 :=
  k0_pay3 (F := Ideal) (grid0.coords t) (iblk m c 0 t) (iblk m c 1 t)
    (View.ld (iblk m c 4 t) (Rect.unit ![3, 0] ![1, 128] inb_S4x128_S1x128_3_0)) (View.ld (iblk m c 4 t) (Rect.unit ![0, 0] ![1, 128] inb_S4x128_S1x128_0_0))
    (View.ld (iblk m c 4 t) (Rect.unit ![1, 0] ![1, 128] inb_S4x128_S1x128_1_0)) (View.ld (iblk m c 4 t) (Rect.unit ![2, 0] ![1, 128] inb_S4x128_S1x128_2_0))

theorem tile_at (t : Fin cfg0.N) (r : Fin 2048) (l : Fin 128) : tile m c t (ix2 r l)
    = back (at2 (m ((c : Thread nD τ).loc main_arg0))) (at2 (m ((c : Thread nD τ).loc main_arg2))) (2048 * (t.val % 2) + r.val) (128 * (t.val / 2) + l.val) := by
  have ht : t.val < 12 := t.isLt
  have h3 : View.ld (iblk m c 4 t) (Rect.unit ![3, 0] ![1, 128] inb_S4x128_S1x128_3_0) (ix2 0 l)
      = at2 (m ((c : Thread nD τ).loc main_arg2)) 3 (128 * (t.val / 2) + l.val) := by
    refine Eq.trans ?_ (at2_eq (m ((c : Thread nD τ).loc main_arg2)) 3 ⟨128 * (t.val / 2) + l.val, by omega⟩)
    blk_point [iblk, V, idx t]
  have h0 : View.ld (iblk m c 4 t) (Rect.unit ![0, 0] ![1, 128] inb_S4x128_S1x128_0_0) (ix2 0 l)
      = at2 (m ((c : Thread nD τ).loc main_arg2)) 0 (128 * (t.val / 2) + l.val) := by
    refine Eq.trans ?_ (at2_eq (m ((c : Thread nD τ).loc main_arg2)) 0 ⟨128 * (t.val / 2) + l.val, by omega⟩)
    blk_point [iblk, V, idx t]
  have h1 : View.ld (iblk m c 4 t) (Rect.unit ![1, 0] ![1, 128] inb_S4x128_S1x128_1_0) (ix2 0 l)
      = at2 (m ((c : Thread nD τ).loc main_arg2)) 1 (128 * (t.val / 2) + l.val) := by
    refine Eq.trans ?_ (at2_eq (m ((c : Thread nD τ).loc main_arg2)) 1 ⟨128 * (t.val / 2) + l.val, by omega⟩)
    blk_point [iblk, V, idx t]
  have h2 : View.ld (iblk m c 4 t) (Rect.unit ![2, 0] ![1, 128] inb_S4x128_S1x128_2_0) (ix2 0 l)
      = at2 (m ((c : Thread nD τ).loc main_arg2)) 2 (128 * (t.val / 2) + l.val) := by
    refine Eq.trans ?_ (at2_eq (m ((c : Thread nD τ).loc main_arg2)) 2 ⟨128 * (t.val / 2) + l.val, by omega⟩)
    blk_point [iblk, V, idx t]
  rw [tile, pay3_at, before_at m c t 3 (by omega) r l _ (by simp only; omega), before_at m c t 2 (by omega) r l _ (by simp only; omega),
    before_at m c t 1 (by omega) r l _ (by simp only; omega), d_at, h3, h0, h1, h2]
  rfl

theorem out5 (t : Fin cfg0.N) (y : S2048x128.Idx) : (outsAt0 m c t.val t.isLt).1 y = tile m c t (ix2 (y 0) (y 1)) := by
  refine Eq.trans ?_ (congrArg (tile m c t) (eq_ix2 y))
  by_cases h : t.val % 2 = 0
  · rw [outsAt0_A m c t h]
    frame_out
    rfl
  · rw [outsAt0_B m c t h]
    frame_out
    rfl

theorem kept : V m c main_v0_0 = m (c, Proc.devRef .tc main_arg3) := by
  unfold V
  rfl

theorem arr5 : (dats m 0 c).arrAt 5 cfg0.N = valueX (at2 (m ((c : Thread nD τ).loc main_arg0))) (at2 (m ((c : Thread nD τ).loc main_arg2)))
    (m ((c : Thread nD τ).loc main_arg3)) := by
  funext i
  refine ((dats m 0 c).arrAt_apply_of_coversWhere 5
    (fun i : S4096x5376.Idx => back (at2 (m ((c : Thread nD τ).loc main_arg0))) (at2 (m ((c : Thread nD τ).loc main_arg2))) (i 0).val ((i 1).val - 3840))
    (P := fun i : S4096x5376.Idx => 30 ≤ (i 1).val / 128 ∧ (i 1).val / 128 < 36) (fun β => 30 ≤ β (1 : Fin 2) ∧ β (1 : Fin 2) < 36) (by decide +kernel)
    (fun t hf y => ?_) (fun j => by blk_simp [Pipeline.Window.cell_apply]) i).trans (if_congr Iff.rfl rfl (congrFun (kept m c) i))
  blk_simp
  rw [after0_5]
  refine (out5 m c t y).trans ((tile_at m c t _ _).trans (congrArg₂ (back _ _) ?_ ?_)) <;> (blk_simp [idx t]; try omega)

/-! ### The taps' and the bias's gradients -/

/-- Grid point `t`'s part of a tap's gradient, … -/
abbrev partW (t : Fin cfg0.N) (a l : ℕ) : EReal :=
  tapsTile (at2 (m ((c : Thread nD τ).loc main_arg0))) (cols 3840 (at2 (m ((c : Thread nD τ).loc main_arg1)))) (2048 * (t.val % 2)) a (128 * (t.val / 2) + l)
/-- … and of the bias's. -/
abbrev partB (t : Fin cfg0.N) (l : ℕ) : EReal :=
  biasTile (at2 (m ((c : Thread nD τ).loc main_arg0))) (2048 * (t.val % 2)) (128 * (t.val / 2) + l)

theorem tap0 (t : Fin cfg0.N) (l : Fin 128) :
    k0_pay8 (F := Ideal) (iblk m c 0 t) (k0_pay4 (grid0.coords t) (iblk m c 3 t)) (iblk m c 2 t) v (ix2 0 l) = v (ix2 0 l) + partW m c t 0 l.val := by
  rw [pay8_at, partW, tapsTile]
  exact congrArg _ (Finset.sum_congr rfl fun r _ => congrArg₂ (· * ·) (d_at m c t r l) (after_at m c t 3 (by omega) r l _ (by simp only; omega)))

theorem tap1 (t : Fin cfg0.N) (l : Fin 128) :
    k0_pay9 (F := Ideal) (iblk m c 0 t) (k0_pay4 (grid0.coords t) (iblk m c 3 t)) (iblk m c 2 t) v (ix2 0 l) = v (ix2 0 l) + partW m c t 1 l.val := by
  rw [pay9_at, partW, tapsTile]
  exact congrArg _ (Finset.sum_congr rfl fun r _ => congrArg₂ (· * ·) (d_at m c t r l) (after_at m c t 2 (by omega) r l _ (by simp only; omega)))

theorem tap2 (t : Fin cfg0.N) (l : Fin 128) :
    k0_pay10 (F := Ideal) (iblk m c 0 t) (k0_pay4 (grid0.coords t) (iblk m c 3 t)) (iblk m c 2 t) v (ix2 0 l) = v (ix2 0 l) + partW m c t 2 l.val := by
  rw [pay10_at, partW, tapsTile]
  exact congrArg _ (Finset.sum_congr rfl fun r _ => congrArg₂ (· * ·) (d_at m c t r l) (after_at m c t 1 (by omega) r l _ (by simp only; omega)))

theorem tap3 (t : Fin cfg0.N) (l : Fin 128) :
    k0_pay1 (F := Ideal) (iblk m c 0 t) (k0_pay11 (k0_pay4 (grid0.coords t) (iblk m c 3 t)) (iblk m c 2 t)) (k0_pay12 v) (ix2 0 l)
      = v (ix2 0 l) + partW m c t 3 l.val := by
  rw [pay1_at, partW, tapsTile]
  exact congrArg _ (Finset.sum_congr rfl fun r _ => congrArg₂ (· * ·) (d_at m c t r l) ((x_at m c t r l).trans (sh_zero _ _ _).symm))

theorem biasPart (t : Fin cfg0.N) (l : Fin 128) : k0_pay2 (F := Ideal) (iblk m c 0 t) v (ix2 0 l) = v (ix2 0 l) + partB m c t l.val := by
  rw [pay2_at, partB, biasTile]
  exact congrArg _ (Finset.sum_congr rfl fun r _ => d_at m c t r l)

theorem back0 (v : View sig .tc .vmem S4x128 .f32) (L : LoadRect S4x128) (j : L.shape.Idx) :
    v.readCov (Val := Elt Ideal) [⟨Rect.unit ![0, 0] ![4, 128] inb_S4x128_S4x128_0_0, k0_pay6 (F := Ideal)⟩] L j = 0 := by
  rw [View.readCov_eq_canon', View.canon_unit_zero (by decide)]
  exact pay6_at _

theorem first2 (x : S1x128.Idx) : x = ix2 (0 : Fin 1) (x 1) :=
  (eq_ix2 x).trans (congrArg (fun a : Fin 1 => ix2 a (x 1)) (Subsingleton.elim _ _))

theorem row0 (l : Fin 128) : (Rect.unit (s := S4x128) ![0, 0] ![1, 128] inb_S4x128_S1x128_0_0).emb (ix2 (0 : Fin 1) l) = ix2 (0 : Fin 4) l :=
  funext fun a => match a with
    | 0 => rfl
    | 1 => Fin.ext (by show 0 + 1 * l.val = l.val; omega)
theorem row1 (l : Fin 128) : (Rect.unit (s := S4x128) ![1, 0] ![1, 128] inb_S4x128_S1x128_1_0).emb (ix2 (0 : Fin 1) l) = ix2 (1 : Fin 4) l :=
  funext fun a => match a with
    | 0 => rfl
    | 1 => Fin.ext (by show 0 + 1 * l.val = l.val; omega)
theorem row2 (l : Fin 128) : (Rect.unit (s := S4x128) ![2, 0] ![1, 128] inb_S4x128_S1x128_2_0).emb (ix2 (0 : Fin 1) l) = ix2 (2 : Fin 4) l :=
  funext fun a => match a with
    | 0 => rfl
    | 1 => Fin.ext (by show 0 + 1 * l.val = l.val; omega)
theorem row3 (l : Fin 128) : (Rect.unit (s := S4x128) ![3, 0] ![1, 128] inb_S4x128_S1x128_3_0).emb (ix2 (0 : Fin 1) l) = ix2 (3 : Fin 4) l :=
  funext fun a => match a with
    | 0 => rfl
    | 1 => Fin.ext (by show 0 + 1 * l.val = l.val; omega)

/-- Four stored rows, over anything, leave the four rows. -/
theorem rows4 (G : S4x128.Idx → EReal) (p0 p1 p2 p3 : S1x128.Idx → EReal) (L : List (View.Piece (Elt Ideal) S4x128 .f32))
    (h0 : ∀ l : Fin 128, p0 (ix2 (0 : Fin 1) l) = G (ix2 (0 : Fin 4) l))
    (h1 : ∀ l : Fin 128, p1 (ix2 (0 : Fin 1) l) = G (ix2 (1 : Fin 4) l))
    (h2 : ∀ l : Fin 128, p2 (ix2 (0 : Fin 1) l) = G (ix2 (2 : Fin 4) l))
    (h3 : ∀ l : Fin 128, p3 (ix2 (0 : Fin 1) l) = G (ix2 (3 : Fin 4) l)) (y : S4x128.Idx) :
    View.canon (Val := Elt Ideal) (⟨Rect.unit ![3, 0] ![1, 128] inb_S4x128_S1x128_3_0, p3⟩ :: ⟨Rect.unit ![2, 0] ![1, 128] inb_S4x128_S1x128_2_0, p2⟩
      :: ⟨Rect.unit ![1, 0] ![1, 128] inb_S4x128_S1x128_1_0, p1⟩ :: ⟨Rect.unit ![0, 0] ![1, 128] inb_S4x128_S1x128_0_0, p0⟩ :: L) y = G y := by
  refine View.canon_append_of_piecesOf (Val := Elt Ideal) (e := .f32) G L [_, _, _, _] ⟨fun x => ?_, fun x => ?_, fun x => ?_, fun x => ?_, trivial⟩ y ?_
  · rw [first2 x]
    exact (h3 (x 1)).trans (congrArg G (row3 (x 1)).symm)
  · rw [first2 x]
    exact (h2 (x 1)).trans (congrArg G (row2 (x 1)).symm)
  · rw [first2 x]
    exact (h1 (x 1)).trans (congrArg G (row1 (x 1)).symm)
  · rw [first2 x]
    exact (h0 (x 1)).trans (congrArg G (row0 (x 1)).symm)
  · obtain ⟨j, l, rfl⟩ : ∃ (j : Fin 4) (l : Fin 128), y = ix2 j l := ⟨y 0, y 1, eq_ix2 y⟩
    fin_cases j
    · exact ⟨_, .tail _ (.tail _ (.tail _ (.head _))), row0 l ▸ LoadRect.idx_mem _ _⟩
    · exact ⟨_, .tail _ (.tail _ (.head _)), row1 l ▸ LoadRect.idx_mem _ _⟩
    · exact ⟨_, .tail _ (.head _), row2 l ▸ LoadRect.idx_mem _ _⟩
    · exact ⟨_, .head _, row3 l ▸ LoadRect.idx_mem _ _⟩

/-- The taps' block after the first of a column's two points. -/
theorem fst6 (t : Fin cfg0.N) (h : t.val % 2 = 0) (y : S4x128.Idx) :
    (outsAt0 m c t.val t.isLt).2.1 y = partW m c t (y 0).val (y 1).val := by
  rw [outsAt0_A m c t h]
  frame_out
  simp (disch := decide) only [↓ View.readCov_skip]
  refine rows4 (fun y => partW m c t (y 0).val (y 1).val) _ _ _ _ _ (fun l => ?_) (fun l => ?_) (fun l => ?_) (fun l => ?_) y
  · exact (tap0 _ m c t l).trans (by rw [back0, zero_add]; rfl)
  · exact (tap1 _ m c t l).trans (by rw [back0, zero_add]; rfl)
  · exact (tap2 _ m c t l).trans (by rw [back0, zero_add]; rfl)
  · exact (tap3 _ m c t l).trans (by rw [back0, zero_add]; rfl)

/-- … and after the second. -/
theorem snd6 (t : Fin cfg0.N) (h : ¬t.val % 2 = 0) (y : S4x128.Idx) :
    (outsAt0 m c t.val t.isLt).2.1 y = (outsAt0 m c (t.val - 1) (Nat.lt_of_le_of_lt (Nat.sub_le _ _) t.isLt)).2.1 y + partW m c t (y 0).val (y 1).val := by
  rw [outsAt0_B m c t h]
  frame_out
  refine rows4 (fun y => (outsAt0 m c (t.val - 1) (Nat.lt_of_le_of_lt (Nat.sub_le _ _) t.isLt)).2.1 y + partW m c t (y 0).val (y 1).val) _ _ _ _ _
    (fun l => ?_) (fun l => ?_) (fun l => ?_) (fun l => ?_) y
  · exact (tap0 _ m c t l).trans (congrArg (· + _) (congrArg _ (row0 l)))
  · exact (tap1 _ m c t l).trans (congrArg (· + _) (congrArg _ (row1 l)))
  · exact (tap2 _ m c t l).trans (congrArg (· + _) (congrArg _ (row2 l)))
  · exact (tap3 _ m c t l).trans (congrArg (· + _) (congrArg _ (row3 l)))

theorem fst7 (t : Fin cfg0.N) (h : t.val % 2 = 0) (y : S1x128.Idx) : (outsAt0 m c t.val t.isLt).2.2 y = partB m c t (y 1).val := by
  rw [outsAt0_A m c t h, first2 y]
  frame_out
  exact (biasPart _ m c t (y 1)).trans ((congrArg (· + _) (pay7_at _)).trans (zero_add _))

theorem snd7 (t : Fin cfg0.N) (h : ¬t.val % 2 = 0) (y : S1x128.Idx) :
    (outsAt0 m c t.val t.isLt).2.2 y = (outsAt0 m c (t.val - 1) (Nat.lt_of_le_of_lt (Nat.sub_le _ _) t.isLt)).2.2 y + partB m c t (y 1).val := by
  rw [outsAt0_B m c t h, first2 y]
  frame_out
  exact biasPart _ m c t (y 1)

theorem emb6 (u x : ℕ → ℕ → EReal) (t : Fin cfg0.N) (y : ((cfg0.win 6).xblock (cfg0.grid.coords t)).Idx) :
    valueW u x (((View.whole main_v0_1).slice (win0_6.rect t)).emb y) = taps u (cols 3840 x) (y 0).val (128 * (t.val / 2) + (y 1).val) := by
  have h0 : ((((View.whole main_v0_1).slice (win0_6.rect t)).emb y) 0).val = (y 0).val := by blk_simp [idx t] <;> try omega
  have h1 : ((((View.whole main_v0_1).slice (win0_6.rect t)).emb y) 1).val = 128 * (t.val / 2) + (y 1).val := by blk_simp [idx t] <;> try omega
  rw [valueW, h0, h1]

theorem emb7 (u : ℕ → ℕ → EReal) (t : Fin cfg0.N) (y : ((cfg0.win 7).xblock (cfg0.grid.coords t)).Idx) :
    valueB u (((View.whole main_v0_2).slice (win0_7.rect t)).emb y) = bias u (128 * (t.val / 2) + (y 1).val) := by
  have h1 : ((((View.whole main_v0_2).slice (win0_7.rect t)).emb y) 1).val = 128 * (t.val / 2) + (y 1).val := by blk_simp [idx t] <;> try omega
  rw [valueB, h1]

theorem arr6 : (dats m 0 c).arrAt 6 cfg0.N = valueW (at2 (m ((c : Thread nD τ).loc main_arg0))) (at2 (m ((c : Thread nD τ).loc main_arg1))) := by
  refine (dats m 0 c).arrAt_eq_of_covers 6 _ (by decide +kernel) fun t hf y => ?_
  have h : t.val % 2 = 1 := (flush0_6 t).mp hf
  blk_simp
  rw [after0_6, emb6]
  refine (snd6 m c t (by omega) y).trans ?_
  refine (congrArg (· + _) (fst6 m c ⟨t.val - 1, Nat.lt_of_le_of_lt (Nat.sub_le _ _) t.isLt⟩ (by simp only; omega) y)).trans ?_
  have hd : (t.val - 1) / 2 = t.val / 2 := by omega
  have hr : (t.val - 1) % 2 = 0 := by omega
  simp only [partW, hd, hr, h, Nat.mul_zero, Nat.mul_one, ← taps_tiles]

theorem arr7 : (dats m 0 c).arrAt 7 cfg0.N = valueB (at2 (m ((c : Thread nD τ).loc main_arg0))) := by
  refine (dats m 0 c).arrAt_eq_of_covers 7 _ (by decide +kernel) fun t hf y => ?_
  have h : t.val % 2 = 1 := (flush0_7 t).mp hf
  blk_simp
  rw [after0_7, emb7]
  refine (snd7 m c t (by omega) y).trans ?_
  refine (congrArg (· + _) (fst7 m c ⟨t.val - 1, Nat.lt_of_le_of_lt (Nat.sub_le _ _) t.isLt⟩ (by simp only; omega) y)).trans ?_
  have hd : (t.val - 1) / 2 = t.val / 2 := by omega
  have hr : (t.val - 1) % 2 = 0 := by omega
  simp only [partB, hd, hr, h, Nat.mul_zero, Nat.mul_one, ← bias_tiles]

end Kernel

section Reference

open Cert.Reference22Ideal Cert.Reference22Ideal.Gen Cert.Reference22Ideal.Read

variable (d : (⟨S4096x768, .f32⟩ : BufTy).Contents (Elt Ideal)) (x : (⟨S4096x5376, .f32⟩ : BufTy).Contents (Elt Ideal))
  (k : (⟨S4x768, .f32⟩ : BufTy).Contents (Elt Ideal)) (old : (⟨S4096x5376, .bf16⟩ : BufTy).Contents (Elt Ideal))

theorem v0_at (t : Fin 4096) (l : Fin 768) : val_main_v0 (F := Ideal) x (ix2 t l) = cols 3840 (at2 x) t.val l.val := by
  pointwise [val_main_v0]
  exact at2_eq x t ⟨3840 + l.val, by omega⟩

theorem v9_at (t : Fin 4096) (l : Fin 768) : val_main_v9 (F := Ideal) x (ix2 t l) = sh (cols 3840 (at2 x)) 3 t.val l.val := by
  pointwise [val_main_v9, val_main_v7, val_main_v8, val_main_cst_0]
  unfold sh
  split
  · rw [if_neg (by omega)]
  · exact (v0_at x _ _).trans (if_pos (by omega)).symm

theorem v19_at (t : Fin 4096) (l : Fin 768) : val_main_v19 (F := Ideal) x (ix2 t l) = sh (cols 3840 (at2 x)) 2 t.val l.val := by
  pointwise [val_main_v19, val_main_v17, val_main_v18, val_main_cst_2]
  unfold sh
  split
  · rw [if_neg (by omega)]
  · exact (v0_at x _ _).trans (if_pos (by omega)).symm

theorem v29_at (t : Fin 4096) (l : Fin 768) : val_main_v29 (F := Ideal) x (ix2 t l) = sh (cols 3840 (at2 x)) 1 t.val l.val := by
  pointwise [val_main_v29, val_main_v27, val_main_v28, val_main_cst_4]
  unfold sh
  split
  · rw [if_neg (by omega)]
  · exact (v0_at x _ _).trans (if_pos (by omega)).symm

theorem v46_at (t : Fin 4096) (l : Fin 768) : val_main_v46 (F := Ideal) d k (ix2 t l) = at2 d t.val l.val * at2 k 2 l.val := by
  pointwise [val_main_v46, val_main_v45, val_main_v39, val_main_v33, val_main_v32, val_main_v31]
  rw [at2_eq d, at2_eq k]
  rfl

theorem v57_at (t : Fin 4096) (l : Fin 768) : val_main_v57 (F := Ideal) d k (ix2 t l) = at2 d t.val l.val * at2 k 1 l.val := by
  pointwise [val_main_v57, val_main_v56, val_main_v39, val_main_v23, val_main_v22, val_main_v21]
  rw [at2_eq d, at2_eq k]
  rfl

theorem v70_at (t : Fin 4096) (l : Fin 768) : val_main_v70 (F := Ideal) d k (ix2 t l) = at2 d t.val l.val * at2 k 0 l.val := by
  pointwise [val_main_v70, val_main_v69, val_main_v39, val_main_v13, val_main_v12, val_main_v11]
  rw [at2_eq d, at2_eq k]
  rfl

theorem v83_at (t : Fin 4096) (l : Fin 768) : val_main_v83 (F := Ideal) d k (ix2 t l) = at2 d t.val l.val * at2 k 3 l.val := by
  pointwise [val_main_v83, val_main_v82, val_main_v39, val_main_v4, val_main_v3, val_main_v2]
  rw [at2_eq d, at2_eq k]
  rfl

theorem v52_at (t : Fin 4096) (l : Fin 768) : val_main_v52 (F := Ideal) d k (ix2 t l) = fw (at2 d) 1 t.val l.val * at2 k 2 l.val := by
  pointwise [val_main_v52, val_main_v51, val_main_cst_10]
  unfold fw
  split
  · rw [if_pos (by omega), v46_at]
    exact congrArg (fun n => at2 d n _ * _) (Nat.add_comm _ _)
  · rw [if_neg (by omega), zero_mul]

theorem v64_at (t : Fin 4096) (l : Fin 768) : val_main_v64 (F := Ideal) d k (ix2 t l) = fw (at2 d) 2 t.val l.val * at2 k 1 l.val := by
  pointwise [val_main_v64, val_main_v63, val_main_cst_14]
  unfold fw
  split
  · rw [if_pos (by omega), v57_at]
    exact congrArg (fun n => at2 d n _ * _) (Nat.add_comm _ _)
  · rw [if_neg (by omega), zero_mul]

theorem v77_at (t : Fin 4096) (l : Fin 768) : val_main_v77 (F := Ideal) d k (ix2 t l) = fw (at2 d) 3 t.val l.val * at2 k 0 l.val := by
  pointwise [val_main_v77, val_main_v76, val_main_cst_18]
  unfold fw
  split
  · rw [if_pos (by omega), v70_at]
    exact congrArg (fun n => at2 d n _ * _) (Nat.add_comm _ _)
  · rw [if_neg (by omega), zero_mul]

theorem v84_at (t : Fin 4096) (l : Fin 768) : val_main_v84 (F := Ideal) d k (ix2 t l) = back (at2 d) (at2 k) t.val l.val := by
  pointwise [val_main_v84, val_main_v78, val_main_v65]
  rw [v52_at, v64_at, v77_at, v83_at, back]
  ac_rfl

theorem v43_at (l : Fin 768) : val_main_v43 (F := Ideal) d x (ix1 l) = taps (at2 d) (cols 3840 (at2 x)) 2 l.val := by
  pointwise [val_main_v43, val_main_v42, val_main_v39, val_main_cst_7]
  exact Finset.sum_congr rfl fun t _ => (mul_comm _ _).trans (congrArg₂ (· * ·) (at2_eq d t l) (v29_at x t l))

theorem v54_at (l : Fin 768) : val_main_v54 (F := Ideal) d x (ix1 l) = taps (at2 d) (cols 3840 (at2 x)) 1 l.val := by
  pointwise [val_main_v54, val_main_v53, val_main_v39, val_main_cst_11]
  exact Finset.sum_congr rfl fun t _ => (mul_comm _ _).trans (congrArg₂ (· * ·) (at2_eq d t l) (v19_at x t l))

theorem v67_at (l : Fin 768) : val_main_v67 (F := Ideal) d x (ix1 l) = taps (at2 d) (cols 3840 (at2 x)) 0 l.val := by
  pointwise [val_main_v67, val_main_v66, val_main_v39, val_main_cst_15]
  exact Finset.sum_congr rfl fun t _ => (mul_comm _ _).trans (congrArg₂ (· * ·) (at2_eq d t l) (v9_at x t l))

theorem v80_at (l : Fin 768) : val_main_v80 (F := Ideal) d x (ix1 l) = taps (at2 d) (cols 3840 (at2 x)) 3 l.val := by
  pointwise [val_main_v80, val_main_v79, val_main_v39, val_main_cst_19]
  exact Finset.sum_congr rfl fun t _ => (mul_comm _ _).trans (congrArg₂ (· * ·) (at2_eq d t l) ((v0_at x t l).trans (sh_zero _ _ _).symm))

theorem v88_at (i : S4x768.Idx) : val_main_v88 (F := Ideal) d x i = valueW (at2 d) (at2 x) i := by
  obtain ⟨a, l, rfl⟩ : ∃ (a : Fin 4) (l : Fin 768), i = ix2 a l := ⟨_, _, eq_ix2 i⟩
  pointwise [val_main_v88, val_main_v87, val_main_v86, val_main_v85, val_main_v81, val_main_v74, val_main_v73, val_main_v72, val_main_v71, val_main_v68,
    val_main_v61, val_main_v60, val_main_v59, val_main_v58, val_main_v55, val_main_v49, val_main_v48, val_main_v47, val_main_v44,
    val_main_cst_8, val_main_cst_9, val_main_cst_12, val_main_cst_13, val_main_cst_16, val_main_cst_17, val_main_cst_20, val_main_cst_21]
  simp only [v43_at, v54_at, v67_at, v80_at, Finset.univ_unique, Finset.sum_singleton]
  fin_cases a <;> simp <;> rfl

theorem v92_at (i : S4096x5376.Idx) : val_main_v92 (F := Ideal) d k old i = valueX (at2 d) (at2 k) old i := by
  obtain ⟨a, l, rfl⟩ : ∃ (a : Fin 4096) (l : Fin 5376), i = ix2 a l := ⟨_, _, eq_ix2 i⟩
  pointwise [val_main_v92, val_main_v91, val_main_v90, val_main_v89]
  show _ = if 30 ≤ l.val / 128 ∧ l.val / 128 < 36 then back (at2 d) (at2 k) a.val (l.val - 3840) else old (ix2 a l)
  split
  · rename_i h
    exact (if_neg (by omega)).symm
  · rename_i h
    split
    · rename_i h'
      have h' : l.val - 3840 < 768 := h'
      exact (v84_at d k a ⟨l.val - 3840, h'⟩).trans (if_pos (by omega)).symm
    · rename_i h'
      have h' : ¬l.val - 3840 < 768 := h'
      have e : 4608 + (l.val - 3840 - 768) = l.val := by omega
      refine Eq.trans (congrArg (fun q : Fin 5376 => old (ix2 a q)) (?_ : (⟨4608 + (l.val - 3840 - 768), by omega⟩ : Fin 5376) = l)) (if_neg (by omega)).symm
      exact Fin.ext e

theorem v41_at (i : S1x768.Idx) : val_main_v41 (F := Ideal) d i = valueB (at2 d) i := by
  obtain ⟨a, l, rfl⟩ : ∃ (a : Fin 1) (l : Fin 768), i = ix2 a l := ⟨_, _, eq_ix2 i⟩
  pointwise [val_main_v41, val_main_v40, val_main_cst_6]
  exact Finset.sum_congr rfl fun t _ => at2_eq d t l

end Reference

section Claims

theorem frame_reference : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

theorem algebraic : Cert.algebraic_Kernel22Ideal_Reference22Ideal := by
  intro m ρ m' ρ' _ hag
  refine ⟨_, _, _, (θ_run Cert.Kernel22Ideal.defs _ _).mono
    (fun r h c => ⟨(h c).1.trans (arr5 m c), (h c).2.1.trans (arr6 m c), (h c).2.2.1.trans (arr7 m c), (h c).2.2.2⟩)
    (Cert.Kernel22Ideal.Value.run_blocks m ρ), ?_⟩
  refine (θ_run Cert.Reference22Ideal.defs _ _).mono (fun r h c => ?_) (Cert.Reference22Ideal.Value.run m' ρ')
  obtain ⟨a0, a1, a2, a3⟩ := hag c
  refine ⟨(h c).1.trans ?_, (h c).2.1.trans ?_, (h c).2.2.1.trans ?_, (h c).2.2.2⟩
  · refine (Cert.Reference22Ideal.Read.val_main_v92_eq _ _ _).trans (funext fun i => ?_)
    rw [a0, a2, a3]
    exact v92_at _ _ _ i
  · refine (Cert.Reference22Ideal.Read.val_main_v88_eq _ _).trans (funext fun i => ?_)
    rw [a0, a1]
    exact v88_at _ _ i
  · refine (Cert.Reference22Ideal.Read.val_main_v41_eq _).trans (funext fun i => ?_)
    rw [a0]
    exact v41_at _ i

end Claims

end Cert.LruConvBwd

end
-- ==== Proof.lean ====
module

public import proofs.«01_k».proof.Proof.Gen.Kernel14
public import proofs.«01_k».proof.Proof.Gen.Kernel14Ideal
public import proofs.«01_k».proof.Proof.Gen.Reference14Ideal
public import proofs.«01_k».proof.Proof.Gen.Pre_finite14
public import proofs.«01_k».proof.Proof.Gen.Kernel14.Frame
public import proofs.«01_k».proof.Proof.Gen.Kernel14Ideal.Value
public import proofs.«01_k».proof.Proof.Gen.Kernel14Ideal.Frame
public import proofs.«01_k».proof.Proof.Gen.Reference14Ideal.Run
public import proofs.«01_k».proof.Proof.Gen.Reference14Ideal.Read

public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel15
public import proofs.«01_k».proof.Proof.Gen.Kernel15Ideal
public import proofs.«01_k».proof.Proof.Gen.Reference15Ideal
public import proofs.«01_k».proof.Proof.Gen.Kernel15.Frame
public import proofs.«01_k».proof.Proof.Gen.Kernel15Ideal.Value
public import proofs.«01_k».proof.Proof.Gen.Kernel15Ideal.Frame
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Reference16Ideal
public import proofs.«01_k».proof.Proof.Gen.Kernel16.Frame
public import proofs.«01_k».proof.Proof.Gen.Kernel16Ideal.Value
public import proofs.«01_k».proof.Proof.Gen.Kernel16Ideal.Frame
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Reference17Ideal
public import proofs.«01_k».proof.Proof.Gen.Kernel17.Frame
public import proofs.«01_k».proof.Proof.Gen.Kernel17Ideal.Value
public import proofs.«01_k».proof.Proof.Gen.Kernel17Ideal.Frame
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Reference18Ideal
public import proofs.«01_k».proof.Proof.Gen.Kernel18.Frame
public import proofs.«01_k».proof.Proof.Gen.Kernel18Ideal.Value
public import proofs.«01_k».proof.Proof.Gen.Kernel18Ideal.Frame
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Reference19Ideal
public import proofs.«01_k».proof.Proof.Gen.Kernel19.Frame
public import proofs.«01_k».proof.Proof.Gen.Kernel19Ideal.Value
public import proofs.«01_k».proof.Proof.Gen.Kernel19Ideal.Frame
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal
public import proofs.«01_k».proof.Proof.Gen.Reference20Ideal
public import proofs.«01_k».proof.Proof.Gen.Kernel20.Frame
public import proofs.«01_k».proof.Proof.Gen.Kernel20Ideal.Value
public import proofs.«01_k».proof.Proof.Gen.Kernel20Ideal.Frame
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal
public import proofs.«01_k».proof.Proof.Gen.Reference21Ideal
public import proofs.«01_k».proof.Proof.Gen.Kernel21.Frame
public import proofs.«01_k».proof.Proof.Gen.Kernel21Ideal.Value
public import proofs.«01_k».proof.Proof.Gen.Kernel21Ideal.Frame
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal
public import proofs.«01_k».proof.Proof.Gen.Reference22Ideal
public import proofs.«01_k».proof.Proof.Gen.Kernel22.Frame
public import proofs.«01_k».proof.Proof.Gen.Kernel22Ideal.Value
public import proofs.«01_k».proof.Proof.Gen.Kernel22Ideal.Frame
public import proofs.«01_k».proof.Proof.Gen.Reference22Ideal.Run
public import proofs.«01_k».proof.Proof.Gen.Reference22Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Pre
public import proofs.«01_k».proof.Proof.Recurrence.Algebraic
public import proofs.«01_k».proof.Proof.Ref
public import proofs.«01_k».proof.Proof.Value
public import proofs.«01_k».proof.Proof.Products.DownDx
public import proofs.«01_k».proof.Proof.Products.DownDw
public import proofs.«01_k».proof.Proof.Products.UpDx
public import proofs.«01_k».proof.Proof.Products.UpDw
public import proofs.«01_k».proof.Proof.Products.OutDx
public import proofs.«01_k».proof.Proof.Products.OutDw
public import proofs.«01_k».proof.Proof.Products.InDx
public import proofs.«01_k».proof.Proof.Products.InDw
public import proofs.«01_k».proof.Proof.Products.In
public import proofs.«01_k».proof.Proof.Products.Out
public import proofs.«01_k».proof.Proof.Products.Up
public import proofs.«01_k».proof.Proof.Products.Down
public import proofs.«01_k».proof.Proof.Norm.Gradient
public import proofs.«01_k».proof.Proof.Norm.Forward
public import proofs.«01_k».proof.Proof.Norm.Loss
public import proofs.«01_k».proof.Proof.Optimizer.Step
public import proofs.«01_k».proof.Proof.Gate.Forward
public import proofs.«01_k».proof.Proof.Conv.LruForward
public import proofs.«01_k».proof.Proof.Conv.GdnForward
public import proofs.«01_k».proof.Proof.Conv.LruGradient
public import Idealize.ShloMosaic.Adequacy
public import Idealize.ShloMosaic.Init

@[expose] public section

noncomputable section

namespace Cert.Proof

open Idealize.ShloMosaic Idealize.ShloMosaic.StableHlo Idealize.SL.Sem

/-- An array's element at two natural numbers, as a real number; zero outside the array. -/
def nums {r k : ℕ} (x : (⟨2, ![r, k]⟩ : Shape).Idx → EReal) (a b : ℕ) : ℝ :=
  if h : a < r ∧ b < k then (x (ix2 ⟨a, h.1⟩ ⟨b, h.2⟩)).toReal else 0

theorem nums_at {r k : ℕ} (x : (⟨2, ![r, k]⟩ : Shape).Idx → EReal) (hx : ∀ i, x i = ((x i).toReal : EReal)) (a : Fin r) (b : Fin k) :
    x (ix2 a b) = (nums x a.val b.val : EReal) := by
  rw [nums, dif_pos ⟨a.isLt, b.isLt⟩]
  exact hx _

/-- The reference declares no semaphore and writes no argument. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

open Cert.KernelValue Cert.Spec in
/-- Kernel and reference end with the same gradients: both are the real formulas of `Spec` at the arguments' numbers. -/
theorem algebraic : Cert.algebraic_KernelIdeal_ReferenceIdeal := by
  intro m ρ m' ρ' hpre hag
  have hr := fun c => Cert.Pre.all_real _ _ _ (hpre c)
  let D := fun c : Dev Cert.KernelIdeal.nD => nums (r := 4096) (k := 6144) (m ((c.tc : Thread Cert.KernelIdeal.nD Cert.KernelIdeal.τ).loc Cert.KernelIdeal.main_arg0))
  let U := fun c : Dev Cert.KernelIdeal.nD => nums (r := 4096) (k := 12288) (m ((c.tc : Thread Cert.KernelIdeal.nD Cert.KernelIdeal.τ).loc Cert.KernelIdeal.main_arg1))
  let W := fun c : Dev Cert.KernelIdeal.nD => nums (r := 3) (k := 6144) (m ((c.tc : Thread Cert.KernelIdeal.nD Cert.KernelIdeal.τ).loc Cert.KernelIdeal.main_arg2))
  have hd := fun c => nums_at (r := 4096) (k := 6144) _ (hr c).1
  have hu := fun c => nums_at (r := 4096) (k := 12288) _ (hr c).2.1
  have hw := fun c => nums_at (r := 3) (k := 6144) _ (hr c).2.2
  have hm : ∀ c, Finite m c (D c) (U c) (W c) := fun c => ⟨hd c, hu c, hw c⟩
  refine ⟨fun c => dup (D c) (U c) (W c), fun c => taps (D c) (U c) (W c), ?_, ?_⟩
  · exact (θ_run Cert.KernelIdeal.defs _ _).mono
      (fun r h c => ⟨(h c).1.trans (arr8 m c (hm c)), (h c).2.1.trans (arr9 m c (hm c)), (h c).2.2⟩)
      (Cert.KernelIdeal.Value.run_blocks m ρ)
  · refine (θ_run Cert.ReferenceIdeal.defs _ _).mono (fun r h c => ⟨(h c).1.trans ?_, (h c).2.1.trans ?_, (h c).2.2⟩)
      (Cert.ReferenceIdeal.Value.run m' ρ')
    · refine (Cert.ReferenceIdeal.Read.val_main_v102_eq (launchContents m' c)).trans ?_
      rw [launchContents_devRef, launchContents_devRef, launchContents_devRef]
      funext i
      obtain ⟨p, t, l, rfl⟩ : ∃ (p : Fin 2) (t : Fin 4096) (l : Fin 6144), i = ix3 p t l := ⟨i 0, i 1, i 2, eq_ix3 i⟩
      exact Cert.Ref.v102_at _ _ _ (D c) (U c) (W c) (fun a b => (congrFun (hag c).2.1 _).trans (hu c a b)) t l
        (fun a b => (congrFun (hag c).2.2 _).trans (hw c a b)) (fun a b => (congrFun (hag c).1 _).trans (hd c a b)) p
    · refine (Cert.ReferenceIdeal.Read.val_main_v98_eq (launchContents m' c)).trans ?_
      rw [launchContents_devRef, launchContents_devRef, launchContents_devRef]
      funext i
      obtain ⟨j, l, rfl⟩ : ∃ (j : Fin 3) (l : Fin 6144), i = ix2 j l := ⟨i 0, i 1, eq_ix2 i⟩
      exact Cert.Ref.v98_at _ _ _ (D c) (U c) (W c) (fun a b => (congrFun (hag c).2.1 _).trans (hu c a b)) l
        (fun a b => (congrFun (hag c).2.2 _).trans (hw c a b)) (fun a b => (congrFun (hag c).1 _).trans (hd c a b)) j

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Pre_finite.Gen.facts, Cert.Pre_finite14.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, Cert.DownDx.frame_reference,
    fun m ρ _ => Cert.Kernel3.Gen.frame m ρ, fun m ρ _ => Cert.Kernel3Ideal.Gen.frame m ρ, Cert.DownDw.frame_reference,
    fun m ρ _ => Cert.Kernel4.Gen.frame m ρ, fun m ρ _ => Cert.Kernel4Ideal.Gen.frame m ρ, Cert.UpDx.frame_reference,
    fun m ρ _ => Cert.Kernel5.Gen.frame m ρ, fun m ρ _ => Cert.Kernel5Ideal.Gen.frame m ρ, Cert.UpDw.frame_reference,
    fun m ρ _ => Cert.Kernel6.Gen.frame m ρ, fun m ρ _ => Cert.Kernel6Ideal.Gen.frame m ρ, Cert.OutDx.frame_reference,
    fun m ρ _ => Cert.Kernel7.Gen.frame m ρ, fun m ρ _ => Cert.Kernel7Ideal.Gen.frame m ρ, Cert.OutDw.frame_reference,
    fun m ρ _ => Cert.Kernel8.Gen.frame m ρ, fun m ρ _ => Cert.Kernel8Ideal.Gen.frame m ρ, Cert.InDx.frame_reference,
    fun m ρ _ => Cert.Kernel9.Gen.frame m ρ, fun m ρ _ => Cert.Kernel9Ideal.Gen.frame m ρ, Cert.InDw.frame_reference,
    fun m ρ _ => Cert.Kernel10.Gen.frame m ρ, fun m ρ _ => Cert.Kernel10Ideal.Gen.frame m ρ, Cert.In.frame_reference,
    fun m ρ _ => Cert.Kernel11.Gen.frame m ρ, fun m ρ _ => Cert.Kernel11Ideal.Gen.frame m ρ, Cert.Out.frame_reference,
    fun m ρ _ => Cert.Kernel12.Gen.frame m ρ, fun m ρ _ => Cert.Kernel12Ideal.Gen.frame m ρ, Cert.Up.frame_reference,
    fun m ρ _ => Cert.Kernel13.Gen.frame m ρ, fun m ρ _ => Cert.Kernel13Ideal.Gen.frame m ρ, Cert.Down.frame_reference,
    fun m ρ _ => Cert.Kernel14.Gen.frame m ρ, fun m ρ _ => Cert.Kernel14Ideal.Gen.frame m ρ, fun m ρ _ => Cert.Kernel14Ideal.Gen.frame m ρ,
    Cert.Recurrence.frame_reference, fun m ρ _ => Cert.Recurrence.frame_reference m ρ trivial,
    fun m ρ _ => Cert.Kernel15.Gen.frame m ρ, fun m ρ _ => Cert.Kernel15Ideal.Gen.frame m ρ, Cert.NormBwd.frame_reference,
    fun m ρ _ => Cert.Kernel16.Gen.frame m ρ, fun m ρ _ => Cert.Kernel16Ideal.Gen.frame m ρ, Cert.NormFwd.frame_reference,
    fun m ρ _ => Cert.Kernel17.Gen.frame m ρ, fun m ρ _ => Cert.Kernel17Ideal.Gen.frame m ρ, Cert.LossHead.frame_reference,
    fun m ρ _ => Cert.Kernel18.Gen.frame m ρ, fun m ρ _ => Cert.Kernel18Ideal.Gen.frame m ρ, Cert.Adamw.frame_reference,
    fun m ρ _ => Cert.Kernel19.Gen.frame m ρ, fun m ρ _ => Cert.Kernel19Ideal.Gen.frame m ρ, Cert.GateFwd.frame_reference,
    fun m ρ _ => Cert.Kernel20.Gen.frame m ρ, fun m ρ _ => Cert.Kernel20Ideal.Gen.frame m ρ, Cert.LruConv.frame_reference,
    fun m ρ _ => Cert.Kernel21.Gen.frame m ρ, fun m ρ _ => Cert.Kernel21Ideal.Gen.frame m ρ, Cert.GdnConv.frame_reference,
    fun m ρ _ => Cert.Kernel22.Gen.frame m ρ, fun m ρ _ => Cert.Kernel22Ideal.Gen.frame m ρ, Cert.LruConvBwd.frame_reference,
    ⟨IdealRules.named_const.statement _ _ _ _ _ rfl, IdealRules.named_const.statement _ _ _ _ _ rfl⟩, algebraic,
    trivial, Cert.DownDx.algebraic,
    trivial, Cert.DownDw.algebraic,
    trivial, Cert.UpDx.algebraic,
    trivial, Cert.UpDw.algebraic,
    trivial, Cert.OutDx.algebraic,
    trivial, Cert.OutDw.algebraic,
    trivial, Cert.InDx.algebraic,
    trivial, Cert.InDw.algebraic,
    trivial, Cert.In.algebraic,
    trivial, Cert.Out.algebraic,
    trivial, Cert.Up.algebraic,
    trivial, Cert.Down.algebraic,
    ⟨IdealRules.named_const.statement _ _ _ _ _ rfl, IdealRules.named_const.statement _ _ _ _ _ rfl⟩, Cert.Recurrence.algebraic,
    trivial, Cert.NormBwd.algebraic,
    trivial, Cert.NormFwd.algebraic,
    trivial, Cert.LossHead.algebraic,
    trivial, Cert.Adamw.algebraic,
    IdealRules.named_const.statement _ _ _ _ _ rfl, Cert.GateFwd.algebraic,
    trivial, Cert.LruConv.algebraic,
    trivial, Cert.GdnConv.algebraic,
    trivial, Cert.LruConvBwd.algebraic⟩

end Cert.Proof

end
